-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "root" .f32 0x413504F3#32 ((Real.sqrt 128 : ℝ) : EReal)
  ∧ IdealRules.named_const.Statement Cert.KernelIdeal.κ "neg_big" .f32 0xF149F2CA#32 ⊥
  ∧ IdealRules.named_const.Statement Cert.KernelIdeal.κ "to_log2" .f32 0x3E0293EE#32 ((((Real.sqrt 128) * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)) (v1 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9)) (v1 : (c : Dev Cert.Kernel3Ideal.nD) → Buf (Elt Ideal) ((c.tc : Thread Cert.Kernel3Ideal.nD Cert.Kernel3Ideal.τ).loc Cert.Kernel3Ideal.main_v10)) (v2 : (c : Dev Cert.Kernel3Ideal.nD) → Buf (Elt Ideal) ((c.tc : Thread Cert.Kernel3Ideal.nD Cert.Kernel3Ideal.τ).loc Cert.Kernel3Ideal.main_v11)) (v3 : (c : Dev Cert.Kernel3Ideal.nD) → Buf (Elt Ideal) ((c.tc : Thread Cert.Kernel3Ideal.nD Cert.Kernel3Ideal.τ).loc Cert.Kernel3Ideal.main_v13)) (v4 : (c : Dev Cert.Kernel3Ideal.nD) → Buf (Elt Ideal) ((c.tc : Thread Cert.Kernel3Ideal.nD Cert.Kernel3Ideal.τ).loc Cert.Kernel3Ideal.main_v14)) (v5 : (c : Dev Cert.Kernel3Ideal.nD) → Buf (Elt Ideal) ((c.tc : Thread Cert.Kernel3Ideal.nD Cert.Kernel3Ideal.τ).loc Cert.Kernel3Ideal.main_v15)) (v6 : (c : Dev Cert.Kernel3Ideal.nD) → Buf (Elt Ideal) ((c.tc : Thread Cert.Kernel3Ideal.nD Cert.Kernel3Ideal.τ).loc Cert.Kernel3Ideal.main_v16)) (v7 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_v10) = v1 c
          ∧ r.2.mem ((c.tc : Thread Cert.Kernel3Ideal.nD Cert.Kernel3Ideal.τ).loc Cert.Kernel3Ideal.main_v11) = v2 c
          ∧ r.2.mem ((c.tc : Thread Cert.Kernel3Ideal.nD Cert.Kernel3Ideal.τ).loc Cert.Kernel3Ideal.main_v13) = v3 c
          ∧ r.2.mem ((c.tc : Thread Cert.Kernel3Ideal.nD Cert.Kernel3Ideal.τ).loc Cert.Kernel3Ideal.main_v14) = v4 c
          ∧ r.2.mem ((c.tc : Thread Cert.Kernel3Ideal.nD Cert.Kernel3Ideal.τ).loc Cert.Kernel3Ideal.main_v15) = v5 c
          ∧ r.2.mem ((c.tc : Thread Cert.Kernel3Ideal.nD Cert.Kernel3Ideal.τ).loc Cert.Kernel3Ideal.main_v16) = v6 c
          ∧ r.2.mem ((c.tc : Thread Cert.Kernel3Ideal.nD Cert.Kernel3Ideal.τ).loc Cert.Kernel3Ideal.main_v18) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_v24) = v3 c
          ∧ r.2.mem ((c.tc : Thread Cert.Reference3Ideal.nD Cert.Reference3Ideal.τ).loc Cert.Reference3Ideal.main_v43) = v4 c
          ∧ r.2.mem ((c.tc : Thread Cert.Reference3Ideal.nD Cert.Reference3Ideal.τ).loc Cert.Reference3Ideal.main_v44) = v5 c
          ∧ r.2.mem ((c.tc : Thread Cert.Reference3Ideal.nD Cert.Reference3Ideal.τ).loc Cert.Reference3Ideal.main_v45) = v6 c
          ∧ r.2.mem ((c.tc : Thread Cert.Reference3Ideal.nD Cert.Reference3Ideal.τ).loc Cert.Reference3Ideal.main_v49) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4x2064x2048 : Shape := ⟨3, ![4, 2064, 2048]⟩
abbrev S4x2064x128 : Shape := ⟨3, ![4, 2064, 128]⟩
abbrev S_ : Shape := ⟨0, ![]⟩

class Facts : Prop where
  bcast_S_S4x2064x2048 : S_.BroadcastsInDim S4x2064x2048 (![] : Fin 0 → Fin S4x2064x2048.rank)
  reducesTo_S4x2064x2048_S_d0_1_2 : S4x2064x2048.ReducesTo [0, 1, 2] S_
  h_S_ : 0 < S_.numel
  bcast_S_S4x2064x128 : S_.BroadcastsInDim S4x2064x128 (![] : Fin 0 → Fin S4x2064x128.rank)
  reducesTo_S4x2064x128_S_d0_1_2 : S4x2064x128.ReducesTo [0, 1, 2] S_

variable [Facts]

def fn_part1 {F : FTy → Type} [FloatOps F] (main_v13 : IVec S_ 1) (main_v16 : IVec S4x2064x128 1) : IVec S_ 1 :=
  let main_c_5 : IVec S_ 1 := constantI S_ 1 1#1
  let main_v17 : IVec S_ 1 := (fun x v => Host.reduce IntOp.andi x v reducesTo_S4x2064x128_S_d0_1_2 h_S_) main_v16 main_c_5
  let main_v18 : IVec S_ 1 := andi main_v13 main_v17
  main_v18

def fn {F : FTy → Type} [FloatOps F] (main_arg0 : FVec F S4x2064x2048 .f32) (main_arg1 : FVec F S4x2064x2048 .f32) (main_arg2 : FVec F S4x2064x2048 .f32) (main_arg3 : FVec F S4x2064x128 .f32) : IVec S_ 1 :=
  let main_v0 : FVec F S4x2064x2048 .f32 := Host.absf main_arg0
  let main_cst : FVec F S_ .f32 := constant S_ .f32 0x7F800000#32
  let main_v1 : FVec F S4x2064x2048 .f32 := broadcastInDim S4x2064x2048 ![] bcast_S_S4x2064x2048 main_cst
  let main_v2 : IVec S4x2064x2048 1 := cmpf .olt main_v0 main_v1
  let main_c : IVec S_ 1 := constantI S_ 1 1#1
  let main_v3 : IVec S_ 1 := (fun x v => Host.reduce IntOp.andi x v reducesTo_S4x2064x2048_S_d0_1_2 h_S_) main_v2 main_c
  let main_v4 : FVec F S4x2064x2048 .f32 := Host.absf main_arg1
  let main_cst_0 : FVec F S_ .f32 := constant S_ .f32 0x7F800000#32
  let main_v5 : FVec F S4x2064x2048 .f32 := broadcastInDim S4x2064x2048 ![] bcast_S_S4x2064x2048 main_cst_0
  let main_v6 : IVec S4x2064x2048 1 := cmpf .olt main_v4 main_v5
  let main_c_1 : IVec S_ 1 := constantI S_ 1 1#1
  let main_v7 : IVec S_ 1 := (fun x v => Host.reduce IntOp.andi x v reducesTo_S4x2064x2048_S_d0_1_2 h_S_) main_v6 main_c_1
  let main_v8 : IVec S_ 1 := andi main_v3 main_v7
  let main_v9 : FVec F S4x2064x2048 .f32 := Host.absf main_arg2
  let main_cst_2 : FVec F S_ .f32 := constant S_ .f32 0x7F800000#32
  let main_v10 : FVec F S4x2064x2048 .f32 := broadcastInDim S4x2064x2048 ![] bcast_S_S4x2064x2048 main_cst_2
  let main_v11 : IVec S4x2064x2048 1 := cmpf .olt main_v9 main_v10
  let main_c_3 : IVec S_ 1 := constantI S_ 1 1#1
  let main_v12 : IVec S_ 1 := (fun x v => Host.reduce IntOp.andi x v reducesTo_S4x2064x2048_S_d0_1_2 h_S_) main_v11 main_c_3
  let main_v13 : IVec S_ 1 := andi main_v8 main_v12
  let main_v14 : FVec F S4x2064x128 .f32 := Host.absf main_arg3
  let main_cst_4 : FVec F S_ .f32 := constant S_ .f32 0x7F800000#32
  let main_v15 : FVec F S4x2064x128 .f32 := broadcastInDim S4x2064x128 ![] bcast_S_S4x2064x128 main_cst_4
  let main_v16 : IVec S4x2064x128 1 := cmpf .olt main_v14 main_v15
  fn_part1 (F := F) main_v13 main_v16
-- ==== Kernel.lean ====
abbrev S4x2064x2048 : Shape := ⟨3, ![4, 2064, 2048]⟩
abbrev S4x2064x128 : Shape := ⟨3, ![4, 2064, 128]⟩
abbrev S4x2x2064x128 : Shape := ⟨4, ![4, 2, 2064, 128]⟩
abbrev S1x2064x128 : Shape := ⟨3, ![1, 2064, 128]⟩
abbrev S1x2x2064x128 : Shape := ⟨4, ![1, 2, 2064, 128]⟩
abbrev S4112x128 : Shape := ⟨2, ![4112, 128]⟩
abbrev S2048x128 : Shape := ⟨2, ![2048, 128]⟩
abbrev S2064x128 : Shape := ⟨2, ![2064, 128]⟩
abbrev S128x128 : Shape := ⟨2, ![128, 128]⟩
abbrev S1x1x2064x128 : Shape := ⟨4, ![1, 1, 2064, 128]⟩
abbrev S1x688x1024 : Shape := ⟨3, ![1, 688, 1024]⟩
abbrev S1x1x688x128 : Shape := ⟨4, ![1, 1, 688, 128]⟩
abbrev S8x688x1 : Shape := ⟨3, ![8, 688, 1]⟩
abbrev S8x688x256 : Shape := ⟨3, ![8, 688, 256]⟩
abbrev S688x128 : Shape := ⟨2, ![688, 128]⟩
abbrev S1x688x128 : Shape := ⟨3, ![1, 688, 128]⟩
abbrev S688x256 : Shape := ⟨2, ![688, 256]⟩
abbrev S1x688x256 : Shape := ⟨3, ![1, 688, 256]⟩
abbrev S688x688 : Shape := ⟨2, ![688, 688]⟩
abbrev S1x688x1 : Shape := ⟨3, ![1, 688, 1]⟩
abbrev S688x1 : Shape := ⟨2, ![688, 1]⟩
abbrev S688 : Shape := ⟨1, ![688]⟩

abbrev nBuf : Space → Nat
  | .hbm => 7
  | .vmem => 23
  | .smem => 0
  | _ => 0

abbrev bufTy : (tb : Table) → Fin (tcTables nBuf tb) → BufTy
  | .hbm, ⟨0, _⟩ => ⟨S4x2064x2048, .f32⟩
  | .hbm, ⟨1, _⟩ => ⟨S4x2064x2048, .f32⟩
  | .hbm, ⟨2, _⟩ => ⟨S4x2064x2048, .f32⟩
  | .hbm, ⟨3, _⟩ => ⟨S4x2064x128, .f32⟩
  | .hbm, ⟨4, _⟩ => ⟨S4x2x2064x128, .bf16⟩
  | .hbm, ⟨5, _⟩ => ⟨S4x2x2064x128, .bf16⟩
  | .hbm, ⟨6, _⟩ => ⟨S4x2064x2048, .bf16⟩
  | .local _ .vmem, ⟨0, _⟩ => ⟨S1x2064x128, .f32⟩
  | .local _ .vmem, ⟨1, _⟩ => ⟨S1x2064x128, .f32⟩
  | .local _ .vmem, ⟨2, _⟩ => ⟨S1x2x2064x128, .bf16⟩
  | .local _ .vmem, ⟨3, _⟩ => ⟨S1x2x2064x128, .bf16⟩
  | .local _ .vmem, ⟨4, _⟩ => ⟨S1x2x2064x128, .bf16⟩
  | .local _ .vmem, ⟨5, _⟩ => ⟨S1x2x2064x128, .bf16⟩
  | .local _ .vmem, ⟨6, _⟩ => ⟨S4112x128, .f32⟩
  | .local _ .vmem, ⟨7, _⟩ => ⟨S4112x128, .f32⟩
  | .local _ .vmem, ⟨8, _⟩ => ⟨S1x688x1024, .f32⟩
  | .local _ .vmem, ⟨9, _⟩ => ⟨S1x688x1024, .f32⟩
  | .local _ .vmem, ⟨10, _⟩ => ⟨S1x688x1024, .f32⟩
  | .local _ .vmem, ⟨11, _⟩ => ⟨S1x688x1024, .f32⟩
  | .local _ .vmem, ⟨12, _⟩ => ⟨S1x688x1024, .f32⟩
  | .local _ .vmem, ⟨13, _⟩ => ⟨S1x688x1024, .f32⟩
  | .local _ .vmem, ⟨14, _⟩ => ⟨S1x1x688x128, .bf16⟩
  | .local _ .vmem, ⟨15, _⟩ => ⟨S1x1x688x128, .bf16⟩
  | .local _ .vmem, ⟨16, _⟩ => ⟨S1x1x688x128, .bf16⟩
  | .local _ .vmem, ⟨17, _⟩ => ⟨S1x1x688x128, .bf16⟩
  | .local _ .vmem, ⟨18, _⟩ => ⟨S1x688x1024, .bf16⟩
  | .local _ .vmem, ⟨19, _⟩ => ⟨S1x688x1024, .bf16⟩
  | .local _ .vmem, ⟨20, _⟩ => ⟨S8x688x1, .f32⟩
  | .local _ .vmem, ⟨21, _⟩ => ⟨S8x688x256, .f32⟩
  | .local _ .vmem, ⟨22, _⟩ => ⟨S8x688x256, .bf16⟩
  | _, _ => ⟨S4x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2064x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x2064x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x2064x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨4, ![4, 2, 3, 3], ![false, false, false, false]⟩

def k1_cond3 (i : grid1.Coords) : BitVec 1 :=
  let arg3 : BitVec 32 := BitVec.ofNat 32 (i 3).val
  let arg2 : BitVec 32 := BitVec.ofNat 32 (i 2).val
  let v6 : BitVec 1 := Scalar.cmpi .eq arg3 arg2
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  ![arg0.toNat, v0.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  ![arg0.toNat, v0.toNat, arg1.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  let c0_i32_0 : BitVec 32 := 0#32
  ![arg0.toNat, arg1.toNat, v0.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage1_0 : Fin 2 → Memref sig .tc .vmem S1x688x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true, false]

abbrev stage1_1 : Fin 2 → Memref sig .tc .vmem S1x688x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true, true]

abbrev stage1_2 : Fin 2 → Memref sig .tc .vmem S1x688x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, true]

abbrev stage1_3 : Fin 2 → Memref sig .tc .vmem S1x1x688x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true, false]

abbrev stage1_4 : Fin 2 → Memref sig .tc .vmem S1x1x688x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true, true]

abbrev stage1_5 : Fin 2 → Memref sig .tc .vmem S1x688x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true, false]
-- ==== KernelIdeal.lean ====
variable {F : FTy → Type} [FloatOps F] [Named F]
def κ : String → Option EReal := fun
  | "neg_big" => some ⊥
  | "root" => some ((Real.sqrt 128 : ℝ) : EReal)
  | "to_log2" => some ((((Real.sqrt 128) * (Real.log 2))⁻¹ : ℝ) : EReal)
  | _ => none
-- ==== ReferenceIdeal.lean ====
abbrev S4x2064x2048 : Shape := ⟨3, ![4, 2064, 2048]⟩
abbrev S4x2064x128 : Shape := ⟨3, ![4, 2064, 128]⟩
abbrev S4x2064x16x128 : Shape := ⟨4, ![4, 2064, 16, 128]⟩
abbrev S4x2064x16 : Shape := ⟨3, ![4, 2064, 16]⟩
abbrev S_ : Shape := ⟨0, ![]⟩
abbrev S4x16x2064 : Shape := ⟨3, ![4, 16, 2064]⟩
abbrev S2064 : Shape := ⟨1, ![2064]⟩
abbrev S4x16x2064x2064 : Shape := ⟨4, ![4, 16, 2064, 2064]⟩
abbrev S4x16x2064x1 : Shape := ⟨4, ![4, 16, 2064, 1]⟩
abbrev S4x16x1x2064 : Shape := ⟨4, ![4, 16, 1, 2064]⟩
abbrev S2064x1 : Shape := ⟨2, ![2064, 1]⟩
abbrev S1x2064 : Shape := ⟨2, ![1, 2064]⟩
abbrev S2064x2064 : Shape := ⟨2, ![2064, 2064]⟩
abbrev S4x16x128x2064 : Shape := ⟨4, ![4, 16, 128, 2064]⟩

abbrev nBuf : Space → Nat
  | .hbm => 54
  | .vmem => 0
  | .smem => 0
  | _ => 0

abbrev bufTy : (tb : Table) → Fin (tcTables nBuf tb) → BufTy
  | .hbm, ⟨0, _⟩ => ⟨S4x2064x2048, .f32⟩
  | .hbm, ⟨1, _⟩ => ⟨S4x2064x2048, .f32⟩
  | .hbm, ⟨2, _⟩ => ⟨S4x2064x2048, .f32⟩
  | .hbm, ⟨3, _⟩ => ⟨S4x2064x128, .f32⟩
  | .hbm, ⟨4, _⟩ => ⟨S4x2064x16x128, .f32⟩
  | .hbm, ⟨5, _⟩ => ⟨S4x2064x16x128, .f32⟩
  | .hbm, ⟨6, _⟩ => ⟨S4x2064x16x128, .f32⟩
  | .hbm, ⟨7, _⟩ => ⟨S4x2064x16, .f32⟩
  | .hbm, ⟨8, _⟩ => ⟨S_, .f32⟩
  | .hbm, ⟨9, _⟩ => ⟨S_, .f32⟩
  | .hbm, ⟨10, _⟩ => ⟨S4x2064x16, .f32⟩
  | .hbm, ⟨11, _⟩ => ⟨S4x16x2064, .f32⟩
  | .hbm, ⟨12, _⟩ => ⟨S2064, .i32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x16x2064x2064, .f32⟩
  | .hbm, ⟨18, _⟩ => ⟨S4x16x2064x2064, .f32⟩
  | .hbm, ⟨19, _⟩ => ⟨S4x16x2064x2064, .f32⟩
  | .hbm, ⟨20, _⟩ => ⟨S4x16x2064x1, .f32⟩
  | .hbm, ⟨21, _⟩ => ⟨S4x16x2064x2064, .f32⟩
  | .hbm, ⟨22, _⟩ => ⟨S4x16x2064x2064, .f32⟩
  | .hbm, ⟨23, _⟩ => ⟨S4x16x1x2064, .f32⟩
  | .hbm, ⟨24, _⟩ => ⟨S4x16x2064x2064, .f32⟩
  | .hbm, ⟨25, _⟩ => ⟨S4x16x2064x2064, .f32⟩
  | .hbm, ⟨26, _⟩ => ⟨S2064x1, .i32⟩
  | .hbm, ⟨27, _⟩ => ⟨S1x2064, .i32⟩
  | .hbm, ⟨28, _⟩ => ⟨S2064x2064, .i32⟩
  | .hbm, ⟨29, _⟩ => ⟨S2064x2064, .i32⟩
  | .hbm, ⟨30, _⟩ => ⟨S2064x2064, .i1⟩
  | .hbm, ⟨31, _⟩ => ⟨S_, .f32⟩
  | .hbm, ⟨32, _⟩ => ⟨S_, .f32⟩
  | .hbm, ⟨33, _⟩ => ⟨S4x16x2064x2064, .i1⟩
  | .hbm, ⟨34, _⟩ => ⟨S4x16x2064x2064, .f32⟩
  | .hbm, ⟨35, _⟩ => ⟨S4x16x2064x2064, .f32⟩
  | .hbm, ⟨36, _⟩ => ⟨S_, .f32⟩
  | .hbm, ⟨37, _⟩ => ⟨S4x16x2064, .f32⟩
  | .hbm, ⟨38, _⟩ => ⟨S_, .f32⟩
  | .hbm, ⟨39, _⟩ => ⟨S4x16x2064, .f32⟩
  | .hbm, ⟨40, _⟩ => ⟨S4x16x2064, .f32⟩
  | .hbm, ⟨41, _⟩ => ⟨S4x16x2064x1, .f32⟩
  | .hbm, ⟨42, _⟩ => ⟨S4x16x2064x2064, .f32⟩
  | .hbm, ⟨43, _⟩ => ⟨S4x16x2064x2064, .f32⟩
  | .hbm, ⟨44, _⟩ => ⟨S4x16x2064x2064, .f32⟩
  | .hbm, ⟨45, _⟩ => ⟨S_, .f32⟩
  | .hbm, ⟨46, _⟩ => ⟨S4x16x2064, .f32⟩
  | .hbm, ⟨47, _⟩ => ⟨S4x16x2064x1, .f32⟩
  | .hbm, ⟨48, _⟩ => ⟨S4x16x2064x2064, .f32⟩
  | .hbm, ⟨49, _⟩ => ⟨S4x16x2064x2064, .f32⟩
  | .hbm, ⟨50, _⟩ => ⟨S4x16x128x2064, .f32⟩
  | .hbm, ⟨51, _⟩ => ⟨S4x2064x16x128, .f32⟩
  | .hbm, ⟨52, _⟩ => ⟨S4x2064x2048, .f32⟩
  | .hbm, ⟨53, _⟩ => ⟨S4x2064x2048, .bf16⟩
  | _, _ => ⟨S4x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel2.lean ====
abbrev S4x2064x2048 : Shape := ⟨3, ![4, 2064, 2048]⟩
abbrev S8x8x2048 : Shape := ⟨3, ![8, 8, 2048]⟩
abbrev S2048 : Shape := ⟨1, ![2048]⟩
abbrev S2048x8192 : Shape := ⟨2, ![2048, 8192]⟩
abbrev S8192x2048 : Shape := ⟨2, ![8192, 2048]⟩
abbrev S8256x2048 : Shape := ⟨2, ![8256, 2048]⟩
abbrev S64x2048 : Shape := ⟨2, ![64, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1088x2048 : Shape := ⟨2, ![1088, 2048]⟩
abbrev S1024 : Shape := ⟨1, ![1024]⟩
abbrev S1024x1 : Shape := ⟨2, ![1024, 1]⟩
abbrev S64 : Shape := ⟨1, ![64]⟩
abbrev S64x1 : Shape := ⟨2, ![64, 1]⟩
abbrev S1088x512 : Shape := ⟨2, ![1088, 512]⟩
abbrev S1024x512 : Shape := ⟨2, ![1024, 512]⟩
abbrev S4x2048x2048 : Shape := ⟨3, ![4, 2048, 2048]⟩

abbrev nBuf : Space → Nat
  | .hbm => 16
  | .vmem => 13
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2048, .f32⟩
  | .hbm, ⟨3, _⟩ => ⟨S2048, .f32⟩
  | .hbm, ⟨4, _⟩ => ⟨S2048x8192, .f32⟩
  | .hbm, ⟨5, _⟩ => ⟨S8192x2048, .f32⟩
  | .hbm, ⟨6, _⟩ => ⟨S8256x2048, .f32⟩
  | .hbm, ⟨7, _⟩ => ⟨S64x2048, .f32⟩
  | .hbm, ⟨8, _⟩ => ⟨S1x2048, .f32⟩
  | .hbm, ⟨9, _⟩ => ⟨S1x2048, .f32⟩
  | .hbm, ⟨10, _⟩ => ⟨S2048x8192, .bf16⟩
  | .hbm, ⟨11, _⟩ => ⟨S8192x2048, .bf16⟩
  | .hbm, ⟨12, _⟩ => ⟨S8192x2048, .f32⟩
  | .hbm, ⟨13, _⟩ => ⟨S64x2048, .f32⟩
  | .hbm, ⟨14, _⟩ => ⟨S4x2048x2048, .f32⟩
  | .hbm, ⟨15, _⟩ => ⟨S8x8x2048, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S1x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S64x2048, .f32⟩
  | .local _ .vmem, ⟨12, _⟩ => ⟨S1088x2048, .bf16⟩
  | _, _ => ⟨S4x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2064_i32 : BitVec 32 := 2064#32
  let v17 : BitVec 32 := Scalar.muli v16 c2064_i32
  let c16_i32 : BitVec 32 := 16#32
  let v18 : BitVec 32 := Scalar.addi v17 c16_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := Scalar.addi v18 v29
  v30
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_4 : BitVec 32 := 0#32
  let v8 : BitVec 1 := Scalar.cmpi .eq arg0 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg0 : BitVec 32 := BitVec.ofNat 32 (i 0).val
  let c0_i32_6 : BitVec 32 := 0#32
  let v11 : BitVec 1 := Scalar.cmpi .ne arg0 c0_i32_6
  let v12 : BitVec 32 := Scalar.extui v11
  let c0_i32_7 : BitVec 32 := 0#32
  let v13 : BitVec 1 := Scalar.cmpi .ne v12 c0_i32_7
  v13

def k0_cond5 (i : grid0.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond6 (i : grid0.Coords) : BitVec 1 :=
  let arg1 : BitVec 32 := BitVec.ofNat 32 (i 1).val
  let c15_i32_9 : BitVec 32 := 15#32
  let v17 : BitVec 1 := Scalar.cmpi .eq arg1 c15_i32_9
  let arg0 : BitVec 32 := BitVec.ofNat 32 (i 0).val
  let c0_i32_10 : BitVec 32 := 0#32
  let v18 : BitVec 1 := Scalar.cmpi .eq arg0 c0_i32_10
  let v19 : BitVec 1 := Scalar.andi v17 v18
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2064_i32 : BitVec 32 := 2064#32
  let v17 : BitVec 32 := Scalar.muli v16 c2064_i32
  let c16_i32 : BitVec 32 := 16#32
  let v18 : BitVec 32 := Scalar.addi v17 c16_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference2Ideal.lean ====
abbrev S4x2064x2048 : Shape := ⟨3, ![4, 2064, 2048]⟩
abbrev S8x8x2048 : Shape := ⟨3, ![8, 8, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S4x2064 : Shape := ⟨2, ![4, 2064]⟩
abbrev S4x2064x1 : Shape := ⟨3, ![4, 2064, 1]⟩
abbrev S1x1x2048 : Shape := ⟨3, ![1, 1, 2048]⟩
abbrev S4x2064x8192 : Shape := ⟨3, ![4, 2064, 8192]⟩
abbrev S8x8 : Shape := ⟨2, ![8, 8]⟩
abbrev S8x8x1 : Shape := ⟨3, ![8, 8, 1]⟩
abbrev S8x8x8192 : Shape := ⟨3, ![8, 8, 8192]⟩
abbrev S4x2048x2048 : Shape := ⟨3, ![4, 2048, 2048]⟩

abbrev nBuf : Space → Nat
  | .hbm => 85
  | .vmem => 0
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2048, .f32⟩
  | .hbm, ⟨3, _⟩ => ⟨S2048, .f32⟩
  | .hbm, ⟨4, _⟩ => ⟨S2048x8192, .f32⟩
  | .hbm, ⟨5, _⟩ => ⟨S8192x2048, .f32⟩
  | .hbm, ⟨6, _⟩ => ⟨S4x2064x2048, .f32⟩
  | .hbm, ⟨7, _⟩ => ⟨S_, .f32⟩
  | .hbm, ⟨8, _⟩ => ⟨S4x2064, .f32⟩
  | .hbm, ⟨9, _⟩ => ⟨S4x2064x1, .f32⟩
  | .hbm, ⟨10, _⟩ => ⟨S_, .f32⟩
  | .hbm, ⟨11, _⟩ => ⟨S4x2064x1, .f32⟩
  | .hbm, ⟨12, _⟩ => ⟨S4x2064x1, .f32⟩
  | .hbm, ⟨13, _⟩ => ⟨S_, .f32⟩
  | .hbm, ⟨14, _⟩ => ⟨S4x2064x1, .f32⟩
  | .hbm, ⟨15, _⟩ => ⟨S4x2064x1, .f32⟩
  | .hbm, ⟨16, _⟩ => ⟨S4x2064x1, .f32⟩
  | .hbm, ⟨17, _⟩ => ⟨S4x2064x2048, .f32⟩
  | .hbm, ⟨18, _⟩ => ⟨S4x2064x2048, .f32⟩
  | .hbm, ⟨19, _⟩ => ⟨S1x1x2048, .f32⟩
  | .hbm, ⟨20, _⟩ => ⟨S4x2064x2048, .f32⟩
  | .hbm, ⟨21, _⟩ => ⟨S4x2064x2048, .f32⟩
  | .hbm, ⟨22, _⟩ => ⟨S4x2064x8192, .f32⟩
  | .hbm, ⟨23, _⟩ => ⟨S_, .f32⟩
  | .hbm, ⟨24, _⟩ => ⟨S4x2064x8192, .f32⟩
  | .hbm, ⟨25, _⟩ => ⟨S4x2064x8192, .f32⟩
  | .hbm, ⟨26, _⟩ => ⟨S4x2064x8192, .f32⟩
  | .hbm, ⟨27, _⟩ => ⟨S4x2064x2048, .f32⟩
  | .hbm, ⟨28, _⟩ => ⟨S4x2064x2048, .f32⟩
  | .hbm, ⟨29, _⟩ => ⟨S8x8x2048, .f32⟩
  | .hbm, ⟨30, _⟩ => ⟨S_, .f32⟩
  | .hbm, ⟨31, _⟩ => ⟨S8x8, .f32⟩
  | .hbm, ⟨32, _⟩ => ⟨S8x8x1, .f32⟩
  | .hbm, ⟨33, _⟩ => ⟨S_, .f32⟩
  | .hbm, ⟨34, _⟩ => ⟨S8x8x1, .f32⟩
  | .hbm, ⟨35, _⟩ => ⟨S8x8x1, .f32⟩
  | .hbm, ⟨36, _⟩ => ⟨S_, .f32⟩
  | .hbm, ⟨37, _⟩ => ⟨S8x8x1, .f32⟩
  | .hbm, ⟨38, _⟩ => ⟨S8x8x1, .f32⟩
  | .hbm, ⟨39, _⟩ => ⟨S8x8x1, .f32⟩
  | .hbm, ⟨40, _⟩ => ⟨S8x8x2048, .f32⟩
  | .hbm, ⟨41, _⟩ => ⟨S8x8x2048, .f32⟩
  | .hbm, ⟨42, _⟩ => ⟨S1x1x2048, .f32⟩
  | .hbm, ⟨43, _⟩ => ⟨S8x8x2048, .f32⟩
  | .hbm, ⟨44, _⟩ => ⟨S8x8x2048, .f32⟩
  | .hbm, ⟨45, _⟩ => ⟨S8x8x8192, .f32⟩
  | .hbm, ⟨46, _⟩ => ⟨S_, .f32⟩
  | .hbm, ⟨47, _⟩ => ⟨S8x8x8192, .f32⟩
  | .hbm, ⟨48, _⟩ => ⟨S8x8x8192, .f32⟩
  | .hbm, ⟨49, _⟩ => ⟨S8x8x8192, .f32⟩
  | .hbm, ⟨50, _⟩ => ⟨S8x8x2048, .f32⟩
  | .hbm, ⟨51, _⟩ => ⟨S8x8x2048, .f32⟩
  | .hbm, ⟨52, _⟩ => ⟨S4x2064x2048, .f32⟩
  | .hbm, ⟨53, _⟩ => ⟨S_, .f32⟩
  | .hbm, ⟨54, _⟩ => ⟨S4x2064, .f32⟩
  | .hbm, ⟨55, _⟩ => ⟨S4x2064x1, .f32⟩
  | .hbm, ⟨56, _⟩ => ⟨S_, .f32⟩
  | .hbm, ⟨57, _⟩ => ⟨S4x2064x1, .f32⟩
  | .hbm, ⟨58, _⟩ => ⟨S4x2064x1, .f32⟩
  | .hbm, ⟨59, _⟩ => ⟨S_, .f32⟩
  | .hbm, ⟨60, _⟩ => ⟨S4x2064x1, .f32⟩
  | .hbm, ⟨61, _⟩ => ⟨S4x2064x1, .f32⟩
  | .hbm, ⟨62, _⟩ => ⟨S4x2064x1, .f32⟩
  | .hbm, ⟨63, _⟩ => ⟨S4x2064x2048, .f32⟩
  | .hbm, ⟨64, _⟩ => ⟨S4x2064x2048, .f32⟩
  | .hbm, ⟨65, _⟩ => ⟨S1x1x2048, .f32⟩
  | .hbm, ⟨66, _⟩ => ⟨S4x2064x2048, .f32⟩
  | .hbm, ⟨67, _⟩ => ⟨S4x2064x2048, .f32⟩
  | .hbm, ⟨68, _⟩ => ⟨S4x2048x2048, .f32⟩
  | .hbm, ⟨69, _⟩ => ⟨S8x8x2048, .f32⟩
  | .hbm, ⟨70, _⟩ => ⟨S_, .f32⟩
  | .hbm, ⟨71, _⟩ => ⟨S8x8, .f32⟩
  | .hbm, ⟨72, _⟩ => ⟨S8x8x1, .f32⟩
  | .hbm, ⟨73, _⟩ => ⟨S_, .f32⟩
  | .hbm, ⟨74, _⟩ => ⟨S8x8x1, .f32⟩
  | .hbm, ⟨75, _⟩ => ⟨S8x8x1, .f32⟩
  | .hbm, ⟨76, _⟩ => ⟨S_, .f32⟩
  | .hbm, ⟨77, _⟩ => ⟨S8x8x1, .f32⟩
  | .hbm, ⟨78, _⟩ => ⟨S8x8x1, .f32⟩
  | .hbm, ⟨79, _⟩ => ⟨S8x8x1, .f32⟩
  | .hbm, ⟨80, _⟩ => ⟨S8x8x2048, .f32⟩
  | .hbm, ⟨81, _⟩ => ⟨S8x8x2048, .f32⟩
  | .hbm, ⟨82, _⟩ => ⟨S1x1x2048, .f32⟩
  | .hbm, ⟨83, _⟩ => ⟨S8x8x2048, .f32⟩
  | .hbm, ⟨84, _⟩ => ⟨S8x8x2048, .f32⟩
  | _, _ => ⟨S4x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call1_cst : Ref sig .tc := ⟨.hbm, 46, rfl⟩
abbrev main_call1_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Kernel3.lean ====
abbrev S4x2064x2048 : Shape := ⟨3, ![4, 2064, 2048]⟩
abbrev S8x8x2048 : Shape := ⟨3, ![8, 8, 2048]⟩
abbrev S2048 : Shape := ⟨1, ![2048]⟩
abbrev S2048x6160 : Shape := ⟨2, ![2048, 6160]⟩
abbrev S16 : Shape := ⟨1, ![16]⟩
abbrev S1x16 : Shape := ⟨2, ![1, 16]⟩
abbrev S_ : Shape := ⟨0, ![]⟩
abbrev S1x128 : Shape := ⟨2, ![1, 128]⟩
abbrev S8256x2048 : Shape := ⟨2, ![8256, 2048]⟩
abbrev S64x2048 : Shape := ⟨2, ![64, 2048]⟩
abbrev S1x2048 : Shape := ⟨2, ![1, 2048]⟩
abbrev S2048x16 : Shape := ⟨2, ![2048, 16]⟩
abbrev S2048x128 : Shape := ⟨2, ![2048, 128]⟩
abbrev S8256x128 : Shape := ⟨2, ![8256, 128]⟩
abbrev S64x128 : Shape := ⟨2, ![64, 128]⟩
abbrev S688x2048 : Shape := ⟨2, ![688, 2048]⟩
abbrev S2048x1024 : Shape := ⟨2, ![2048, 1024]⟩
abbrev S688x1024 : Shape := ⟨2, ![688, 1024]⟩
abbrev S688x128 : Shape := ⟨2, ![688, 128]⟩
abbrev S64x1024 : Shape := ⟨2, ![64, 1024]⟩
abbrev S688 : Shape := ⟨1, ![688]⟩
abbrev S688x1 : Shape := ⟨2, ![688, 1]⟩
abbrev S64 : Shape := ⟨1, ![64]⟩
abbrev S64x1 : Shape := ⟨2, ![64, 1]⟩
abbrev S4x2064x16x128 : Shape := ⟨4, ![4, 2064, 16, 128]⟩
abbrev S8256x16 : Shape := ⟨2, ![8256, 16]⟩
abbrev S4x2064x16 : Shape := ⟨3, ![4, 2064, 16]⟩
abbrev S8x8x16x128 : Shape := ⟨4, ![8, 8, 16, 128]⟩
abbrev S64x16 : Shape := ⟨2, ![64, 16]⟩
abbrev S8x8x16 : Shape := ⟨3, ![8, 8, 16]⟩

abbrev nBuf : Space → Nat
  | .hbm => 35
  | .vmem => 25
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2048, .f32⟩
  | .hbm, ⟨3, _⟩ => ⟨S2048x6160, .f32⟩
  | .hbm, ⟨4, _⟩ => ⟨S16, .f32⟩
  | .hbm, ⟨5, _⟩ => ⟨S2048x6160, .bf16⟩
  | .hbm, ⟨6, _⟩ => ⟨S1x16, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S8256x2048, .f32⟩
  | .hbm, ⟨11, _⟩ => ⟨S64x2048, .f32⟩
  | .hbm, ⟨12, _⟩ => ⟨S1x2048, .f32⟩
  | .hbm, ⟨13, _⟩ => ⟨S2048x16, .bf16⟩
  | .hbm, ⟨14, _⟩ => ⟨S_, .i32⟩
  | .hbm, ⟨15, _⟩ => ⟨S_, .bf16⟩
  | .hbm, ⟨16, _⟩ => ⟨S2048x128, .bf16⟩
  | .hbm, ⟨17, _⟩ => ⟨S8256x2048, .f32⟩
  | .hbm, ⟨18, _⟩ => ⟨S8256x2048, .f32⟩
  | .hbm, ⟨19, _⟩ => ⟨S8256x2048, .f32⟩
  | .hbm, ⟨20, _⟩ => ⟨S8256x128, .f32⟩
  | .hbm, ⟨21, _⟩ => ⟨S64x2048, .f32⟩
  | .hbm, ⟨22, _⟩ => ⟨S64x2048, .f32⟩
  | .hbm, ⟨23, _⟩ => ⟨S64x2048, .f32⟩
  | .hbm, ⟨24, _⟩ => ⟨S64x128, .f32⟩
  | .hbm, ⟨25, _⟩ => ⟨S4x2064x16x128, .f32⟩
  | .hbm, ⟨26, _⟩ => ⟨S4x2064x16x128, .f32⟩
  | .hbm, ⟨27, _⟩ => ⟨S4x2064x16x128, .f32⟩
  | .hbm, ⟨28, _⟩ => ⟨S8256x16, .f32⟩
  | .hbm, ⟨29, _⟩ => ⟨S4x2064x16, .f32⟩
  | .hbm, ⟨30, _⟩ => ⟨S8x8x16x128, .f32⟩
  | .hbm, ⟨31, _⟩ => ⟨S8x8x16x128, .f32⟩
  | .hbm, ⟨32, _⟩ => ⟨S8x8x16x128, .f32⟩
  | .hbm, ⟨33, _⟩ => ⟨S64x16, .f32⟩
  | .hbm, ⟨34, _⟩ => ⟨S8x8x16, .f32⟩
  | .local _ .vmem, ⟨0, _⟩ => ⟨S688x2048, .f32⟩
  | .local _ .vmem, ⟨1, _⟩ => ⟨S688x2048, .f32⟩
  | .local _ .vmem, ⟨2, _⟩ => ⟨S64x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x128, .bf16⟩
  | .local _ .vmem, ⟨7, _⟩ => ⟨S1x128, .f32⟩
  | .local _ .vmem, ⟨8, _⟩ => ⟨S688x1024, .f32⟩
  | .local _ .vmem, ⟨9, _⟩ => ⟨S688x1024, .f32⟩
  | .local _ .vmem, ⟨10, _⟩ => ⟨S688x1024, .f32⟩
  | .local _ .vmem, ⟨11, _⟩ => ⟨S688x1024, .f32⟩
  | .local _ .vmem, ⟨12, _⟩ => ⟨S688x1024, .f32⟩
  | .local _ .vmem, ⟨13, _⟩ => ⟨S688x1024, .f32⟩
  | .local _ .vmem, ⟨14, _⟩ => ⟨S688x128, .f32⟩
  | .local _ .vmem, ⟨15, _⟩ => ⟨S688x128, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x128, .f32⟩
  | .local _ .vmem, ⟨23, _⟩ => ⟨S688x2048, .bf16⟩
  | .local _ .vmem, ⟨24, _⟩ => ⟨S64x2048, .bf16⟩
  | _, _ => ⟨S4x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev main_v8_7 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨2, ![12, 6], ![false, false]⟩

def k0_cond3 (i : grid0.Coords) : BitVec 1 :=
  let arg1 : BitVec 32 := BitVec.ofNat 32 (i 1).val
  let c0_i32_7 : BitVec 32 := 0#32
  let v12 : BitVec 1 := Scalar.cmpi .sge arg1 c0_i32_7
  let c2_i32 : BitVec 32 := 2#32
  let v13 : BitVec 1 := Scalar.cmpi .slt arg1 c2_i32
  let v14 : BitVec 1 := Scalar.andi v12 v13
  let v15 : BitVec 32 := Scalar.extui v14
  let c0_i32_8 : BitVec 32 := 0#32
  let v16 : BitVec 1 := Scalar.cmpi .ne v15 c0_i32_8
  v16

def k0_cond4 (i : grid0.Coords) : BitVec 1 :=
  let arg1 : BitVec 32 := BitVec.ofNat 32 (i 1).val
  let c2_i32_9 : BitVec 32 := 2#32
  let v17 : BitVec 1 := Scalar.cmpi .sge arg1 c2_i32_9
  let c4_i32 : BitVec 32 := 4#32
  let v18 : BitVec 1 := Scalar.cmpi .slt arg1 c4_i32
  let v19 : BitVec 1 := Scalar.andi v17 v18
  let v20 : BitVec 32 := Scalar.extui v19
  let c0_i32_10 : BitVec 32 := 0#32
  let v21 : BitVec 1 := Scalar.cmpi .ne v20 c0_i32_10
  v21

def k0_cond5 (i : grid0.Coords) : BitVec 1 :=
  let arg1 : BitVec 32 := BitVec.ofNat 32 (i 1).val
  let c4_i32_11 : BitVec 32 := 4#32
  let v22 : BitVec 1 := Scalar.cmpi .sge arg1 c4_i32_11
  let c6_i32 : BitVec 32 := 6#32
  let v23 : BitVec 1 := Scalar.cmpi .slt arg1 c6_i32
  let v24 : BitVec 1 := Scalar.andi v22 v23
  let v25 : BitVec 32 := Scalar.extui v24
  let c0_i32_12 : BitVec 32 := 0#32
  let v26 : BitVec 1 := Scalar.cmpi .ne v25 c0_i32_12
  v26

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond6 (i : grid0.Coords) : BitVec 1 :=
  let arg0 : BitVec 32 := BitVec.ofNat 32 (i 0).val
  let c0_i32_13 : BitVec 32 := 0#32
  let v27 : BitVec 1 := Scalar.cmpi .eq arg0 c0_i32_13
  let v28 : BitVec 32 := Scalar.extui v27
  let c0_i32_14 : BitVec 32 := 0#32
  let v29 : BitVec 1 := Scalar.cmpi .ne v28 c0_i32_14
  v29

def k0_cond7 (i : grid0.Coords) : BitVec 1 :=
  let arg1 : BitVec 32 := BitVec.ofNat 32 (i 1).val
  let c0_i32_20 : BitVec 32 := 0#32
  let v34 : BitVec 1 := Scalar.cmpi .sge arg1 c0_i32_20
  let c2_i32_21 : BitVec 32 := 2#32
  let v35 : BitVec 1 := Scalar.cmpi .slt arg1 c2_i32_21
  let v36 : BitVec 1 := Scalar.andi v34 v35
  let v37 : BitVec 32 := Scalar.extui v36
  let c0_i32_22 : BitVec 32 := 0#32
  let v38 : BitVec 1 := Scalar.cmpi .ne v37 c0_i32_22
  v38

def k0_cond8 (i : grid0.Coords) : BitVec 1 :=
  let arg1 : BitVec 32 := BitVec.ofNat 32 (i 1).val
  let c2_i32_23 : BitVec 32 := 2#32
  let v39 : BitVec 1 := Scalar.cmpi .sge arg1 c2_i32_23
  let c4_i32_24 : BitVec 32 := 4#32
  let v40 : BitVec 1 := Scalar.cmpi .slt arg1 c4_i32_24
  let v41 : BitVec 1 := Scalar.andi v39 v40
  let v42 : BitVec 32 := Scalar.extui v41
  let c0_i32_25 : BitVec 32 := 0#32
  let v43 : BitVec 1 := Scalar.cmpi .ne v42 c0_i32_25
  v43

def k0_cond9 (i : grid0.Coords) : BitVec 1 :=
  let arg1 : BitVec 32 := BitVec.ofNat 32 (i 1).val
  let c4_i32_26 : BitVec 32 := 4#32
  let v44 : BitVec 1 := Scalar.cmpi .sge arg1 c4_i32_26
  let c6_i32_27 : BitVec 32 := 6#32
  let v45 : BitVec 1 := Scalar.cmpi .slt arg1 c6_i32_27
  let v46 : BitVec 1 := Scalar.andi v44 v45
  let v47 : BitVec 32 := Scalar.extui v46
  let c0_i32_28 : BitVec 32 := 0#32
  let v48 : BitVec 1 := Scalar.cmpi .ne v47 c0_i32_28
  v48

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c5_i32 : BitVec 32 := 5#32
  let v1 : BitVec 32 := Scalar.select v0 arg1 c5_i32
  let c0_i32_0 : BitVec 32 := 0#32
  let v2 : BitVec 32 := Scalar.subi v1 c0_i32_0
  let c0_i32_1 : BitVec 32 := 0#32
  let c1_i32 : BitVec 32 := 1#32
  let v3 : BitVec 32 := Scalar.maxsi c0_i32_1 v2
  let v4 : BitVec 32 := Scalar.minsi c1_i32 v3
  let c0_i32_2 : BitVec 32 := 0#32
  let c0_i32_3 : BitVec 32 := 0#32
  ![c0_i32_2.toNat, v4.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c5_i32 : BitVec 32 := 5#32
  let v1 : BitVec 32 := Scalar.select v0 arg1 c5_i32
  let c2_i32 : BitVec 32 := 2#32
  let v2 : BitVec 32 := Scalar.subi v1 c2_i32
  let c0_i32_0 : BitVec 32 := 0#32
  let c1_i32 : BitVec 32 := 1#32
  let v3 : BitVec 32 := Scalar.maxsi c0_i32_0 v2
  let v4 : BitVec 32 := Scalar.minsi c1_i32 v3
  let c0_i32_1 : BitVec 32 := 0#32
  let c0_i32_2 : BitVec 32 := 0#32
  ![c0_i32_1.toNat, v4.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c5_i32 : BitVec 32 := 5#32
  let v1 : BitVec 32 := Scalar.select v0 arg1 c5_i32
  let c4_i32 : BitVec 32 := 4#32
  let v2 : BitVec 32 := Scalar.subi v1 c4_i32
  let c0_i32_0 : BitVec 32 := 0#32
  let c1_i32 : BitVec 32 := 1#32
  let v3 : BitVec 32 := Scalar.maxsi c0_i32_0 v2
  let v4 : BitVec 32 := Scalar.minsi c1_i32 v3
  let c0_i32_1 : BitVec 32 := 0#32
  let c0_i32_2 : BitVec 32 := 0#32
  ![c0_i32_1.toNat, v4.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S688x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S688x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference3Ideal.lean ====
abbrev S4x2064x2048 : Shape := ⟨3, ![4, 2064, 2048]⟩
abbrev S8x8x2048 : Shape := ⟨3, ![8, 8, 2048]⟩
abbrev S2048 : Shape := ⟨1, ![2048]⟩
abbrev S2048x6160 : Shape := ⟨2, ![2048, 6160]⟩
abbrev S16 : Shape := ⟨1, ![16]⟩
abbrev S_ : Shape := ⟨0, ![]⟩
abbrev S4x2064 : Shape := ⟨2, ![4, 2064]⟩
abbrev S4x2064x1 : Shape := ⟨3, ![4, 2064, 1]⟩
abbrev S1x1x2048 : Shape := ⟨3, ![1, 1, 2048]⟩
abbrev S4x2064x6160 : Shape := ⟨3, ![4, 2064, 6160]⟩
abbrev S4x2064x16 : Shape := ⟨3, ![4, 2064, 16]⟩
abbrev S4x2064x16x128 : Shape := ⟨4, ![4, 2064, 16, 128]⟩
abbrev S1x1x16 : Shape := ⟨3, ![1, 1, 16]⟩
abbrev S8x8 : Shape := ⟨2, ![8, 8]⟩
abbrev S8x8x1 : Shape := ⟨3, ![8, 8, 1]⟩
abbrev S8x8x6160 : Shape := ⟨3, ![8, 8, 6160]⟩
abbrev S8x8x16 : Shape := ⟨3, ![8, 8, 16]⟩
abbrev S8x8x16x128 : Shape := ⟨4, ![8, 8, 16, 128]⟩

abbrev nBuf : Space → Nat
  | .hbm => 91
  | .vmem => 0
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2048, .f32⟩
  | .hbm, ⟨3, _⟩ => ⟨S2048x6160, .f32⟩
  | .hbm, ⟨4, _⟩ => ⟨S16, .f32⟩
  | .hbm, ⟨5, _⟩ => ⟨S4x2064x2048, .f32⟩
  | .hbm, ⟨6, _⟩ => ⟨S_, .f32⟩
  | .hbm, ⟨7, _⟩ => ⟨S4x2064, .f32⟩
  | .hbm, ⟨8, _⟩ => ⟨S4x2064x1, .f32⟩
  | .hbm, ⟨9, _⟩ => ⟨S_, .f32⟩
  | .hbm, ⟨10, _⟩ => ⟨S4x2064x1, .f32⟩
  | .hbm, ⟨11, _⟩ => ⟨S4x2064x1, .f32⟩
  | .hbm, ⟨12, _⟩ => ⟨S_, .f32⟩
  | .hbm, ⟨13, _⟩ => ⟨S4x2064x1, .f32⟩
  | .hbm, ⟨14, _⟩ => ⟨S4x2064x1, .f32⟩
  | .hbm, ⟨15, _⟩ => ⟨S4x2064x1, .f32⟩
  | .hbm, ⟨16, _⟩ => ⟨S4x2064x2048, .f32⟩
  | .hbm, ⟨17, _⟩ => ⟨S4x2064x2048, .f32⟩
  | .hbm, ⟨18, _⟩ => ⟨S1x1x2048, .f32⟩
  | .hbm, ⟨19, _⟩ => ⟨S4x2064x2048, .f32⟩
  | .hbm, ⟨20, _⟩ => ⟨S4x2064x2048, .f32⟩
  | .hbm, ⟨21, _⟩ => ⟨S4x2064x6160, .f32⟩
  | .hbm, ⟨22, _⟩ => ⟨S4x2064x2048, .f32⟩
  | .hbm, ⟨23, _⟩ => ⟨S4x2064x2048, .f32⟩
  | .hbm, ⟨24, _⟩ => ⟨S4x2064x2048, .f32⟩
  | .hbm, ⟨25, _⟩ => ⟨S4x2064x16, .f32⟩
  | .hbm, ⟨26, _⟩ => ⟨S4x2064x16x128, .f32⟩
  | .hbm, ⟨27, _⟩ => ⟨S4x2064x16x128, .f32⟩
  | .hbm, ⟨28, _⟩ => ⟨S4x2064x16x128, .f32⟩
  | .hbm, ⟨29, _⟩ => ⟨S1x1x16, .f32⟩
  | .hbm, ⟨30, _⟩ => ⟨S4x2064x16, .f32⟩
  | .hbm, ⟨31, _⟩ => ⟨S4x2064x16, .f32⟩
  | .hbm, ⟨32, _⟩ => ⟨S4x2064x16, .f32⟩
  | .hbm, ⟨33, _⟩ => ⟨S_, .f32⟩
  | .hbm, ⟨34, _⟩ => ⟨S4x2064x16, .f32⟩
  | .hbm, ⟨35, _⟩ => ⟨S4x2064x16, .f32⟩
  | .hbm, ⟨36, _⟩ => ⟨S4x2064x16, .f32⟩
  | .hbm, ⟨37, _⟩ => ⟨S4x2064x16, .f32⟩
  | .hbm, ⟨38, _⟩ => ⟨S4x2064x16, .i1⟩
  | .hbm, ⟨39, _⟩ => ⟨S4x2064x16, .f32⟩
  | .hbm, ⟨40, _⟩ => ⟨S4x2064x16, .f32⟩
  | .hbm, ⟨41, _⟩ => ⟨S4x2064x16, .f32⟩
  | .hbm, ⟨42, _⟩ => ⟨S4x2064x16, .f32⟩
  | .hbm, ⟨43, _⟩ => ⟨S4x2064x16, .f32⟩
  | .hbm, ⟨44, _⟩ => ⟨S4x2064x16, .f32⟩
  | .hbm, ⟨45, _⟩ => ⟨S4x2064x16, .f32⟩
  | .hbm, ⟨46, _⟩ => ⟨S4x2064x16, .f32⟩
  | .hbm, ⟨47, _⟩ => ⟨S4x2064x16, .f32⟩
  | .hbm, ⟨48, _⟩ => ⟨S8x8x2048, .f32⟩
  | .hbm, ⟨49, _⟩ => ⟨S_, .f32⟩
  | .hbm, ⟨50, _⟩ => ⟨S8x8, .f32⟩
  | .hbm, ⟨51, _⟩ => ⟨S8x8x1, .f32⟩
  | .hbm, ⟨52, _⟩ => ⟨S_, .f32⟩
  | .hbm, ⟨53, _⟩ => ⟨S8x8x1, .f32⟩
  | .hbm, ⟨54, _⟩ => ⟨S8x8x1, .f32⟩
  | .hbm, ⟨55, _⟩ => ⟨S_, .f32⟩
  | .hbm, ⟨56, _⟩ => ⟨S8x8x1, .f32⟩
  | .hbm, ⟨57, _⟩ => ⟨S8x8x1, .f32⟩
  | .hbm, ⟨58, _⟩ => ⟨S8x8x1, .f32⟩
  | .hbm, ⟨59, _⟩ => ⟨S8x8x2048, .f32⟩
  | .hbm, ⟨60, _⟩ => ⟨S8x8x2048, .f32⟩
  | .hbm, ⟨61, _⟩ => ⟨S1x1x2048, .f32⟩
  | .hbm, ⟨62, _⟩ => ⟨S8x8x2048, .f32⟩
  | .hbm, ⟨63, _⟩ => ⟨S8x8x2048, .f32⟩
  | .hbm, ⟨64, _⟩ => ⟨S8x8x6160, .f32⟩
  | .hbm, ⟨65, _⟩ => ⟨S8x8x2048, .f32⟩
  | .hbm, ⟨66, _⟩ => ⟨S8x8x2048, .f32⟩
  | .hbm, ⟨67, _⟩ => ⟨S8x8x2048, .f32⟩
  | .hbm, ⟨68, _⟩ => ⟨S8x8x16, .f32⟩
  | .hbm, ⟨69, _⟩ => ⟨S8x8x16x128, .f32⟩
  | .hbm, ⟨70, _⟩ => ⟨S8x8x16x128, .f32⟩
  | .hbm, ⟨71, _⟩ => ⟨S8x8x16x128, .f32⟩
  | .hbm, ⟨72, _⟩ => ⟨S1x1x16, .f32⟩
  | .hbm, ⟨73, _⟩ => ⟨S8x8x16, .f32⟩
  | .hbm, ⟨74, _⟩ => ⟨S8x8x16, .f32⟩
  | .hbm, ⟨75, _⟩ => ⟨S8x8x16, .f32⟩
  | .hbm, ⟨76, _⟩ => ⟨S_, .f32⟩
  | .hbm, ⟨77, _⟩ => ⟨S8x8x16, .f32⟩
  | .hbm, ⟨78, _⟩ => ⟨S8x8x16, .f32⟩
  | .hbm, ⟨79, _⟩ => ⟨S8x8x16, .f32⟩
  | .hbm, ⟨80, _⟩ => ⟨S8x8x16, .f32⟩
  | .hbm, ⟨81, _⟩ => ⟨S8x8x16, .i1⟩
  | .hbm, ⟨82, _⟩ => ⟨S8x8x16, .f32⟩
  | .hbm, ⟨83, _⟩ => ⟨S8x8x16, .f32⟩
  | .hbm, ⟨84, _⟩ => ⟨S8x8x16, .f32⟩
  | .hbm, ⟨85, _⟩ => ⟨S8x8x16, .f32⟩
  | .hbm, ⟨86, _⟩ => ⟨S8x8x16, .f32⟩
  | .hbm, ⟨87, _⟩ => ⟨S8x8x16, .f32⟩
  | .hbm, ⟨88, _⟩ => ⟨S8x8x16, .f32⟩
  | .hbm, ⟨89, _⟩ => ⟨S8x8x16, .f32⟩
  | .hbm, ⟨90, _⟩ => ⟨S8x8x16, .f32⟩
  | _, _ => ⟨S4x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_v0 : Ref sig .tc := ⟨.hbm, 75, rfl⟩
abbrev main_call1_call0_cst : Ref sig .tc := ⟨.hbm, 76, rfl⟩
abbrev main_call1_call0_v0 : Ref sig .tc := ⟨.hbm, 77, rfl⟩
abbrev main_call1_call0_v1 : Ref sig .tc := ⟨.hbm, 78, rfl⟩
abbrev main_call1_call0_v2 : Ref sig .tc := ⟨.hbm, 79, rfl⟩
abbrev main_call1_call0_v3 : Ref sig .tc := ⟨.hbm, 80, rfl⟩
abbrev main_call1_call0_v4 : Ref sig .tc := ⟨.hbm, 81, rfl⟩
abbrev main_call1_call0_v5 : Ref sig .tc := ⟨.hbm, 82, rfl⟩
abbrev main_call1_call0_v6 : Ref sig .tc := ⟨.hbm, 83, rfl⟩
abbrev main_call1_call0_v7 : Ref sig .tc := ⟨.hbm, 84, rfl⟩
abbrev main_call1_call0_v8 : Ref sig .tc := ⟨.hbm, 85, rfl⟩
abbrev main_call1_call0_v9 : Ref sig .tc := ⟨.hbm, 86, rfl⟩
abbrev main_call1_call0_v10 : Ref sig .tc := ⟨.hbm, 87, rfl⟩
abbrev main_call1_call0_v11 : Ref sig .tc := ⟨.hbm, 88, rfl⟩
abbrev main_call1_v1 : Ref sig .tc := ⟨.hbm, 89, rfl⟩
abbrev main_v49 : Ref sig .tc := ⟨.hbm, 90, rfl⟩

abbrev nD : Nat := 1
abbrev τ : Topo := Topo.v7x

variable {F : FTy → Type} [FloatOps F]
-- ==== Proof.Same.lean ====
module

public import proofs.«01_k».proof.Defs
public import proofs.«01_k».proof.Proof.Gen.Kernel
public import proofs.«01_k».proof.Proof.Gen.KernelIdeal

@[expose] public section

set_option maxRecDepth 16384

noncomputable section

namespace Cert.Proof

open Idealize.ShloMosaic Idealize.SL.Sem

/-- Words read as the words they are: no constant is named. -/
instance namedBits : Named Bits where
  named _ _ {φ} bits := FloatOps.ofBits (F := Bits) φ bits

/-- The kernel's side conditions. -/
instance fk : Cert.Kernel.Facts := Cert.Kernel.Gen.facts
/-- The idealized kernel's side conditions. -/
instance fki : Cert.KernelIdeal.Facts := Cert.KernelIdeal.Gen.facts

/-- The two programs' kernel bodies, label by label: the idealized program's, its constants read as the words they are. -/
theorem same_bodies : (Cert.KernelIdeal.defs₀ (F := Bits)) = (Cert.Kernel.defs₀ (F := Bits)) := by
  refine congrArg (Defs.onTc (nD := Cert.Kernel.nD) (τ := Cert.Kernel.τ) (sig := Cert.Kernel.sig) (Val := Elt Bits) (Λ := Cert.Kernel.Λ₀)) ?_
  funext ℓ a
  match ℓ, a with
  | 0, (_, _) => rfl
  | 1, (_, _) => rfl

/-- Their definitions with the pipelines around the bodies. -/
theorem same_defs : (Cert.KernelIdeal.defs (F := Bits)) = (Cert.Kernel.defs (F := Bits)) :=
  congrArg (Pipeline.defs (Cert.Kernel.pcfgs (F := Bits))) same_bodies

/-- A run of the one is a run of the other. -/
theorem run_same (s : MemSt Cert.Kernel.nD Cert.Kernel.τ Cert.Kernel.sig (Elt Bits)) (Q : _ → Prop)
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q :=
  (congrArg (fun D => θ_run D (onTc (τ := Cert.Kernel.τ) (Cert.Kernel.main (F := Bits))) s Q) same_defs).mp h

end Cert.Proof

end
-- ==== Proof.Cum.Step.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise.Index

@[expose] public section

set_option maxRecDepth 16384

noncomputable section

namespace Cert.Proof.Cum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The forget logits, loaded whole. -/
def whole (x : Vec F S1x2064x128 .f32) : Vec F S1x2064x128 .f32 :=
  fun j => x ((Rect.unit (s := S1x2064x128) ![0, 0, 0] S1x2064x128.size inb_S1x2064x128_S1x2064x128_0_0_0).emb j)

/-- The whole block is the block. -/
theorem whole_eq (x : Vec F S1x2064x128 .f32) : whole x = x := by
  funext j
  unfold whole
  congr 1
  funext a
  apply Fin.ext
  fin_cases a
  · show 0 + 1 * (j 0).val = (j 0).val; omega
  · show 0 + 1 * (j 1).val = (j 1).val; omega
  · show 0 + 1 * (j 2).val = (j 2).val; omega

/-- The rows moved down by `d`, zero rows above. -/
def down (d : ℕ) (y : Vec F S2064x128 .f32) : Vec F S2064x128 .f32 :=
  fun j => if d ≤ (j 0).val then y (ix2 ⟨(j 0).val - d, by have : (j 0).val < 2064 := (j 0).isLt; omega⟩ (j 1))
    else Scalar.ofBits .f32 0x00000000#32

/-- The running sums before the first doubling. -/
def sum0 (x : Vec F S1x2064x128 .f32) : Vec F S2064x128 .f32 := k0_pay5 (whole x)
/-- The running sums of 2 rows. -/
def sum1 (x : Vec F S1x2064x128 .f32) : Vec F S2064x128 .f32 := k0_pay6 (sum0 x) (down 1 (sum0 x))
/-- The running sums of 4 rows. -/
def sum2 (x : Vec F S1x2064x128 .f32) : Vec F S2064x128 .f32 := k0_pay7 (sum1 x) (down 2 (sum1 x))
/-- The running sums of 8 rows. -/
def sum3 (x : Vec F S1x2064x128 .f32) : Vec F S2064x128 .f32 := k0_pay8 (sum2 x) (down 4 (sum2 x))
/-- The running sums of 16 rows. -/
def sum4 (x : Vec F S1x2064x128 .f32) : Vec F S2064x128 .f32 := k0_pay9 (sum3 x) (down 8 (sum3 x))
/-- The running sums of 32 rows. -/
def sum5 (x : Vec F S1x2064x128 .f32) : Vec F S2064x128 .f32 := k0_pay10 (sum4 x) (down 16 (sum4 x))
/-- The running sums of 64 rows. -/
def sum6 (x : Vec F S1x2064x128 .f32) : Vec F S2064x128 .f32 := k0_pay11 (sum5 x) (down 32 (sum5 x))
/-- The running sums of 128 rows. -/
def sum7 (x : Vec F S1x2064x128 .f32) : Vec F S2064x128 .f32 := k0_pay12 (sum6 x) (down 64 (sum6 x))
/-- The running sums of 256 rows. -/
def sum8 (x : Vec F S1x2064x128 .f32) : Vec F S2064x128 .f32 := k0_pay13 (sum7 x) (down 128 (sum7 x))
/-- The running sums of 512 rows. -/
def sum9 (x : Vec F S1x2064x128 .f32) : Vec F S2064x128 .f32 := k0_pay14 (sum8 x) (down 256 (sum8 x))
/-- The running sums of 1024 rows. -/
def sum10 (x : Vec F S1x2064x128 .f32) : Vec F S2064x128 .f32 := k0_pay15 (sum9 x) (down 512 (sum9 x))
/-- The running sums of 2048 rows. -/
def sum11 (x : Vec F S1x2064x128 .f32) : Vec F S2064x128 .f32 := k0_pay16 (sum10 x) (down 1024 (sum10 x))
/-- The running sums of all rows. -/
def total (x : Vec F S1x2064x128 .f32) : Vec F S2064x128 .f32 := k0_pay18 (k0_pay17 (sum11 x) (down 2048 (sum11 x)))

/-- A place's row among the lanes of one array of weights. -/
def rowsI : IVec S128x128 32 := iota .tc S128x128 32 [0] iota_S128x128_d0_w32
/-- A place's column. -/
def colsI : IVec S128x128 32 := iota .tc S128x128 32 [1] iota_S128x128_d1_w32
/-- The lanes of ones of the queries. -/
def onesQ : FVec F S2064x128 .f32 := k0_pay28 k0_pay25 (Scalar.select (Scalar.cmpi .eq 8#32 0#32) 1#32 8#32) k0_pay26 k0_pay27 0#32
/-- The lanes of ones of the keys. -/
def onesK : FVec F S2064x128 .f32 := k0_pay29 (iota .tc S2064x128 32 [1] iota_S2064x128_d1_w32) k0_pay24
/-- Which head's sum goes to which lanes, first eight heads. -/
def grp0 : IVec S128x128 1 := k0_pay32 rowsI colsI 8#32 (k0_pay30 colsI) (k0_pay31 colsI) (Scalar.extui (Scalar.cmpi .sgt 8#32 0#32))
/-- Which head's sum goes to which lanes, last eight heads. -/
def grp1 : IVec S128x128 1 := k0_pay42 rowsI colsI

/-- The query lanes of the first eight heads, from the sums. -/
def augQ0 (t : Vec F S2064x128 .f32) : Vec F S1x1x2064x128 .bf16 :=
  k0_pay40 onesQ (k0_pay36 (k0_pay23 t)
    (k0_pay34 (k0_pay22 t) colsI grp0
      (k0_pay33 (k0_pay20 t) rowsI colsI 8#32 (k0_pay30 colsI) (k0_pay31 colsI) (Scalar.extui (Scalar.cmpi .sgt 8#32 0#32))) 8#32 0#32)
    (k0_pay35 colsI grp0) (constant S2064x128 .f32 0x00000000#32))
/-- The key lanes of the first eight heads. -/
def augK0 (t : Vec F S2064x128 .f32) : Vec F S1x1x2064x128 .bf16 :=
  k0_pay41 (k0_pay22 t) (k0_pay23 t) colsI onesK grp0 (k0_pay37 (k0_pay20 t) colsI grp0) (k0_pay38 colsI) k0_pay39
/-- The query lanes of the last eight heads. -/
def augQ1 (t : Vec F S2064x128 .f32) : Vec F S1x1x2064x128 .bf16 :=
  k0_pay1 (k0_pay55 onesQ (k0_pay50 (k0_pay23 t) grp1
    (k0_pay46 (k0_pay20 t) (k0_pay22 t) colsI grp1 (k0_pay43 colsI) (k0_pay44 colsI) (k0_pay45 colsI)) 8#32 (k0_pay47 colsI) (k0_pay48 colsI)
    (k0_pay49 colsI) 0#1))
/-- The key lanes of the last eight heads. -/
def augK1 (t : Vec F S2064x128 .f32) : Vec F S1x1x2064x128 .bf16 :=
  k0_pay2 onesK (k0_pay54 (k0_pay22 t) (k0_pay23 t) colsI grp1 (k0_pay51 (k0_pay20 t) colsI grp1) 8#32 (k0_pay52 colsI) k0_pay53)

/-- Two halves put into one array. -/
def both {e : EltTy} (a b : Vec F S1x1x2064x128 e) : Vec F S1x2x2064x128 e :=
  fun y => if (y 1).val = 0 then a (ix4 0 0 (y 2) (y 3)) else b (ix4 0 0 (y 2) (y 3))

/-- The query lanes, from the forget logits. -/
def augQ (x : Vec F S1x2064x128 .f32) : Vec F S1x2x2064x128 .bf16 := both (augQ0 (total x)) (augQ1 (total x))
/-- The key lanes, from the forget logits. -/
def augK (x : Vec F S1x2064x128 .f32) : Vec F S1x2x2064x128 .bf16 := both (augK0 (total x)) (augK1 (total x))

section Reads

variable {sig : RefSig} {κ : Kind} {sp : Space}

/-- The rectangle of the sums themselves, below the zero rows. -/
abbrev topR : Rect S4112x128 := Rect.unit (s := S4112x128) ![2048, 0] S2064x128.size inb_S4112x128_S2064x128_2048_0

/-- The rows above the sums hold zero. -/
def Pad (v : View sig κ sp S4112x128 .f32) (L : List (View.Piece (Elt F) S4112x128 .f32)) : Prop :=
  ∀ y : S4112x128.Idx, (y 0).val < 2048 → v.read (Elt F) (v.writes (Elt F) v.junk L) y = (Scalar.ofBits .f32 0x00000000#32 : F .f32)

/-- Storing below the padding keeps the padding at zero. -/
theorem pad_cons (v : View sig κ sp S4112x128 .f32) (L : List (View.Piece (Elt F) S4112x128 .f32)) (w : Vec F S2064x128 .f32) (h : Pad v L) :
    Pad v (⟨topR, w⟩ :: L) := fun y hy => by
  rw [View.read_writes_cons_miss_of_axis v _ ⟨topR, w⟩ L y 0 2048 2064 rfl rfl rfl (.inl hy)]
  exact h y hy

/-- Storing zeros in the padding makes it zero. -/
theorem pad_zero (v : View sig κ sp S4112x128 .f32) (z : Vec F S2048x128 .f32) (hz : ∀ j, z j = (Scalar.ofBits .f32 0x00000000#32 : F .f32)) :
    Pad v [⟨Rect.unit (s := S4112x128) ![0, 0] S2048x128.size inb_S4112x128_S2048x128_0_0, z⟩] := fun y hy => by
  refine (View.read_writes_cons_hit_of_coords v _ (Rect.unit (s := S4112x128) ![0, 0] S2048x128.size inb_S4112x128_S2048x128_0_0) z [] (ix2 ⟨(y 0).val, hy⟩ (y 1)) y (fun a => ?_)).trans (hz _)
  fin_cases a
  · show (y 0).val = 0 + 1 * (y 0).val; omega
  · show (y 1).val = 0 + 1 * (y 1).val; omega

/-- A load of the part below the padding gives what was last stored there. -/
theorem load_top (v : View sig κ sp S4112x128 .f32) (L : List (View.Piece (Elt F) S4112x128 .f32)) (w : Vec F S2064x128 .f32) :
    v.readCov (⟨topR, w⟩ :: L) topR.toLoadRect = w := View.readCov_cons_toLoadRect _ _ _ _

/-- A load that reaches into the padding gives the rows shifted down, with zeros above. -/
theorem load_down (v : View sig κ sp S4112x128 .f32) (L : List (View.Piece (Elt F) S4112x128 .f32)) (w : Vec F S2064x128 .f32) (d o : ℕ)
    (ho : o + d = 2048) (inb : ∀ a, (![o, 0] : Fin 2 → ℕ) a + S2064x128.size a ≤ S4112x128.size a) (h : Pad v L) :
    v.readCov (⟨topR, w⟩ :: L) (Rect.unit (s := S4112x128) ![o, 0] S2064x128.size inb).toLoadRect = down d w := by
  funext x
  show v.read (Elt F) (v.writes (Elt F) v.junk (⟨topR, w⟩ :: L)) ((Rect.unit (s := S4112x128) ![o, 0] S2064x128.size inb).emb x) = _
  have h0 : (((Rect.unit (s := S4112x128) ![o, 0] S2064x128.size inb).emb x) 0).val = o + 1 * (x 0).val := rfl
  have h1 : (((Rect.unit (s := S4112x128) ![o, 0] S2064x128.size inb).emb x) 1).val = 0 + 1 * (x 1).val := rfl
  have hx : (x 0).val < 2064 := (x 0).isLt
  unfold down
  by_cases hd : d ≤ (x 0).val
  · rw [if_pos hd]
    exact View.read_writes_cons_hit_of_coords v _ topR w L (ix2 ⟨(x 0).val - d, by omega⟩ (x 1)) _ (fun a => by
      fin_cases a
      · show o + 1 * (x 0).val = 2048 + 1 * ((x 0).val - d); omega
      · show 0 + 1 * (x 1).val = 0 + 1 * (x 1).val; rfl)
  · rw [if_neg hd]
    exact pad_cons v L w h _ (by rw [h0]; omega)

/-- The rectangle of half `g`. -/
abbrev halfR0 : Rect S1x2x2064x128 := Rect.unit (s := S1x2x2064x128) ![0, 0, 0, 0] S1x1x2064x128.size inb_S1x2x2064x128_S1x1x2064x128_0_0_0_0
/-- The second half of the lanes of a batch. -/
abbrev halfR1 : Rect S1x2x2064x128 := Rect.unit (s := S1x2x2064x128) ![0, 1, 0, 0] S1x1x2064x128.size inb_S1x2x2064x128_S1x1x2064x128_0_1_0_0

/-- The two halves stored read back as one array. -/
theorem read_both {e : EltTy} (v : View sig κ sp S1x2x2064x128 e) (f : v.ty.Contents (Elt F)) (a b : Vec F S1x1x2064x128 e) :
    v.read (Elt F) (v.writes (Elt F) f [⟨halfR1, b⟩, ⟨halfR0, a⟩]) = both a b := by
  funext y
  have h0 : (y 0).val < 1 := (y 0).isLt
  have h1 : (y 1).val < 2 := (y 1).isLt
  let x : S1x1x2064x128.Idx := ix4 0 0 (y 2) (y 3)
  unfold both
  by_cases hy : (y 1).val = 0
  · rw [if_pos hy]
    refine (View.read_writes_cons_miss_of_axis v f ⟨halfR1, b⟩ [⟨halfR0, a⟩] y 1 1 1 rfl rfl rfl (.inl (by omega))).trans ?_
    refine View.read_writes_cons_hit_of_coords v f halfR0 a [] x y (fun k => ?_)
    fin_cases k
    · show (y 0).val = 0 + 1 * 0; omega
    · show (y 1).val = 0 + 1 * 0; omega
    · show (y 2).val = 0 + 1 * (y 2).val; omega
    · show (y 3).val = 0 + 1 * (y 3).val; omega
  · rw [if_neg hy]
    refine View.read_writes_cons_hit_of_coords v f halfR1 b [⟨halfR0, a⟩] x y (fun k => ?_)
    fin_cases k
    · show (y 0).val = 0 + 1 * 0; omega
    · show (y 1).val = 1 + 1 * 0; omega
    · show (y 2).val = 0 + 1 * (y 2).val; omega
    · show (y 3).val = 0 + 1 * (y 3).val; omega

end Reads

end Cert.Proof.Cum

end
-- ==== Proof.Cum.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Cum.Step
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Cum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg1 : Memref sig .tc .vmem S1x2064x128 .f32) (harg1 : arg1.IsWhole) (arg2 : Memref sig .tc .vmem S1x2x2064x128 .bf16) (harg2 : arg2.IsWhole) (arg3 : Memref sig .tc .vmem S1x2x2064x128 .bf16) (harg3 : arg3.IsWhole) (arg4 : Memref sig .tc .vmem S4112x128 .f32) (harg4 : arg4.IsWhole) (arg5 : Memref sig .tc .vmem S4112x128 .f32) (harg5 : arg5.IsWhole)
    (x0 : Vec F S1x2064x128 .f32)

set_option maxHeartbeats 4000000 in
/-- The body turns the forget logits into the lanes that carry their running sums. -/
theorem run_0 (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare (augQ x0) ∗ owns (c : Thread nD τ) arg3 fullShare (augK x0) ∗ (∃ d, owns (c : Thread nD τ) arg4 fullShare d) ∗ (∃ d, owns (c : Thread nD τ) arg5 fullShare d)) -∗ K ⟨⟩))
          ⊢ wp frame (wpE (defs₀ (F := F)) Variants.none c none) E (cc0_forget_cumsum i arg1 harg1 arg2 harg2 arg3 harg3 arg4 harg4 arg5 harg5) K := by
    simp only [cc0_forget_cumsum_eq_skeleton]; unfold cc0_forget_cumsum_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%d1, %f1, -, H1⟩, ⟨%d2, %f2, -, H2⟩, ⟨%d3, %f3, -, H3⟩, ⟨%d4, %f4, -, H4⟩, Hk⟩
    obtain rfl := harg1.eq_unread hf0
    sl_exec
    sl_step
    have hw : View.readAt (Elt F) arg1.view (Rect.unit (s := S1x2064x128) ![0, 0, 0] S1x2064x128.size inb_S1x2064x128_S1x2064x128_0_0_0).toLoadRect (harg1.unread x0) = whole x0 := by
      conv_rhs => rw [← harg1.read_unread x0]
      rfl
    have e0 : run_0.sl.H3_2 c arg1 harg1 x0 = ⟨topR, sum0 x0⟩ :: [⟨Rect.unit (s := S4112x128) ![0, 0] S2048x128.size inb_S4112x128_S2048x128_0_0, k0_pay3⟩] := by unfold run_0.sl.H3_2; rw [hw]; rfl
    have p0 : Pad arg4.view (run_0.sl.H3_2 c arg1 harg1 x0) := by rw [e0]; exact pad_cons _ _ _ (pad_zero _ _ (fun _ => rfl))
    have a0 : run_0.sl.v13 c arg1 harg1 arg4 x0 = sum0 x0 := by unfold run_0.sl.v13; rw [e0]; exact load_top _ _ _
    have b0 : run_0.sl.v14 c arg1 harg1 arg4 x0 = down 1 (sum0 x0) := by unfold run_0.sl.v14; rw [e0]; exact load_down _ _ _ 1 2047 rfl _ (pad_zero _ _ (fun _ => rfl))
    have e1 : run_0.sl.H4_2 c arg1 harg1 arg4 x0 = ⟨topR, sum1 x0⟩ :: [⟨Rect.unit (s := S4112x128) ![0, 0] S2048x128.size inb_S4112x128_S2048x128_0_0, k0_pay4⟩] := by unfold run_0.sl.H4_2; rw [a0, b0]; rfl
    have p1 : Pad arg5.view (run_0.sl.H4_2 c arg1 harg1 arg4 x0) := by rw [e1]; exact pad_cons _ _ _ (pad_zero _ _ (fun _ => rfl))
    have a1 : run_0.sl.v19 c arg1 harg1 arg4 arg5 x0 = sum1 x0 := by unfold run_0.sl.v19; rw [e1]; exact load_top _ _ _
    have b1 : run_0.sl.v20 c arg1 harg1 arg4 arg5 x0 = down 2 (sum1 x0) := by unfold run_0.sl.v20; rw [e1]; exact load_down _ _ _ 2 2046 rfl _ (pad_zero _ _ (fun _ => rfl))
    have e2 : run_0.sl.H3_3 c arg1 harg1 arg4 arg5 x0 = ⟨topR, sum2 x0⟩ :: (run_0.sl.H3_2 c arg1 harg1 x0) := by unfold run_0.sl.H3_3; rw [a1, b1]; rfl
    have p2 : Pad arg4.view (run_0.sl.H3_3 c arg1 harg1 arg4 arg5 x0) := by rw [e2]; exact pad_cons _ _ _ p0
    have a2 : run_0.sl.v25 c arg1 harg1 arg4 arg5 x0 = sum2 x0 := by unfold run_0.sl.v25; rw [e2]; exact load_top _ _ _
    have b2 : run_0.sl.v26 c arg1 harg1 arg4 arg5 x0 = down 4 (sum2 x0) := by unfold run_0.sl.v26; rw [e2]; exact load_down _ _ _ 4 2044 rfl _ p0
    have e3 : run_0.sl.H4_3 c arg1 harg1 arg4 arg5 x0 = ⟨topR, sum3 x0⟩ :: (run_0.sl.H4_2 c arg1 harg1 arg4 x0) := by unfold run_0.sl.H4_3; rw [a2, b2]; rfl
    have p3 : Pad arg5.view (run_0.sl.H4_3 c arg1 harg1 arg4 arg5 x0) := by rw [e3]; exact pad_cons _ _ _ p1
    have a3 : run_0.sl.v31 c arg1 harg1 arg4 arg5 x0 = sum3 x0 := by unfold run_0.sl.v31; rw [e3]; exact load_top _ _ _
    have b3 : run_0.sl.v32 c arg1 harg1 arg4 arg5 x0 = down 8 (sum3 x0) := by unfold run_0.sl.v32; rw [e3]; exact load_down _ _ _ 8 2040 rfl _ p1
    have e4 : run_0.sl.H3_4 c arg1 harg1 arg4 arg5 x0 = ⟨topR, sum4 x0⟩ :: (run_0.sl.H3_3 c arg1 harg1 arg4 arg5 x0) := by unfold run_0.sl.H3_4; rw [a3, b3]; rfl
    have p4 : Pad arg4.view (run_0.sl.H3_4 c arg1 harg1 arg4 arg5 x0) := by rw [e4]; exact pad_cons _ _ _ p2
    have a4 : run_0.sl.v37 c arg1 harg1 arg4 arg5 x0 = sum4 x0 := by unfold run_0.sl.v37; rw [e4]; exact load_top _ _ _
    have b4 : run_0.sl.v38 c arg1 harg1 arg4 arg5 x0 = down 16 (sum4 x0) := by unfold run_0.sl.v38; rw [e4]; exact load_down _ _ _ 16 2032 rfl _ p2
    have e5 : run_0.sl.H4_4 c arg1 harg1 arg4 arg5 x0 = ⟨topR, sum5 x0⟩ :: (run_0.sl.H4_3 c arg1 harg1 arg4 arg5 x0) := by unfold run_0.sl.H4_4; rw [a4, b4]; rfl
    have p5 : Pad arg5.view (run_0.sl.H4_4 c arg1 harg1 arg4 arg5 x0) := by rw [e5]; exact pad_cons _ _ _ p3
    have a5 : run_0.sl.v43 c arg1 harg1 arg4 arg5 x0 = sum5 x0 := by unfold run_0.sl.v43; rw [e5]; exact load_top _ _ _
    have b5 : run_0.sl.v44 c arg1 harg1 arg4 arg5 x0 = down 32 (sum5 x0) := by unfold run_0.sl.v44; rw [e5]; exact load_down _ _ _ 32 2016 rfl _ p3
    have e6 : run_0.sl.H3_5 c arg1 harg1 arg4 arg5 x0 = ⟨topR, sum6 x0⟩ :: (run_0.sl.H3_4 c arg1 harg1 arg4 arg5 x0) := by unfold run_0.sl.H3_5; rw [a5, b5]; rfl
    have p6 : Pad arg4.view (run_0.sl.H3_5 c arg1 harg1 arg4 arg5 x0) := by rw [e6]; exact pad_cons _ _ _ p4
    have a6 : run_0.sl.v49 c arg1 harg1 arg4 arg5 x0 = sum6 x0 := by unfold run_0.sl.v49; rw [e6]; exact load_top _ _ _
    have b6 : run_0.sl.v50 c arg1 harg1 arg4 arg5 x0 = down 64 (sum6 x0) := by unfold run_0.sl.v50; rw [e6]; exact load_down _ _ _ 64 1984 rfl _ p4
    have e7 : run_0.sl.H4_5 c arg1 harg1 arg4 arg5 x0 = ⟨topR, sum7 x0⟩ :: (run_0.sl.H4_4 c arg1 harg1 arg4 arg5 x0) := by unfold run_0.sl.H4_5; rw [a6, b6]; rfl
    have p7 : Pad arg5.view (run_0.sl.H4_5 c arg1 harg1 arg4 arg5 x0) := by rw [e7]; exact pad_cons _ _ _ p5
    have a7 : run_0.sl.v55 c arg1 harg1 arg4 arg5 x0 = sum7 x0 := by unfold run_0.sl.v55; rw [e7]; exact load_top _ _ _
    have b7 : run_0.sl.v56 c arg1 harg1 arg4 arg5 x0 = down 128 (sum7 x0) := by unfold run_0.sl.v56; rw [e7]; exact load_down _ _ _ 128 1920 rfl _ p5
    have e8 : run_0.sl.H3_6 c arg1 harg1 arg4 arg5 x0 = ⟨topR, sum8 x0⟩ :: (run_0.sl.H3_5 c arg1 harg1 arg4 arg5 x0) := by unfold run_0.sl.H3_6; rw [a7, b7]; rfl
    have p8 : Pad arg4.view (run_0.sl.H3_6 c arg1 harg1 arg4 arg5 x0) := by rw [e8]; exact pad_cons _ _ _ p6
    have a8 : run_0.sl.v61 c arg1 harg1 arg4 arg5 x0 = sum8 x0 := by unfold run_0.sl.v61; rw [e8]; exact load_top _ _ _
    have b8 : run_0.sl.v62 c arg1 harg1 arg4 arg5 x0 = down 256 (sum8 x0) := by unfold run_0.sl.v62; rw [e8]; exact load_down _ _ _ 256 1792 rfl _ p6
    have e9 : run_0.sl.H4_6 c arg1 harg1 arg4 arg5 x0 = ⟨topR, sum9 x0⟩ :: (run_0.sl.H4_5 c arg1 harg1 arg4 arg5 x0) := by unfold run_0.sl.H4_6; rw [a8, b8]; rfl
    have p9 : Pad arg5.view (run_0.sl.H4_6 c arg1 harg1 arg4 arg5 x0) := by rw [e9]; exact pad_cons _ _ _ p7
    have a9 : run_0.sl.v67 c arg1 harg1 arg4 arg5 x0 = sum9 x0 := by unfold run_0.sl.v67; rw [e9]; exact load_top _ _ _
    have b9 : run_0.sl.v68 c arg1 harg1 arg4 arg5 x0 = down 512 (sum9 x0) := by unfold run_0.sl.v68; rw [e9]; exact load_down _ _ _ 512 1536 rfl _ p7
    have e10 : run_0.sl.H3_7 c arg1 harg1 arg4 arg5 x0 = ⟨topR, sum10 x0⟩ :: (run_0.sl.H3_6 c arg1 harg1 arg4 arg5 x0) := by unfold run_0.sl.H3_7; rw [a9, b9]; rfl
    have p10 : Pad arg4.view (run_0.sl.H3_7 c arg1 harg1 arg4 arg5 x0) := by rw [e10]; exact pad_cons _ _ _ p8
    have a10 : run_0.sl.v73 c arg1 harg1 arg4 arg5 x0 = sum10 x0 := by unfold run_0.sl.v73; rw [e10]; exact load_top _ _ _
    have b10 : run_0.sl.v74 c arg1 harg1 arg4 arg5 x0 = down 1024 (sum10 x0) := by unfold run_0.sl.v74; rw [e10]; exact load_down _ _ _ 1024 1024 rfl _ p8
    have e11 : run_0.sl.H4_7 c arg1 harg1 arg4 arg5 x0 = ⟨topR, sum11 x0⟩ :: (run_0.sl.H4_6 c arg1 harg1 arg4 arg5 x0) := by unfold run_0.sl.H4_7; rw [a10, b10]; rfl
    have p11 : Pad arg5.view (run_0.sl.H4_7 c arg1 harg1 arg4 arg5 x0) := by rw [e11]; exact pad_cons _ _ _ p9
    have a11 : run_0.sl.v79 c arg1 harg1 arg4 arg5 x0 = sum11 x0 := by unfold run_0.sl.v79; rw [e11]; exact load_top _ _ _
    have b11 : run_0.sl.v80 c arg1 harg1 arg4 arg5 x0 = down 2048 (sum11 x0) := by unfold run_0.sl.v80; rw [e11]; exact load_down _ _ _ 2048 0 rfl _ p9
    have ht : run_0.sl.v85 c arg1 harg1 arg4 arg5 x0 = total x0 := by
      unfold run_0.sl.v85 run_0.sl.H3_8 run_0.sl.r; rw [a11, b11]; exact load_top _ _ _
    iapply Hk
    isplitl [H0]
    · iexists _; isplitr; swap; · iexact H0
      ipureintro; exact hf0
    isplitl [H1]
    · iexists _; isplitr; swap; · iexact H1
      ipureintro
      unfold augQ
      rw [← ht]
      exact read_both _ _ _ _
    isplitl [H2]
    · iexists _; isplitr; swap; · iexact H2
      ipureintro
      unfold augK
      rw [← ht]
      exact read_both _ _ _ _
    isplitl [H3]
    · iexists _, _; isplitr; swap; · iexact H3
      ipureintro; rfl
    iexists _, _; isplitr; swap; · iexact H4
    ipureintro; rfl

end Cert.Proof.Cum

end
-- ==== Proof.Cum.Data.lean ====
module

public import proofs.«01_k».proof.Proof.Cum.Run

@[expose] public section

set_option maxRecDepth 16384

noncomputable section

namespace Cert.Proof.Cum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- The core's buffers, as the region of the running sums finds them.
variable (V : Dev nD → Valuation τ sig (Elt F))

/-- The block of forget logits that a point works on. -/
def blk (c : Dev nD) (t : Fin cfg0.N) : Vec F S1x2064x128 .f32 :=
  ((cfg0.win 0).blk t).view.read (Elt F) (V c (Proc.devRef .tc (Pipeline.arrRef spec0 0)))

/-- The proof data of the region: an input keeps its block, the outputs hold the lanes made of it. -/
def dat (c : Dev nD) : Dat τ (Elt F) Unit ℕ (UR sig nD τ) ℕ cfg0 c where
  A w := V c (Proc.devRef .tc (Pipeline.arrRef spec0 w))
  after w t := match w with
    | ⟨0, _⟩ => blk V c t
    | ⟨1, _⟩ => augQ (blk V c t)
    | ⟨2, _⟩ => augK (blk V c t)
  Φ _ := Pipeline.scopedRest spec0 c
  q _ := fullShare
  owed _ := 0

/-- The arrays are what the region finds. -/
theorem dat_A (c : Dev nD) (w : Fin cfg0.W) : (dat V c).A w = V c (Proc.devRef .tc (Pipeline.arrRef spec0 w)) := by
  dsimp only [dat]
/-- The input's buffer after a point. -/
theorem after_0 (c : Dev nD) (t : Fin cfg0.N) : (dat V c).after 0 t = blk V c t := by dsimp only [dat]
/-- The query lanes' buffer after a point. -/
theorem after_1 (c : Dev nD) (t : Fin cfg0.N) : (dat V c).after 1 t = augQ (blk V c t) := by dsimp only [dat]
/-- The key lanes' buffer after a point. -/
theorem after_2 (c : Dev nD) (t : Fin cfg0.N) : (dat V c).after 2 t = augK (blk V c t) := by dsimp only [dat]

/-- The input's buffer holds its block when a point begins. -/
theorem before_0 (c : Dev nD) (t : Fin cfg0.N) (d) : (dat V c).before 0 t d = blk V c t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)

/-- What a point's body is called with. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What a point's body returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- A point's body takes its blocks from what it is called with to what it returns. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = Pipeline.scopedRest spec0 c from rfl, show (dat V c).Φ t.castSucc = Pipeline.scopedRest spec0 c from rfl,
    show (dat V c).owesAt () t.succ = (dat V c).owesAt () t.castSucc from rfl,
    after_0, after_1, after_2, scopedRest0_eq]
  iintro ⟨⟨S0, S1, SR⟩, Ho, ⟨%d0, H0⟩, ⟨%d1, H1⟩, ⟨%d2, H2⟩⟩
  iapply (run_0 c (grid0.coords t) _ _ _ _ _ _ (Memref.whole cc0_scratch0) (Memref.isWhole_whole _) (Memref.whole cc0_scratch1) (Memref.isWhole_whole _) (blk V c t) Set.univ _)
  simp only [owns_whole]
  isplitl [H0]; · iexact H0
  isplitl [H1]; · iexists _; iexact H1
  isplitl [H2]; · iexists _; iexact H2
  isplitl [S0]; · iexact S0
  isplitl [S1]; · iexact S1
  iintro ⟨H0, H1, H2, S0, S1⟩
  isplitl [S0 S1 SR]
  · isplitl [S0]; · iexact S0
    isplitl [S1]; · iexact S1
    iexact SR
  isplitl [Ho]; · iexact Ho
  isplitl [H0]; · iexact H0
  isplitl [H1]; · iexact H1
  iexact H2

/-- The body table's row at a point is the body. -/
theorem row (t : Fin cfg0.N) :
    defs₀ (F := F) .tc cfg0.body (cfg0.bodyArgs t (cfg0.slots t)) = bodyAt0 t := by
  unfold defs₀; rw [Defs.onTc_tc]

/-- Every point's body meets its obligation. -/
theorem body_obligation (c : Dev nD) : BodyObligation (dat V c) (defs₀ (F := F)) Variants.none () Set.univ := fun t => by
  rw [bigSep_W0, bigSep_W0, row]
  exact triple_restated (sound_body V c t) rfl .rfl fun _ => .rfl

end Cert.Proof.Cum

end
-- ==== Proof.Fox.Step.lean ====
module

public import proofs.«01_k».proof.Proof.Gen.KernelIdeal.Launch
public import proofs.«01_k».proof.Proof.Gen.KernelIdeal.Skeleton
public import Idealize.ShloMosaic.Lib.Ring
public import Idealize.ShloMosaic.Lib.Writes
public import Idealize.ShloMosaic.Lib.VecWindow
public import Idealize.ShloMosaic.Lib.Pointwise.Index

@[expose] public section

set_option maxRecDepth 16384

noncomputable section

namespace Cert.Proof.Fox

open Cert.KernelIdeal Cert.KernelIdeal.Gen
open Idealize.ShloMosaic Idealize.ShloMosaic.TcCoe

variable {F : FTy → Type} [FloatOps F] [Named F]

/-- The columns of head `h` in a block of eight heads of 128 columns each. -/
abbrev colR (h : Fin 8) : Rect S1x688x1024 :=
  Rect.unit (s := S1x688x1024) ![0, 0, 128 * h.val] S1x688x128.size (by
    intro a; have := h.isLt
    fin_cases a
    · exact (by decide : (0 : ℕ) + 1 ≤ 1)
    · exact (by decide : (0 : ℕ) + 688 ≤ 688)
    · show 128 * h.val + 128 ≤ 1024; omega)

/-- Row `h` of an array of eight heads of `n` columns. -/
abbrev headR (n : ℕ) (h : Fin 8) : Rect ⟨3, ![8, 688, n]⟩ :=
  Rect.unit (s := ⟨3, ![8, 688, n]⟩) ![h.val, 0, 0] ![1, 688, n] (by
    intro a; have := h.isLt
    fin_cases a
    · show h.val + 1 ≤ 8; omega
    · exact (by decide : (0 : ℕ) + 688 ≤ 688)
    · show 0 + n ≤ n; omega)

/-- The columns of head `h`. -/
def cols {e : EltTy} (h : Fin 8) (x : Vec F S1x688x1024 e) : Vec F S1x688x128 e := fun j => x ((colR h).emb j)

/-- The row of head `h`. -/
def head {e : EltTy} (n : ℕ) (h : Fin 8) (x : Vec F ⟨3, ![8, 688, n]⟩ e) : Vec F ⟨3, ![1, 688, n]⟩ e := fun j => x ((headR n h).emb j)

/-- Eight heads put into one array. -/
def heads {e : EltTy} (n : ℕ) (f : Fin 8 → Vec F ⟨3, ![1, 688, n]⟩ e) : Vec F ⟨3, ![8, 688, n]⟩ e :=
  fun y => f (y 0) (ix3 0 (y 1) (y 2))

/-- Eight heads put side by side. -/
def sides {e : EltTy} (f : Fin 8 → Vec F S1x688x128 e) : Vec F S1x688x1024 e :=
  fun y => f ⟨(y 2).val / 128, by have : (y 2).val < 1024 := (y 2).isLt; omega⟩
    (ix3 0 (y 1) ⟨(y 2).val % 128, Nat.mod_lt _ (by decide)⟩)

/-- A head's part of an array put together of heads is that head. -/
theorem heads_emb {e : EltTy} (n : ℕ) (f : Fin 8 → Vec F ⟨3, ![1, 688, n]⟩ e) (h : Fin 8) (x : (headR n h).shape.Idx) :
    f h x = heads n f ((headR n h).emb x) := by
  have h0 : ((headR n h).emb x) 0 = h := by
    apply Fin.ext; show h.val + 1 * (x 0).val = h.val
    have : (x 0).val < 1 := (x 0).isLt
    omega
  unfold heads
  rw [h0]
  congr 1
  funext a
  apply Fin.ext
  fin_cases a
  · have : (x 0).val < 1 := (x 0).isLt
    show (x 0).val = 0
    omega
  · show (x 1).val = 0 + 1 * (x 1).val; omega
  · show (x 2).val = 0 + 1 * (x 2).val; omega

/-- A head's columns of a block put together of heads are that head. -/
theorem sides_emb {e : EltTy} (f : Fin 8 → Vec F S1x688x128 e) (h : Fin 8) (x : (colR h).shape.Idx) :
    f h x = sides f ((colR h).emb x) := by
  have hx : (x 2).val < 128 := (x 2).isLt
  have hv : (((colR h).emb x) 2).val = 128 * h.val + 1 * (x 2).val := rfl
  have h0 : (⟨(((colR h).emb x) 2).val / 128, by have : (((colR h).emb x) 2).val < 1024 := (((colR h).emb x) 2).isLt; omega⟩ : Fin 8) = h := by
    apply Fin.ext; show (((colR h).emb x) 2).val / 128 = h.val
    rw [hv]; omega
  unfold sides
  rw [h0]
  congr 1
  funext a
  apply Fin.ext
  fin_cases a
  · have : (x 0).val < 1 := (x 0).isLt
    show (x 0).val = 0
    omega
  · show (x 1).val = 0 + 1 * (x 1).val; omega
  · show (x 2).val = (((colR h).emb x) 2).val % 128
    rw [hv]; omega

/-- The first key block of a query block. -/
abbrev isFirst (i : grid1.Coords) : Prop := (Scalar.cmpi .ne (Scalar.extui (Scalar.cmpi .eq (BitVec.ofNat 32 (i 3).val) 0#32)) 0#32) = 1#1
/-- A key block wholly before the query block. -/
abbrev isBelow (i : grid1.Coords) : Prop := (Scalar.cmpi .ne (Scalar.extui (Scalar.cmpi .slt (BitVec.ofNat 32 (i 3).val) (BitVec.ofNat 32 (i 2).val))) 0#32) = 1#1
/-- The key block on the diagonal. -/
abbrev isDiag (i : grid1.Coords) : Prop := k1_cond3 i = 1#1

/-- The number of the group of eight lanes a lane lies in, in the program's own words. -/
def laneGroup : IVec S688x128 32 :=
  let l := iota .tc S688x128 32 [1] iota_S688x128_d1_w32
  let q := divsi l (broadcast S688x128 8#32)
  let sgn := subi (extui 32 (cmpi .sgt l (broadcast S688x128 0#32)) natLt_1_32) (extui 32 (cmpi .slt l (broadcast S688x128 0#32)) natLt_1_32)
  let one := Scalar.subi (Scalar.extui (Scalar.cmpi .sgt 8#32 0#32)) (Scalar.extui (Scalar.cmpi .slt 8#32 0#32))
  select (andi (cmpi .ne sgn (broadcast S688x128 one)) (cmpi .ne (remsi l (broadcast S688x128 8#32)) (broadcast S688x128 0#32)))
    (subi q (broadcast S688x128 1#32)) q

/-- The lanes that carry the forget sums of head `h`. -/
def own (h : Fin 8) : IVec S688x128 1 := cmpi .eq laneGroup (broadcast S688x128 (BitVec.ofNat 32 h.val))

/-- A block of lanes, loaded whole. -/
def lanes (x : Vec F S1x1x688x128 .bf16) : Vec F S1x1x688x128 .bf16 :=
  fun j => x ((Rect.unit (s := S1x1x688x128) ![0, 0, 0, 0] S1x1x688x128.size inb_S1x1x688x128_S1x1x688x128_0_0_0_0).emb j)

/-- A block of lanes is read as it is. -/
theorem lanes_eq (x : Vec F S1x1x688x128 .bf16) : lanes x = x := by
  funext j
  unfold lanes
  congr 1
  funext a
  apply Fin.ext
  fin_cases a
  · show 0 + 1 * (j 0).val = (j 0).val; omega
  · show 0 + 1 * (j 1).val = (j 1).val; omega
  · show 0 + 1 * (j 2).val = (j 2).val; omega
  · show 0 + 1 * (j 3).val = (j 3).val; omega

/-- A head's queries beside its lanes of the forget sums. -/
def qaHead (q : Vec F S1x688x1024 .f32) (augq : Vec F S1x1x688x128 .bf16) (h : Fin 8) : Vec F S1x688x256 .bf16 :=
  k1_pay12 (k1_pay10 (lanes augq)) (own h) (Scalar.ofBits .bf16 0x0000#16) (cols h q)

/-- A head's scores of one block, in base two. -/
def sHead (k : Vec F S1x688x1024 .f32) (augk : Vec F S1x1x688x128 .bf16) (qa : Vec F S8x688x256 .bf16) (h : Fin 8) : FVec F S688x688 .f32 :=
  k1_pay33 (lanes augk) (cols h k) (head 256 h qa)

/-- A head's scores of the block on the diagonal. -/
def sDiag (k : Vec F S1x688x1024 .f32) (augk : Vec F S1x1x688x128 .bf16) (qa : Vec F S8x688x256 .bf16) (h : Fin 8) : FVec F S688x688 .f32 :=
  k1_pay91 (lanes augk) (cols h k) (head 256 h qa)

/-- A head's running maximum after a block. -/
def mHead (s : Fin 8 → FVec F S688x688 .f32) (m : Vec F S8x688x1 .f32) (h : Fin 8) : Vec F S1x688x1 .f32 :=
  k1_pay5 (s h) (head 1 h m)

/-- A head's running sums after a block. -/
def aHead (s : Fin 8 → FVec F S688x688 .f32) (v : Vec F S1x688x1024 .f32) (m : Vec F S8x688x1 .f32) (acc : Vec F S8x688x256 .f32) (h : Fin 8) : Vec F S1x688x256 .f32 :=
  k1_pay4 (s h) (k1_pay34 (cols h v)) (head 1 h m) (head 256 h acc)

/-- A head's result. -/
def oHead (acc : Vec F S8x688x256 .f32) (h : Fin 8) : Vec F S1x688x128 .bf16 := k1_pay140 (head 256 h acc)

/-- The queries and their lanes of a query block. -/
def qaNew (q : Vec F S1x688x1024 .f32) (augq : Vec F S1x1x688x128 .bf16) : Vec F S8x688x256 .bf16 := heads 256 (qaHead q augq)

/-- The running maxima after a block of scores. -/
def mNew (s : Fin 8 → FVec F S688x688 .f32) (m : Vec F S8x688x1 .f32) : Vec F S8x688x1 .f32 := heads 1 (mHead s m)

/-- The running sums after a block of scores. -/
def aNew (s : Fin 8 → FVec F S688x688 .f32) (v : Vec F S1x688x1024 .f32) (m : Vec F S8x688x1 .f32) (acc : Vec F S8x688x256 .f32) : Vec F S8x688x256 .f32 :=
  heads 256 (aHead s v m acc)

/-- The results of a query block. -/
def oNew (acc : Vec F S8x688x256 .f32) : Vec F S1x688x1024 .bf16 := sides (oHead acc)

section Reads

variable {sig : RefSig} {κ : Kind} {sp : Space} {e : EltTy} {Val : EltTy → Type}

/-- Where the newest stores cover the array and agree with `G`, what lies under them does not show. -/
theorem read_writes_over {s : Shape} (v : View sig κ sp s e) (f : v.ty.Contents Val) (G : s.Idx → Val e) (L L' : List (View.Piece Val s e))
    (hG : ∀ p ∈ L, ∀ x : p.1.shape.Idx, p.2 x = G (p.1.emb x)) (hc : ∀ y : s.Idx, ∃ p ∈ L, y ∈ p.1.set) :
    v.read Val (v.writes Val f (L ++ L')) = G := by
  have h : ∀ M : List (View.Piece Val s e), v.writes Val f (M ++ L') = v.writes Val (v.writes Val f L') M := by
    intro M
    induction M with
    | nil => rfl
    | cons p M ih => show (v.slice p.1).write Val (v.writes Val f (M ++ L')) p.2 Finset.univ = _; rw [ih]; rfl
  rw [h]
  funext y
  exact View.read_writes_apply_of_pieces _ _ G L hG y (hc y)

/-- Eight heads stored row by row read back as the heads put together. -/
theorem read_heads (n : ℕ) (v : View sig κ sp ⟨3, ![8, 688, n]⟩ e) (f : v.ty.Contents (Elt F)) (g : Fin 8 → Vec F ⟨3, ![1, 688, n]⟩ e)
    (L' : List (View.Piece (Elt F) ⟨3, ![8, 688, n]⟩ e)) :
    v.read (Elt F) (v.writes (Elt F) f (⟨headR n 7, g 7⟩ :: ⟨headR n 6, g 6⟩ :: ⟨headR n 5, g 5⟩ :: ⟨headR n 4, g 4⟩ :: ⟨headR n 3, g 3⟩ :: ⟨headR n 2, g 2⟩ :: ⟨headR n 1, g 1⟩ :: ⟨headR n 0, g 0⟩ :: L')) = heads n g := by
  refine read_writes_over v f (heads n g) [⟨headR n 7, g 7⟩, ⟨headR n 6, g 6⟩, ⟨headR n 5, g 5⟩, ⟨headR n 4, g 4⟩, ⟨headR n 3, g 3⟩, ⟨headR n 2, g 2⟩, ⟨headR n 1, g 1⟩, ⟨headR n 0, g 0⟩] L' ?_ ?_
  · simp only [List.forall_mem_cons, List.not_mem_nil, false_imp_iff, implies_true, and_true]
    refine ⟨?_, ?_, ?_, ?_, ?_, ?_, ?_, ?_⟩ <;> exact fun x => heads_emb n g _ x
  · intro y
    have key : ∀ h : Fin 8, (y 0).val = h.val → y ∈ (headR n h).set := fun h hh => by
      rw [← (headR n h).map_emb_univ, Finset.mem_map]
      refine ⟨ix3 0 (y 1) (y 2), Finset.mem_univ _, ?_⟩
      funext a
      apply Fin.ext
      fin_cases a
      · show h.val + 1 * 0 = (y 0).val; omega
      · show 0 + 1 * (y 1).val = (y 1).val; omega
      · show 0 + 1 * (y 2).val = (y 2).val; omega
    have hy : (y 0).val < 8 := (y 0).isLt
    obtain ⟨h, hh⟩ : ∃ h : Fin 8, (y 0).val = h.val := ⟨⟨_, hy⟩, rfl⟩
    refine ⟨⟨headR n h, g h⟩, ?_, key h hh⟩
    fin_cases h <;> simp

/-- Eight heads stored side by side read back as the heads put together. -/
theorem read_sides (v : View sig κ sp S1x688x1024 e) (f : v.ty.Contents (Elt F)) (g : Fin 8 → Vec F S1x688x128 e)
    (L' : List (View.Piece (Elt F) S1x688x1024 e)) :
    v.read (Elt F) (v.writes (Elt F) f (⟨colR 7, g 7⟩ :: ⟨colR 6, g 6⟩ :: ⟨colR 5, g 5⟩ :: ⟨colR 4, g 4⟩ :: ⟨colR 3, g 3⟩ :: ⟨colR 2, g 2⟩ :: ⟨colR 1, g 1⟩ :: ⟨colR 0, g 0⟩ :: L')) = sides g := by
  refine read_writes_over v f (sides g) [⟨colR 7, g 7⟩, ⟨colR 6, g 6⟩, ⟨colR 5, g 5⟩, ⟨colR 4, g 4⟩, ⟨colR 3, g 3⟩, ⟨colR 2, g 2⟩, ⟨colR 1, g 1⟩, ⟨colR 0, g 0⟩] L' ?_ ?_
  · simp only [List.forall_mem_cons, List.not_mem_nil, false_imp_iff, implies_true, and_true]
    refine ⟨?_, ?_, ?_, ?_, ?_, ?_, ?_, ?_⟩ <;> exact fun x => sides_emb g _ x
  · intro y
    have hy : (y 2).val < 1024 := (y 2).isLt
    have h0 : (y 0).val < 1 := (y 0).isLt
    have key : ∀ h : Fin 8, (y 2).val / 128 = h.val → y ∈ (colR h).set := fun h hh => by
      rw [← (colR h).map_emb_univ, Finset.mem_map]
      refine ⟨ix3 0 (y 1) ⟨(y 2).val % 128, Nat.mod_lt _ (by decide)⟩, Finset.mem_univ _, ?_⟩
      funext a
      apply Fin.ext
      fin_cases a
      · show 0 + 1 * 0 = (y 0).val; omega
      · show 0 + 1 * (y 1).val = (y 1).val; omega
      · show 128 * h.val + 1 * ((y 2).val % 128) = (y 2).val; omega
    obtain ⟨h, hh⟩ : ∃ h : Fin 8, (y 2).val / 128 = h.val := ⟨⟨(y 2).val / 128, by omega⟩, rfl⟩
    refine ⟨⟨colR h, g h⟩, ?_, key h hh⟩
    fin_cases h <;> simp

/-- The same, each stored row given by an equation. -/
theorem read_heads_of (n : ℕ) (v : View sig κ sp ⟨3, ![8, 688, n]⟩ e) (f : v.ty.Contents (Elt F)) (g : Fin 8 → Vec F ⟨3, ![1, 688, n]⟩ e)
    (L' : List (View.Piece (Elt F) ⟨3, ![8, 688, n]⟩ e)) (w0 w1 w2 w3 w4 w5 w6 w7 : Vec F ⟨3, ![1, 688, n]⟩ e) (h0 : w0 = g 0) (h1 : w1 = g 1) (h2 : w2 = g 2) (h3 : w3 = g 3) (h4 : w4 = g 4) (h5 : w5 = g 5) (h6 : w6 = g 6) (h7 : w7 = g 7) :
    v.read (Elt F) (v.writes (Elt F) f (⟨headR n 7, w7⟩ :: ⟨headR n 6, w6⟩ :: ⟨headR n 5, w5⟩ :: ⟨headR n 4, w4⟩ :: ⟨headR n 3, w3⟩ :: ⟨headR n 2, w2⟩ :: ⟨headR n 1, w1⟩ :: ⟨headR n 0, w0⟩ :: L')) = heads n g := by
  subst h0 h1 h2 h3 h4 h5 h6 h7
  exact read_heads n v f g L'

/-- The same, each stored head given by an equation. -/
theorem read_sides_of (v : View sig κ sp S1x688x1024 e) (f : v.ty.Contents (Elt F)) (g : Fin 8 → Vec F S1x688x128 e)
    (L' : List (View.Piece (Elt F) S1x688x1024 e)) (w0 w1 w2 w3 w4 w5 w6 w7 : Vec F S1x688x128 e) (h0 : w0 = g 0) (h1 : w1 = g 1) (h2 : w2 = g 2) (h3 : w3 = g 3) (h4 : w4 = g 4) (h5 : w5 = g 5) (h6 : w6 = g 6) (h7 : w7 = g 7) :
    v.read (Elt F) (v.writes (Elt F) f (⟨colR 7, w7⟩ :: ⟨colR 6, w6⟩ :: ⟨colR 5, w5⟩ :: ⟨colR 4, w4⟩ :: ⟨colR 3, w3⟩ :: ⟨colR 2, w2⟩ :: ⟨colR 1, w1⟩ :: ⟨colR 0, w0⟩ :: L')) = sides g := by
  subst h0 h1 h2 h3 h4 h5 h6 h7
  exact read_sides v f g L'

end Reads

end Cert.Proof.Fox

end
-- ==== Proof.Fox.RunA.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Fox.Step
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid1.Coords) (arg4 : Memref sig .tc .vmem S1x688x1024 .f32) (harg4 : arg4.IsWhole) (arg5 : Memref sig .tc .vmem S1x688x1024 .f32) (harg5 : arg5.IsWhole) (arg6 : Memref sig .tc .vmem S1x688x1024 .f32) (harg6 : arg6.IsWhole) (arg7 : Memref sig .tc .vmem S1x1x688x128 .bf16) (harg7 : arg7.IsWhole) (arg8 : Memref sig .tc .vmem S1x1x688x128 .bf16) (harg8 : arg8.IsWhole) (arg9 : Memref sig .tc .vmem S1x688x1024 .bf16) (harg9 : arg9.IsWhole) (arg10 : Memref sig .tc .vmem S8x688x1 .f32) (harg10 : arg10.IsWhole) (arg11 : Memref sig .tc .vmem S8x688x256 .f32) (harg11 : arg11.IsWhole) (arg12 : Memref sig .tc .vmem S8x688x256 .bf16) (harg12 : arg12.IsWhole)
    (x0 : Vec F S1x688x1024 .f32) (x1 : Vec F S1x688x1024 .f32) (x2 : Vec F S1x688x1024 .f32) (x3 : Vec F S1x1x688x128 .bf16) (x4 : Vec F S1x1x688x128 .bf16)
    (xm : Vec F S8x688x1 .f32) (xa : Vec F S8x688x256 .f32) (xq : Vec F S8x688x256 .bf16)

set_option maxHeartbeats 2000000 in
/-- The diagonal block, the first: the state is set, then the masked step and the division. -/
theorem run_A (hc0 : isFirst i) (hc : ¬isBelow i ∧ isDiag i) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (oNew (aNew (sDiag x1 x4 (qaNew x0 x3)) x2 k1_pay8 k1_pay9)) ∗ owns (c : Thread nD τ) arg10 fullShare (mNew (sDiag x1 x4 (qaNew x0 x3)) k1_pay8) ∗ owns (c : Thread nD τ) arg11 fullShare (aNew (sDiag x1 x4 (qaNew x0 x3)) x2 k1_pay8 k1_pay9) ∗ owns (c : Thread nD τ) arg12 fullShare (qaNew x0 x3)) -∗ K ⟨⟩))
          ⊢ wp frame (wpE (defs₀ (F := F)) Variants.none c none) E (cc1_fox_prompt i arg4 harg4 arg5 harg5 arg6 harg6 arg7 harg7 arg8 harg8 arg9 harg9 arg10 harg10 arg11 harg11 arg12 harg12) K := by
    simp only [cc1_fox_prompt_eq_skeleton]; unfold cc1_fox_prompt_skel
    simp only [k1_part1_eq_skeleton, k1_part2_eq_skeleton, k1_part3_eq_skeleton, k1_part4_eq_skeleton, k1_part5_eq_skeleton, k1_part6_eq_skeleton, k1_part7_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton]
    generalize hO : (owns (c : Thread nD τ) arg8 fullShare x4 : sProp 𝕄) = O
    unfold owns
    iintro ⟨⟨%f0, %hf0, H0⟩, ⟨%f1, %hf1, H1⟩, ⟨%f2, %hf2, H2⟩, ⟨%f3, %hf3, H3⟩, H4, ⟨%d5, %f5, -, H5⟩, ⟨%d6, %fs0, -, HS0⟩, ⟨%d7, %fs1, -, HS1⟩, ⟨%d8, %fs2, -, HS2⟩, Hk⟩
    obtain rfl := harg4.eq_unread hf0
    obtain rfl := harg5.eq_unread hf1
    obtain rfl := harg6.eq_unread hf2
    obtain rfl := harg7.eq_unread hf3
    sl_exec (disch := first | sl_exact hc0)
    obtain ⟨xm, hxm⟩ : ∃ xm : Vec F S8x688x1 .f32, xm = k1_pay8 := ⟨_, rfl⟩
    obtain ⟨xa, hxa⟩ : ∃ xa : Vec F S8x688x256 .f32, xa = k1_pay9 := ⟨_, rfl⟩
    obtain ⟨xq, hxq⟩ : ∃ xq : Vec F S8x688x256 .bf16, xq = qaNew x0 x3 := ⟨_, rfl⟩
    generalize e0 : arg10.view.writes (Elt F) fs0 _ = g0
    generalize e1 : arg11.view.writes (Elt F) fs1 _ = g1
    generalize e2 : arg12.view.writes (Elt F) fs2 _ = g2
    have r0 : View.read (Elt F) arg10.view g0 = k1_pay8 := by
      rw [← e0]; exact View.read_writes_full _ _ _ _ _
    have r1 : View.read (Elt F) arg11.view g1 = k1_pay9 := by
      rw [← e1]; exact View.read_writes_full _ _ _ _ _
    have r2 : View.read (Elt F) arg12.view g2 = (qaNew x0 x3) := by
      rw [← e2]
      have e : (qaNew x0 x3) = (qaNew (View.read (Elt F) arg4.view (harg4.unread x0)) (View.read (Elt F) arg7.view (harg7.unread x3))) := by simp only [hf0, hf1, hf2, hf3]
      rw [e]
      refine read_heads_of 256 _ _ _ _ _ _ _ _ _ _ _ _ ?_ ?_ ?_ ?_ ?_ ?_ ?_ ?_
      all_goals rfl
    clear e0 e1 e2
    subst hO
    unfold owns
    icases H4 with ⟨%f4, %hf4, H4⟩
    obtain rfl := harg8.eq_unread hf4
    obtain ⟨hc1, hc2⟩ := hc
    rw [← hxm, ← hxa, ← hxq]
    have hs0 := r0.trans hxm.symm; have hs1 := r1.trans hxa.symm; have hs2 := r2.trans hxq.symm
    clear hxm hxa hxq r0 r1 r2
    obtain rfl := harg10.eq_unread hs0; obtain rfl := harg11.eq_unread hs1; obtain rfl := harg12.eq_unread hs2

    sl_exec (disch := first | sl_exact hc1 | sl_exact hc2)
    sl_step
    iapply Hk
    isplitl [H0]
    · iexists _; isplitr
      · ipureintro; exact hf0
      iexact H0
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      swap
      · iexact H5
      · ipureintro
        have e : (oNew (aNew (sDiag x1 x4 xq) x2 xm xa)) = (oNew (aNew (sDiag (View.read (Elt F) arg5.view (harg5.unread x1)) (View.read (Elt F) arg8.view (harg8.unread x4)) (View.read (Elt F) arg12.view (harg12.unread xq))) (View.read (Elt F) arg6.view (harg6.unread x2)) (View.read (Elt F) arg10.view (harg10.unread xm)) (View.read (Elt F) arg11.view (harg11.unread xa)))) := by simp only [hf0, hf1, hf2, hf3, hf4, hs0, hs1, hs2]
        rw [e]
        have hcov : View.read (Elt F) arg11.view (arg11.view.writes (Elt F) arg11.view.junk (run_A.sl.HS1_8 c arg5 harg5 arg6 harg6 arg8 harg8 arg10 harg10 arg11 harg11 arg12 harg12 x1 x2 x4 xm xa xq)) = (aNew (sDiag (View.read (Elt F) arg5.view (harg5.unread x1)) (View.read (Elt F) arg8.view (harg8.unread x4)) (View.read (Elt F) arg12.view (harg12.unread xq))) (View.read (Elt F) arg6.view (harg6.unread x2)) (View.read (Elt F) arg10.view (harg10.unread xm)) (View.read (Elt F) arg11.view (harg11.unread xa))) := by
          refine read_heads_of 256 _ _ _ _ _ _ _ _ _ _ _ _ ?_ ?_ ?_ ?_ ?_ ?_ ?_ ?_
          all_goals rfl
        refine read_sides_of _ _ _ _ _ _ _ _ _ _ _ _ ?_ ?_ ?_ ?_ ?_ ?_ ?_ ?_
        all_goals (rw [← hcov]; rfl)
    isplitl [HS0]
    · iexists _; isplitr
      swap
      · iexact HS0
      · ipureintro
        have e : (mNew (sDiag x1 x4 xq) xm) = (mNew (sDiag (View.read (Elt F) arg5.view (harg5.unread x1)) (View.read (Elt F) arg8.view (harg8.unread x4)) (View.read (Elt F) arg12.view (harg12.unread xq))) (View.read (Elt F) arg10.view (harg10.unread xm))) := by simp only [hf0, hf1, hf2, hf3, hf4, hs0, hs1, hs2]
        rw [e]
        refine read_heads_of 1 _ _ _ _ _ _ _ _ _ _ _ _ ?_ ?_ ?_ ?_ ?_ ?_ ?_ ?_
        all_goals rfl
    isplitl [HS1]
    · iexists _; isplitr
      swap
      · iexact HS1
      · ipureintro
        have e : (aNew (sDiag x1 x4 xq) x2 xm xa) = (aNew (sDiag (View.read (Elt F) arg5.view (harg5.unread x1)) (View.read (Elt F) arg8.view (harg8.unread x4)) (View.read (Elt F) arg12.view (harg12.unread xq))) (View.read (Elt F) arg6.view (harg6.unread x2)) (View.read (Elt F) arg10.view (harg10.unread xm)) (View.read (Elt F) arg11.view (harg11.unread xa))) := by simp only [hf0, hf1, hf2, hf3, hf4, hs0, hs1, hs2]
        rw [e]
        refine read_heads_of 256 _ _ _ _ _ _ _ _ _ _ _ _ ?_ ?_ ?_ ?_ ?_ ?_ ?_ ?_
        all_goals rfl
    · iexists _; isplitr
      swap
      · iexact HS2
      · ipureintro
        exact hs2

end Cert.Proof.Fox

end
-- ==== Proof.Fox.RunB.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Fox.Step
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid1.Coords) (arg4 : Memref sig .tc .vmem S1x688x1024 .f32) (harg4 : arg4.IsWhole) (arg5 : Memref sig .tc .vmem S1x688x1024 .f32) (harg5 : arg5.IsWhole) (arg6 : Memref sig .tc .vmem S1x688x1024 .f32) (harg6 : arg6.IsWhole) (arg7 : Memref sig .tc .vmem S1x1x688x128 .bf16) (harg7 : arg7.IsWhole) (arg8 : Memref sig .tc .vmem S1x1x688x128 .bf16) (harg8 : arg8.IsWhole) (arg9 : Memref sig .tc .vmem S1x688x1024 .bf16) (harg9 : arg9.IsWhole) (arg10 : Memref sig .tc .vmem S8x688x1 .f32) (harg10 : arg10.IsWhole) (arg11 : Memref sig .tc .vmem S8x688x256 .f32) (harg11 : arg11.IsWhole) (arg12 : Memref sig .tc .vmem S8x688x256 .bf16) (harg12 : arg12.IsWhole)
    (x0 : Vec F S1x688x1024 .f32) (x1 : Vec F S1x688x1024 .f32) (x2 : Vec F S1x688x1024 .f32) (x3 : Vec F S1x1x688x128 .bf16) (x4 : Vec F S1x1x688x128 .bf16)
    (xm : Vec F S8x688x1 .f32) (xa : Vec F S8x688x256 .f32) (xq : Vec F S8x688x256 .bf16)

/-- A key block above the diagonal: nothing is done. -/
theorem run_B (hc0 : ¬isFirst i) (hc1 : ¬isBelow i) (hc2 : ¬isDiag i) (E : Set ℕ) (K : PUnit → sProp 𝕄) :
    iprop(K ⟨⟩)
          ⊢ wp frame (wpE (defs₀ (F := F)) Variants.none c none) E (cc1_fox_prompt i arg4 harg4 arg5 harg5 arg6 harg6 arg7 harg7 arg8 harg8 arg9 harg9 arg10 harg10 arg11 harg11 arg12 harg12) K := by
    simp only [cc1_fox_prompt_eq_skeleton]; unfold cc1_fox_prompt_skel
    iintro Hk
    sl_exec (disch := first | sl_exact hc0 | sl_exact hc1 | sl_exact hc2)
    sl_step
    iexact Hk

end Cert.Proof.Fox

end
-- ==== Proof.Fox.RunC.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Fox.Step
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid1.Coords) (arg4 : Memref sig .tc .vmem S1x688x1024 .f32) (harg4 : arg4.IsWhole) (arg5 : Memref sig .tc .vmem S1x688x1024 .f32) (harg5 : arg5.IsWhole) (arg6 : Memref sig .tc .vmem S1x688x1024 .f32) (harg6 : arg6.IsWhole) (arg7 : Memref sig .tc .vmem S1x1x688x128 .bf16) (harg7 : arg7.IsWhole) (arg8 : Memref sig .tc .vmem S1x1x688x128 .bf16) (harg8 : arg8.IsWhole) (arg9 : Memref sig .tc .vmem S1x688x1024 .bf16) (harg9 : arg9.IsWhole) (arg10 : Memref sig .tc .vmem S8x688x1 .f32) (harg10 : arg10.IsWhole) (arg11 : Memref sig .tc .vmem S8x688x256 .f32) (harg11 : arg11.IsWhole) (arg12 : Memref sig .tc .vmem S8x688x256 .bf16) (harg12 : arg12.IsWhole)
    (x0 : Vec F S1x688x1024 .f32) (x1 : Vec F S1x688x1024 .f32) (x2 : Vec F S1x688x1024 .f32) (x3 : Vec F S1x1x688x128 .bf16) (x4 : Vec F S1x1x688x128 .bf16)
    (xm : Vec F S8x688x1 .f32) (xa : Vec F S8x688x256 .f32) (xq : Vec F S8x688x256 .bf16)

set_option maxHeartbeats 2000000 in
/-- The first key block, below the diagonal: the state is set, then one step of the running softmax. -/
theorem run_C (hc0 : isFirst i) (hc : isBelow i ∧ ¬isDiag i) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg10 fullShare (mNew (sHead x1 x4 (qaNew x0 x3)) k1_pay8) ∗ owns (c : Thread nD τ) arg11 fullShare (aNew (sHead x1 x4 (qaNew x0 x3)) x2 k1_pay8 k1_pay9) ∗ owns (c : Thread nD τ) arg12 fullShare (qaNew x0 x3)) -∗ K ⟨⟩))
          ⊢ wp frame (wpE (defs₀ (F := F)) Variants.none c none) E (cc1_fox_prompt i arg4 harg4 arg5 harg5 arg6 harg6 arg7 harg7 arg8 harg8 arg9 harg9 arg10 harg10 arg11 harg11 arg12 harg12) K := by
    simp only [cc1_fox_prompt_eq_skeleton]; unfold cc1_fox_prompt_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton]
    generalize hO : (owns (c : Thread nD τ) arg8 fullShare x4 : sProp 𝕄) = O
    unfold owns
    iintro ⟨⟨%f0, %hf0, H0⟩, ⟨%f1, %hf1, H1⟩, ⟨%f2, %hf2, H2⟩, ⟨%f3, %hf3, H3⟩, H4, ⟨%d6, %fs0, -, HS0⟩, ⟨%d7, %fs1, -, HS1⟩, ⟨%d8, %fs2, -, HS2⟩, Hk⟩
    obtain rfl := harg4.eq_unread hf0
    obtain rfl := harg5.eq_unread hf1
    obtain rfl := harg6.eq_unread hf2
    obtain rfl := harg7.eq_unread hf3
    sl_exec (disch := first | sl_exact hc0)
    obtain ⟨xm, hxm⟩ : ∃ xm : Vec F S8x688x1 .f32, xm = k1_pay8 := ⟨_, rfl⟩
    obtain ⟨xa, hxa⟩ : ∃ xa : Vec F S8x688x256 .f32, xa = k1_pay9 := ⟨_, rfl⟩
    obtain ⟨xq, hxq⟩ : ∃ xq : Vec F S8x688x256 .bf16, xq = qaNew x0 x3 := ⟨_, rfl⟩
    generalize e0 : arg10.view.writes (Elt F) fs0 _ = g0
    generalize e1 : arg11.view.writes (Elt F) fs1 _ = g1
    generalize e2 : arg12.view.writes (Elt F) fs2 _ = g2
    have r0 : View.read (Elt F) arg10.view g0 = k1_pay8 := by
      rw [← e0]; exact View.read_writes_full _ _ _ _ _
    have r1 : View.read (Elt F) arg11.view g1 = k1_pay9 := by
      rw [← e1]; exact View.read_writes_full _ _ _ _ _
    have r2 : View.read (Elt F) arg12.view g2 = (qaNew x0 x3) := by
      rw [← e2]
      have e : (qaNew x0 x3) = (qaNew (View.read (Elt F) arg4.view (harg4.unread x0)) (View.read (Elt F) arg7.view (harg7.unread x3))) := by simp only [hf0, hf1, hf2, hf3]
      rw [e]
      refine read_heads_of 256 _ _ _ _ _ _ _ _ _ _ _ _ ?_ ?_ ?_ ?_ ?_ ?_ ?_ ?_
      all_goals rfl
    clear e0 e1 e2
    subst hO
    unfold owns
    icases H4 with ⟨%f4, %hf4, H4⟩
    obtain rfl := harg8.eq_unread hf4
    obtain ⟨hc1, hc2⟩ := hc
    rw [← hxm, ← hxa, ← hxq]
    have hs0 := r0.trans hxm.symm; have hs1 := r1.trans hxa.symm; have hs2 := r2.trans hxq.symm
    clear hxm hxa hxq r0 r1 r2
    obtain rfl := harg10.eq_unread hs0; obtain rfl := harg11.eq_unread hs1; obtain rfl := harg12.eq_unread hs2

    sl_exec (disch := first | sl_exact hc1 | sl_exact hc2)
    sl_step
    iapply Hk
    isplitl [H0]
    · iexists _; isplitr
      · ipureintro; exact hf0
      iexact H0
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [HS0]
    · iexists _; isplitr
      swap
      · iexact HS0
      · ipureintro
        have e : (mNew (sHead x1 x4 xq) xm) = (mNew (sHead (View.read (Elt F) arg5.view (harg5.unread x1)) (View.read (Elt F) arg8.view (harg8.unread x4)) (View.read (Elt F) arg12.view (harg12.unread xq))) (View.read (Elt F) arg10.view (harg10.unread xm))) := by simp only [hf0, hf1, hf2, hf3, hf4, hs0, hs1, hs2]
        rw [e]
        refine read_heads_of 1 _ _ _ _ _ _ _ _ _ _ _ _ ?_ ?_ ?_ ?_ ?_ ?_ ?_ ?_
        all_goals rfl
    isplitl [HS1]
    · iexists _; isplitr
      swap
      · iexact HS1
      · ipureintro
        have e : (aNew (sHead x1 x4 xq) x2 xm xa) = (aNew (sHead (View.read (Elt F) arg5.view (harg5.unread x1)) (View.read (Elt F) arg8.view (harg8.unread x4)) (View.read (Elt F) arg12.view (harg12.unread xq))) (View.read (Elt F) arg6.view (harg6.unread x2)) (View.read (Elt F) arg10.view (harg10.unread xm)) (View.read (Elt F) arg11.view (harg11.unread xa))) := by simp only [hf0, hf1, hf2, hf3, hf4, hs0, hs1, hs2]
        rw [e]
        refine read_heads_of 256 _ _ _ _ _ _ _ _ _ _ _ _ ?_ ?_ ?_ ?_ ?_ ?_ ?_ ?_
        all_goals rfl
    · iexists _; isplitr
      swap
      · iexact HS2
      · ipureintro
        exact hs2

end Cert.Proof.Fox

end
-- ==== Proof.Fox.RunD.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Fox.Step
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid1.Coords) (arg4 : Memref sig .tc .vmem S1x688x1024 .f32) (harg4 : arg4.IsWhole) (arg5 : Memref sig .tc .vmem S1x688x1024 .f32) (harg5 : arg5.IsWhole) (arg6 : Memref sig .tc .vmem S1x688x1024 .f32) (harg6 : arg6.IsWhole) (arg7 : Memref sig .tc .vmem S1x1x688x128 .bf16) (harg7 : arg7.IsWhole) (arg8 : Memref sig .tc .vmem S1x1x688x128 .bf16) (harg8 : arg8.IsWhole) (arg9 : Memref sig .tc .vmem S1x688x1024 .bf16) (harg9 : arg9.IsWhole) (arg10 : Memref sig .tc .vmem S8x688x1 .f32) (harg10 : arg10.IsWhole) (arg11 : Memref sig .tc .vmem S8x688x256 .f32) (harg11 : arg11.IsWhole) (arg12 : Memref sig .tc .vmem S8x688x256 .bf16) (harg12 : arg12.IsWhole)
    (x0 : Vec F S1x688x1024 .f32) (x1 : Vec F S1x688x1024 .f32) (x2 : Vec F S1x688x1024 .f32) (x3 : Vec F S1x1x688x128 .bf16) (x4 : Vec F S1x1x688x128 .bf16)
    (xm : Vec F S8x688x1 .f32) (xa : Vec F S8x688x256 .f32) (xq : Vec F S8x688x256 .bf16)

set_option maxHeartbeats 2000000 in
/-- A key block below the diagonal, not the first: one step of the running softmax. -/
theorem run_D (hc0 : ¬isFirst i) (hc1 : isBelow i) (hc2 : ¬isDiag i) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg10 fullShare xm ∗ owns (c : Thread nD τ) arg11 fullShare xa ∗ owns (c : Thread nD τ) arg12 fullShare xq
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg10 fullShare (mNew (sHead x1 x4 xq) xm) ∗ owns (c : Thread nD τ) arg11 fullShare (aNew (sHead x1 x4 xq) x2 xm xa) ∗ owns (c : Thread nD τ) arg12 fullShare xq) -∗ K ⟨⟩))
          ⊢ wp frame (wpE (defs₀ (F := F)) Variants.none c none) E (cc1_fox_prompt i arg4 harg4 arg5 harg5 arg6 harg6 arg7 harg7 arg8 harg8 arg9 harg9 arg10 harg10 arg11 harg11 arg12 harg12) K := by
    simp only [cc1_fox_prompt_eq_skeleton]; unfold cc1_fox_prompt_skel
    simp only [k1_part8_eq_skeleton, k1_part9_eq_skeleton, k1_part10_eq_skeleton, k1_part11_eq_skeleton, k1_part12_eq_skeleton, k1_part13_eq_skeleton, k1_part14_eq_skeleton, k1_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, ⟨%fs2, %hs2, HS2⟩, Hk⟩
    obtain rfl := harg4.eq_unread hf0
    obtain rfl := harg5.eq_unread hf1
    obtain rfl := harg6.eq_unread hf2
    obtain rfl := harg7.eq_unread hf3
    obtain rfl := harg8.eq_unread hf4
    obtain rfl := harg10.eq_unread hs0
    obtain rfl := harg11.eq_unread hs1
    obtain rfl := harg12.eq_unread hs2
    sl_exec (disch := first | sl_exact hc0 | sl_exact hc1 | sl_exact hc2)
    sl_step
    iapply Hk
    isplitl [H0]
    · iexists _; isplitr
      · ipureintro; exact hf0
      iexact H0
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [HS0]
    · iexists _; isplitr
      swap
      · iexact HS0
      · ipureintro
        have e : (mNew (sHead x1 x4 xq) xm) = (mNew (sHead (View.read (Elt F) arg5.view (harg5.unread x1)) (View.read (Elt F) arg8.view (harg8.unread x4)) (View.read (Elt F) arg12.view (harg12.unread xq))) (View.read (Elt F) arg10.view (harg10.unread xm))) := by simp only [hf0, hf1, hf2, hf3, hf4, hs0, hs1, hs2]
        rw [e]
        refine read_heads_of 1 _ _ _ _ _ _ _ _ _ _ _ _ ?_ ?_ ?_ ?_ ?_ ?_ ?_ ?_
        all_goals rfl
    isplitl [HS1]
    · iexists _; isplitr
      swap
      · iexact HS1
      · ipureintro
        have e : (aNew (sHead x1 x4 xq) x2 xm xa) = (aNew (sHead (View.read (Elt F) arg5.view (harg5.unread x1)) (View.read (Elt F) arg8.view (harg8.unread x4)) (View.read (Elt F) arg12.view (harg12.unread xq))) (View.read (Elt F) arg6.view (harg6.unread x2)) (View.read (Elt F) arg10.view (harg10.unread xm)) (View.read (Elt F) arg11.view (harg11.unread xa))) := by simp only [hf0, hf1, hf2, hf3, hf4, hs0, hs1, hs2]
        rw [e]
        refine read_heads_of 256 _ _ _ _ _ _ _ _ _ _ _ _ ?_ ?_ ?_ ?_ ?_ ?_ ?_ ?_
        all_goals rfl
    · iexists _; isplitr
      swap
      · iexact HS2
      · ipureintro
        exact hs2

end Cert.Proof.Fox

end
-- ==== Proof.Fox.RunE.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Fox.Step
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid1.Coords) (arg4 : Memref sig .tc .vmem S1x688x1024 .f32) (harg4 : arg4.IsWhole) (arg5 : Memref sig .tc .vmem S1x688x1024 .f32) (harg5 : arg5.IsWhole) (arg6 : Memref sig .tc .vmem S1x688x1024 .f32) (harg6 : arg6.IsWhole) (arg7 : Memref sig .tc .vmem S1x1x688x128 .bf16) (harg7 : arg7.IsWhole) (arg8 : Memref sig .tc .vmem S1x1x688x128 .bf16) (harg8 : arg8.IsWhole) (arg9 : Memref sig .tc .vmem S1x688x1024 .bf16) (harg9 : arg9.IsWhole) (arg10 : Memref sig .tc .vmem S8x688x1 .f32) (harg10 : arg10.IsWhole) (arg11 : Memref sig .tc .vmem S8x688x256 .f32) (harg11 : arg11.IsWhole) (arg12 : Memref sig .tc .vmem S8x688x256 .bf16) (harg12 : arg12.IsWhole)
    (x0 : Vec F S1x688x1024 .f32) (x1 : Vec F S1x688x1024 .f32) (x2 : Vec F S1x688x1024 .f32) (x3 : Vec F S1x1x688x128 .bf16) (x4 : Vec F S1x1x688x128 .bf16)
    (xm : Vec F S8x688x1 .f32) (xa : Vec F S8x688x256 .f32) (xq : Vec F S8x688x256 .bf16)

set_option maxHeartbeats 2000000 in
/-- The diagonal block, not the first: the masked step and the division. -/
theorem run_E (hc0 : ¬isFirst i) (hc1 : ¬isBelow i) (hc2 : isDiag i) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xm ∗ owns (c : Thread nD τ) arg11 fullShare xa ∗ owns (c : Thread nD τ) arg12 fullShare xq
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (oNew (aNew (sDiag x1 x4 xq) x2 xm xa)) ∗ owns (c : Thread nD τ) arg10 fullShare (mNew (sDiag x1 x4 xq) xm) ∗ owns (c : Thread nD τ) arg11 fullShare (aNew (sDiag x1 x4 xq) x2 xm xa) ∗ owns (c : Thread nD τ) arg12 fullShare xq) -∗ K ⟨⟩))
          ⊢ wp frame (wpE (defs₀ (F := F)) Variants.none c none) E (cc1_fox_prompt i arg4 harg4 arg5 harg5 arg6 harg6 arg7 harg7 arg8 harg8 arg9 harg9 arg10 harg10 arg11 harg11 arg12 harg12) K := by
    simp only [cc1_fox_prompt_eq_skeleton]; unfold cc1_fox_prompt_skel
    simp only [k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, ⟨%fs2, %hs2, HS2⟩, Hk⟩
    obtain rfl := harg4.eq_unread hf0
    obtain rfl := harg5.eq_unread hf1
    obtain rfl := harg6.eq_unread hf2
    obtain rfl := harg7.eq_unread hf3
    obtain rfl := harg8.eq_unread hf4
    obtain rfl := harg10.eq_unread hs0
    obtain rfl := harg11.eq_unread hs1
    obtain rfl := harg12.eq_unread hs2
    sl_exec (disch := first | sl_exact hc0 | sl_exact hc1 | sl_exact hc2)
    sl_step
    iapply Hk
    isplitl [H0]
    · iexists _; isplitr
      · ipureintro; exact hf0
      iexact H0
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      swap
      · iexact H5
      · ipureintro
        have e : (oNew (aNew (sDiag x1 x4 xq) x2 xm xa)) = (oNew (aNew (sDiag (View.read (Elt F) arg5.view (harg5.unread x1)) (View.read (Elt F) arg8.view (harg8.unread x4)) (View.read (Elt F) arg12.view (harg12.unread xq))) (View.read (Elt F) arg6.view (harg6.unread x2)) (View.read (Elt F) arg10.view (harg10.unread xm)) (View.read (Elt F) arg11.view (harg11.unread xa)))) := by simp only [hf0, hf1, hf2, hf3, hf4, hs0, hs1, hs2]
        rw [e]
        have hcov : View.read (Elt F) arg11.view (arg11.view.writes (Elt F) arg11.view.junk (run_E.sl.HS1_8 c arg5 harg5 arg6 harg6 arg8 harg8 arg10 harg10 arg11 harg11 arg12 harg12 x1 x2 x4 xm xa xq)) = (aNew (sDiag (View.read (Elt F) arg5.view (harg5.unread x1)) (View.read (Elt F) arg8.view (harg8.unread x4)) (View.read (Elt F) arg12.view (harg12.unread xq))) (View.read (Elt F) arg6.view (harg6.unread x2)) (View.read (Elt F) arg10.view (harg10.unread xm)) (View.read (Elt F) arg11.view (harg11.unread xa))) := by
          refine read_heads_of 256 _ _ _ _ _ _ _ _ _ _ _ _ ?_ ?_ ?_ ?_ ?_ ?_ ?_ ?_
          all_goals rfl
        refine read_sides_of _ _ _ _ _ _ _ _ _ _ _ _ ?_ ?_ ?_ ?_ ?_ ?_ ?_ ?_
        all_goals (rw [← hcov]; rfl)
    isplitl [HS0]
    · iexists _; isplitr
      swap
      · iexact HS0
      · ipureintro
        have e : (mNew (sDiag x1 x4 xq) xm) = (mNew (sDiag (View.read (Elt F) arg5.view (harg5.unread x1)) (View.read (Elt F) arg8.view (harg8.unread x4)) (View.read (Elt F) arg12.view (harg12.unread xq))) (View.read (Elt F) arg10.view (harg10.unread xm))) := by simp only [hf0, hf1, hf2, hf3, hf4, hs0, hs1, hs2]
        rw [e]
        refine read_heads_of 1 _ _ _ _ _ _ _ _ _ _ _ _ ?_ ?_ ?_ ?_ ?_ ?_ ?_ ?_
        all_goals rfl
    isplitl [HS1]
    · iexists _; isplitr
      swap
      · iexact HS1
      · ipureintro
        have e : (aNew (sDiag x1 x4 xq) x2 xm xa) = (aNew (sDiag (View.read (Elt F) arg5.view (harg5.unread x1)) (View.read (Elt F) arg8.view (harg8.unread x4)) (View.read (Elt F) arg12.view (harg12.unread xq))) (View.read (Elt F) arg6.view (harg6.unread x2)) (View.read (Elt F) arg10.view (harg10.unread xm)) (View.read (Elt F) arg11.view (harg11.unread xa))) := by simp only [hf0, hf1, hf2, hf3, hf4, hs0, hs1, hs2]
        rw [e]
        refine read_heads_of 256 _ _ _ _ _ _ _ _ _ _ _ _ ?_ ?_ ?_ ?_ ?_ ?_ ?_ ?_
        all_goals rfl
    · iexists _; isplitr
      swap
      · iexact HS2
      · ipureintro
        exact hs2

end Cert.Proof.Fox

end
-- ==== Proof.Fox.Data.lean ====
module

public import proofs.«01_k».proof.Proof.Fox.RunA
public import proofs.«01_k».proof.Proof.Fox.RunB
public import proofs.«01_k».proof.Proof.Fox.RunC
public import proofs.«01_k».proof.Proof.Fox.RunD
public import proofs.«01_k».proof.Proof.Fox.RunE
public import proofs.«01_k».proof.Proof.Gen.KernelIdeal.Points
public import Idealize.ShloMosaic.Lib.Pipeline.FrameBody
public import Idealize.ShloMosaic.Lib.Pipeline.TableIdle

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The grid: four batches, two groups of eight heads, three query blocks, three key blocks -/

/-- The body starts a row of key blocks where the key block is the first. -/
theorem isFirst_iff : ∀ t : Fin cfg1.N, isFirst (grid1.coords t) ↔ t.val % 3 = 0 :=
  (by decide +kernel : ∀ t : Fin grid1.N, isFirst (grid1.coords t) ↔ t.val % 3 = 0)
/-- The key block lies below the diagonal where its number is less than the query block's. -/
theorem isBelow_iff : ∀ t : Fin cfg1.N, isBelow (grid1.coords t) ↔ t.val % 3 + 1 ≤ t.val / 3 % 3 :=
  (by decide +kernel : ∀ t : Fin grid1.N, isBelow (grid1.coords t) ↔ t.val % 3 + 1 ≤ t.val / 3 % 3)
/-- The key block is on the diagonal where its number is the query block's. -/
theorem isDiag_iff : ∀ t : Fin cfg1.N, isDiag (grid1.coords t) ↔ t.val / 3 % 3 = t.val % 3 :=
  (by decide +kernel : ∀ t : Fin grid1.N, isDiag (grid1.coords t) ↔ t.val / 3 % 3 = t.val % 3)
/-- The output is left alone off the diagonal. -/
theorem idle_iff : ∀ t : Fin cfg1.N, cfg1.idle 5 (grid1.coords t) = true ↔ ¬t.val / 3 % 3 = t.val % 3 :=
  (by decide +kernel : ∀ t : Fin grid1.N, idle1 5 (grid1.coords t) = true ↔ ¬t.val / 3 % 3 = t.val % 3)
/-- Past the diagonal the output's buffer holds what the diagonal stored. -/
theorem fresh_past : ∀ t : Fin cfg1.N, t.val / 3 % 3 + 1 ≤ t.val % 3 → cfg1.fresh 5 t.val = false :=
  (by decide +kernel : ∀ t : Fin grid1.N, t.val / 3 % 3 + 1 ≤ t.val % 3 → cfg1.fresh 5 t.val = false)

/-! ## What the buffers hold point by point -/

/-- What the kernel carries from point to point: the running maxima, the accumulators, the stacked queries and the output block. -/
abbrev St (F : FTy → Type) [FloatOps F] [Named F] : Type :=
  Vec F S8x688x1 .f32 × Vec F S8x688x256 .f32 × Vec F S8x688x256 .bf16 × Vec F S1x688x1024 .bf16

/-- One point's work on what is carried, from the point's number and its five blocks. -/
def next (n : ℕ) (x0 x1 x2 : Vec F S1x688x1024 .f32) (x3 x4 : Vec F S1x1x688x128 .bf16) (p : St F) : St F :=
  if n % 3 = 0 then
    if n / 3 % 3 = n % 3 then
      (mNew (sDiag x1 x4 (qaNew x0 x3)) k1_pay8, aNew (sDiag x1 x4 (qaNew x0 x3)) x2 k1_pay8 k1_pay9, qaNew x0 x3,
        oNew (aNew (sDiag x1 x4 (qaNew x0 x3)) x2 k1_pay8 k1_pay9))
    else
      (mNew (sHead x1 x4 (qaNew x0 x3)) k1_pay8, aNew (sHead x1 x4 (qaNew x0 x3)) x2 k1_pay8 k1_pay9, qaNew x0 x3, p.2.2.2)
  else if n % 3 + 1 ≤ n / 3 % 3 then
    (mNew (sHead x1 x4 p.2.2.1) p.1, aNew (sHead x1 x4 p.2.2.1) x2 p.1 p.2.1, p.2.2.1, p.2.2.2)
  else if n / 3 % 3 = n % 3 then
    (mNew (sDiag x1 x4 p.2.2.1) p.1, aNew (sDiag x1 x4 p.2.2.1) x2 p.1 p.2.1, p.2.2.1, oNew (aNew (sDiag x1 x4 p.2.2.1) x2 p.1 p.2.1))
  else p

-- The core's buffers, as the region of the attention finds them.
variable (V : Dev nD → Valuation τ sig (Elt F))

/-- The block of window `w` that a point works on. -/
def blk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- What is carried after a point. -/
def stAt (c : Dev nD) : (n : ℕ) → n < cfg1.N → St F
  | 0, h => next 0 (blk V c 0 ⟨0, h⟩) (blk V c 1 ⟨0, h⟩) (blk V c 2 ⟨0, h⟩) (blk V c 3 ⟨0, h⟩) (blk V c 4 ⟨0, h⟩)
      (k1_pay8, k1_pay9, qaNew (blk V c 0 ⟨0, h⟩) (blk V c 3 ⟨0, h⟩), oNew k1_pay9)
  | n + 1, h => next (n + 1) (blk V c 0 ⟨n + 1, h⟩) (blk V c 1 ⟨n + 1, h⟩) (blk V c 2 ⟨n + 1, h⟩) (blk V c 3 ⟨n + 1, h⟩) (blk V c 4 ⟨n + 1, h⟩)
      (stAt c n (Nat.lt_of_succ_lt h))

/-- What is carried after the first point. -/
theorem stAt_zero (c : Dev nD) (t : Fin cfg1.N) (ht : t.val = 0) :
    stAt V c t.val t.isLt = next t.val (blk V c 0 t) (blk V c 1 t) (blk V c 2 t) (blk V c 3 t) (blk V c 4 t)
      (k1_pay8, k1_pay9, qaNew (blk V c 0 t) (blk V c 3 t), oNew k1_pay9) := by
  obtain ⟨n, h⟩ := t; simp only at ht; subst ht; rfl
/-- What is carried after a later point, from what the point before left. -/
theorem stAt_pos (c : Dev nD) (t : Fin cfg1.N) (ht : t.val ≠ 0) :
    stAt V c t.val t.isLt = next t.val (blk V c 0 t) (blk V c 1 t) (blk V c 2 t) (blk V c 3 t) (blk V c 4 t)
      (stAt V c (t.val - 1) (Nat.lt_of_le_of_lt (Nat.sub_le _ _) t.isLt)) := by
  obtain ⟨n, h⟩ := t
  cases n with
  | zero => exact absurd rfl ht
  | succ n => rfl

/-! ## The region's proof data -/

/-- The scoped buffers that the attention does not use, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The three scratch buffers as memrefs. -/
abbrev scM : Memref sig .tc .vmem S8x688x1 .f32 := Memref.whole cc1_scratch0
/-- The accumulators' scratch buffer. -/
abbrev scA : Memref sig .tc .vmem S8x688x256 .f32 := Memref.whole cc1_scratch1
/-- The stacked queries' scratch buffer. -/
abbrev scQ : Memref sig .tc .vmem S8x688x256 .bf16 := Memref.whole cc1_scratch2

/-- The scratch buffers at some contents, and the buffers that the attention does not use. -/
def anyScratch (c : Dev nD) : sProp 𝕄 :=
  iprop((∃ d, owns (c : Thread nD τ) scM fullShare d) ∗ (∃ d, owns (c : Thread nD τ) scA fullShare d) ∗ (∃ d, owns (c : Thread nD τ) scQ fullShare d) ∗ others c)

/-- The scratch buffers at what is carried, and the buffers that the attention does not use. -/
def scratchAt (c : Dev nD) (p : St F) : sProp 𝕄 :=
  iprop(owns (c : Thread nD τ) scM fullShare p.1 ∗ owns (c : Thread nD τ) scA fullShare p.2.1 ∗ owns (c : Thread nD τ) scQ fullShare p.2.2.1 ∗ others c)

/-- The region's own buffers hold the scratch buffers. -/
theorem anyScratch_of (c : Dev nD) : (Pipeline.scopedRest spec1 c : sProp 𝕄) ⊢ anyScratch c := by
  unfold anyScratch others scM scA scQ
  simp only [scopedRest1_eq, owns_whole]
  iintro ⟨H0, H1, H2, H3, H4, H5, H6, H7, S0, S1, S2⟩
  isplitl [S0]; · iexact S0
  isplitl [S1]; · iexact S1
  isplitl [S2]; · iexact S2
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The scratch buffers go back among the region's own buffers. -/
theorem of_anyScratch (c : Dev nD) : anyScratch c ⊢ (Pipeline.scopedRest spec1 c : sProp 𝕄) := by
  unfold anyScratch others scM scA scQ
  simp only [scopedRest1_eq, owns_whole]
  iintro ⟨S0, S1, S2, H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  iexact S2

/-- What is carried is some contents. -/
theorem any_of_at (c : Dev nD) (p : St F) : scratchAt c p ⊢ (anyScratch c : sProp 𝕄) := by
  unfold scratchAt anyScratch
  iintro ⟨S0, S1, S2, H⟩
  isplitl [S0]; · iexists _; iexact S0
  isplitl [S1]; · iexists _; iexact S1
  isplitl [S2]; · iexists _; iexact S2
  iexact H

/-- The scratch buffers before a point. -/
def Inv (c : Dev nD) : (n : ℕ) → n ≤ cfg1.N → sProp 𝕄
  | 0, _ => Pipeline.scopedRest spec1 c
  | n + 1, hn => scratchAt c (stAt V c n hn)

/-- Before a later point the scratch buffers hold what the point before left. -/
theorem Inv_pos (c : Dev nD) (n : ℕ) (h : n ≤ cfg1.N) (hz : n ≠ 0) :
    Inv V c n h = scratchAt c (stAt V c (n - 1) (by omega)) := by
  cases n with
  | zero => exact absurd rfl hz
  | succ n => rfl

/-- Before any point the scratch buffers hold something. -/
theorem Inv_any (c : Dev nD) (n : ℕ) (h : n ≤ cfg1.N) : Inv V c n h ⊢ (anyScratch c : sProp 𝕄) := by
  cases n with
  | zero => exact anyScratch_of c
  | succ n => exact any_of_at c _

/-- The proof data of the region: an input keeps its block, the output holds what is carried of it. -/
def dat (c : Dev nD) : Dat τ (Elt F) Unit ℕ (UR sig nD τ) ℕ cfg1 c where
  A w := V c (Proc.devRef .tc (Pipeline.arrRef spec1 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (stAt V c t.val t.isLt).2.2.2
  Φ t := Inv V c t.val (Nat.le_of_lt_succ t.isLt)
  q _ := fullShare
  owed _ := 0

/-- The arrays are what the region finds. -/
theorem dat_A (c : Dev nD) (w : Fin cfg1.W) : (dat V c).A w = V c (Proc.devRef .tc (Pipeline.arrRef spec1 w)) := by
  dsimp only [dat]
/-- The buffer of the queries after a point. -/
theorem after_0 (c : Dev nD) (t : Fin cfg1.N) : (dat V c).after 0 t = blk V c 0 t := by dsimp only [dat]
/-- The buffer of the keys after a point. -/
theorem after_1 (c : Dev nD) (t : Fin cfg1.N) : (dat V c).after 1 t = blk V c 1 t := by dsimp only [dat]
/-- The buffer of the values after a point. -/
theorem after_2 (c : Dev nD) (t : Fin cfg1.N) : (dat V c).after 2 t = blk V c 2 t := by dsimp only [dat]
/-- The buffer of the query lanes after a point. -/
theorem after_3 (c : Dev nD) (t : Fin cfg1.N) : (dat V c).after 3 t = blk V c 3 t := by dsimp only [dat]
/-- The buffer of the key lanes after a point. -/
theorem after_4 (c : Dev nD) (t : Fin cfg1.N) : (dat V c).after 4 t = blk V c 4 t := by dsimp only [dat]
/-- The output's buffer after a point. -/
theorem after_5 (c : Dev nD) (t : Fin cfg1.N) : (dat V c).after 5 t = (stAt V c t.val t.isLt).2.2.2 := by dsimp only [dat]

/-- The buffer of the queries holds its block when a point begins. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
/-- The buffer of the keys holds its block when a point begins. -/
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
/-- The buffer of the values holds its block when a point begins. -/
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
/-- The buffer of the query lanes holds its block when a point begins. -/
theorem before_3 (c : Dev nD) (t : Fin cfg1.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)
/-- The buffer of the key lanes holds its block when a point begins. -/
theorem before_4 (c : Dev nD) (t : Fin cfg1.N) (d) : (dat V c).before 4 t d = blk V c 4 t :=
  ((dat V c).before_in_eq_fetched 4 rfl (fun _ => rfl) (fun _ _ _ => rfl)
    (fun t => by rw [after_4]; unfold Dat.blockOf blk; rw [dat_A]; try rfl) t d).trans
    (by unfold Dat.fetched Dat.blockOf blk; rw [dat_A]; try rfl)

/-- Off the diagonal the output block is carried. -/
theorem carry (c : Dev nD) (t : Fin cfg1.N) (h : ¬t.val / 3 % 3 = t.val % 3) :
    (stAt V c t.val t.isLt).2.2.2 = (stAt V c (t.val - 1) (Nat.lt_of_le_of_lt (Nat.sub_le _ _) t.isLt)).2.2.2 := by
  rw [stAt_pos V c t (fun h0 => h (by rw [h0]))]
  unfold next
  by_cases h0 : t.val % 3 = 0
  · rw [if_pos h0, if_neg h]
  · rw [if_neg h0]
    by_cases h1 : t.val % 3 + 1 ≤ t.val / 3 % 3
    · rw [if_pos h1]
    · rw [if_neg h1, if_neg h]

/-- Past the diagonal the output's buffer still holds what is carried. -/
theorem before_5 (c : Dev nD) (t : Fin cfg1.N) (h : t.val / 3 % 3 + 1 ≤ t.val % 3) (d) :
    (dat V c).before 5 t d = (stAt V c t.val t.isLt).2.2.2 := by
  rw [(dat V c).before_out_traj 5 rfl (fun _ _ => rfl)
    (fun t _ hi _ => by rw [after_5, after_5]; exact carry V c t ((idle_iff t).mp hi)) t.val t rfl d,
    fresh_past t h, if_neg Bool.false_ne_true, after_5]
  exact (carry V c t (by omega)).symm

/-! ## The body obligation -/

/-- What a point's body is called with. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- What a point's body returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ (dat V c).leavesExact 5 t)

/-- Off the diagonal and before the row's last point the output's buffer is handed back as found. -/
theorem leaves_idle (c : Dev nD) (t : Fin cfg1.N) (h : ¬t.val / 3 % 3 = t.val % 3) (h' : ¬t.val % 3 = 2) (d) :
    owns (c : Thread nD τ) (st1_5 t) fullShare ((dat V c).before 5 t d) ⊢ ((dat V c).leavesExact 5 t : sProp 𝕄) := by
  rw [(dat V c).leavesExact_idle 5 t ((idle_iff t).mpr h) (Bool.eq_false_iff.mpr fun e => h' ((flush1_5 t).mp e))]
  iintro H; iexists _; iexact H

/-- Past the diagonal the output's buffer is left at what is carried. -/
theorem leaves_past (c : Dev nD) (t : Fin cfg1.N) (h : t.val / 3 % 3 + 1 ≤ t.val % 3) (d) :
    owns (c : Thread nD τ) (st1_5 t) fullShare ((dat V c).before 5 t d) ⊢ ((dat V c).leavesExact 5 t : sProp 𝕄) := by
  by_cases h' : t.val % 3 = 2
  · unfold Dat.leavesExact
    rw [(idle_iff t).mpr (by omega), (flush1_5 t).mpr h', after_5, before_5 V c t h]
  · exact leaves_idle V c t (by omega) h' d

/-- On the diagonal the output's buffer is left at the block made there. -/
theorem leaves_diag (c : Dev nD) (t : Fin cfg1.N) (h : t.val / 3 % 3 = t.val % 3) :
    owns (c : Thread nD τ) (st1_5 t) fullShare (stAt V c t.val t.isLt).2.2.2 ⊢ ((dat V c).leavesExact 5 t : sProp 𝕄) := by
  unfold Dat.leavesExact
  rw [Bool.eq_false_iff.mpr fun e => (idle_iff t).mp e h, after_5]

/-- What is carried after a row's first point on the diagonal. -/
theorem stAt_A (c : Dev nD) (t : Fin cfg1.N) (h0 : t.val % 3 = 0) (h2 : t.val / 3 % 3 = t.val % 3) :
    stAt V c t.val t.isLt = (mNew (sDiag (blk V c 1 t) (blk V c 4 t) (qaNew (blk V c 0 t) (blk V c 3 t))) k1_pay8, aNew (sDiag (blk V c 1 t) (blk V c 4 t) (qaNew (blk V c 0 t) (blk V c 3 t))) (blk V c 2 t) k1_pay8 k1_pay9, (qaNew (blk V c 0 t) (blk V c 3 t)), oNew (aNew (sDiag (blk V c 1 t) (blk V c 4 t) (qaNew (blk V c 0 t) (blk V c 3 t))) (blk V c 2 t) k1_pay8 k1_pay9)) := by
  by_cases hz : t.val = 0
  · rw [stAt_zero V c t hz]; unfold next; rw [if_pos h0, if_pos h2]
  · rw [stAt_pos V c t hz]; unfold next; rw [if_pos h0, if_pos h2]
/-- What is carried past the diagonal. -/
theorem stAt_B (c : Dev nD) (t : Fin cfg1.N) (h0 : ¬t.val % 3 = 0) (h1 : ¬t.val % 3 + 1 ≤ t.val / 3 % 3) (h2 : ¬t.val / 3 % 3 = t.val % 3) :
    stAt V c t.val t.isLt = (stAt V c (t.val - 1) (Nat.lt_of_le_of_lt (Nat.sub_le _ _) t.isLt)) := by
  rw [stAt_pos V c t (fun hz => by omega)]; unfold next; rw [if_neg h0, if_neg h1, if_neg h2]
/-- What is carried after a row's first point below the diagonal. -/
theorem stAt_C (c : Dev nD) (t : Fin cfg1.N) (h0 : t.val % 3 = 0) (h2 : ¬t.val / 3 % 3 = t.val % 3) :
    stAt V c t.val t.isLt = (mNew (sHead (blk V c 1 t) (blk V c 4 t) (qaNew (blk V c 0 t) (blk V c 3 t))) k1_pay8, aNew (sHead (blk V c 1 t) (blk V c 4 t) (qaNew (blk V c 0 t) (blk V c 3 t))) (blk V c 2 t) k1_pay8 k1_pay9, (qaNew (blk V c 0 t) (blk V c 3 t)), (stAt V c (t.val - 1) (Nat.lt_of_le_of_lt (Nat.sub_le _ _) t.isLt)).2.2.2) := by
  rw [stAt_pos V c t (fun hz => by omega)]; unfold next; rw [if_pos h0, if_neg h2]
/-- What is carried after a later point below the diagonal. -/
theorem stAt_D (c : Dev nD) (t : Fin cfg1.N) (h0 : ¬t.val % 3 = 0) (h1 : t.val % 3 + 1 ≤ t.val / 3 % 3) :
    stAt V c t.val t.isLt = (mNew (sHead (blk V c 1 t) (blk V c 4 t) (stAt V c (t.val - 1) (Nat.lt_of_le_of_lt (Nat.sub_le _ _) t.isLt)).2.2.1) (stAt V c (t.val - 1) (Nat.lt_of_le_of_lt (Nat.sub_le _ _) t.isLt)).1, aNew (sHead (blk V c 1 t) (blk V c 4 t) (stAt V c (t.val - 1) (Nat.lt_of_le_of_lt (Nat.sub_le _ _) t.isLt)).2.2.1) (blk V c 2 t) (stAt V c (t.val - 1) (Nat.lt_of_le_of_lt (Nat.sub_le _ _) t.isLt)).1 (stAt V c (t.val - 1) (Nat.lt_of_le_of_lt (Nat.sub_le _ _) t.isLt)).2.1, (stAt V c (t.val - 1) (Nat.lt_of_le_of_lt (Nat.sub_le _ _) t.isLt)).2.2.1, (stAt V c (t.val - 1) (Nat.lt_of_le_of_lt (Nat.sub_le _ _) t.isLt)).2.2.2) := by
  rw [stAt_pos V c t (fun hz => by omega)]; unfold next; rw [if_neg h0, if_pos h1]
/-- What is carried after a later point on the diagonal. -/
theorem stAt_E (c : Dev nD) (t : Fin cfg1.N) (h0 : ¬t.val % 3 = 0) (h1 : ¬t.val % 3 + 1 ≤ t.val / 3 % 3) (h2 : t.val / 3 % 3 = t.val % 3) :
    stAt V c t.val t.isLt = (mNew (sDiag (blk V c 1 t) (blk V c 4 t) (stAt V c (t.val - 1) (Nat.lt_of_le_of_lt (Nat.sub_le _ _) t.isLt)).2.2.1) (stAt V c (t.val - 1) (Nat.lt_of_le_of_lt (Nat.sub_le _ _) t.isLt)).1, aNew (sDiag (blk V c 1 t) (blk V c 4 t) (stAt V c (t.val - 1) (Nat.lt_of_le_of_lt (Nat.sub_le _ _) t.isLt)).2.2.1) (blk V c 2 t) (stAt V c (t.val - 1) (Nat.lt_of_le_of_lt (Nat.sub_le _ _) t.isLt)).1 (stAt V c (t.val - 1) (Nat.lt_of_le_of_lt (Nat.sub_le _ _) t.isLt)).2.1, (stAt V c (t.val - 1) (Nat.lt_of_le_of_lt (Nat.sub_le _ _) t.isLt)).2.2.1, oNew (aNew (sDiag (blk V c 1 t) (blk V c 4 t) (stAt V c (t.val - 1) (Nat.lt_of_le_of_lt (Nat.sub_le _ _) t.isLt)).2.2.1) (blk V c 2 t) (stAt V c (t.val - 1) (Nat.lt_of_le_of_lt (Nat.sub_le _ _) t.isLt)).1 (stAt V c (t.val - 1) (Nat.lt_of_le_of_lt (Nat.sub_le _ _) t.isLt)).2.1)) := by
  rw [stAt_pos V c t (fun hz => by omega)]; unfold next; rw [if_neg h0, if_neg h1, if_pos h2]

set_option maxHeartbeats 4000000 in
/-- A point's body takes its blocks from what it is called with to what it returns. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = scratchAt c (stAt V c t.val t.isLt) from rfl,
    show (dat V c).Φ t.castSucc = Inv V c t.val (Nat.le_of_lt t.isLt) from rfl,
    show (dat V c).owesAt () t.succ = (dat V c).owesAt () t.castSucc from rfl,
    after_0, after_1, after_2, after_3, after_4]
  by_cases h0 : t.val % 3 = 0
  · by_cases h2 : t.val / 3 % 3 = t.val % 3
    · have h1 : ¬t.val % 3 + 1 ≤ t.val / 3 % 3 := by omega
      have hd := leaves_diag (F := F) V c t h2
      rw [stAt_A V c t h0 h2] at hd ⊢
      iintro ⟨HI, Ho, ⟨%d0, H0⟩, ⟨%d1, H1⟩, ⟨%d2, H2⟩, ⟨%d3, H3⟩, ⟨%d4, H4⟩, ⟨%d5, H5⟩⟩
      ihave HI := (Inv_any V c t.val (Nat.le_of_lt t.isLt)) $$ HI
      unfold anyScratch scratchAt
      icases HI with ⟨S0, S1, S2, SR⟩
      iapply (run_A c (grid1.coords t) _ _ _ _ _ _ _ _ _ _ _ _ scM (Memref.isWhole_whole _) scA (Memref.isWhole_whole _) scQ (Memref.isWhole_whole _) (blk V c 0 t) (blk V c 1 t) (blk V c 2 t) (blk V c 3 t) (blk V c 4 t) ((isFirst_iff t).mpr h0) ⟨(fun h => h1 ((isBelow_iff t).mp h)), ((isDiag_iff t).mpr h2)⟩ Set.univ _)
      isplitl [H0]; · iexact H0
      isplitl [H1]; · iexact H1
      isplitl [H2]; · iexact H2
      isplitl [H3]; · iexact H3
      isplitl [H4]; · iexact H4
      isplitl [H5]; · iexists _; iexact H5
      isplitl [S0]; · iexact S0
      isplitl [S1]; · iexact S1
      isplitl [S2]; · iexact S2
      iintro ⟨H0, H1, H2, H3, H4, H5, S0, S1, S2⟩
      isplitl [S0 S1 S2 SR]
      · isplitl [S0]; · iexact S0
        isplitl [S1]; · iexact S1
        isplitl [S2]; · iexact S2
        iexact SR
      isplitl [Ho]; · iexact Ho
      isplitl [H0]; · iexact H0
      isplitl [H1]; · iexact H1
      isplitl [H2]; · iexact H2
      isplitl [H3]; · iexact H3
      isplitl [H4]; · iexact H4
      iapply hd; iexact H5
    · have h1 : t.val % 3 + 1 ≤ t.val / 3 % 3 := by omega
      rw [stAt_C V c t h0 h2]
      iintro ⟨HI, Ho, ⟨%d0, H0⟩, ⟨%d1, H1⟩, ⟨%d2, H2⟩, ⟨%d3, H3⟩, ⟨%d4, H4⟩, ⟨%d5, H5⟩⟩
      ihave HI := (Inv_any V c t.val (Nat.le_of_lt t.isLt)) $$ HI
      unfold anyScratch scratchAt
      icases HI with ⟨S0, S1, S2, SR⟩
      iapply (run_C c (grid1.coords t) _ _ _ _ _ _ _ _ _ _ _ _ scM (Memref.isWhole_whole _) scA (Memref.isWhole_whole _) scQ (Memref.isWhole_whole _) (blk V c 0 t) (blk V c 1 t) (blk V c 2 t) (blk V c 3 t) (blk V c 4 t) ((isFirst_iff t).mpr h0) ⟨((isBelow_iff t).mpr h1), (fun h => h2 ((isDiag_iff t).mp h))⟩ Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, S0, S1, S2⟩
      isplitl [S0 S1 S2 SR]
      · isplitl [S0]; · iexact S0
        isplitl [S1]; · iexact S1
        isplitl [S2]; · iexact S2
        iexact SR
      isplitl [Ho]; · iexact Ho
      isplitl [H0]; · iexact H0
      isplitl [H1]; · iexact H1
      isplitl [H2]; · iexact H2
      isplitl [H3]; · iexact H3
      isplitl [H4]; · iexact H4
      iapply (leaves_idle V c t h2 (by omega) d5); iexact H5
  · have hz : t.val ≠ 0 := fun hz => h0 (by rw [hz])
    by_cases h1 : t.val % 3 + 1 ≤ t.val / 3 % 3
    · have h2 : ¬t.val / 3 % 3 = t.val % 3 := by omega
      rw [stAt_D V c t h0 h1]
      rw [Inv_pos V c t.val _ hz]
      unfold scratchAt
      iintro ⟨⟨S0, S1, S2, SR⟩, Ho, ⟨%d0, H0⟩, ⟨%d1, H1⟩, ⟨%d2, H2⟩, ⟨%d3, H3⟩, ⟨%d4, H4⟩, ⟨%d5, H5⟩⟩
      iapply (run_D c (grid1.coords t) _ _ _ _ _ _ _ _ _ _ _ _ scM (Memref.isWhole_whole _) scA (Memref.isWhole_whole _) scQ (Memref.isWhole_whole _) (blk V c 0 t) (blk V c 1 t) (blk V c 2 t) (blk V c 3 t) (blk V c 4 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1 (fun h => h0 ((isFirst_iff t).mp h)) ((isBelow_iff t).mpr h1) (fun h => h2 ((isDiag_iff t).mp h)) Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, S0, S1, S2⟩
      isplitl [S0 S1 S2 SR]
      · isplitl [S0]; · iexact S0
        isplitl [S1]; · iexact S1
        isplitl [S2]; · iexact S2
        iexact SR
      isplitl [Ho]; · iexact Ho
      isplitl [H0]; · iexact H0
      isplitl [H1]; · iexact H1
      isplitl [H2]; · iexact H2
      isplitl [H3]; · iexact H3
      isplitl [H4]; · iexact H4
      iapply (leaves_idle V c t h2 (by omega) d5); iexact H5
    · by_cases h2 : t.val / 3 % 3 = t.val % 3
      · have hd := leaves_diag (F := F) V c t h2
        rw [stAt_E V c t h0 h1 h2] at hd ⊢
        rw [Inv_pos V c t.val _ hz]
        unfold scratchAt
        iintro ⟨⟨S0, S1, S2, SR⟩, Ho, ⟨%d0, H0⟩, ⟨%d1, H1⟩, ⟨%d2, H2⟩, ⟨%d3, H3⟩, ⟨%d4, H4⟩, ⟨%d5, H5⟩⟩
        iapply (run_E c (grid1.coords t) _ _ _ _ _ _ _ _ _ _ _ _ scM (Memref.isWhole_whole _) scA (Memref.isWhole_whole _) scQ (Memref.isWhole_whole _) (blk V c 0 t) (blk V c 1 t) (blk V c 2 t) (blk V c 3 t) (blk V c 4 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1 (fun h => h0 ((isFirst_iff t).mp h)) (fun h => h1 ((isBelow_iff t).mp h)) ((isDiag_iff t).mpr h2) Set.univ _)
        isplitl [H0]; · iexact H0
        isplitl [H1]; · iexact H1
        isplitl [H2]; · iexact H2
        isplitl [H3]; · iexact H3
        isplitl [H4]; · iexact H4
        isplitl [H5]; · iexists _; iexact H5
        isplitl [S0]; · iexact S0
        isplitl [S1]; · iexact S1
        isplitl [S2]; · iexact S2
        iintro ⟨H0, H1, H2, H3, H4, H5, S0, S1, S2⟩
        isplitl [S0 S1 S2 SR]
        · isplitl [S0]; · iexact S0
          isplitl [S1]; · iexact S1
          isplitl [S2]; · iexact S2
          iexact SR
        isplitl [Ho]; · iexact Ho
        isplitl [H0]; · iexact H0
        isplitl [H1]; · iexact H1
        isplitl [H2]; · iexact H2
        isplitl [H3]; · iexact H3
        isplitl [H4]; · iexact H4
        iapply hd; iexact H5
      · rw [stAt_B V c t h0 h1 h2]
        rw [Inv_pos V c t.val _ hz]
        unfold scratchAt
        iintro ⟨⟨S0, S1, S2, SR⟩, Ho, ⟨%d0, H0⟩, ⟨%d1, H1⟩, ⟨%d2, H2⟩, ⟨%d3, H3⟩, ⟨%d4, H4⟩, ⟨%d5, H5⟩⟩
        iapply (run_B c (grid1.coords t) _ _ _ _ _ _ _ _ _ _ _ _ scM (Memref.isWhole_whole _) scA (Memref.isWhole_whole _) scQ (Memref.isWhole_whole _) (fun h => h0 ((isFirst_iff t).mp h)) (fun h => h1 ((isBelow_iff t).mp h)) (fun h => h2 ((isDiag_iff t).mp h)) Set.univ _)
        isplitl [S0 S1 S2 SR]
        · isplitl [S0]; · iexact S0
          isplitl [S1]; · iexact S1
          isplitl [S2]; · iexact S2
          iexact SR
        isplitl [Ho]; · iexact Ho
        isplitl [H0]; · iexact H0
        isplitl [H1]; · iexact H1
        isplitl [H2]; · iexact H2
        isplitl [H3]; · iexact H3
        isplitl [H4]; · iexact H4
        iapply (leaves_past V c t (by omega) d5); iexact H5

/-- The body table's row at a point is the body. -/
theorem row (t : Fin cfg1.N) :
    defs₀ (F := F) .tc cfg1.body (cfg1.bodyArgs t (cfg1.slots t)) = bodyAt1 t := by
  unfold defs₀; rw [Defs.onTc_tc]

/-- Every point's body meets its obligation. -/
theorem body_obligation (c : Dev nD) : BodyObligation (dat V c) (defs₀ (F := F)) Variants.none () Set.univ := fun t => by
  rw [bigSep_W1, bigSep_W1, row]
  exact triple_restated (sound_body V c t) rfl .rfl fun _ => .rfl

end Cert.Proof.Fox

end
-- ==== Proof.Run.lean ====
module

public import proofs.«01_k».proof.Proof.Cum.Data
public import proofs.«01_k».proof.Proof.Fox.Data
public import proofs.«01_k».proof.Proof.Gen.KernelIdeal.Regions
public import Idealize.ShloMosaic.Lib.Pipeline.RegionArraysS
public import Idealize.ShloMosaic.Lib.Claim

@[expose] public section

set_option maxRecDepth 16384

noncomputable section

namespace Cert.Proof.Both

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## The buffers between the two regions -/

/-- A core's buffers at launch. -/
def W0 (c : Dev nD) : Valuation τ sig (Elt F) := fun b => m (c, b)
/-- A core's buffers after the running sums. -/
def W1 (c : Dev nD) : Valuation τ sig (Elt F) := Pipeline.afterRegion (Cum.dat (W0 m) c) (W0 m c)
/-- A core's buffers after the attention. -/
def W2 (c : Dev nD) : Valuation τ sig (Elt F) := Pipeline.afterRegion (Fox.dat (W1 m) c) (W1 m c)

/-- The running sums change no buffer but their two outputs. -/
theorem W1_keeps (c : Dev nD) (r : Ref sig .tc) (h : ∀ w, Pipeline.arrRef cfg0.spec w = r → (cfg0.win w).isOut = false) :
    W1 m c (Proc.devRef .tc r) = W0 m c (Proc.devRef .tc r) :=
  Pipeline.afterRegion_keeps _ _ winFacts0.arr_inj (Cum.dat_A (W0 m) c) r h

/-- The attention changes no buffer but its output. -/
theorem W2_keeps (c : Dev nD) (r : Ref sig .tc) (h : ∀ w, Pipeline.arrRef cfg1.spec w = r → (cfg1.win w).isOut = false) :
    W2 m c (Proc.devRef .tc r) = W1 m c (Proc.devRef .tc r) :=
  Pipeline.afterRegion_keeps _ _ winFacts1.arr_inj (Fox.dat_A (W1 m) c) r h

/-- The queries end as launched. -/
theorem W2_arg0 (c : Dev nD) : W2 m c (Proc.devRef .tc main_arg0) = m ((c : Thread nD τ).loc main_arg0) :=
  (W2_keeps m c main_arg0 (by decide)).trans (W1_keeps m c main_arg0 (by decide))
/-- The keys end as launched. -/
theorem W2_arg1 (c : Dev nD) : W2 m c (Proc.devRef .tc main_arg1) = m ((c : Thread nD τ).loc main_arg1) :=
  (W2_keeps m c main_arg1 (by decide)).trans (W1_keeps m c main_arg1 (by decide))
/-- The values end as launched. -/
theorem W2_arg2 (c : Dev nD) : W2 m c (Proc.devRef .tc main_arg2) = m ((c : Thread nD τ).loc main_arg2) :=
  (W2_keeps m c main_arg2 (by decide)).trans (W1_keeps m c main_arg2 (by decide))
/-- The forget logits end as launched. -/
theorem W2_arg3 (c : Dev nD) : W2 m c (Proc.devRef .tc main_arg3) = m ((c : Thread nD τ).loc main_arg3) :=
  (W2_keeps m c main_arg3 (by decide)).trans (W1_keeps m c main_arg3 (by decide))

/-! ## The two regions' records -/

/-- The proof data of the two regions. -/
def pdats : (p : Fin 2) → (c : Dev nD) → Dat τ (Elt F) Unit ℕ (UR sig nD τ) ℕ (cfgs p) c
  | ⟨0, _⟩ => fun c => Cum.dat (W0 m) c
  | ⟨1, _⟩ => fun c => Fox.dat (W1 m) c

/-- The levels: one on every counter of a core, none elsewhere. -/
def L : GSem nD τ sig → Finset Unit := fun g => if g.1.2 = .tc then Finset.univ else ∅
/-- All levels are equal. -/
def lv : GSem nD τ sig → Unit → ℕ := fun _ _ => 0

/-- No core owes anything, so the levels order the waits. -/
theorem cut (p : Fin 2) : Pipeline.LevelCut (pcfgs (F := F)) adm () L lv p (fun _ => 0) (fun _ : Dev nD => 0) where
  hι c w s := by unfold L; rw [if_pos rfl]; exact Finset.mem_univ _
  hιb _ _ _ := Nat.le_refl _
  hD c g i h := absurd h (Nat.lt_irrefl 0)

/-- The running sums start from the region's own buffers. -/
theorem enter0 (c : Dev nD) : iprop(Pipeline.scopedRest spec0 c ∗ BI.emp) ⊢ ((Cum.dat (W0 m) c).Φ 0 : sProp 𝕄) := by
  rw [show (Cum.dat (W0 m) c).Φ 0 = Pipeline.scopedRest spec0 c from rfl]
  iintro ⟨H, -⟩; iexact H
/-- The running sums give the region's own buffers back. -/
theorem leave0 (c : Dev nD) : (Cum.dat (W0 m) c).Φ (Fin.last cfg0.N) ⊢ (iprop(Pipeline.scopedRest spec0 c ∗ BI.emp) : sProp 𝕄) := by
  rw [show (Cum.dat (W0 m) c).Φ (Fin.last cfg0.N) = Pipeline.scopedRest spec0 c from rfl]
  iintro H; isplitl [H]; · iexact H
  iempintro
/-- The attention starts from the region's own buffers. -/
theorem enter1 (c : Dev nD) : iprop(Pipeline.scopedRest spec1 c ∗ BI.emp) ⊢ ((Fox.dat (W1 m) c).Φ 0 : sProp 𝕄) := by
  rw [show (Fox.dat (W1 m) c).Φ 0 = Pipeline.scopedRest spec1 c from rfl]
  iintro ⟨H, -⟩; iexact H
/-- The attention gives the region's own buffers back. -/
theorem leave1 (c : Dev nD) : (Fox.dat (W1 m) c).Φ (Fin.last cfg1.N) ⊢ (iprop(Pipeline.scopedRest spec1 c ∗ BI.emp) : sProp 𝕄) := by
  rw [show (Fox.dat (W1 m) c).Φ (Fin.last cfg1.N) = Fox.Inv (W1 m) c cfg1.N (Nat.le_refl _) from rfl]
  iintro H
  isplitl [H]
  · iapply (Fox.of_anyScratch c)
    iapply (Fox.Inv_any (W1 m) c cfg1.N (Nat.le_refl _))
    iexact H
  iempintro

set_option backward.isDefEq.respectTransparency.types false in
/-- The region of the running sums, entered from the launch's buffers. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) (fun _ => BI.emp) (fun _ => BI.emp)
    launch0.toP rfl (fun c => (Cum.body_obligation (W0 m) c).loose) (fun _ _ => rfl) (fun _ => rfl)
    (fun c => (Cum.dat (W0 m) c).share_full fun _ => rfl)
    (fun c => enter0 m c) (fun c => leave0 m c)
    (fun _ => 0) (cut 0) (fun _ => BI.emp) (W0 m) (fun _ _ => rfl)

set_option backward.isDefEq.respectTransparency.types false in
/-- The region of the attention, entered from what the running sums leave. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig) (fun _ => BI.emp) (fun _ => BI.emp)
    launch1.toP rfl (fun c => (Fox.body_obligation (W1 m) c).loose) (fun _ _ => rfl) (fun _ => rfl)
    (fun c => (Fox.dat (W1 m) c).share_full fun _ => rfl)
    (fun c => enter1 m c) (fun c => leave1 m c)
    (fun _ => 0) (cut 1) (fun _ => BI.emp) (W1 m) (fun _ _ => rfl)

/-- What rides beside the buffers: the core owes nothing. -/
def E (c : Dev nD) : sProp 𝕄 := iprop((∃ Wd, owes (c : Thread nD τ) (0 : CellTallies nD τ sig Unit) Wd) ∗ BI.emp ∗ BI.emp)

/-- The arrays of the running sums are among the core's own buffers. -/
theorem sub0 : Pipeline.arrRefs ((pcfgs (F := F)) 0).spec ⊆ Pipeline.ucRefs τ sig := Pipeline.arrRefs_sub_ucRefs spec0 (by decide)
/-- The arrays of the attention are among the core's own buffers. -/
theorem sub1 : Pipeline.arrRefs ((pcfgs (F := F)) 1).spec ⊆ Pipeline.ucRefs τ sig := Pipeline.arrRefs_sub_ucRefs spec1 (by decide)
/-- The launch's buffers enter the running sums. -/
theorem pre0 (c : Dev nD) : iprop(StableHlo.held (c : Thread nD τ) (Pipeline.ucRefs τ sig) (W0 m c) ∗ E c) ⊢ (R0 m).pre c := by
  unfold R0 E
  exact (BI.Entails.refl _).trans (RegionSeg.ofHeldIn_pre (D := fun _ => 0) (X := fun _ => BI.emp) (Y := fun _ => BI.emp) (R := fun _ => BI.emp) (W := W0 m) (sub0 (F := F)) c)
/-- The running sums leave their buffers. -/
theorem post0 (c : Dev nD) : (R0 m).post c ⊢ iprop(StableHlo.held (c : Thread nD τ) (Pipeline.ucRefs τ sig) (W1 m c) ∗ E c) := by
  rw [show W1 m c = Pipeline.afterRegion (pdats m 0 c) (W0 m c) from rfl]
  unfold R0 E
  exact (RegionSeg.ofHeldIn_post (D := fun _ => 0) (X := fun _ => BI.emp) (Y := fun _ => BI.emp) (R := fun _ => BI.emp) (W := W0 m) (sub0 (F := F)) c).trans .rfl
/-- What the running sums leave enters the attention. -/
theorem pre1 (c : Dev nD) : iprop(StableHlo.held (c : Thread nD τ) (Pipeline.ucRefs τ sig) (W1 m c) ∗ E c) ⊢ (R1 m).pre c := by
  unfold R1 E
  exact (BI.Entails.refl _).trans (RegionSeg.ofHeldIn_pre (D := fun _ => 0) (X := fun _ => BI.emp) (Y := fun _ => BI.emp) (R := fun _ => BI.emp) (W := W1 m) (sub1 (F := F)) c)
/-- The attention leaves its buffers. -/
theorem post1 (c : Dev nD) : (R1 m).post c ⊢ iprop(StableHlo.held (c : Thread nD τ) (Pipeline.ucRefs τ sig) (W2 m c) ∗ E c) := by
  rw [show W2 m c = Pipeline.afterRegion (pdats m 1 c) (W1 m c) from rfl]
  unfold R1 E
  exact (RegionSeg.ofHeldIn_post (D := fun _ => 0) (X := fun _ => BI.emp) (Y := fun _ => BI.emp) (R := fun _ => BI.emp) (W := W1 m) (sub1 (F := F)) c).trans .rfl
/-- At the end the core owes nothing. -/
theorem last (c : Dev nD) : (E c : sProp 𝕄) ⊢ iprop(∃ Wd, owes (c : Thread nD τ) (0 : CellTallies nD τ sig Unit) Wd) := by
  unfold E; iintro ⟨H, -⟩; iexact H

/-- The program's two items. -/
abbrev segs : List (Seg (pcfgs (F := F)) adm (pdats m) () defs₀ Variants.none L lv) := [.region (R0 m), .region (R1 m)]

set_option backward.isDefEq.respectTransparency.types false in
/-- Every weakly fair execution of the program ends, with the arguments as launched, the result at what the two regions
    leave in it, and every counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v1) = W2 m c (Proc.devRef .tc main_v1))
      ∧ r.2.sem = fun _ => 0) := by
  refine Pipeline.θ_run_regions_kit_dev_sems (pcfgs (F := F)) adm (pdats m) () cellOf_inj emb₁ defs₀ Variants.none L lv m ρ main
    (fun _ => segs m)
    (fun c Q => by
      rewrite [main_chain c, Seg.run_eq_chain,
        show (segs m).map Seg.prog = [
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) 0
    (fun g hg => by unfold L; rw [if_neg hg])
    (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E c))
    (Tₙ := fun c => StableHlo.held (c : Thread nD τ) (Pipeline.ucRefs τ sig) (W2 m c))
    (hch := fun c => ⟨pre0 m c, (post0 m c).trans (pre1 m c), (post1 m c).trans (sep_mono .rfl (last c))⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_v1) = W2 m c (Proc.devRef .tc main_v1))
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = (StableHlo.held (c.tc : Thread nD τ) (Pipeline.ucRefs τ sig) (W0 m c) : sProp 𝕄) from
      Pipeline.unscopedBufs_held (Ix := Unit) (Name := ℕ) (U := UR sig nD τ) (Lvl := ℕ) c (W0 m c)]
    unfold E
    iintro ⟨⟨Hh, -, Ho, -, -, -⟩, -⟩
    imodintro
    isplitl [Hh]; · iexact Hh
    isplitl [Ho]; · iexists _; iexact Ho
    isplitr; · iempintro
    iempintro
  · unfold StableHlo.held
    iintro ⟨Hh, HSI⟩
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (W2_arg0 m c),
        (h (Proc.devRef .tc main_arg1) (Finset.mem_filter.mpr ⟨StableHlo.devRef_mem_tcRefs main_arg1, by decide⟩)).trans (W2_arg1 m c),
        (h (Proc.devRef .tc main_arg2) (Finset.mem_filter.mpr ⟨StableHlo.devRef_mem_tcRefs main_arg2, by decide⟩)).trans (W2_arg2 m c),
        (h (Proc.devRef .tc main_arg3) (Finset.mem_filter.mpr ⟨StableHlo.devRef_mem_tcRefs main_arg3, by decide⟩)).trans (W2_arg3 m c),
        h (Proc.devRef .tc main_v1) (Finset.mem_filter.mpr ⟨StableHlo.devRef_mem_tcRefs main_v1, by decide⟩)⟩
    · iexact HSI

end Cert.Proof.Both

end
-- ==== Proof.Frames.lean ====
module

public import proofs.«01_k».proof.Defs
public import proofs.«01_k».proof.Proof.Same
public import proofs.«01_k».proof.Proof.Run
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem

/-- The reference's side conditions. -/
instance fri : Cert.ReferenceIdeal.Facts := Cert.ReferenceIdeal.Gen.facts

/-- The kernel, in floats: it ends, its arguments stay, every counter is back at zero. The run is that of the
    idealized program with its constants read as the words they are. -/
theorem frame_Kernel : Cert.quiescent_Kernel := fun m g _ =>
  run_same _ _ ((θ_run _ _ _).mono
    (fun _ h => ⟨fun c => ⟨(h.1 c).1, (h.1 c).2.1, (h.1 c).2.2.1, (h.1 c).2.2.2.1⟩, h.2⟩)
    (Both.run (F := Bits) m g))

/-- The idealized kernel, over the extended reals: it ends, its arguments stay, every counter is back at zero. -/
theorem frame_KernelIdeal : Cert.quiescent_KernelIdeal := fun m g _ =>
  (θ_run _ _ _).mono
    (fun _ h => ⟨fun c => ⟨(h.1 c).1, (h.1 c).2.1, (h.1 c).2.2.1, (h.1 c).2.2.2.1⟩, h.2⟩)
    (Both.run (F := Ideal) m g)

/-- The reference: it ends and its arguments stay; it has no counters. -/
theorem frame_ReferenceIdeal : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- The three named constants: each stands where the kernel has the float word nearest to it (or −10³⁰ for −∞). -/
theorem constants : Cert.preserves_Kernel_KernelIdeal :=
  ⟨IdealRules.named_const.statement Cert.KernelIdeal.κ "root" .f32 0x413504F3#32 ((Real.sqrt 128 : ℝ) : EReal) rfl,
    IdealRules.named_const.statement Cert.KernelIdeal.κ "neg_big" .f32 0xF149F2CA#32 ⊥ rfl,
    IdealRules.named_const.statement Cert.KernelIdeal.κ "to_log2" .f32 0x3E0293EE#32
      ((((Real.sqrt 128) * (Real.log 2))⁻¹ : ℝ) : EReal) rfl⟩

end Cert.Proof

end
-- ==== Proof.Val.FoxRead.lean ====
module

public import proofs.«01_k».proof.Proof.Fox.Step
public import Idealize.ShloMosaic.Lib.Pointwise
public import Idealize.ShloMosaic.PureOps.IdealRules

@[expose] public section

set_option maxRecDepth 16384

noncomputable section

namespace Cert.Proof.Val

open Cert.KernelIdeal Cert.KernelIdeal.Gen Cert.Proof.Fox
open Idealize.ShloMosaic Idealize.ShloMosaic.TcCoe

/-- The constant that takes scores to base two. -/
theorem to_log2 : (Named.named Cert.KernelIdeal.κ "to_log2" 0x3E0293EE#32 : Ideal .f32) = ((((Real.sqrt 128) * (Real.log 2))⁻¹ : ℝ) : EReal) :=
  IdealRules.named_const.ideal_named_scalar _ _ _ _ rfl
/-- The mask's constant. -/
theorem neg_big : (Named.named Cert.KernelIdeal.κ "neg_big" 0xF149F2CA#32 : Ideal .f32) = (⊥ : EReal) :=
  IdealRules.named_const.ideal_named_scalar _ _ _ _ rfl

/-- A head of an array put together of heads. -/
theorem head_heads {e : EltTy} (n : ℕ) (f : Fin 8 → Vec Ideal ⟨3, ![1, 688, n]⟩ e) (h : Fin 8) : head n h (heads n f) = f h :=
  funext fun x => (heads_emb n f h x).symm

/-- Column `d` of head `h` in a block of eight heads. -/
def col (h : Fin 8) (d : Fin 128) : Fin 1024 := ⟨128 * h.val + d.val, by have := h.isLt; have := d.isLt; omega⟩

/-- A head's columns, at an index. -/
theorem cols_at {e : EltTy} (h : Fin 8) (x : Vec Ideal S1x688x1024 e) (r : Fin 688) (d : Fin 128) :
    cols h x (ix3 0 r d) = x (ix3 0 r (col h d)) := by
  unfold cols
  congr 1
  funext a
  apply Fin.ext
  fin_cases a
  · rfl
  · show 0 + 1 * r.val = r.val; omega
  · show 128 * h.val + 1 * d.val = 128 * h.val + d.val; omega

/-- A head of an array, at an index. -/
theorem head_at {e : EltTy} (n : ℕ) (h : Fin 8) (x : Vec Ideal ⟨3, ![8, 688, n]⟩ e) (r : Fin 688) (l : Fin n) :
    head n h x (ix3 0 r l) = x (ix3 h r l) := by
  unfold head
  congr 1
  funext a
  apply Fin.ext
  fin_cases a
  · show h.val + 1 * 0 = h.val; omega
  · show 0 + 1 * r.val = r.val; omega
  · show 0 + 1 * l.val = l.val; omega

/-- What a head adds up over its lanes: the products of its queries and keys and those of its own lanes. -/
def raw (k q : Vec Ideal S1x688x1024 .f32) (augk augq : Vec Ideal S1x1x688x128 .bf16) (h : Fin 8) (r j : Fin 688) : EReal :=
  (∑ d : Fin 128, q (ix3 0 r (col h d)) * k (ix3 0 j (col h d)))
    + ∑ l : Fin 128, if l.val / 8 = h.val then augq (ix4 0 0 r l) * augk (ix4 0 0 j l) else 0

/-- The lanes' groups, as numbers. -/
theorem laneGroup_at (r : Fin 688) (l : Fin 128) : laneGroup (ix2 r l) = BitVec.ofNat 32 (l.val / 8) := by
  unfold laneGroup
  pointwise
  revert l
  decide +kernel

/-- Whether a lane is a head's own, as a bit. -/
theorem own_at (h : Fin 8) (r : Fin 688) (l : Fin 128) : own h (ix2 r l) = if l.val / 8 = h.val then 1#1 else 0#1 := by
  unfold own
  pointwise
  rw [laneGroup_at]
  revert h l
  decide +kernel

/-- A lane's value where it is the head's own, and zero elsewhere. -/
theorem own_select (h : Fin 8) (r : Fin 688) (l : Fin 128) (x : EReal) :
    Scalar.select (own h (ix2 r l)) x 0 = if l.val / 8 = h.val then x else 0 := by
  rw [own_at]
  by_cases hh : l.val / 8 = h.val
  · rw [if_pos hh, if_pos hh]; rfl
  · rw [if_neg hh, if_neg hh]; rfl

/-- A head's scores of a block below the diagonal. -/
theorem sHead_at (k q : Vec Ideal S1x688x1024 .f32) (augk augq : Vec Ideal S1x1x688x128 .bf16) (h : Fin 8) (r j : Fin 688) :
    sHead k augk (qaNew q augq) h (ix2 r j) = raw k q augk augq h r j * ((((Real.sqrt 128) * (Real.log 2))⁻¹ : ℝ) : EReal) := by
  unfold sHead qaNew
  rw [head_heads]
  unfold qaHead
  rw [lanes_eq, lanes_eq]
  pointwise [k1_pay33, k1_pay31, k1_pay12, k1_pay10]
  rw [to_log2]
  simp only [own_select, cols_at]
  rfl

/-- Which keys of the diagonal's block a query sees. -/
theorem visible_at (r j : Fin 688) : IntOp.cmpi CmpIPredicate.sle (BitVec.ofNat 32 j.val) (BitVec.ofNat 32 r.val) = if j.val ≤ r.val then 1#1 else 0#1 := by
  have hj := j.isLt
  have hr := r.isLt
  have e : ∀ n : ℕ, n < 688 → (BitVec.ofNat 32 n).toInt = (n : ℤ) := fun n hn => by
    rw [BitVec.toInt_eq_toNat_of_lt (by rw [BitVec.toNat_ofNat]; omega), BitVec.toNat_ofNat]
    congr 1
    omega
  have : (BitVec.sle (BitVec.ofNat 32 j.val) (BitVec.ofNat 32 r.val)) = decide (j.val ≤ r.val) := by
    unfold BitVec.sle
    rw [e _ hj, e _ hr]
    congr 1
    simp
  show BitVec.ofBool (BitVec.sle (BitVec.ofNat 32 j.val) (BitVec.ofNat 32 r.val)) = _
  rw [this]
  by_cases h : j.val ≤ r.val
  · rw [if_pos h, decide_eq_true h]; rfl
  · rw [if_neg h, decide_eq_false h]; rfl

/-- A head's scores of the block on the diagonal. -/
theorem sDiag_at (k q : Vec Ideal S1x688x1024 .f32) (augk augq : Vec Ideal S1x1x688x128 .bf16) (h : Fin 8) (r j : Fin 688) :
    sDiag k augk (qaNew q augq) h (ix2 r j)
      = if j.val ≤ r.val then raw k q augk augq h r j * ((((Real.sqrt 128) * (Real.log 2))⁻¹ : ℝ) : EReal) else ⊥ := by
  unfold sDiag qaNew
  rw [head_heads]
  unfold qaHead
  rw [lanes_eq, lanes_eq]
  pointwise [k1_pay91, k1_pay88, k1_pay90, k1_pay12, k1_pay10]
  rw [to_log2, neg_big, visible_at]
  simp only [own_select, cols_at]
  by_cases hh : j.val ≤ r.val
  · rw [if_pos hh, if_pos hh]; rfl
  · rw [if_neg hh, if_neg hh]; rfl

/-- The word of −∞. -/
theorem minus_inf : Ideal.ofBits FTy.f32 0xFF800000#32 = (⊥ : EReal) := by
  simp [Ideal.ofBits, Ideal.ieee]

/-- A row's new maximum. -/
def mx (s : Fin 8 → FVec Ideal S688x688 .f32) (m : Vec Ideal S8x688x1 .f32) (h : Fin 8) (r : Fin 688) : EReal :=
  max (m (ix3 h r 0)) (Finset.univ.fold max ⊥ fun j : Fin 688 => s h (ix2 r j))

/-- The new maximum, at an index. -/
theorem mNew_at (s : Fin 8 → FVec Ideal S688x688 .f32) (m : Vec Ideal S8x688x1 .f32) (h : Fin 8) (r : Fin 688) :
    mNew s m (ix3 h r 0) = mx s m h r := by
  show mHead s m h (ix3 0 r 0) = _
  unfold mHead
  pointwise [k1_pay5, k1_pay3, k1_pay2]
  rw [minus_inf, head_at]
  rfl

/-- A row's new sums, in the columns of the values. -/
theorem aNew_at (s : Fin 8 → FVec Ideal S688x688 .f32) (v : Vec Ideal S1x688x1024 .f32) (m : Vec Ideal S8x688x1 .f32) (acc : Vec Ideal S8x688x256 .f32)
    (h : Fin 8) (r : Fin 688) (d : Fin 128) :
    aNew s v m acc (ix3 h r ⟨d.val, by have := d.isLt; omega⟩)
      = Ideal.exp2 (m (ix3 h r 0) - mx s m h r) * acc (ix3 h r ⟨d.val, by have := d.isLt; omega⟩)
        + ∑ j : Fin 688, Ideal.exp2 (s h (ix2 r j) - mx s m h r) * v (ix3 0 j (col h d)) := by
  have hd := d.isLt
  show aHead s v m acc h (ix3 0 r ⟨d.val, _⟩) = _
  unfold aHead
  pointwise [k1_pay4, k1_pay3, k1_pay2, k1_pay34, k1_pay32]
  rw [minus_inf, head_at, head_at]
  simp only [hd, dite_true, cols_at]
  rfl

/-- A row's new sum of weights, in the column of ones. -/
theorem zNew_at (s : Fin 8 → FVec Ideal S688x688 .f32) (v : Vec Ideal S1x688x1024 .f32) (m : Vec Ideal S8x688x1 .f32) (acc : Vec Ideal S8x688x256 .f32)
    (h : Fin 8) (r : Fin 688) :
    aNew s v m acc (ix3 h r 128)
      = Ideal.exp2 (m (ix3 h r 0) - mx s m h r) * acc (ix3 h r 128)
        + ∑ j : Fin 688, Ideal.exp2 (s h (ix2 r j) - mx s m h r) * ((1 : ℝ) : EReal) := by
  show aHead s v m acc h (ix3 0 r 128) = _
  have one : (FloatOps.sitofp FTy.f32 (BitVec.setWidth 32 1#1) : Ideal .f32) = ((1 : ℝ) : EReal) := by
    show (((((BitVec.setWidth 32 1#1).toInt : ℤ) : ℝ)) : EReal) = _
    have : (BitVec.setWidth 32 1#1).toInt = 1 := by decide
    rw [this]; simp
  unfold aHead
  pointwise [k1_pay4, k1_pay3, k1_pay2, k1_pay34, k1_pay32]
  rw [minus_inf, head_at, head_at]
  simp only [one]
  rfl

/-- A row's result: the sums of the values by the sum of the weights. -/
theorem oNew_at (acc : Vec Ideal S8x688x256 .f32) (h : Fin 8) (r : Fin 688) (d : Fin 128) :
    oNew acc (ix3 0 r (col h d)) = Ideal.div (acc (ix3 h r ⟨d.val, by have := d.isLt; omega⟩)) (acc (ix3 h r 128)) := by
  have e := sides_emb (oHead acc) h (ix3 0 r d)
  have e' : (colR h).emb (ix3 0 r d) = (ix3 0 r (col h d) : S1x688x1024.Idx) := by
    funext a
    apply Fin.ext
    fin_cases a
    · rfl
    · show 0 + 1 * r.val = r.val; omega
    · show 128 * h.val + 1 * d.val = 128 * h.val + d.val; omega
  rw [e'] at e
  refine e.symm.trans ?_
  unfold oHead
  pointwise [k1_pay140]
  rw [head_at, head_at]

/-- The running maximum starts at minus infinity. -/
theorem start_m (h : Fin 8) (r : Fin 688) : (k1_pay8 (F := Ideal)) (ix3 h r 0) = (⊥ : EReal) := by
  pointwise [k1_pay8]
  exact neg_big

/-- The running sums start at zero. -/
theorem start_a (h : Fin 8) (r : Fin 688) (l : Fin 256) : (k1_pay9 (F := Ideal)) (ix3 h r l) = (0 : EReal) := by
  pointwise [k1_pay9]

end Cert.Proof.Val

end
-- ==== Proof.Val.Lanes.lean ====
module

public import proofs.«01_k».proof.Proof.Cum.Step
public import Idealize.ShloMosaic.Lib.Pointwise
public import Idealize.ShloMosaic.PureOps.IdealRules

@[expose] public section

set_option maxRecDepth 16384

noncomputable section

namespace Cert.Proof.Val

open Cert.KernelIdeal Cert.KernelIdeal.Gen Cert.Proof.Cum
open Idealize.ShloMosaic Idealize.ShloMosaic.TcCoe

/-- The constant under its name. -/
theorem root : (Named.named Cert.KernelIdeal.κ "root" 0x413504F3#32 : Ideal .f32) = ((Real.sqrt 128 : ℝ) : EReal) :=
  IdealRules.named_const.ideal_named_scalar _ _ _ _ rfl

/-- The divisor eight is not replaced by one. -/
theorem sel8 : Scalar.select (Scalar.cmpi CmpIPredicate.eq 8#32 0#32) 1#32 8#32 = 8#32 := by decide
/-- Eight is not negative. -/
theorem neg8 : Scalar.cmpi CmpIPredicate.slt 8#32 0#32 = 0#1 := by decide

/-- The lane within its group of eight, as the kernel computes it. -/
theorem mod_word (l : Fin 128) : (Scalar.select
      (IntOp.andi
        (IntOp.xori (IntOp.cmpi CmpIPredicate.slt (IntOp.remsi ArithUnit.vector (BitVec.ofNat 32 l.val) 8#32) 0#32) 0#1)
        (IntOp.cmpi CmpIPredicate.ne (IntOp.remsi ArithUnit.vector (BitVec.ofNat 32 l.val) 8#32) 0#32))
      (IntOp.addi (IntOp.remsi ArithUnit.vector (BitVec.ofNat 32 l.val) 8#32) 8#32)
      (IntOp.remsi ArithUnit.vector (BitVec.ofNat 32 l.val) 8#32)) = BitVec.ofNat 32 (l.val % 8) := by
  revert l; decide +kernel

/-- The column number, at an index. -/
theorem colsI_at (x l : Fin 128) : colsI (ix2 x l) = BitVec.ofNat 32 l.val := by
  unfold colsI
  pointwise []

/-- The matrix that sends a head's sum to its lanes, first eight heads. -/
theorem grp0_at (x l : Fin 128) : grp0 (ix2 x l) = if x.val = 0 + l.val / 8 ∧ l.val < 64 then 1#1 else 0#1 := by
  unfold grp0
  pointwise [k0_pay32, k0_pay30, k0_pay31, rowsI, colsI]
  revert x l; decide +kernel
/-- The same, as it is written where it is first used. -/
theorem grp0_first (x l : Fin 128) : k0_pay32 rowsI colsI 8#32 (k0_pay30 colsI) (k0_pay31 colsI) (Scalar.extui (Scalar.cmpi .sgt 8#32 0#32)) (ix2 x l) =
    if x.val = 0 + l.val / 8 ∧ l.val < 64 then 1#1 else 0#1 := grp0_at x l
/-- The matrix that sends a head's sum to its lanes, last eight heads. -/
theorem grp1_at (x l : Fin 128) : grp1 (ix2 x l) = if x.val = 8 + l.val / 8 ∧ l.val < 64 then 1#1 else 0#1 := by
  unfold grp1
  pointwise [k0_pay42, rowsI, colsI]
  revert x l; decide +kernel

/-- A bit made a float. -/
theorem bit_at (p : Prop) [Decidable p] : (FloatOps.sitofp FTy.f32 (BitVec.setWidth 32 (if p then 1#1 else 0#1)) : Ideal .f32) = if p then (1 : EReal) else 0 := by
  by_cases h : p
  · rw [if_pos h, if_pos h]
    show (((BitVec.setWidth 32 1#1).toInt : ℝ) : EReal) = 1
    have : (BitVec.setWidth 32 1#1).toInt = 1 := by decide
    rw [this]; simp
  · rw [if_neg h, if_neg h]
    show (((BitVec.setWidth 32 0#1).toInt : ℝ) : EReal) = 0
    have : (BitVec.setWidth 32 0#1).toInt = 0 := by decide
    rw [this]; simp

/-- Equality of small words is equality of the numbers. -/
theorem ofNat_eq (n c : ℕ) (hn : n < 8) (hc : c < 8) : IntOp.cmpi CmpIPredicate.eq (BitVec.ofNat 32 n) (BitVec.ofNat 32 c) = if n = c then 1#1 else 0#1 := by
  interval_cases n <;> interval_cases c <;> decide

/-- The conjunction of two bits that decide propositions. -/
theorem and_if (p q : Prop) [Decidable p] [Decidable q] : IntOp.andi (if p then 1#1 else 0#1) (if q then 1#1 else 0#1) = if p ∧ q then 1#1 else 0#1 := by
  by_cases hp : p <;> by_cases hq : q <;> simp [hp, hq] <;> decide

/-- A row of the array times a selection matrix: the one entry that is selected. -/
theorem pick (f : Fin 128 → EReal) (o c : ℕ) (l : Fin 128) (ho : o + 8 ≤ 128) (hc : c < 8) :
    ∑ x : Fin 128, f x * (FloatOps.sitofp FTy.f32 (BitVec.setWidth 32 (IntOp.andi (if x.val = o + l.val / 8 ∧ l.val < 64 then 1#1 else 0#1)
      (IntOp.cmpi CmpIPredicate.eq (BitVec.ofNat 32 (l.val % 8)) (BitVec.ofNat 32 c)))) : Ideal .f32) =
      if h : l.val < 64 ∧ l.val % 8 = c then f ⟨o + l.val / 8, by omega⟩ else 0 := by
  simp only [ofNat_eq (l.val % 8) c (by omega) hc, and_if, bit_at]
  by_cases h : l.val < 64 ∧ l.val % 8 = c
  · rw [dif_pos h, Finset.sum_eq_single (⟨o + l.val / 8, by omega⟩ : Fin 128)]
    · rw [if_pos ⟨⟨rfl, h.1⟩, h.2⟩]; exact mul_one _
    · intro x _ hx
      rw [if_neg (fun e => hx (Fin.ext e.1.1))]; exact mul_zero _
    · intro e; exact absurd (Finset.mem_univ _) e
  · rw [dif_neg h]
    refine Finset.sum_eq_zero fun x _ => ?_
    rw [if_neg (fun e => h ⟨e.1.2, e.2⟩)]; exact mul_zero _

/-- The first part of a split sum is the whole sum. -/
theorem hi_at (t : Vec Ideal S2064x128 .f32) (r : Fin 2064) (l : Fin 128) (A : ℝ) (h : t (ix2 r l) = (A : EReal)) :
    k0_pay20 t (ix2 r l) = ((A * Real.sqrt 128 : ℝ) : EReal) := by
  pointwise [k0_pay20, k0_pay19]
  rw [root, h]; exact (EReal.coe_mul _ _).symm
/-- The second part of a split sum is zero. -/
theorem mid_at (t : Vec Ideal S2064x128 .f32) (r : Fin 2064) (l : Fin 128) (A : ℝ) (h : t (ix2 r l) = (A : EReal)) :
    k0_pay22 t (ix2 r l) = 0 := by
  pointwise [k0_pay22, k0_pay21, k0_pay20, k0_pay19]
  rw [root, h, ← EReal.coe_mul, ← EReal.coe_sub, sub_self]; rfl
/-- The third part of a split sum is zero. -/
theorem lo_at (t : Vec Ideal S2064x128 .f32) (r : Fin 2064) (l : Fin 128) (A : ℝ) (h : t (ix2 r l) = (A : EReal)) :
    k0_pay23 t (ix2 r l) = 0 := by
  pointwise [k0_pay23, k0_pay22, k0_pay21, k0_pay20, k0_pay19]
  rw [root, h, ← EReal.coe_mul, ← EReal.coe_sub, sub_self, ← EReal.coe_sub, sub_self]; rfl

/-- Whether a lane is used, as a bit. -/
theorem below64 (r : Fin 2064) (l : Fin 128) : k0_pay24 (ix2 r l) = if l.val < 64 then 1#1 else 0#1 := by
  pointwise [k0_pay24]
  revert l; decide +kernel
/-- Comparing a lane number with 64. -/
theorem below64_word (l : Fin 128) : IntOp.cmpi CmpIPredicate.slt (BitVec.ofNat 32 l.val) 64#32 = if l.val < 64 then 1#1 else 0#1 := by
  revert l; decide +kernel
/-- The order of small words is the order of the numbers. -/
theorem lt_word (n c : ℕ) (hn : n < 8) (hc : c < 8) : IntOp.cmpi CmpIPredicate.slt (BitVec.ofNat 32 n) (BitVec.ofNat 32 c) = if n < c then 1#1 else 0#1 := by
  interval_cases n <;> interval_cases c <;> decide
/-- The reverse order of small words is that of the numbers. -/
theorem ge_word (n c : ℕ) (hn : n < 8) (hc : c < 8) : IntOp.cmpi CmpIPredicate.sge (BitVec.ofNat 32 n) (BitVec.ofNat 32 c) = if c ≤ n then 1#1 else 0#1 := by
  interval_cases n <;> interval_cases c <;> decide

/-- The queries' ones stand in lanes three to five of each group. -/
theorem onesQ_at (r : Fin 2064) (l : Fin 128) : (onesQ (F := Ideal)) (ix2 r l) = if (l.val < 64 ∧ 3 ≤ l.val % 8) ∧ l.val % 8 < 6 then (1 : EReal) else 0 := by
  unfold onesQ
  pointwise [k0_pay28, k0_pay25, k0_pay26, k0_pay27]
  simp only [sel8, neg8, mod_word, below64, lt_word (l.val % 8) 6 (by omega) (by omega), ge_word (l.val % 8) 3 (by omega) (by omega), and_if, bit_at]
/-- The keys' ones stand in lanes nought to two of each group. -/
theorem onesK_at (r : Fin 2064) (l : Fin 128) : (onesK (F := Ideal)) (ix2 r l) = if l.val < 64 ∧ l.val % 8 < 3 then (1 : EReal) else 0 := by
  unfold onesK
  pointwise [k0_pay29, k0_pay24]
  simp only [sel8, neg8, mod_word, below64_word, lt_word (l.val % 8) 3 (by omega) (by omega), and_if, bit_at]

/-- What the query lanes hold: a head's scaled sum, then ones. -/
def laneQ (A : ℕ → ℝ) (l : ℕ) : ℝ := if l < 64 ∧ l % 8 = 0 then A (l / 8) else if (l < 64 ∧ 3 ≤ l % 8) ∧ l % 8 < 6 then 1 else 0
/-- What the key lanes hold: ones, then a head's scaled sum, negated. -/
def laneK (A : ℕ → ℝ) (l : ℕ) : ℝ := if l < 64 ∧ l % 8 < 3 then 1 else if l < 64 ∧ l % 8 = 3 then - A (l / 8) else 0

/-- A query lane from its two parts: the sum where it belongs, and the ones. -/
theorem laneQ_sum (A : ℕ → ℝ) (l : ℕ) (a : EReal) (ha : l < 64 ∧ l % 8 = 0 → a = A (l / 8)) :
    (if _h : l < 64 ∧ l % 8 = 0 then a else 0) + 0 + 0 + (if (l < 64 ∧ 3 ≤ l % 8) ∧ l % 8 < 6 then (1 : EReal) else 0) = ((laneQ A l : ℝ) : EReal) := by
  unfold laneQ
  by_cases h : l < 64 ∧ l % 8 = 0
  · rw [dif_pos h, if_pos h, if_neg (by omega), ha h]; simp
  · rw [dif_neg h, if_neg h]
    split_ifs <;> simp

/-- A key lane from its two parts: the ones, less the sum where it belongs. -/
theorem laneK_sum (A : ℕ → ℝ) (l : ℕ) (a : EReal) (ha : l < 64 ∧ l % 8 = 3 → a = A (l / 8)) :
    (if l < 64 ∧ l % 8 < 3 then (1 : EReal) else 0) - ((if _h : l < 64 ∧ l % 8 = 3 then a else 0) + 0 + 0) = ((laneK A l : ℝ) : EReal) := by
  unfold laneK
  by_cases h : l < 64 ∧ l % 8 = 3
  · rw [dif_pos h, if_neg (by omega), if_neg (by omega), if_pos h, ha h]; simp
  · rw [dif_neg h, if_neg h]
    split_ifs <;> simp

section Halves

variable (t : Vec Ideal S2064x128 .f32) (r : Fin 2064) (T : ℕ → ℝ) (hT : ∀ x : Fin 128, t (ix2 r x) = ((T x.val : ℝ) : EReal)) (l : Fin 128)
include hT

/-- The query lanes of the first eight heads. -/
theorem augQ0_at : augQ0 t (ix4 0 0 r l) = ((laneQ (fun h => T (0 + h) * Real.sqrt 128) l.val : ℝ) : EReal) := by
  unfold augQ0
  pointwise [k0_pay40, k0_pay36, k0_pay34, k0_pay35, k0_pay33]
  simp only [sel8, neg8, colsI_at, mod_word, grp0_at, grp0_first, onesQ_at, fun x => mid_at t r x _ (hT x), fun x => lo_at t r x _ (hT x), fun x => hi_at t r x _ (hT x),
    zero_mul, Finset.sum_const_zero]
  rw [pick _ 0 0 l (by omega) (by omega)]
  have e := laneQ_sum (fun h => T (0 + h) * Real.sqrt 128) l.val _ fun _ => rfl
  simp only [Nat.zero_add] at e ⊢
  exact e
/-- The key lanes of the first eight heads. -/
theorem augK0_at : augK0 t (ix4 0 0 r l) = ((laneK (fun h => T (0 + h) * Real.sqrt 128) l.val : ℝ) : EReal) := by
  unfold augK0
  pointwise [k0_pay41, k0_pay37, k0_pay38, k0_pay39]
  simp only [sel8, neg8, colsI_at, mod_word, grp0_at, grp0_first, onesK_at, fun x => mid_at t r x _ (hT x), fun x => lo_at t r x _ (hT x), fun x => hi_at t r x _ (hT x),
    zero_mul, Finset.sum_const_zero]
  rw [pick _ 0 3 l (by omega) (by omega)]
  have e := laneK_sum (fun h => T (0 + h) * Real.sqrt 128) l.val _ fun _ => rfl
  simp only [Nat.zero_add] at e ⊢
  exact e
/-- The query lanes of the last eight heads. -/
theorem augQ1_at : augQ1 t (ix4 0 0 r l) = ((laneQ (fun h => T (8 + h) * Real.sqrt 128) l.val : ℝ) : EReal) := by
  unfold augQ1
  pointwise [k0_pay1, k0_pay55, k0_pay50, k0_pay46, k0_pay43, k0_pay44, k0_pay45, k0_pay47, k0_pay48, k0_pay49]
  simp only [sel8, neg8, colsI_at, mod_word, grp1_at, onesQ_at, fun x => mid_at t r x _ (hT x), fun x => lo_at t r x _ (hT x), fun x => hi_at t r x _ (hT x),
    zero_mul, Finset.sum_const_zero]
  rw [pick _ 8 0 l (by omega) (by omega)]
  exact laneQ_sum (fun h => T (8 + h) * Real.sqrt 128) l.val _ fun _ => rfl
/-- The key lanes of the last eight heads. -/
theorem augK1_at : augK1 t (ix4 0 0 r l) = ((laneK (fun h => T (8 + h) * Real.sqrt 128) l.val : ℝ) : EReal) := by
  unfold augK1
  pointwise [k0_pay2, k0_pay54, k0_pay51, k0_pay52, k0_pay53]
  simp only [sel8, neg8, colsI_at, mod_word, grp1_at, onesK_at, fun x => mid_at t r x _ (hT x), fun x => lo_at t r x _ (hT x), fun x => hi_at t r x _ (hT x),
    zero_mul, Finset.sum_const_zero]
  rw [pick _ 8 3 l (by omega) (by omega)]
  exact laneK_sum (fun h => T (8 + h) * Real.sqrt 128) l.val _ fun _ => rfl

end Halves

/-- Over a head's lanes the products add up to the difference of the two sums. -/
theorem lanes_sum (A B : ℕ → ℝ) (h : Fin 8) :
    (∑ l : Fin 128, if l.val / 8 = h.val then ((laneQ A l.val : ℝ) : EReal) * ((laneK B l.val : ℝ) : EReal) else 0) = ((A h.val - B h.val : ℝ) : EReal) := by
  have hl : ∀ l : Fin 128, (if l.val / 8 = h.val then ((laneQ A l.val : ℝ) : EReal) * ((laneK B l.val : ℝ) : EReal) else 0) =
      (if l = ⟨8 * h.val, by omega⟩ then ((A h.val : ℝ) : EReal) else 0) + (if l = ⟨8 * h.val + 3, by omega⟩ then ((- B h.val : ℝ) : EReal) else 0) := by
    intro l
    simp only [Fin.ext_iff]
    by_cases e : l.val / 8 = h.val
    · rw [if_pos e]
      by_cases e0 : l.val = 8 * h.val
      · rw [if_pos e0, if_neg (by omega), laneQ, laneK, if_pos (by omega), if_pos (by omega), e]; simp
      · rw [if_neg e0]
        by_cases e3 : l.val = 8 * h.val + 3
        · rw [if_pos e3, laneQ, laneK, if_neg (by omega), if_pos (by omega), if_neg (by omega), if_pos (by omega), e]; simp
        · rw [if_neg e3]
          by_cases e12 : l.val % 8 < 3
          · rw [laneQ, if_neg (by omega), if_neg (by omega)]; simp
          · rw [laneK, if_neg (by omega), if_neg (by omega)]; simp
    · rw [if_neg e, if_neg (by omega), if_neg (by omega)]; simp
  rw [Finset.sum_congr rfl fun l _ => hl l, Finset.sum_add_distrib, Finset.sum_ite_eq' , Finset.sum_ite_eq', if_pos (Finset.mem_univ _), if_pos (Finset.mem_univ _),
    ← EReal.coe_add, sub_eq_add_neg]

end Cert.Proof.Val

end
-- ==== Proof.Val.Spec.lean ====
module

public import Idealize.ShloMosaic.PureOps.IdealRules

@[expose] public section

noncomputable section

namespace Cert.Proof.Val

/-- The running sum of a head's forget logits. -/
def sums (L : ℕ → ℕ → ℕ → ℝ) (b n t : ℕ) : ℝ := ∑ i ∈ Finset.range (t + 1), L b i n

/-- A score: the scaled product of a query and a key, plus the forget logits summed over what lies between. -/
def score (Q K L : ℕ → ℕ → ℕ → ℝ) (b n t u : ℕ) : ℝ :=
  (∑ d : Fin 128, Q b t (128 * n + d.val) * K b u (128 * n + d.val)) * (Real.sqrt 128)⁻¹ + sums L b n t - sums L b n u

/-- The exponentials of the scores of the first `m` keys that the query sees, each times its `v`, added up. -/
def upTo (σ v : ℕ → ℝ) (t m : ℕ) : ℝ := ∑ u ∈ Finset.range m, if u ≤ t then Real.exp (σ u) * v u else 0

/-- One entry of the attention's output. -/
def attn (Q K V L : ℕ → ℕ → ℕ → ℝ) (b n t d : ℕ) : ℝ :=
  upTo (score Q K L b n t) (fun u => V b u (128 * n + d)) t 2064 / upTo (score Q K L b n t) (fun _ => 1) t 2064

/-- The keys beyond the query add nothing. -/
theorem upTo_past (σ v : ℕ → ℝ) (t m k : ℕ) (h : t < m) (hk : m ≤ k) : upTo σ v t k = upTo σ v t m := by
  unfold upTo
  symm
  refine Finset.sum_subset (Finset.range_mono hk) fun u _ hu => if_neg ?_
  rw [Finset.mem_range] at hu
  omega

/-- The sum over a further block of keys. -/
theorem upTo_add (σ v : ℕ → ℝ) (t m n : ℕ) :
    upTo σ v t (m + n) = upTo σ v t m + ∑ j : Fin n, if m + j.val ≤ t then Real.exp (σ (m + j.val)) * v (m + j.val) else 0 := by
  unfold upTo
  rw [Finset.sum_range_add, Fin.sum_univ_eq_sum_range (fun j => if m + j ≤ t then Real.exp (σ (m + j)) * v (m + j) else 0) n]

/-- Over no keys the sum is zero. -/
theorem upTo_none (σ v : ℕ → ℝ) (t : ℕ) : upTo σ v t 0 = 0 := rfl

/-- The weights add up to something other than zero. -/
theorem upTo_ne_zero (σ : ℕ → ℝ) (t m : ℕ) (h : t < m) : upTo σ (fun _ => 1) t m ≠ 0 := by
  refine ne_of_gt ?_
  unfold upTo
  refine Finset.sum_pos' (fun u _ => ?_) ⟨t, Finset.mem_range.2 h, ?_⟩
  · split_ifs
    · positivity
    · exact le_rfl
  · rw [if_pos le_rfl]; positivity

end Cert.Proof.Val

end
-- ==== Proof.Val.Online.lean ====
module

public import Idealize.ShloMosaic.PureOps.Ideal
public import Mathlib.Analysis.SpecialFunctions.Pow.Real

@[expose] public section

noncomputable section

namespace Cert.Proof.Val

open Idealize.ShloMosaic

/-- A score in base two where the key is visible, −∞ where it is not. -/
def sc (vis : Prop) [Decidable vis] (σ : ℝ) : EReal := if vis then ((σ / Real.log 2 : ℝ) : EReal) else ⊥

/-- A running maximum `m` and a running sum `a` stand for the plain sum `N`: nothing has been seen, or `a` is `N`
    scaled down by two to the power of the maximum. -/
def Stands (m a : EReal) (N : ℝ) : Prop :=
  (m = ⊥ ∧ a = 0 ∧ N = 0) ∨ ∃ M : ℝ, m = (M : EReal) ∧ a = ((N * Real.rpow 2 (-M) : ℝ) : EReal)

/-- Nothing seen stands for zero. -/
theorem stands_start : Stands ⊥ 0 0 := .inl ⟨rfl, rfl, rfl⟩

/-- Two to the power of a base-two score, less a maximum. -/
theorem two_pow (σ M : ℝ) : Real.rpow 2 (σ / Real.log 2 - M) = Real.exp σ * Real.rpow 2 (-M) := by
  have h2 : (0 : ℝ) < 2 := by norm_num
  have hl : Real.log 2 ≠ 0 := (Real.log_pos (by norm_num)).ne'
  show (2 : ℝ) ^ (σ / Real.log 2 - M) = Real.exp σ * (2 : ℝ) ^ (-M)
  rw [sub_eq_add_neg, Real.rpow_add h2]
  congr 1
  rw [Real.rpow_def_of_pos h2]
  congr 1
  field_simp

/-- Rescaling from one maximum to another. -/
theorem two_pow_sub (M M' : ℝ) : Real.rpow 2 (M - M') * Real.rpow 2 (-M) = Real.rpow 2 (-M') := by
  have h2 : (0 : ℝ) < 2 := by norm_num
  show (2 : ℝ) ^ (M - M') * (2 : ℝ) ^ (-M) = (2 : ℝ) ^ (-M')
  rw [← Real.rpow_add h2]
  congr 1
  ring

/-- A sum of reals is the real of the sum. -/
theorem coe_sum {ι : Type} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- One step of the running sum under any new real maximum. -/
theorem step {n : ℕ} (vis : Fin n → Prop) [DecidablePred vis] (σ v : Fin n → ℝ) (m a : EReal) (N M' : ℝ) (h : Stands m a N) :
    Ideal.exp2 (m - (M' : EReal)) * a + ∑ j, Ideal.exp2 (sc (vis j) (σ j) - (M' : EReal)) * ((v j : ℝ) : EReal)
      = (((N + ∑ j, if vis j then Real.exp (σ j) * v j else 0) * Real.rpow 2 (-M') : ℝ) : EReal) := by
  have hs : ∀ j, Ideal.exp2 (sc (vis j) (σ j) - (M' : EReal)) * ((v j : ℝ) : EReal)
      = (((if vis j then Real.exp (σ j) * v j else 0) * Real.rpow 2 (-M') : ℝ) : EReal) := by
    intro j
    unfold sc
    by_cases hv : vis j
    · rw [if_pos hv, if_pos hv, ← EReal.coe_sub, Ideal.exp2_coe, two_pow, ← EReal.coe_mul]
      congr 1; ring
    · rw [if_neg hv, if_neg hv, EReal.bot_sub, Ideal.exp2_bot, zero_mul, zero_mul, EReal.coe_zero]
  rw [Finset.sum_congr rfl fun j _ => hs j, coe_sum, ← Finset.sum_mul]
  rcases h with ⟨hm, ha, hN⟩ | ⟨M, hm, ha⟩
  · rw [ha, mul_zero, hN, zero_add, zero_add]
  · rw [hm, ha, ← EReal.coe_sub, Ideal.exp2_coe, ← EReal.coe_mul, ← EReal.coe_add]
    congr 1
    have := two_pow_sub M M'
    rw [add_mul, ← this]
    ring

/-- A maximum over a row with a visible key, against an earlier maximum, is a real. -/
theorem max_real {n : ℕ} (vis : Fin n → Prop) [DecidablePred vis] (σ : Fin n → ℝ) (m : EReal) (hm : m ≠ ⊤) (hv : ∃ j, vis j) :
    ∃ M : ℝ, max m (Finset.univ.fold max ⊥ fun j => sc (vis j) (σ j)) = (M : EReal) := by
  have h1 : max m (Finset.univ.fold max ⊥ fun j => sc (vis j) (σ j)) ≠ ⊤ := by
    refine (max_lt hm.lt_top ((Finset.fold_max_lt _).mpr ⟨bot_lt_top, fun j _ => ?_⟩)).ne
    unfold sc
    split
    · exact EReal.coe_lt_top _
    · exact bot_lt_top
  have h2 : max m (Finset.univ.fold max ⊥ fun j => sc (vis j) (σ j)) ≠ ⊥ := by
    obtain ⟨j, hj⟩ := hv
    refine (lt_of_lt_of_le ?_ (le_max_right _ _)).ne'
    refine (Finset.lt_fold_max _).mpr (.inr ⟨j, Finset.mem_univ _, ?_⟩)
    unfold sc
    rw [if_pos hj]
    exact EReal.bot_lt_coe _
  exact ⟨_, (EReal.coe_toReal h1 h2).symm⟩

/-- A running maximum is not infinity. -/
theorem Stands.ne_top {m a : EReal} {N : ℝ} (h : Stands m a N) : m ≠ ⊤ := by
  rcases h with ⟨hm, -, -⟩ | ⟨M, hm, -⟩
  · rw [hm]; exact bot_ne_top
  · rw [hm]; exact EReal.coe_ne_top M

/-- One step: the new maximum and the new sum stand for the old plain sum and the visible keys' terms. -/
theorem stands_step {n : ℕ} (vis : Fin n → Prop) [DecidablePred vis] (σ v : Fin n → ℝ) (m a m' : EReal) (N : ℝ) (hv : ∃ j, vis j)
    (h : Stands m a N) (hm' : m' = max m (Finset.univ.fold max ⊥ fun j => sc (vis j) (σ j))) :
    (∃ M : ℝ, m' = (M : EReal)) ∧ Stands m' (Ideal.exp2 (m - m') * a + ∑ j, Ideal.exp2 (sc (vis j) (σ j) - m') * ((v j : ℝ) : EReal))
      (N + ∑ j, if vis j then Real.exp (σ j) * v j else 0) := by
  obtain ⟨M, hM⟩ := max_real vis σ m h.ne_top hv
  rw [hM] at hm'
  subst hm'
  exact ⟨⟨M, rfl⟩, .inr ⟨M, rfl, step vis σ v m a N M h⟩⟩

/-- The quotient of two sums under the same maximum is the quotient of the plain sums. -/
theorem quotient (m a z : EReal) (N Z : ℝ) (hm : ∃ M : ℝ, m = (M : EReal)) (ha : Stands m a N) (hz : Stands m z Z) (hZ : Z ≠ 0) :
    Ideal.div a z = ((N / Z : ℝ) : EReal) := by
  obtain ⟨M, hM⟩ := hm
  have key : ∀ (a : EReal) (N : ℝ), Stands m a N → a = ((N * Real.rpow 2 (-M) : ℝ) : EReal) := by
    intro a N h
    rcases h with ⟨h, -, -⟩ | ⟨M1, h, h'⟩
    · rw [hM] at h; exact absurd h (EReal.coe_ne_bot M)
    · rw [hM] at h
      rw [EReal.coe_eq_coe_iff.mp h]
      exact h'
  have hp : Real.rpow 2 (-M) ≠ 0 := (Real.rpow_pos_of_pos (by norm_num : (0 : ℝ) < 2) (-M)).ne'
  rw [key a N ha, key z Z hz, Ideal.div_coe (mul_ne_zero hZ hp), ← EReal.coe_mul]
  congr 1
  field_simp

/-- The plain softmax with any real subtracted: a weighted sum of quotients is the quotient of the sums. -/
theorem softmax {n : ℕ} (vis : Fin n → Prop) [DecidablePred vis] (σ v : Fin n → ℝ) (M : ℝ) (hv : ∃ j, vis j) :
    ∑ j, ((v j : ℝ) : EReal) * Ideal.div (Ideal.exp ((if vis j then ((σ j : ℝ) : EReal) else ⊥) - (M : EReal)))
        (∑ i, Ideal.exp ((if vis i then ((σ i : ℝ) : EReal) else ⊥) - (M : EReal)))
      = (((∑ j, if vis j then Real.exp (σ j) * v j else 0) / (∑ j, if vis j then Real.exp (σ j) else 0) : ℝ) : EReal) := by
  have he : ∀ j, Ideal.exp ((if vis j then ((σ j : ℝ) : EReal) else ⊥) - (M : EReal))
      = (((if vis j then Real.exp (σ j) else 0) * Real.exp (-M) : ℝ) : EReal) := by
    intro j
    by_cases h : vis j
    · rw [if_pos h, if_pos h, ← EReal.coe_sub, Ideal.exp_coe, sub_eq_add_neg, Real.exp_add]
    · rw [if_neg h, if_neg h, EReal.bot_sub, Ideal.exp_bot, zero_mul, EReal.coe_zero]
  have hZ : (∑ j, if vis j then Real.exp (σ j) else 0) ≠ 0 := by
    obtain ⟨j, hj⟩ := hv
    refine (Finset.sum_pos' (fun i _ => ?_) ⟨j, Finset.mem_univ _, ?_⟩).ne'
    · split
      · exact (Real.exp_pos _).le
      · exact le_rfl
    · rw [if_pos hj]; exact Real.exp_pos _
  have hp := (Real.exp_pos (-M)).ne'
  simp only [he]
  rw [coe_sum, ← Finset.sum_mul]
  simp only [Ideal.div_coe (mul_ne_zero hZ hp), ← EReal.coe_mul]
  rw [coe_sum]
  congr 1
  rw [Finset.sum_div]
  refine Finset.sum_congr rfl fun j _ => ?_
  by_cases h : vis j
  · simp only [if_pos h]; field_simp
  · simp only [if_neg h]; simp

end Cert.Proof.Val

end
-- ==== Proof.Val.FoxStep.lean ====
module

public import proofs.«01_k».proof.Proof.Val.FoxRead
public import proofs.«01_k».proof.Proof.Val.Lanes
public import proofs.«01_k».proof.Proof.Val.Spec
public import proofs.«01_k».proof.Proof.Val.Online

@[expose] public section

set_option maxRecDepth 16384

noncomputable section

namespace Cert.Proof.Val

open Cert.KernelIdeal Cert.KernelIdeal.Gen Cert.Proof.Fox
open Idealize.ShloMosaic Idealize.ShloMosaic.TcCoe

variable (Q K V L : ℕ → ℕ → ℕ → ℝ)

/-- The block `x` holds the rows from `688 · i` on, and the columns of head group `g`, of batch `b` of `X`. -/
def Holds (X : ℕ → ℕ → ℕ → ℝ) (b g i : ℕ) (x : Vec Ideal S1x688x1024 .f32) : Prop :=
  ∀ (r : Fin 688) (l : Fin 1024), x (ix3 0 r l) = ((X b (688 * i + r.val) (1024 * g + l.val) : ℝ) : EReal)

/-- The block `x` holds the query lanes of the same rows and heads. -/
def HoldsQ (b g i : ℕ) (x : Vec Ideal S1x1x688x128 .bf16) : Prop :=
  ∀ (r : Fin 688) (l : Fin 128), x (ix4 0 0 r l) = ((laneQ (fun h => sums L b (8 * g + h) (688 * i + r.val) * Real.sqrt 128) l.val : ℝ) : EReal)

/-- The block `x` holds the key lanes of the same rows and heads. -/
def HoldsK (b g i : ℕ) (x : Vec Ideal S1x1x688x128 .bf16) : Prop :=
  ∀ (r : Fin 688) (l : Fin 128), x (ix4 0 0 r l) = ((laneK (fun h => sums L b (8 * g + h) (688 * i + r.val) * Real.sqrt 128) l.val : ℝ) : EReal)

/-- A block's base-two scores are the scores over the logarithm of two. -/
theorem raw_real (b g i k : ℕ) (xk xq : Vec Ideal S1x688x1024 .f32) (ak aq : Vec Ideal S1x1x688x128 .bf16)
    (hq : Holds Q b g i xq) (hk : Holds K b g k xk) (haq : HoldsQ L b g i aq) (hak : HoldsK L b g k ak) (h : Fin 8) (r j : Fin 688) :
    raw xk xq ak aq h r j * ((((Real.sqrt 128) * (Real.log 2))⁻¹ : ℝ) : EReal)
      = ((score Q K L b (8 * g + h.val) (688 * i + r.val) (688 * k + j.val) / Real.log 2 : ℝ) : EReal) := by
  have e1 : (∑ d : Fin 128, (xq (ix3 0 r (col h d)) : EReal) * xk (ix3 0 j (col h d)))
      = ((∑ d : Fin 128, Q b (688 * i + r.val) (128 * (8 * g + h.val) + d.val) * K b (688 * k + j.val) (128 * (8 * g + h.val) + d.val) : ℝ) : EReal) := by
    rw [← coe_sum]
    refine Finset.sum_congr rfl fun d _ => ?_
    rw [hq r (col h d), hk j (col h d), ← EReal.coe_mul]
    have : 1024 * g + (col h d).val = 128 * (8 * g + h.val) + d.val := by show 1024 * g + (128 * h.val + d.val) = _; omega
    rw [this]
  have e2 : (∑ l : Fin 128, if l.val / 8 = h.val then (aq (ix4 0 0 r l) : EReal) * ak (ix4 0 0 j l) else 0)
      = ((sums L b (8 * g + h.val) (688 * i + r.val) * Real.sqrt 128 - sums L b (8 * g + h.val) (688 * k + j.val) * Real.sqrt 128 : ℝ) : EReal) := by
    refine Eq.trans (Finset.sum_congr rfl fun l _ => ?_) (lanes_sum (fun h => sums L b (8 * g + h) (688 * i + r.val) * Real.sqrt 128)
      (fun h => sums L b (8 * g + h) (688 * k + j.val) * Real.sqrt 128) h)
    rw [haq r l, hak j l]
  unfold raw
  rw [e1, e2, ← EReal.coe_add, ← EReal.coe_mul]
  congr 1
  have h128 : Real.sqrt 128 ≠ 0 := (Real.sqrt_pos.2 (by norm_num)).ne'
  have hl : Real.log 2 ≠ 0 := (Real.log_pos (by norm_num)).ne'
  unfold score
  field_simp
  ring

/-- Scores of a block: those of the keys each row sees, and minus infinity. -/
def Scores (b g i k : ℕ) (s : Fin 8 → FVec Ideal S688x688 .f32) : Prop :=
  ∀ (h : Fin 8) (r j : Fin 688), s h (ix2 r j)
    = sc (688 * k + j.val ≤ 688 * i + r.val) (score Q K L b (8 * g + h.val) (688 * i + r.val) (688 * k + j.val))

/-- Below the diagonal every key is seen. -/
theorem scores_below (b g i k : ℕ) (hki : k < i) (xk xq : Vec Ideal S1x688x1024 .f32) (ak aq : Vec Ideal S1x1x688x128 .bf16)
    (hq : Holds Q b g i xq) (hk : Holds K b g k xk) (haq : HoldsQ L b g i aq) (hak : HoldsK L b g k ak) :
    Scores Q K L b g i k (sHead xk ak (qaNew xq aq)) := fun h r j => by
  have := j.isLt
  rw [sHead_at, raw_real Q K L b g i k xk xq ak aq hq hk haq hak, sc, if_pos (by omega)]

/-- On the diagonal the keys up to the row are seen. -/
theorem scores_diag (b g i : ℕ) (xk xq : Vec Ideal S1x688x1024 .f32) (ak aq : Vec Ideal S1x1x688x128 .bf16)
    (hq : Holds Q b g i xq) (hk : Holds K b g i xk) (haq : HoldsQ L b g i aq) (hak : HoldsK L b g i ak) :
    Scores Q K L b g i i (sDiag xk ak (qaNew xq aq)) := fun h r j => by
  rw [sDiag_at, raw_real Q K L b g i i xk xq ak aq hq hk haq hak, sc]
  by_cases hv : j.val ≤ r.val
  · rw [if_pos hv, if_pos (by omega)]
  · rw [if_neg hv, if_neg (by omega)]

/-- The running maximum and sums of a query block stand for the plain sums over the first `M` keys. -/
def Good (b g i M : ℕ) (m : Vec Ideal S8x688x1 .f32) (acc : Vec Ideal S8x688x256 .f32) : Prop :=
  ∀ (h : Fin 8) (r : Fin 688),
    (∀ d : Fin 128, Stands (m (ix3 h r 0)) (acc (ix3 h r ⟨d.val, by have := d.isLt; omega⟩))
      (upTo (score Q K L b (8 * g + h.val) (688 * i + r.val)) (fun u => V b u (128 * (8 * g + h.val) + d.val)) (688 * i + r.val) M))
    ∧ Stands (m (ix3 h r 0)) (acc (ix3 h r 128)) (upTo (score Q K L b (8 * g + h.val) (688 * i + r.val)) (fun _ => 1) (688 * i + r.val) M)

/-- Every running maximum is a real number. -/
def RealMax (m : Vec Ideal S8x688x1 .f32) : Prop := ∀ (h : Fin 8) (r : Fin 688), ∃ M : ℝ, m (ix3 h r 0) = ((M : ℝ) : EReal)

/-- Before the first key the running maximum and sums stand for nothing. -/
theorem good_start (b g i : ℕ) : Good Q K V L b g i (688 * 0) (k1_pay8 (F := Ideal)) (k1_pay9 (F := Ideal)) := fun h r => by
  constructor
  · intro d
    rw [start_m, start_a]
    exact stands_start
  · rw [start_m, start_a]
    exact stands_start

/-- A key block's step. -/
theorem good_step (b g i k : ℕ) (hki : k ≤ i) (s : Fin 8 → FVec Ideal S688x688 .f32) (v : Vec Ideal S1x688x1024 .f32)
    (m : Vec Ideal S8x688x1 .f32) (acc : Vec Ideal S8x688x256 .f32) (hs : Scores Q K L b g i k s) (hv : Holds V b g k v)
    (hg : Good Q K V L b g i (688 * k) m acc) :
    Good Q K V L b g i (688 * (k + 1)) (mNew s m) (aNew s v m acc) ∧ RealMax (mNew s m) := by
  have hm : ∀ (h : Fin 8) (r : Fin 688), mx s m h r = max (m (ix3 h r 0)) (Finset.univ.fold max ⊥ fun j : Fin 688 =>
      sc (688 * k + j.val ≤ 688 * i + r.val) (score Q K L b (8 * g + h.val) (688 * i + r.val) (688 * k + j.val))) := by
    intro h r
    unfold mx
    congr 1
    congr 1
    funext j
    exact hs h r j
  have hvis : ∀ r : Fin 688, ∃ j : Fin 688, 688 * k + j.val ≤ 688 * i + r.val := fun r => ⟨0, by show 688 * k + 0 ≤ _; have := Nat.mul_le_mul_left 688 hki; omega⟩
  have key : ∀ (h : Fin 8) (r : Fin 688) (f : ℕ → ℝ) (a : EReal),
      Stands (m (ix3 h r 0)) a (upTo (score Q K L b (8 * g + h.val) (688 * i + r.val)) f (688 * i + r.val) (688 * k)) →
      (∃ M : ℝ, mx s m h r = ((M : ℝ) : EReal)) ∧
      Stands (mx s m h r) (Ideal.exp2 (m (ix3 h r 0) - mx s m h r) * a + ∑ j : Fin 688, Ideal.exp2 (s h (ix2 r j) - mx s m h r) * ((f (688 * k + j.val) : ℝ) : EReal))
        (upTo (score Q K L b (8 * g + h.val) (688 * i + r.val)) f (688 * i + r.val) (688 * (k + 1))) := by
    intro h r f a hst
    have e := stands_step (fun j : Fin 688 => 688 * k + j.val ≤ 688 * i + r.val) (fun j => score Q K L b (8 * g + h.val) (688 * i + r.val) (688 * k + j.val))
      (fun j => f (688 * k + j.val)) (m (ix3 h r 0)) a (mx s m h r) _ (hvis r) hst (hm h r)
    refine ⟨e.1, ?_⟩
    have e2 := e.2
    rw [show 688 * (k + 1) = 688 * k + 688 by omega, upTo_add]
    refine Eq.mp ?_ e2
    congr 2
    refine Finset.sum_congr rfl fun j _ => ?_
    rw [hs h r j]
  refine ⟨fun h r => ⟨fun d => ?_, ?_⟩, fun h r => ?_⟩
  · rw [mNew_at, aNew_at]
    have e := (key h r (fun u => V b u (128 * (8 * g + h.val) + d.val)) _ ((hg h r).1 d)).2
    refine Eq.mp ?_ e
    congr 2
    refine Finset.sum_congr rfl fun j _ => ?_
    rw [hv j (col h d)]
    have : 1024 * g + (col h d).val = 128 * (8 * g + h.val) + d.val := by show 1024 * g + (128 * h.val + d.val) = _; omega
    rw [this]
  · rw [mNew_at, zNew_at]
    exact (key h r (fun _ => 1) _ (hg h r).2).2
  · rw [mNew_at]
    exact (key h r (fun _ => 1) _ (hg h r).2).1

/-- After the diagonal block the output's block holds the attention's rows. -/
theorem good_out (b g i : ℕ) (hi : i < 3) (m : Vec Ideal S8x688x1 .f32) (acc : Vec Ideal S8x688x256 .f32)
    (hg : Good Q K V L b g i (688 * (i + 1)) m acc) (hm : RealMax m) (h : Fin 8) (r : Fin 688) (d : Fin 128) :
    oNew acc (ix3 0 r (col h d)) = ((attn Q K V L b (8 * g + h.val) (688 * i + r.val) d.val : ℝ) : EReal) := by
  have hr := r.isLt
  rw [oNew_at, quotient _ _ _ _ _ (hm h r) ((hg h r).1 d) (hg h r).2 (upTo_ne_zero _ _ _ (by omega))]
  unfold attn
  rw [upTo_past _ _ _ (688 * (i + 1)) 2064 (by omega) (by omega), upTo_past _ _ _ (688 * (i + 1)) 2064 (by omega) (by omega)]

end Cert.Proof.Val

end
-- ==== Proof.Val.FoxGrid.lean ====
module

public import proofs.«01_k».proof.Proof.Val.FoxStep
public import proofs.«01_k».proof.Proof.Fox.Data

@[expose] public section

set_option maxRecDepth 16384

noncomputable section

namespace Cert.Proof.Val

open Cert.KernelIdeal Cert.KernelIdeal.Gen Cert.Proof.Fox
open Idealize.ShloMosaic Idealize.ShloMosaic.TcCoe

variable (Q K V L : ℕ → ℕ → ℕ → ℝ) (W : Dev nD → Valuation τ sig (Elt Ideal)) (c : Dev nD)

/-- Every grid point's blocks hold what they should: the queries and their lanes of its query block, the keys, the values
    and the keys' lanes of its key block, or of the diagonal block where that comes first. -/
def Inputs : Prop := ∀ t : Fin cfg1.N,
  Holds Q (t.val / 18) (t.val / 9 % 2) (t.val / 3 % 3) (blk W c 0 t)
  ∧ Holds K (t.val / 18) (t.val / 9 % 2) (min (t.val % 3) (t.val / 3 % 3)) (blk W c 1 t)
  ∧ Holds V (t.val / 18) (t.val / 9 % 2) (min (t.val % 3) (t.val / 3 % 3)) (blk W c 2 t)
  ∧ HoldsQ L (t.val / 18) (t.val / 9 % 2) (t.val / 3 % 3) (blk W c 3 t)
  ∧ HoldsK L (t.val / 18) (t.val / 9 % 2) (min (t.val % 3) (t.val / 3 % 3)) (blk W c 4 t)

/-- What is carried stands for the plain sums of the keys seen so far, at key block `k` of query block `i`. -/
def Carried (b g i k : ℕ) (p : St Ideal) : Prop :=
  Good Q K V L b g i (688 * (k + 1)) p.1 p.2.1 ∧ RealMax p.1
    ∧ ∃ (xq : Vec Ideal S1x688x1024 .f32) (aq : Vec Ideal S1x1x688x128 .bf16), p.2.2.1 = qaNew xq aq ∧ Holds Q b g i xq ∧ HoldsQ L b g i aq

/-- What is carried has the attention's rows in the output's block. -/
def Done (b g i : ℕ) (p : St Ideal) : Prop := ∀ (h : Fin 8) (r : Fin 688) (d : Fin 128),
  p.2.2.2 (ix3 0 r (col h d)) = ((attn Q K V L b (8 * g + h.val) (688 * i + r.val) d.val : ℝ) : EReal)

/-- After each point: up to the diagonal the sums so far are carried, from the diagonal on the output's rows are done. -/
theorem grid_inv (hin : Inputs Q K V L W c) (n : ℕ) (hn : n < cfg1.N) :
    (n % 3 ≤ n / 3 % 3 → Carried Q K V L (n / 18) (n / 9 % 2) (n / 3 % 3) (n % 3) (stAt W c n hn))
    ∧ (n / 3 % 3 ≤ n % 3 → Done Q K V L (n / 18) (n / 9 % 2) (n / 3 % 3) (stAt W c n hn)) := by
  induction n using Nat.strongRecOn with
  | _ n ih =>
  obtain ⟨h0, h1, h2, h3, h4⟩ := hin ⟨n, hn⟩
  simp only at h0 h1 h2 h3 h4
  have hi : n / 3 % 3 < 3 := Nat.mod_lt _ (by norm_num)
  by_cases hk : n % 3 = 0
  · by_cases hd : n / 3 % 3 = n % 3
    · have e := stAt_A W c ⟨n, hn⟩ hk hd
      simp only at e
      rw [e]
      rw [show min (n % 3) (n / 3 % 3) = n / 3 % 3 by omega] at h1 h2 h4
      have hz : n / 3 % 3 = 0 := by omega
      have hs := scores_diag Q K L _ _ _ _ _ _ _ h0 h1 h3 h4
      have st := good_step Q K V L _ _ (n / 3 % 3) (n / 3 % 3) (Nat.le_refl _) _ _ _ _ hs h2 (by rw [hz]; exact good_start Q K V L _ _ _)
      refine ⟨fun _ => ⟨?_, st.2, _, _, rfl, h0, h3⟩, fun _ h r d => ?_⟩
      · rw [← hd]; exact st.1
      · exact good_out Q K V L _ _ _ hi _ _ st.1 st.2 h r d
    · have e := stAt_C W c ⟨n, hn⟩ hk hd
      simp only at e
      rw [e]
      rw [show min (n % 3) (n / 3 % 3) = n % 3 by omega] at h1 h2 h4
      have hs := scores_below Q K L _ _ _ _ (by omega) _ _ _ _ h0 h1 h3 h4
      have st := good_step Q K V L _ _ (n / 3 % 3) (n % 3) (by omega) _ _ _ _ hs h2 (by rw [hk]; exact good_start Q K V L _ _ _)
      exact ⟨fun _ => ⟨st.1, st.2, _, _, rfl, h0, h3⟩, fun h => absurd h (by omega)⟩
  · have hp : n - 1 < cfg1.N := Nat.lt_of_le_of_lt (Nat.sub_le _ _) hn
    obtain ⟨i1, i2⟩ := ih (n - 1) (by omega) hp
    rw [show (n - 1) / 18 = n / 18 by omega, show (n - 1) / 9 % 2 = n / 9 % 2 by omega, show (n - 1) / 3 % 3 = n / 3 % 3 by omega,
      show (n - 1) % 3 = n % 3 - 1 by omega] at i1 i2
    by_cases hb : n % 3 + 1 ≤ n / 3 % 3
    · have e := stAt_D W c ⟨n, hn⟩ hk hb
      simp only at e
      obtain ⟨g1, g2, xq, aq, hq, q1, q2⟩ := i1 (by omega)
      rw [e, hq]
      rw [show min (n % 3) (n / 3 % 3) = n % 3 by omega] at h1 h2 h4
      rw [show n % 3 - 1 + 1 = n % 3 by omega] at g1
      have hs := scores_below Q K L _ _ _ _ (by omega) _ _ _ _ q1 h1 q2 h4
      have st := good_step Q K V L _ _ (n / 3 % 3) (n % 3) (by omega) _ _ _ _ hs h2 g1
      exact ⟨fun _ => ⟨st.1, st.2, _, _, rfl, q1, q2⟩, fun h => absurd h (by omega)⟩
    · by_cases hd : n / 3 % 3 = n % 3
      · have e := stAt_E W c ⟨n, hn⟩ hk hb hd
        simp only at e
        obtain ⟨g1, g2, xq, aq, hq, q1, q2⟩ := i1 (by omega)
        rw [e, hq]
        rw [show min (n % 3) (n / 3 % 3) = n / 3 % 3 by omega] at h1 h2 h4
        rw [show n % 3 - 1 + 1 = n / 3 % 3 by omega] at g1
        have hs := scores_diag Q K L _ _ _ _ _ _ _ q1 h1 q2 h4
        have st := good_step Q K V L _ _ (n / 3 % 3) (n / 3 % 3) (Nat.le_refl _) _ _ _ _ hs h2 g1
        refine ⟨fun _ => ⟨?_, st.2, _, _, rfl, q1, q2⟩, fun _ h r d => ?_⟩
        · rw [← hd]; exact st.1
        · exact good_out Q K V L _ _ _ hi _ _ st.1 st.2 h r d
      · have e := stAt_B W c ⟨n, hn⟩ hk hb hd
        simp only at e
        rw [e]
        exact ⟨fun h => absurd h (by omega), fun _ => i2 (by omega)⟩

end Cert.Proof.Val

end
-- ==== Proof.Val.Prefix.lean ====
module

public import proofs.«01_k».proof.Proof.Cum.Step
public import Idealize.ShloMosaic.Lib.Pointwise
public import Idealize.ShloMosaic.PureOps.IdealRules

@[expose] public section

set_option maxRecDepth 16384

noncomputable section

namespace Cert.Proof.Val

open Cert.KernelIdeal Cert.KernelIdeal.Gen Cert.Proof.Cum
open Idealize.ShloMosaic Idealize.ShloMosaic.TcCoe

/-- The sum of the last `n` terms up to the `t`-th. -/
def lastOf (g : ℕ → EReal) (n t : ℕ) : EReal := ∑ w ∈ Finset.range n, if w ≤ t then g (t - w) else 0

/-- Twice as many terms are as many, and as many again before them. -/
theorem lastOf_double (g : ℕ → EReal) (n t : ℕ) :
    lastOf g (n + n) t = lastOf g n t + if n ≤ t then lastOf g n (t - n) else 0 := by
  unfold lastOf
  rw [Finset.sum_range_add]
  congr 1
  by_cases h : n ≤ t
  · rw [if_pos h]
    refine Finset.sum_congr rfl fun w _ => ?_
    by_cases hw : w ≤ t - n
    · rw [if_pos hw, if_pos (by omega)]; congr 1; omega
    · rw [if_neg hw, if_neg (by omega)]
  · rw [if_neg h]
    exact Finset.sum_eq_zero fun w _ => if_neg (by omega)

/-- Once there are enough of them, the last terms are all the terms. -/
theorem lastOf_all (g : ℕ → EReal) (n t : ℕ) (h : t < n) : lastOf g n t = ∑ i ∈ Finset.range (t + 1), g i := by
  unfold lastOf
  rw [← Finset.sum_filter]
  have : (Finset.range n).filter (fun w => w ≤ t) = Finset.range (t + 1) := by
    ext w; simp only [Finset.mem_filter, Finset.mem_range]; omega
  rw [this, ← Finset.sum_range_reflect]
  exact Finset.sum_congr rfl fun w hw => by congr 1; have := Finset.mem_range.1 hw; omega

/-- A column of the forget logits as a sequence. -/
def colOf (x : Vec Ideal S1x2064x128 .f32) (l : Fin 128) (i : ℕ) : EReal := if h : i < 2064 then x (ix3 0 ⟨i, h⟩ l) else 0

/-- One doubling. -/
theorem double (y : Vec Ideal S2064x128 .f32) (g : Fin 128 → ℕ → EReal) (d : ℕ) (hy : ∀ (r : Fin 2064) (l : Fin 128), y (ix2 r l) = lastOf (g l) d r.val)
    (r : Fin 2064) (l : Fin 128) : (y (ix2 r l) : EReal) + down d y (ix2 r l) = lastOf (g l) (d + d) r.val := by
  rw [lastOf_double, hy]
  congr 1
  show (if d ≤ r.val then _ else _) = _
  by_cases h : d ≤ r.val
  · rw [if_pos h, if_pos h]; exact hy ⟨r.val - d, _⟩ l
  · rw [if_neg h, if_neg h]; exact Ideal.ofBits_zero_f32

/-- After step 0 a row holds the sum of its last 1 rows. -/
theorem sum0_at (x : Vec Ideal S1x2064x128 .f32) (r : Fin 2064) (l : Fin 128) : sum0 x (ix2 r l) = lastOf (colOf x l) 1 r.val := by
  unfold sum0
  rw [whole_eq]
  pointwise [k0_pay5]
  simp [lastOf, colOf, r.isLt]

/-- After step 1 a row holds the sum of its last 2 rows. -/
theorem sum1_at (x : Vec Ideal S1x2064x128 .f32) (r : Fin 2064) (l : Fin 128) : sum1 x (ix2 r l) = lastOf (colOf x l) 2 r.val := by
  refine Eq.trans ?_ (double (sum0 x) (colOf x) 1 (sum0_at x) r l)
  unfold sum1
  pointwise [k0_pay6]
/-- After step 2 a row holds the sum of its last 4 rows. -/
theorem sum2_at (x : Vec Ideal S1x2064x128 .f32) (r : Fin 2064) (l : Fin 128) : sum2 x (ix2 r l) = lastOf (colOf x l) 4 r.val := by
  refine Eq.trans ?_ (double (sum1 x) (colOf x) 2 (sum1_at x) r l)
  unfold sum2
  pointwise [k0_pay7]
/-- After step 3 a row holds the sum of its last 8 rows. -/
theorem sum3_at (x : Vec Ideal S1x2064x128 .f32) (r : Fin 2064) (l : Fin 128) : sum3 x (ix2 r l) = lastOf (colOf x l) 8 r.val := by
  refine Eq.trans ?_ (double (sum2 x) (colOf x) 4 (sum2_at x) r l)
  unfold sum3
  pointwise [k0_pay8]
/-- After step 4 a row holds the sum of its last 16 rows. -/
theorem sum4_at (x : Vec Ideal S1x2064x128 .f32) (r : Fin 2064) (l : Fin 128) : sum4 x (ix2 r l) = lastOf (colOf x l) 16 r.val := by
  refine Eq.trans ?_ (double (sum3 x) (colOf x) 8 (sum3_at x) r l)
  unfold sum4
  pointwise [k0_pay9]
/-- After step 5 a row holds the sum of its last 32 rows. -/
theorem sum5_at (x : Vec Ideal S1x2064x128 .f32) (r : Fin 2064) (l : Fin 128) : sum5 x (ix2 r l) = lastOf (colOf x l) 32 r.val := by
  refine Eq.trans ?_ (double (sum4 x) (colOf x) 16 (sum4_at x) r l)
  unfold sum5
  pointwise [k0_pay10]
/-- After step 6 a row holds the sum of its last 64 rows. -/
theorem sum6_at (x : Vec Ideal S1x2064x128 .f32) (r : Fin 2064) (l : Fin 128) : sum6 x (ix2 r l) = lastOf (colOf x l) 64 r.val := by
  refine Eq.trans ?_ (double (sum5 x) (colOf x) 32 (sum5_at x) r l)
  unfold sum6
  pointwise [k0_pay11]
/-- After step 7 a row holds the sum of its last 128 rows. -/
theorem sum7_at (x : Vec Ideal S1x2064x128 .f32) (r : Fin 2064) (l : Fin 128) : sum7 x (ix2 r l) = lastOf (colOf x l) 128 r.val := by
  refine Eq.trans ?_ (double (sum6 x) (colOf x) 64 (sum6_at x) r l)
  unfold sum7
  pointwise [k0_pay12]
/-- After step 8 a row holds the sum of its last 256 rows. -/
theorem sum8_at (x : Vec Ideal S1x2064x128 .f32) (r : Fin 2064) (l : Fin 128) : sum8 x (ix2 r l) = lastOf (colOf x l) 256 r.val := by
  refine Eq.trans ?_ (double (sum7 x) (colOf x) 128 (sum7_at x) r l)
  unfold sum8
  pointwise [k0_pay13]
/-- After step 9 a row holds the sum of its last 512 rows. -/
theorem sum9_at (x : Vec Ideal S1x2064x128 .f32) (r : Fin 2064) (l : Fin 128) : sum9 x (ix2 r l) = lastOf (colOf x l) 512 r.val := by
  refine Eq.trans ?_ (double (sum8 x) (colOf x) 256 (sum8_at x) r l)
  unfold sum9
  pointwise [k0_pay14]
/-- After step 10 a row holds the sum of its last 1024 rows. -/
theorem sum10_at (x : Vec Ideal S1x2064x128 .f32) (r : Fin 2064) (l : Fin 128) : sum10 x (ix2 r l) = lastOf (colOf x l) 1024 r.val := by
  refine Eq.trans ?_ (double (sum9 x) (colOf x) 512 (sum9_at x) r l)
  unfold sum10
  pointwise [k0_pay15]
/-- After step 11 a row holds the sum of its last 2048 rows. -/
theorem sum11_at (x : Vec Ideal S1x2064x128 .f32) (r : Fin 2064) (l : Fin 128) : sum11 x (ix2 r l) = lastOf (colOf x l) 2048 r.val := by
  refine Eq.trans ?_ (double (sum10 x) (colOf x) 1024 (sum10_at x) r l)
  unfold sum11
  pointwise [k0_pay16]

/-- After twelve doublings each row holds the sum of all rows up to it. -/
theorem total_at (x : Vec Ideal S1x2064x128 .f32) (r : Fin 2064) (l : Fin 128) :
    total x (ix2 r l) = ∑ i ∈ Finset.range (r.val + 1), colOf x l i := by
  refine Eq.trans ?_ (lastOf_all (colOf x l) 4096 r.val (by have := r.isLt; omega))
  refine Eq.trans ?_ (double (sum11 x) (colOf x) 2048 (sum11_at x) r l)
  unfold total
  pointwise [k0_pay17, k0_pay18]

end Cert.Proof.Val

end
-- ==== Proof.Val.CumRead.lean ====
module

public import proofs.«01_k».proof.Proof.Val.Prefix
public import proofs.«01_k».proof.Proof.Val.Lanes
public import proofs.«01_k».proof.Proof.Val.Spec
public import proofs.«01_k».proof.Proof.Val.Online

@[expose] public section

set_option maxRecDepth 16384

noncomputable section

namespace Cert.Proof.Val

open Cert.KernelIdeal Cert.KernelIdeal.Gen Cert.Proof.Cum
open Idealize.ShloMosaic Idealize.ShloMosaic.TcCoe

variable (x : Vec Ideal S1x2064x128 .f32) (L : ℕ → ℕ → ℕ → ℝ) (b : ℕ)
  (hx : ∀ (r : Fin 2064) (l : Fin 128), x (ix3 0 r l) = ((L b r.val l.val : ℝ) : EReal))
include hx

/-- The sums of a batch's forget logits. -/
theorem total_real (r : Fin 2064) (l : Fin 128) : total x (ix2 r l) = ((sums L b l.val r.val : ℝ) : EReal) := by
  rw [total_at, sums, ← coe_sum]
  refine Finset.sum_congr rfl fun i hi => ?_
  have := Finset.mem_range.1 hi
  have := r.isLt
  rw [colOf, dif_pos (by omega)]
  exact hx ⟨i, by omega⟩ l

/-- The query lanes of a batch. -/
theorem augQ_at (g : Fin 2) (r : Fin 2064) (l : Fin 128) :
    augQ x (ix4 0 g r l) = ((laneQ (fun h => sums L b (8 * g.val + h) r.val * Real.sqrt 128) l.val : ℝ) : EReal) := by
  fin_cases g
  · exact augQ0_at (total x) r (fun l => sums L b l r.val) (total_real x L b hx r) l
  · exact augQ1_at (total x) r (fun l => sums L b l r.val) (total_real x L b hx r) l

/-- The key lanes of a batch. -/
theorem augK_at (g : Fin 2) (r : Fin 2064) (l : Fin 128) :
    augK x (ix4 0 g r l) = ((laneK (fun h => sums L b (8 * g.val + h) r.val * Real.sqrt 128) l.val : ℝ) : EReal) := by
  fin_cases g
  · exact augK0_at (total x) r (fun l => sums L b l r.val) (total_real x L b hx r) l
  · exact augK1_at (total x) r (fun l => sums L b l r.val) (total_real x L b hx r) l

end Cert.Proof.Val

end
-- ==== Proof.Val.Blocks.lean ====
module

public import proofs.«01_k».proof.Proof.Val.FoxGrid
public import proofs.«01_k».proof.Proof.Val.CumRead
public import proofs.«01_k».proof.Proof.Run
public import Idealize.ShloMosaic.Lib.Pipeline.ValueKit

@[expose] public section

set_option maxRecDepth 16384

noncomputable section

namespace Cert.Proof.Val

open Cert.KernelIdeal Cert.KernelIdeal.Gen
open Idealize.ShloMosaic Idealize.ShloMosaic.TcCoe

/-- Where the blocks of the running sums lie. -/
theorem idx0 : ∀ t : Fin cfg0.N, win0_0.index t = ![t.val, 0, 0] ∧ win0_1.index t = ![t.val, 0, 0, 0] ∧ win0_2.index t = ![t.val, 0, 0, 0] :=
  (by decide +kernel : ∀ t : Fin grid0.N, _)

/-- Where the blocks of the attention lie. -/
theorem idx1 : ∀ t : Fin cfg1.N, win1_0.index t = ![t.val / 18, t.val / 3 % 3, t.val / 9 % 2]
    ∧ win1_1.index t = ![t.val / 18, min (t.val % 3) (t.val / 3 % 3), t.val / 9 % 2]
    ∧ win1_2.index t = ![t.val / 18, min (t.val % 3) (t.val / 3 % 3), t.val / 9 % 2]
    ∧ win1_3.index t = ![t.val / 18, t.val / 9 % 2, t.val / 3 % 3, 0]
    ∧ win1_4.index t = ![t.val / 18, t.val / 9 % 2, min (t.val % 3) (t.val / 3 % 3), 0]
    ∧ win1_5.index t = ![t.val / 18, t.val / 3 % 3, t.val / 9 % 2] :=
  (by decide +kernel : ∀ t : Fin grid1.N, _)

/-- The number of grid points of the running sums. -/
theorem N0 : cfg0.N = 4 := by decide +kernel
/-- The number of grid points of the attention. -/
theorem N1 : cfg1.N = 72 := by decide +kernel

variable (m : (ℓ : Loc nD τ sig) → Buf (Elt Ideal) ℓ) (c : Dev nD)

/-- The block of the forget logits at a point. -/
theorem cum_blk (t : Fin cfg0.N) (r : Fin 2064) (l : Fin 128) :
    Cum.blk (Both.W0 m) c t (ix3 0 r l) = m ((c : Thread nD τ).loc main_arg3) (ix3 ⟨t.val, by have := t.isLt; have := N0; omega⟩ r l) := by
  blk_ext [Cum.blk, Both.W0, idx0 t]

variable (Q K V L : ℕ → ℕ → ℕ → ℝ)
  (hQ : ∀ (b : Fin 4) (r : Fin 2064) (l : Fin 2048), m ((c : Thread nD τ).loc main_arg0) (ix3 b r l) = ((Q b.val r.val l.val : ℝ) : EReal))
  (hK : ∀ (b : Fin 4) (r : Fin 2064) (l : Fin 2048), m ((c : Thread nD τ).loc main_arg1) (ix3 b r l) = ((K b.val r.val l.val : ℝ) : EReal))
  (hV : ∀ (b : Fin 4) (r : Fin 2064) (l : Fin 2048), m ((c : Thread nD τ).loc main_arg2) (ix3 b r l) = ((V b.val r.val l.val : ℝ) : EReal))
  (hL : ∀ (b : Fin 4) (r : Fin 2064) (l : Fin 128), m ((c : Thread nD τ).loc main_arg3) (ix3 b r l) = ((L b.val r.val l.val : ℝ) : EReal))

/-- The query lanes, in full. -/
def lanesQ : S4x2x2064x128.Idx → EReal := fun y =>
  ((laneQ (fun h => sums L (y 0).val (8 * (y 1).val + h) (y 2).val * Real.sqrt 128) (y 3).val : ℝ) : EReal)

/-- The key lanes, in full. -/
def lanesK : S4x2x2064x128.Idx → EReal := fun y =>
  ((laneK (fun h => sums L (y 0).val (8 * (y 1).val + h) (y 2).val * Real.sqrt 128) (y 3).val : ℝ) : EReal)

/-- An index of a batch's lanes by its coordinates. -/
theorem index4 (y : S1x2x2064x128.Idx) : y = ix4 0 (y 1) (y 2) (y 3) := by
  funext a
  fin_cases a
  · exact Subsingleton.elim (α := Fin 1) _ _
  · rfl
  · rfl
  · rfl

include hL in
/-- The query lanes after the running sums. -/
theorem W1_lanesQ : Both.W1 m c (Proc.devRef .tc main_v0_0) = lanesQ L := by
  refine (Pipeline.afterRegion_arr (Cum.dat (Both.W0 m) c) (Both.W0 m c) winFacts0.arr_inj 1).trans ?_
  refine (Cum.dat (Both.W0 m) c).arrAt_eq_of_covers 1 (lanesQ L) (by decide +kernel) fun t _ y => ?_
  blk_simp
  rw [Cum.after_1]
  have hy := index4 y
  have h0 : ((win0_1.blk t).view.emb y 0 : ℕ) = t.val := by
    blk_simp [(idx0 t).2.1]
  have h1 : ((win0_1.blk t).view.emb y 1 : ℕ) = (y 1).val := by blk_simp [(idx0 t).2.1]
  have h2 : ((win0_1.blk t).view.emb y 2 : ℕ) = (y 2).val := by blk_simp [(idx0 t).2.1]
  have h3 : ((win0_1.blk t).view.emb y 3 : ℕ) = (y 3).val := by blk_simp [(idx0 t).2.1]
  refine (congrArg (Cum.augQ (Cum.blk (Both.W0 m) c t)) hy).trans ?_
  refine (augQ_at (Cum.blk (Both.W0 m) c t) L t.val (fun r l => (cum_blk m c t r l).trans (hL _ _ _)) (y 1) (y 2) (y 3)).trans ?_
  unfold lanesQ
  rw [h0, h1, h2, h3]

include hL in
/-- The key lanes after the running sums. -/
theorem W1_lanesK : Both.W1 m c (Proc.devRef .tc main_v0_1) = lanesK L := by
  refine (Pipeline.afterRegion_arr (Cum.dat (Both.W0 m) c) (Both.W0 m c) winFacts0.arr_inj 2).trans ?_
  refine (Cum.dat (Both.W0 m) c).arrAt_eq_of_covers 2 (lanesK L) (by decide +kernel) fun t _ y => ?_
  blk_simp
  rw [Cum.after_2]
  have hy := index4 y
  have h0 : ((win0_2.blk t).view.emb y 0 : ℕ) = t.val := by
    blk_simp [(idx0 t).2.2]
  have h1 : ((win0_2.blk t).view.emb y 1 : ℕ) = (y 1).val := by blk_simp [(idx0 t).2.2]
  have h2 : ((win0_2.blk t).view.emb y 2 : ℕ) = (y 2).val := by blk_simp [(idx0 t).2.2]
  have h3 : ((win0_2.blk t).view.emb y 3 : ℕ) = (y 3).val := by blk_simp [(idx0 t).2.2]
  refine (congrArg (Cum.augK (Cum.blk (Both.W0 m) c t)) hy).trans ?_
  refine (augK_at (Cum.blk (Both.W0 m) c t) L t.val (fun r l => (cum_blk m c t r l).trans (hL _ _ _)) (y 1) (y 2) (y 3)).trans ?_
  unfold lanesK
  rw [h0, h1, h2, h3]

/-- A point's batch is one of the four. -/
theorem bound_b (t : Fin cfg1.N) : t.val / 18 < 4 := by have := t.isLt; have := N1; omega
/-- A block's row is one of the rows. -/
theorem bound_r (i : ℕ) (r : Fin 688) (hi : i < 3) : 688 * i + r.val < 2064 := by have := r.isLt; omega
/-- A block's column is one of the columns. -/
theorem bound_l (t : Fin cfg1.N) (l : Fin 1024) : 1024 * (t.val / 9 % 2) + l.val < 2048 := by have := l.isLt; omega

/-- The block of the queries at a point. -/
theorem fox_blk0 (t : Fin cfg1.N) (r : Fin 688) (l : Fin 1024) :
    Fox.blk (Both.W1 m) c 0 t (ix3 0 r l) = m ((c : Thread nD τ).loc main_arg0)
      (ix3 ⟨t.val / 18, bound_b t⟩ ⟨688 * (t.val / 3 % 3) + r.val, bound_r (t.val / 3 % 3) r (by omega)⟩ ⟨1024 * (t.val / 9 % 2) + l.val, bound_l t l⟩) := by
  have e : Both.W1 m c (Proc.devRef .tc (Pipeline.arrRef spec1 0)) = m ((c : Thread nD τ).loc main_arg0) := Both.W1_keeps m c main_arg0 (by decide)
  unfold Fox.blk
  rw [e]
  blk_ext [(idx1 t).1]

/-- The block of the keys at a point. -/
theorem fox_blk1 (t : Fin cfg1.N) (r : Fin 688) (l : Fin 1024) :
    Fox.blk (Both.W1 m) c 1 t (ix3 0 r l) = m ((c : Thread nD τ).loc main_arg1)
      (ix3 ⟨t.val / 18, bound_b t⟩ ⟨688 * (min (t.val % 3) (t.val / 3 % 3)) + r.val, bound_r (min (t.val % 3) (t.val / 3 % 3)) r (by omega)⟩ ⟨1024 * (t.val / 9 % 2) + l.val, bound_l t l⟩) := by
  have e : Both.W1 m c (Proc.devRef .tc (Pipeline.arrRef spec1 1)) = m ((c : Thread nD τ).loc main_arg1) := Both.W1_keeps m c main_arg1 (by decide)
  unfold Fox.blk
  rw [e]
  blk_ext [(idx1 t).2.1]

/-- The block of the values at a point. -/
theorem fox_blk2 (t : Fin cfg1.N) (r : Fin 688) (l : Fin 1024) :
    Fox.blk (Both.W1 m) c 2 t (ix3 0 r l) = m ((c : Thread nD τ).loc main_arg2)
      (ix3 ⟨t.val / 18, bound_b t⟩ ⟨688 * (min (t.val % 3) (t.val / 3 % 3)) + r.val, bound_r (min (t.val % 3) (t.val / 3 % 3)) r (by omega)⟩ ⟨1024 * (t.val / 9 % 2) + l.val, bound_l t l⟩) := by
  have e : Both.W1 m c (Proc.devRef .tc (Pipeline.arrRef spec1 2)) = m ((c : Thread nD τ).loc main_arg2) := Both.W1_keeps m c main_arg2 (by decide)
  unfold Fox.blk
  rw [e]
  blk_ext [(idx1 t).2.2.1]

include hL in
/-- The block of the query lanes at a point. -/
theorem fox_blk3 (t : Fin cfg1.N) (r : Fin 688) (l : Fin 128) :
    Fox.blk (Both.W1 m) c 3 t (ix4 0 0 r l) = lanesQ L
      (ix4 ⟨t.val / 18, bound_b t⟩ ⟨t.val / 9 % 2, Nat.mod_lt _ (by norm_num)⟩ ⟨688 * (t.val / 3 % 3) + r.val, bound_r (t.val / 3 % 3) r (by omega)⟩ l) := by
  have e : Both.W1 m c (Proc.devRef .tc (Pipeline.arrRef spec1 3)) = lanesQ L := W1_lanesQ m c L hL
  unfold Fox.blk
  rw [e]
  blk_ext [(idx1 t).2.2.2.1]

include hL in
/-- The block of the key lanes at a point. -/
theorem fox_blk4 (t : Fin cfg1.N) (r : Fin 688) (l : Fin 128) :
    Fox.blk (Both.W1 m) c 4 t (ix4 0 0 r l) = lanesK L
      (ix4 ⟨t.val / 18, bound_b t⟩ ⟨t.val / 9 % 2, Nat.mod_lt _ (by norm_num)⟩ ⟨688 * (min (t.val % 3) (t.val / 3 % 3)) + r.val, bound_r (min (t.val % 3) (t.val / 3 % 3)) r (by omega)⟩ l) := by
  have e : Both.W1 m c (Proc.devRef .tc (Pipeline.arrRef spec1 4)) = lanesK L := W1_lanesK m c L hL
  unfold Fox.blk
  rw [e]
  blk_ext [(idx1 t).2.2.2.2.1]

include hQ hK hV hL in
/-- Every point's blocks hold what they should. -/
theorem inputs : Inputs Q K V L (Both.W1 m) c := fun t =>
  ⟨fun r l => (fox_blk0 m c t r l).trans (hQ _ _ _), fun r l => (fox_blk1 m c t r l).trans (hK _ _ _), fun r l => (fox_blk2 m c t r l).trans (hV _ _ _),
    fun r l => fox_blk3 m c L hL t r l, fun r l => fox_blk4 m c L hL t r l⟩

/-- The attention's result, in full. -/
def result : S4x2064x2048.Idx → EReal := fun y =>
  ((attn Q K V L (y 0).val ((y 2).val / 128) (y 1).val ((y 2).val % 128) : ℝ) : EReal)

/-- The output is written at a row's last point. -/
theorem flush5 : ∀ t : Fin cfg1.N, (cfg1.win 5).flush t = true → t.val % 3 = 2 :=
  (by decide +kernel : ∀ t : Fin grid1.N, _)

include hQ hK hV hL in
/-- The result array after the run. -/
theorem W2_result : Both.W2 m c (Proc.devRef .tc main_v1) = result Q K V L := by
  refine (Pipeline.afterRegion_arr (Fox.dat (Both.W1 m) c) (Both.W1 m c) winFacts1.arr_inj 5).trans ?_
  refine (Fox.dat (Both.W1 m) c).arrAt_eq_of_covers 5 (result Q K V L) (by decide +kernel) fun t hf y => ?_
  have h2 : t.val % 3 = 2 := flush5 t hf
  blk_simp
  rw [Fox.after_5]
  have hl : (y 2).val < 1024 := (y 2).isLt
  have hy : y = ix3 0 (y 1) (col ⟨(y 2).val / 128, by omega⟩ ⟨(y 2).val % 128, Nat.mod_lt _ (by norm_num)⟩) := by
    funext a
    fin_cases a
    · exact Subsingleton.elim (α := Fin 1) _ _
    · rfl
    · apply Fin.ext
      show (y 2).val = 128 * ((y 2).val / 128) + (y 2).val % 128
      omega
  have e0 : ((win1_5.blk t).view.emb y 0 : ℕ) = t.val / 18 := by blk_simp [(idx1 t).2.2.2.2.2]
  have e1 : ((win1_5.blk t).view.emb y 1 : ℕ) = 688 * (t.val / 3 % 3) + (y 1).val := by
    blk_simp [(idx1 t).2.2.2.2.2]
    omega
  have e2 : ((win1_5.blk t).view.emb y 2 : ℕ) = 1024 * (t.val / 9 % 2) + (y 2).val := by
    blk_simp [(idx1 t).2.2.2.2.2]
    omega
  refine (congrArg (Fox.stAt (Both.W1 m) c t.val t.isLt).2.2.2 hy).trans ?_
  refine ((grid_inv Q K V L (Both.W1 m) c (inputs m c Q K V L hQ hK hV hL) t.val t.isLt).2 (by omega) ⟨(y 2).val / 128, by omega⟩ (y 1) ⟨(y 2).val % 128, Nat.mod_lt _ (by norm_num)⟩).trans ?_
  unfold result
  rw [e0, e1, e2]
  have a1 : 8 * (t.val / 9 % 2) + (y 2).val / 128 = (1024 * (t.val / 9 % 2) + (y 2).val) / 128 := by omega
  have a2 : (y 2).val % 128 = (1024 * (t.val / 9 % 2) + (y 2).val) % 128 := by omega
  rw [← a1, ← a2]

end Cert.Proof.Val

end
-- ==== Proof.Val.Pre.lean ====
module

public import proofs.«01_k».proof.Pre_finite
public import proofs.«01_k».proof.Proof.Gen.Pre_finite
public import Idealize.ShloMosaic.Lib.Pointwise

@[expose] public section

set_option maxRecDepth 16384

noncomputable section

namespace Cert.Proof.Val

open Idealize.ShloMosaic Idealize.ShloMosaic.TcCoe

/-- A conjunction of bits is one only where both are. -/
theorem and_one (a b : BitVec 1) (h : IntOp.andi a b = 1#1) : a = 1#1 ∧ b = 1#1 := by
  revert a b; decide

/-- A running conjunction that ends at one met only ones. -/
theorem foldl_and {ι : Type} (f : ι → BitVec 1) (l : List ι) (a : BitVec 1) (h : l.foldl (fun x i => IntOp.andi x (f i)) a = 1#1) :
    a = 1#1 ∧ ∀ i ∈ l, f i = 1#1 := by
  induction l generalizing a with
  | nil => exact ⟨h, fun i hi => by simp at hi⟩
  | cons i l ih =>
    obtain ⟨h1, h2⟩ := ih _ h
    obtain ⟨h3, h4⟩ := and_one _ _ h1
    exact ⟨h3, fun j hj => by
      rcases List.mem_cons.1 hj with rfl | hj
      · exact h4
      · exact h2 j hj⟩

/-- The bits of infinity. -/
theorem plus_inf : Ideal.ofBits FTy.f32 0x7F800000#32 = (⊤ : EReal) := by
  simp [Ideal.ofBits, Ideal.ieee]

/-- An extended real whose absolute value is below infinity is a real number. -/
theorem real_of_abs (x : EReal) (h : Ideal.cmp .olt (max x (-x)) ⊤ = 1#1) : x = ((x.toReal : ℝ) : EReal) := by
  have h1 : max x (-x) < ⊤ := by
    unfold Ideal.cmp at h
    by_contra hc
    rw [show decide (max x (-x) < ⊤) = false from decide_eq_false hc] at h
    exact absurd (show BitVec.ofBool false = 1#1 from h) (by decide)
  refine (EReal.coe_toReal (fun e => ?_) fun e => ?_).symm
  · rw [e] at h1; simp at h1
  · rw [e] at h1; simp at h1

/-- If the conjunction over a tensor is one, each of its bits is. -/
theorem reduce_and {s t u : Shape} {axes : List (Fin s.rank)} (x : IVec s 1) (v : IVec u 1) (h : s.ReducesTo axes t) (hu : 0 < u.numel)
    (j : t.Idx) (hr : Host.reduce IntOp.andi x v h hu j = 1#1) (i : s.Idx) (hi : h.drop i = j) : x i = 1#1 := by
  have e := (foldl_and (fun n => x (s.rowMajor.symm n)) ((List.finRange s.numel).filter fun n => h.drop (s.rowMajor.symm n) = j) _ hr).2
    (s.rowMajor i) (List.mem_filter.2 ⟨List.mem_finRange _, by simp [hi]⟩)
  simp only [Equiv.symm_apply_apply] at e
  exact e

/-- If the conjunction of "below infinity in absolute value" over a tensor is one, each of its elements is a real number. -/
theorem all_real {s t u w : Shape} {axes : List (Fin s.rank)} (x : FVec Ideal s .f32) (v : IVec u 1) (h : s.ReducesTo axes t) (hu : 0 < u.numel)
    (dims : Fin w.rank → Fin s.rank) (hb : w.BroadcastsInDim s dims)
    (j : t.Idx) (hj : ∀ j' : t.Idx, j' = j)
    (hr : Host.reduce IntOp.andi (cmpf .olt (Host.absf x) (broadcastInDim s dims hb (constant w .f32 0x7F800000#32))) v h hu j = 1#1) (i : s.Idx) :
    (x i : EReal) = (((x i : EReal).toReal : ℝ) : EReal) := by
  have e := reduce_and _ _ _ _ _ hr i (hj _)
  refine real_of_abs _ ?_
  rw [← plus_inf]
  exact e

open Cert.Pre_finite Cert.Pre_finite.Gen in
/-- Where the precondition holds every element of every argument is a real number. -/
theorem finite_real (a0 a1 a2 : FVec Ideal S4x2064x2048 .f32) (a3 : FVec Ideal S4x2064x128 .f32) (j : S_.Idx) (h : fn (F := Ideal) a0 a1 a2 a3 j = 1#1) :
    (∀ i, (a0 i : EReal) = (((a0 i : EReal).toReal : ℝ) : EReal)) ∧ (∀ i, (a1 i : EReal) = (((a1 i : EReal).toReal : ℝ) : EReal))
      ∧ (∀ i, (a2 i : EReal) = (((a2 i : EReal).toReal : ℝ) : EReal)) ∧ (∀ i, (a3 i : EReal) = (((a3 i : EReal).toReal : ℝ) : EReal)) := by
  have hj : ∀ j' : S_.Idx, j' = j := fun j' => funext fun a => a.elim0
  unfold fn fn_part1 at h
  obtain ⟨h012, h3⟩ := and_one _ _ h
  obtain ⟨h01, h2⟩ := and_one _ _ h012
  obtain ⟨h0, h1⟩ := and_one _ _ h01
  exact ⟨all_real a0 _ _ _ _ _ j hj h0, all_real a1 _ _ _ _ _ j hj h1, all_real a2 _ _ _ _ _ j hj h2, all_real a3 _ _ _ _ _ j hj h3⟩

end Cert.Proof.Val

end
-- ==== Proof.Val.RefRead.lean ====
module

public import proofs.«01_k».proof.Proof.Gen.ReferenceIdeal.Run
public import proofs.«01_k».proof.Proof.Val.Online
public import proofs.«01_k».proof.Proof.Val.Spec
public import proofs.«01_k».proof.Proof.Val.Prefix
public import Idealize.ShloMosaic.Lib.Pointwise
public import Idealize.ShloMosaic.PureOps.IdealRules

@[expose] public section

set_option maxRecDepth 16384

noncomputable section

namespace Cert.Proof.Val

open Cert.ReferenceIdeal Cert.ReferenceIdeal.Gen
open Idealize.ShloMosaic Idealize.ShloMosaic.TcCoe

/-- The running sums of the forget logits, one row for each head. -/
def refSums (a3 : FVec Ideal S4x2064x128 .f32) : FVec Ideal S4x16x2064 .f32 :=
  transpose S4x16x2064 [0, 2, 1] (Host.reduceWindowAdd ![1, 2064, 1] ![1, 1, 1] ![0, 2063, 0] ![0, 0, 0] (extractStridedSlice S4x2064x16 ![0, 0, 0] a3 slices_S4x2064x128_S4x2064x16_0_0_0) (broadcastInDim S_ ![] bcast_S_S_ (constant S_ .f32 0x00000000#32)) reduceWindows_S4x2064x16_S4x2064x16_w1s1p0_0_w2064s1p2063_0_w1s1p0_0 h_S_) transposes_S4x2064x16_S4x16x2064_0_2_1

/-- The masked scores. -/
def refScores (a0 a1 : FVec Ideal S4x2064x2048 .f32) (f : FVec Ideal S4x16x2064 .f32) : FVec Ideal S4x16x2064x2064 .f32 :=
  select (broadcastInDim S4x16x2064x2064 ![2, 3] bcast_S2064x2064_S4x16x2064x2064_2_3 (cmpi .sge (broadcastInDim S2064x2064 ![0, 1] bcast_S2064x1_S2064x2064_0_1 (broadcastInDim S2064x1 ![0] bcast_S2064_S2064x1_0 (iotaInDim S2064 32 0))) (broadcastInDim S2064x2064 ![0, 1] bcast_S1x2064_S2064x2064_0_1 (broadcastInDim S1x2064 ![1] bcast_S2064_S1x2064_1 (iotaInDim S2064 32 0))))) (subf (addf (mulf (Host.dotGeneral dot_S4x2064x16x128_S4x2064x16x128_S4x16x2064x2064_3_3_1_1_02_02 none (shapeCast _ a0 shapeCasts_S4x2064x2048_S4x2064x16x128) (shapeCast _ a1 shapeCasts_S4x2064x2048_S4x2064x16x128)) (broadcastInDim S4x16x2064x2064 ![] bcast_S_S4x16x2064x2064 (Host.divf (constant S_ .f32 0x3F800000#32) (Host.sqrt (constant S_ .f32 0x43000000#32))))) (broadcastInDim S4x16x2064x2064 ![0, 1, 2, 3] bcast_S4x16x2064x1_S4x16x2064x2064_0_1_2_3 (broadcastInDim S4x16x2064x1 ![0, 1, 2] bcast_S4x16x2064_S4x16x2064x1_0_1_2 f))) (broadcastInDim S4x16x2064x2064 ![0, 1, 2, 3] bcast_S4x16x1x2064_S4x16x2064x2064_0_1_2_3 (broadcastInDim S4x16x1x2064 ![0, 1, 3] bcast_S4x16x2064_S4x16x1x2064_0_1_3 f))) (broadcastInDim S4x16x2064x2064 ![] bcast_S_S4x16x2064x2064 (id (constant S_ .f32 0xFF800000#32)))

/-- Each row's largest score. -/
def refTop (s : FVec Ideal S4x16x2064x2064 .f32) : FVec Ideal S4x16x2064 .f32 :=
  maximumf (broadcastInDim S4x16x2064 ![] bcast_S_S4x16x2064 (constant S_ .f32 0xFF800000#32)) (Host.reduce FloatOps.maximumf s (constant S_ .f32 0xFF800000#32) reducesTo_S4x16x2064x2064_S4x16x2064_d3 h_S_)

/-- The exponentials of the scores less their row's largest. -/
def refExp (s : FVec Ideal S4x16x2064x2064 .f32) (top : FVec Ideal S4x16x2064 .f32) : FVec Ideal S4x16x2064x2064 .f32 :=
  Host.exp (subf s (broadcastInDim S4x16x2064x2064 ![0, 1, 2, 3] bcast_S4x16x2064x1_S4x16x2064x2064_0_1_2_3 (broadcastInDim S4x16x2064x1 ![0, 1, 2] bcast_S4x16x2064_S4x16x2064x1_0_1_2 top)))

/-- The weighted values. -/
def refOut (a2 : FVec Ideal S4x2064x2048 .f32) (e : FVec Ideal S4x16x2064x2064 .f32) : FVec Ideal S4x2064x2048 .bf16 :=
  truncf .bf16 (shapeCast _ (transpose S4x2064x16x128 [0, 3, 1, 2] (Host.dotGeneral dot_S4x2064x16x128_S4x16x2064x2064_S4x16x128x2064_1_3_3_2_02_01 none (shapeCast _ a2 shapeCasts_S4x2064x2048_S4x2064x16x128) (Host.divf e (broadcastInDim S4x16x2064x2064 ![0, 1, 2, 3] bcast_S4x16x2064x1_S4x16x2064x2064_0_1_2_3 (broadcastInDim S4x16x2064x1 ![0, 1, 2] bcast_S4x16x2064_S4x16x2064x1_0_1_2 (Host.reduceAdd e (constant S_ .f32 0x00000000#32) reducesTo_S4x16x2064x2064_S4x16x2064_d3 h_S_))))) transposes_S4x16x128x2064_S4x2064x16x128_0_3_1_2) shapeCasts_S4x2064x16x128_S4x2064x2048)

/-- The reference's result by its parts. -/
theorem ref_parts (m : (ℓ : Loc nD τ sig) → Buf (Elt Ideal) ℓ) (c : Dev nD) : Cert.ReferenceIdeal.Value.res_main_v38 (F := Ideal) m c =
    refOut (m ((c.tc : Thread nD τ).loc main_arg2)) (refExp (refScores (m ((c.tc : Thread nD τ).loc main_arg0)) (m ((c.tc : Thread nD τ).loc main_arg1)) (refSums (m ((c.tc : Thread nD τ).loc main_arg3))))
      (refTop (refScores (m ((c.tc : Thread nD τ).loc main_arg0)) (m ((c.tc : Thread nD τ).loc main_arg1)) (refSums (m ((c.tc : Thread nD τ).loc main_arg3)))))) := rfl

/-- The bits of minus infinity. -/
theorem minus_inf_word : Ideal.ofBits .f32 0xFF800000#32 = (⊥ : EReal) := by simp [Ideal.ofBits, Ideal.ieee]

/-- The order of row numbers as words is that of the numbers. -/
theorem sge_word (t u : ℕ) (ht : t < 2064) (hu : u < 2064) : IntOp.cmpi CmpIPredicate.sge (BitVec.ofNat 32 t) (BitVec.ofNat 32 u) = if u ≤ t then 1#1 else 0#1 := by
  have e : ∀ n : ℕ, n < 2064 → (BitVec.ofNat 32 n).toInt = (n : ℤ) := fun n hn => by
    rw [BitVec.toInt_eq_toNat_of_lt (by rw [BitVec.toNat_ofNat]; omega), BitVec.toNat_ofNat]
    congr 1
    omega
  have : (BitVec.sle (BitVec.ofNat 32 u) (BitVec.ofNat 32 t)) = decide (u ≤ t) := by
    unfold BitVec.sle
    rw [e _ ht, e _ hu]
    congr 1
    simp
  show BitVec.ofBool (BitVec.sle (BitVec.ofNat 32 u) (BitVec.ofNat 32 t)) = _
  rw [this]
  by_cases h : u ≤ t <;> simp [h]

/-- The bits of 128. -/
theorem word128 : Ideal.ofBits FTy.f32 0x43000000#32 = ((128 : ℝ) : EReal) := by
  simp [Ideal.ofBits, Ideal.ieee]
  rw [← EReal.coe_mul]
  norm_num

/-- A masked score of the reference. -/
theorem refScores_at (a0 a1 : FVec Ideal S4x2064x2048 .f32) (f : FVec Ideal S4x16x2064 .f32) (b : Fin 4) (n : Fin 16) (t u : Fin 2064) :
    refScores a0 a1 f (ix4 b n t u) = if u.val ≤ t.val then
      (∑ x : Fin 128, a0 (ix3 b t ⟨n.val * 128 + x.val, by omega⟩) * a1 (ix3 b u ⟨n.val * 128 + x.val, by omega⟩)) *
        Ideal.div 1 (Ideal.sqrt ((128 : ℝ) : EReal)) + f (ix3 b n t) - f (ix3 b n u) else ⊥ := by
  pointwise [refScores]
  rw [sge_word t.val u.val t.isLt u.isLt, word128]
  have e : (id (constant (F := Ideal) S_ FTy.f32 4286578688#32) ix0) = (⊥ : EReal) := minus_inf_word
  rw [e]
  by_cases h : u.val ≤ t.val
  · rw [if_pos h, if_pos h]; rfl
  · rw [if_neg h, if_neg h]; rfl

/-- An exponential of the reference. -/
theorem refExp_at (s : FVec Ideal S4x16x2064x2064 .f32) (p : FVec Ideal S4x16x2064 .f32)  (b : Fin 4) (n : Fin 16) (t u : Fin 2064) :
    refExp s p (ix4 b n t u) = Ideal.exp (s (ix4 b n t u) - p (ix3 b n t)) := by
  pointwise [refExp]

/-- An entry of the reference's result. -/
theorem refOut_at (a2 : FVec Ideal S4x2064x2048 .f32) (e : FVec Ideal S4x16x2064x2064 .f32) (b : Fin 4) (n : Fin 16) (t : Fin 2064) (d : Fin 128) :
    refOut a2 e (ix3 b t ⟨128 * n.val + d.val, by omega⟩) = ∑ x : Fin 2064, a2 (ix3 b x ⟨n.val * 128 + d.val, by omega⟩) * Ideal.div (e (ix4 b n t x)) (∑ x, e (ix4 b n t x)) := by
  pointwise [refOut]

/-- A maximum taken term by term is at least each term, and is not `⊤` if no term is. -/
theorem foldl_max {ι : Type} (g : ι → EReal) (hg : ∀ i, g i ≠ ⊤) (L : List ι) : ∀ a : EReal, a ≠ ⊤ →
    L.foldl (fun r i => max r (g i)) a ≠ ⊤ ∧ a ≤ L.foldl (fun r i => max r (g i)) a ∧ ∀ i ∈ L, g i ≤ L.foldl (fun r i => max r (g i)) a := by
  induction L with
  | nil => exact fun a ha => ⟨ha, le_rfl, fun i hi => absurd hi (List.not_mem_nil)⟩
  | cons x L ih =>
    intro a ha
    have hx : max a (g x) ≠ ⊤ := by
      rcases max_choice a (g x) with h | h <;> rw [h]
      · exact ha
      · exact hg x
    obtain ⟨h1, h2, h3⟩ := ih (max a (g x)) hx
    refine ⟨h1, (le_max_left _ _).trans h2, fun i hi => ?_⟩
    rcases List.mem_cons.1 hi with rfl | hi
    · exact (le_max_right _ _).trans h2
    · exact h3 i hi

/-- A reduction by maximum is not `⊤` if no entry is, and is at least each entry of its row. -/
theorem reduce_max {s t u : Shape} {axes : List (Fin s.rank)} (x : FVec Ideal s .f32) (v : FVec Ideal u .f32) (h : s.ReducesTo axes t) (hu : 0 < u.numel)
    (hv : v (Shape.Idx.first hu) ≠ (⊤ : EReal)) (hx : ∀ i, x i ≠ (⊤ : EReal)) (j : t.Idx) :
    Host.reduce FloatOps.maximumf x v h hu j ≠ (⊤ : EReal) ∧ ∀ i, h.drop i = j → (x i : EReal) ≤ Host.reduce FloatOps.maximumf x v h hu j := by
  obtain ⟨h1, _, h3⟩ := foldl_max (fun n => (x (s.rowMajor.symm n) : EReal)) (fun n => hx _) ((List.finRange s.numel).filter fun n => h.drop (s.rowMajor.symm n) = j) _ hv
  refine ⟨h1, fun i hi => ?_⟩
  have := h3 (s.rowMajor i) (List.mem_filter.2 ⟨List.mem_finRange _, by simp [hi]⟩)
  simp only [Equiv.symm_apply_apply] at this
  exact this

/-- The larger of `⊥` and a reduction by maximum from `⊥` is a real, if each entry is a real or `⊥` and one of its row is a real. -/
theorem top_real {s t u : Shape} {axes : List (Fin s.rank)} (x : FVec Ideal s .f32) (v : FVec Ideal u .f32) (A : FVec Ideal t .f32) (h : s.ReducesTo axes t) (hu : 0 < u.numel)
    (hv : v (Shape.Idx.first hu) = (⊥ : EReal)) (hx : ∀ i, x i ≠ (⊤ : EReal)) (j : t.Idx) (hA : A j = (⊥ : EReal)) (i : s.Idx) (hi : h.drop i = j) (hb : x i ≠ (⊥ : EReal)) :
    ∃ M : ℝ, maximumf A (Host.reduce FloatOps.maximumf x v h hu) j = (M : EReal) := by
  obtain ⟨h1, h2⟩ := reduce_max x v h hu (by rw [hv]; exact bot_ne_top) hx j
  have e : maximumf A (Host.reduce FloatOps.maximumf x v h hu) j = Host.reduce FloatOps.maximumf x v h hu j := by
    refine (show _ = max (A j : EReal) (Host.reduce FloatOps.maximumf x v h hu j) from rfl).trans ?_
    rw [hA]; exact max_eq_right bot_le
  rw [e]
  refine ⟨_, (EReal.coe_toReal h1 fun hb' => hb ?_).symm⟩
  have h3 := h2 i hi
  rw [hb'] at h3
  exact le_bot_iff.1 h3

/-- Dropping the last axis of an index. -/
theorem drop_at (b : Fin 4) (n : Fin 16) (t u : Fin 2064) : reducesTo_S4x16x2064x2064_S4x16x2064_d3.drop (ix4 b n t u) = ix3 b n t := by
  funext a
  apply Fin.ext
  fin_cases a <;> rfl

/-- A row's largest score is a real, if each score is a real or `⊥` and one of the row's is a real. -/
theorem refTop_real (s : FVec Ideal S4x16x2064x2064 .f32) (hs : ∀ i, s i ≠ (⊤ : EReal)) (b : Fin 4) (n : Fin 16) (t u : Fin 2064) (hu : s (ix4 b n t u) ≠ (⊥ : EReal)) :
    ∃ M : ℝ, refTop s (ix3 b n t) = (M : EReal) := by
  unfold refTop
  exact top_real s _ _ reducesTo_S4x16x2064x2064_S4x16x2064_d3 h_S_ minus_inf_word hs (ix3 b n t) minus_inf_word (ix4 b n t u) (drop_at b n t u) hu

/-- A running sum from a start is the start and the sum. -/
theorem foldl_add {ι : Type} (g : ι → EReal) (L : List ι) : ∀ a : EReal, L.foldl (fun r i => r + g i) a = a + (L.map g).sum := by
  induction L with
  | nil => intro a; simp
  | cons x L ih => intro a; rw [List.foldl_cons, ih, List.map_cons, List.sum_cons, add_assoc]

/-- A windowed sum at an index, as a sum over the window. -/
theorem window_sum {s t : Shape} (window strides lo hi : Fin s.rank → Nat) (h : s.ReduceWindows window strides lo hi t) (x : s.Idx → EReal) (v : EReal) (j : t.Idx) :
    Ideal.hostReduceWindowAdd window strides lo hi h x v j = v + ∑ w : (⟨s.rank, window⟩ : Shape).Idx,
      if hin : ∀ a, lo a ≤ (j (a.cast h.1.symm)).val * strides a + (w a).val ∧ (j (a.cast h.1.symm)).val * strides a + (w a).val - lo a < s.size a then
        x (fun a => ⟨(j (a.cast h.1.symm)).val * strides a + (w a).val - lo a, (hin a).2⟩) else v := by
  let g : (⟨s.rank, window⟩ : Shape).Idx → EReal := fun w =>
    if hin : ∀ a, lo a ≤ (j (a.cast h.1.symm)).val * strides a + (w a).val ∧ (j (a.cast h.1.symm)).val * strides a + (w a).val - lo a < s.size a then
        x (fun a => ⟨(j (a.cast h.1.symm)).val * strides a + (w a).val - lo a, (hin a).2⟩) else v
  unfold Ideal.hostReduceWindowAdd Host.reduceWindow
  dsimp only
  refine Eq.trans (b := List.foldl (fun r n => r + g ((⟨s.rank, window⟩ : Shape).rowMajor.symm n)) v (List.finRange (⟨s.rank, window⟩ : Shape).numel)) ?_ ?_
  · congr 1
    funext r n
    congr 1
    simp only [g]
    congr
  refine (foldl_add (fun n : Fin (⟨s.rank, window⟩ : Shape).numel => g ((⟨s.rank, window⟩ : Shape).rowMajor.symm n)) (List.finRange _) v).trans ?_
  congr 1
  rw [← Fin.sum_univ_def]
  exact Equiv.sum_comp (⟨s.rank, window⟩ : Shape).rowMajor.symm g

/-- The same of the operation as it is printed. -/
theorem hostWindow_sum {s t u : Shape} (window strides lo hi : Fin s.rank → Nat) (x : FVec Ideal s .f32) (v : FVec Ideal u .f32) (h : s.ReduceWindows window strides lo hi t)
    (hu : 0 < u.numel) (j : t.Idx) (hv : v (Shape.Idx.first hu) = (0 : EReal)) :
    Host.reduceWindowAdd window strides lo hi x v h hu j = ∑ w : (⟨s.rank, window⟩ : Shape).Idx,
      if hin : ∀ a, lo a ≤ (j (a.cast h.1.symm)).val * strides a + (w a).val ∧ (j (a.cast h.1.symm)).val * strides a + (w a).val - lo a < s.size a then
        x (fun a => ⟨(j (a.cast h.1.symm)).val * strides a + (w a).val - lo a, (hin a).2⟩) else (0 : EReal) := by
  refine (window_sum window strides lo hi h x (v (Shape.Idx.first hu)) j).trans ?_
  rw [hv, zero_add]

/-- The reference's running sums. -/
theorem refSums_at (a3 : FVec Ideal S4x2064x128 .f32) (L : ℕ → ℕ → ℕ → ℝ) (hL : ∀ (b : Fin 4) (r : Fin 2064) (l : Fin 128), a3 (ix3 b r l) = ((L b.val r.val l.val : ℝ) : EReal))
    (b : Fin 4) (n : Fin 16) (t : Fin 2064) : refSums a3 (ix3 b n t) = ((sums L b.val n.val t.val : ℝ) : EReal) := by
  pointwise [refSums]
  rw [hostWindow_sum _ _ _ _ _ _ _ _ _ Ideal.ofBits_zero_f32]
  refine (sum_idx3 (n0 := 1) (n1 := 2064) (n2 := 1) _).trans ?_
  rw [Fin.sum_univ_one]
  have ht := t.isLt
  have hw : ∀ w : Fin 2064, (∑ z : Fin 1, if hin : ∀ a, (![0, 2063, 0] : Fin 3 → ℕ) a ≤ ((ix3 b t n) a).val * (![1, 1, 1] : Fin 3 → ℕ) a + ((ix3 (n0 := 1) (n2 := 1) 0 w z) a).val ∧ ((ix3 b t n) a).val * (![1, 1, 1] : Fin 3 → ℕ) a + ((ix3 (n0 := 1) (n2 := 1) 0 w z) a).val - (![0, 2063, 0] : Fin 3 → ℕ) a < S4x2064x16.size a then
        extractStridedSlice S4x2064x16 ![0, 0, 0] a3 slices_S4x2064x128_S4x2064x16_0_0_0 (fun a => ⟨((ix3 b t n) a).val * (![1, 1, 1] : Fin 3 → ℕ) a + ((ix3 (n0 := 1) (n2 := 1) 0 w z) a).val - (![0, 2063, 0] : Fin 3 → ℕ) a, (hin a).2⟩) else (0 : EReal)) =
      (fun w : ℕ => if 2063 ≤ t.val + w then ((L b.val (t.val + w - 2063) n.val : ℝ) : EReal) else 0) w.val := by
    intro w
    have hw := w.isLt
    rw [Fin.sum_univ_one]
    show _ = if 2063 ≤ t.val + w.val then ((L b.val (t.val + w.val - 2063) n.val : ℝ) : EReal) else 0
    by_cases h : 2063 ≤ t.val + w.val
    · have hin : ∀ a, (![0, 2063, 0] : Fin 3 → ℕ) a ≤ ((ix3 b t n) a).val * (![1, 1, 1] : Fin 3 → ℕ) a + ((ix3 (n0 := 1) (n2 := 1) 0 w 0) a).val ∧ ((ix3 b t n) a).val * (![1, 1, 1] : Fin 3 → ℕ) a + ((ix3 (n0 := 1) (n2 := 1) 0 w 0) a).val - (![0, 2063, 0] : Fin 3 → ℕ) a < S4x2064x16.size a := by
        intro a
        fin_cases a
        · show 0 ≤ b.val * 1 + 0 ∧ b.val * 1 + 0 - 0 < 4; omega
        · show 2063 ≤ t.val * 1 + w.val ∧ t.val * 1 + w.val - 2063 < 2064; omega
        · show 0 ≤ n.val * 1 + 0 ∧ n.val * 1 + 0 - 0 < 16; omega
      rw [dif_pos hin, if_pos h]
      have e : (fun a => (⟨((ix3 b t n) a).val * (![1, 1, 1] : Fin 3 → ℕ) a + ((ix3 (n0 := 1) (n2 := 1) 0 w 0) a).val - (![0, 2063, 0] : Fin 3 → ℕ) a, (hin a).2⟩ : Fin (S4x2064x16.size a))) = ix3 b ⟨t.val + w.val - 2063, by omega⟩ n := by
        funext a
        apply Fin.ext
        fin_cases a
        · show b.val * 1 + 0 - 0 = b.val; omega
        · show t.val * 1 + w.val - 2063 = t.val + w.val - 2063; omega
        · show n.val * 1 + 0 - 0 = n.val; omega
      refine (congrArg (extractStridedSlice S4x2064x16 ![0, 0, 0] a3 slices_S4x2064x128_S4x2064x16_0_0_0) e).trans ?_
      pointwise []
      exact hL b ⟨t.val + w.val - 2063, by omega⟩ ⟨n.val, by omega⟩
    · rw [if_neg h, dif_neg]
      intro hin
      have := (hin 1).1
      change 2063 ≤ t.val * 1 + w.val at this
      omega
  refine (Finset.sum_congr rfl fun w _ => hw w).trans ?_
  refine (Fin.sum_univ_eq_sum_range (fun w : ℕ => if 2063 ≤ t.val + w then ((L b.val (t.val + w - 2063) n.val : ℝ) : EReal) else 0) 2064).trans ?_
  rw [← Finset.sum_range_reflect]
  refine Eq.trans ?_ ((lastOf_all (fun i => ((L b.val i n.val : ℝ) : EReal)) 2064 t.val t.isLt).trans ?_)
  · unfold lastOf
    refine Finset.sum_congr rfl fun w hw => ?_
    have := Finset.mem_range.1 hw
    by_cases h : w ≤ t.val
    · rw [if_pos h, if_pos (by omega)]; congr 2; omega
    · rw [if_neg h, if_neg (by omega)]
  · unfold sums
    rw [coe_sum]

/-- What the reference computes, for real arguments. -/
theorem ref_at (a0 a1 a2 : FVec Ideal S4x2064x2048 .f32) (a3 : FVec Ideal S4x2064x128 .f32) (Q K V L : ℕ → ℕ → ℕ → ℝ)
    (hQ : ∀ (b : Fin 4) (r : Fin 2064) (l : Fin 2048), a0 (ix3 b r l) = ((Q b.val r.val l.val : ℝ) : EReal))
    (hK : ∀ (b : Fin 4) (r : Fin 2064) (l : Fin 2048), a1 (ix3 b r l) = ((K b.val r.val l.val : ℝ) : EReal))
    (hV : ∀ (b : Fin 4) (r : Fin 2064) (l : Fin 2048), a2 (ix3 b r l) = ((V b.val r.val l.val : ℝ) : EReal))
    (hL : ∀ (b : Fin 4) (r : Fin 2064) (l : Fin 128), a3 (ix3 b r l) = ((L b.val r.val l.val : ℝ) : EReal))
    (b : Fin 4) (n : Fin 16) (t : Fin 2064) (d : Fin 128) :
    refOut a2 (refExp (refScores a0 a1 (refSums a3)) (refTop (refScores a0 a1 (refSums a3)))) (ix3 b t ⟨128 * n.val + d.val, by omega⟩) =
      ((attn Q K V L b.val n.val t.val d.val : ℝ) : EReal) := by
  have hs : ∀ (b : Fin 4) (n : Fin 16) (t u : Fin 2064), refScores a0 a1 (refSums a3) (ix4 b n t u) =
      if u.val ≤ t.val then ((score Q K L b.val n.val t.val u.val : ℝ) : EReal) else ⊥ := by
    intro b n t u
    rw [refScores_at]
    by_cases h : u.val ≤ t.val
    · rw [if_pos h, if_pos h, refSums_at a3 L hL, refSums_at a3 L hL]
      have e : Ideal.div 1 (Ideal.sqrt ((128 : ℝ) : EReal)) = (((Real.sqrt 128)⁻¹ : ℝ) : EReal) := by
        rw [Ideal.sqrt_coe, if_neg (by norm_num), Ideal.div_coe (by positivity), one_mul, one_div]
      rw [e]
      simp only [hQ, hK, ← EReal.coe_mul, coe_sum, ← EReal.coe_add, ← EReal.coe_sub]
      simp only [score, mul_comm n.val 128]
    · rw [if_neg h, if_neg h]
  obtain ⟨M, hM⟩ := refTop_real (refScores a0 a1 (refSums a3)) (fun i => by
    obtain ⟨b', n', t', u', rfl⟩ : ∃ b' n' t' u', i = ix4 b' n' t' u' := ⟨i 0, i 1, i 2, i 3, by funext a; fin_cases a <;> rfl⟩
    rw [hs]; split_ifs
    · exact EReal.coe_ne_top _
    · exact bot_ne_top) b n t t (by rw [hs, if_pos le_rfl]; exact EReal.coe_ne_bot _)
  rw [refOut_at]
  simp only [refExp_at, hs, hM, hV, mul_comm n.val 128]
  have e := softmax (fun u : Fin 2064 => u.val ≤ t.val) (fun u => score Q K L b.val n.val t.val u.val) (fun u => V b.val u.val (128 * n.val + d.val)) M ⟨t, le_rfl⟩
  refine e.trans ?_
  refine congrArg (fun x : ℝ => (x : EReal)) ?_
  unfold attn upTo
  rw [Fin.sum_univ_eq_sum_range (fun u => if u ≤ t.val then Real.exp (score Q K L b.val n.val t.val u) * V b.val u (128 * n.val + d.val) else 0) 2064,
    Fin.sum_univ_eq_sum_range (fun u => if u ≤ t.val then Real.exp (score Q K L b.val n.val t.val u) else 0) 2064]
  simp only [mul_one]

end Cert.Proof.Val

end
-- ==== Proof.Val.Final.lean ====
module

public import proofs.«01_k».proof.Defs
public import proofs.«01_k».proof.Proof.Frames
public import proofs.«01_k».proof.Proof.Val.Blocks
public import proofs.«01_k».proof.Proof.Val.Pre
public import proofs.«01_k».proof.Proof.Val.RefRead

@[expose] public section

set_option maxRecDepth 16384

noncomputable section

namespace Cert.Proof

open Idealize.ShloMosaic Idealize.SL.Sem
open Cert.Proof.Val

/-- The precondition's side conditions. -/
instance fpre : Cert.Pre_finite.Facts := Cert.Pre_finite.Gen.facts

/-- The idealized kernel's frame, from finite arguments. -/
theorem frame_KernelIdeal_finite : Cert.quiescent_KernelIdeal_pre_finite := fun m g _ =>
  frame_KernelIdeal m g trivial

/-- The reference's frame, from finite arguments. -/
theorem frame_ReferenceIdeal_finite : Cert.quiescent_ReferenceIdeal_pre_finite := fun m g _ =>
  frame_ReferenceIdeal m g trivial

/-- A tensor's elements as real numbers, indexed by naturals; nothing lies outside it. -/
def reals (n : ℕ) (x : Shape.Idx ⟨3, ![4, 2064, n]⟩ → EReal) (b r l : ℕ) : ℝ :=
  if h : b < 4 ∧ r < 2064 ∧ l < n then (x (ix3 ⟨b, h.1⟩ ⟨r, h.2.1⟩ ⟨l, h.2.2⟩)).toReal else 0

/-- Where every element is a real number, those numbers are the elements. -/
theorem reals_at (n : ℕ) (x : Shape.Idx ⟨3, ![4, 2064, n]⟩ → EReal) (hx : ∀ i, x i = (((x i).toReal : ℝ) : EReal)) (b : Fin 4) (r : Fin 2064) (l : Fin n) :
    x (ix3 b r l) = ((reals n x b.val r.val l.val : ℝ) : EReal) := by
  unfold reals
  rw [dif_pos ⟨b.isLt, r.isLt, l.isLt⟩]
  exact hx _

/-- An index of the result by its coordinates. -/
theorem index3 (y : Shape.Idx ⟨3, ![4, 2064, 2048]⟩) :
    y = ix3 (y 0) (y 1) ⟨128 * ((y 2).val / 128) + (y 2).val % 128, by have : (y 2).val < 2048 := (y 2).isLt; omega⟩ := by
  funext a
  fin_cases a
  · rfl
  · rfl
  · apply Fin.ext
    show (y 2).val = 128 * ((y 2).val / 128) + (y 2).val % 128
    omega

/-- The reference's result is the attention. -/
theorem ref_result (a0 a1 a2 : FVec Ideal Cert.ReferenceIdeal.S4x2064x2048 .f32) (a3 : FVec Ideal Cert.ReferenceIdeal.S4x2064x128 .f32) (Q K V L : ℕ → ℕ → ℕ → ℝ)
    (hQ : ∀ (b : Fin 4) (r : Fin 2064) (l : Fin 2048), a0 (ix3 b r l) = ((Q b.val r.val l.val : ℝ) : EReal))
    (hK : ∀ (b : Fin 4) (r : Fin 2064) (l : Fin 2048), a1 (ix3 b r l) = ((K b.val r.val l.val : ℝ) : EReal))
    (hV : ∀ (b : Fin 4) (r : Fin 2064) (l : Fin 2048), a2 (ix3 b r l) = ((V b.val r.val l.val : ℝ) : EReal))
    (hL : ∀ (b : Fin 4) (r : Fin 2064) (l : Fin 128), a3 (ix3 b r l) = ((L b.val r.val l.val : ℝ) : EReal)) :
    refOut a2 (refExp (refScores a0 a1 (refSums a3)) (refTop (refScores a0 a1 (refSums a3)))) = result Q K V L := by
  funext y
  have h2 : (y 2).val < 2048 := (y 2).isLt
  refine (congrArg _ (index3 y)).trans ?_
  exact ref_at a0 a1 a2 a3 Q K V L hQ hK hV hL (y 0) ⟨(y 2).val / 128, by omega⟩ (y 1) ⟨(y 2).val % 128, Nat.mod_lt _ (by norm_num)⟩

/-- The idealized kernel and the reference, from the same finite arguments, end with the same result. -/
theorem algebraic : Cert.algebraic_KernelIdeal_ReferenceIdeal_pre_finite := by
  intro m g m' g' hpre hargs
  refine ⟨fun c => Both.W2 m c (Proc.devRef .tc Cert.KernelIdeal.main_v1),
    (θ_run _ _ _).mono (fun _ h c => ⟨(h.1 c).2.2.2.2, (h.1 c).1, (h.1 c).2.1, (h.1 c).2.2.1, (h.1 c).2.2.2.1⟩) (Both.run (F := Ideal) m g),
    (θ_run _ _ _).mono (fun _ h c => ⟨(h c).1.trans ?_, (h c).2⟩) (Cert.ReferenceIdeal.Value.run (F := Ideal) m' g')⟩
  obtain ⟨f0, f1, f2, f3⟩ := finite_real _ _ _ _ (fun a => a.elim0) (congrFun (hpre c) _)
  obtain ⟨e0, e1, e2, e3⟩ := hargs c
  have hQ := reals_at 2048 _ f0
  have hK := reals_at 2048 _ f1
  have hV := reals_at 2048 _ f2
  have hL := reals_at 128 _ f3
  refine Eq.trans ?_ (W2_result m c _ _ _ _ hQ hK hV hL).symm
  rw [ref_parts]
  rw [e0, e1, e2, e3]
  exact ref_result _ _ _ _ _ _ _ _ hQ hK hV hL

end Cert.Proof

end
-- ==== Proof.Mlp.Step.lean ====
module

public import proofs.«01_k».proof.Proof.Gen.Kernel2Ideal.Skeleton
public import Idealize.ShloMosaic.Lib.Pipeline.FrameBody
public import Idealize.ShloMosaic.Lib.Tactic
public import Idealize.ShloMosaic.Lib.Writes
public import Idealize.ShloMosaic.Lib.VecWindow
public import Idealize.ShloMosaic.Lib.Pointwise.Index

@[expose] public section

set_option maxRecDepth 16384

noncomputable section

namespace Cert.Proof.Mlp

open Cert.Kernel2Ideal Cert.Kernel2Ideal.Gen
open Idealize.ShloMosaic

variable {F : FTy → Type} [FloatOps F]

/-! ## The normalized rows: the sample's 64 above the prompt block's 1024 -/

/-- The part of the scratch buffer that holds the prompt block's rows. -/
abbrev lowR : Rect S1088x2048 := Rect.unit (s := S1088x2048) ![64, 0] S1024x2048.size inb_S1088x2048_S1024x2048_64_0
/-- The part of the scratch buffer that holds the sample's rows. -/
abbrev topR : Rect S1088x2048 := Rect.unit (s := S1088x2048) ![0, 0] S64x2048.size inb_S1088x2048_S64x2048_0_0

/-- The prompt block's rows. -/
def low {e : EltTy} (x : Vec F S1088x2048 e) : Vec F S1024x2048 e := fun j => x (lowR.emb j)
/-- The sample's rows. -/
def top {e : EltTy} (x : Vec F S1088x2048 e) : Vec F S64x2048 e := fun j => x (topR.emb j)

/-- The sample's rows put above the prompt block's. -/
def stack {e : EltTy} (a : Vec F S64x2048 e) (b : Vec F S1024x2048 e) : Vec F S1088x2048 e := fun y =>
  if h : (y 0).val < 64 then a (ix2 ⟨(y 0).val, h⟩ (y 1))
  else b (ix2 ⟨(y 0).val - 64, by have : (y 0).val < 1088 := (y 0).isLt; omega⟩ (y 1))

/-- Below the sample's rows stand the prompt block's. -/
theorem stack_low {e : EltTy} (a : Vec F S64x2048 e) (b : Vec F S1024x2048 e) (j : lowR.shape.Idx) : b j = stack a b (lowR.emb j) := by
  have h0 : ((lowR.emb j) 0).val = 64 + 1 * (j 0).val := rfl
  unfold stack
  rw [dif_neg (by rw [h0]; omega)]
  congr 1
  funext a
  apply Fin.ext
  fin_cases a
  · show (j 0).val = ((lowR.emb j) 0).val - 64
    rw [h0]; omega
  · show (j 1).val = 0 + 1 * (j 1).val; omega

/-- Above the prompt block's rows stand the sample's. -/
theorem stack_top {e : EltTy} (a : Vec F S64x2048 e) (b : Vec F S1024x2048 e) (j : topR.shape.Idx) : a j = stack a b (topR.emb j) := by
  have h0 : ((topR.emb j) 0).val = 0 + 1 * (j 0).val := rfl
  have hj : (j 0).val < 64 := (j 0).isLt
  unfold stack
  rw [dif_pos (by rw [h0]; omega)]
  congr 1
  funext a
  apply Fin.ext
  fin_cases a
  · show (j 0).val = ((topR.emb j) 0).val
    rw [h0]; omega
  · show (j 1).val = 0 + 1 * (j 1).val; omega

/-- The prompt block's rows of the two put together. -/
theorem low_stack {e : EltTy} (a : Vec F S64x2048 e) (b : Vec F S1024x2048 e) : low (stack a b) = b :=
  funext fun j => (stack_low a b j).symm
/-- The sample's rows of the two put together. -/
theorem top_stack {e : EltTy} (a : Vec F S64x2048 e) (b : Vec F S1024x2048 e) : top (stack a b) = a :=
  funext fun j => (stack_top a b j).symm

/-- A row lies in the lower part from row 64 on. -/
theorem mem_low (y : S1088x2048.Idx) (h : ¬(y 0).val < 64) : y ∈ lowR.set := by
  have hy : (y 0).val < 1088 := (y 0).isLt
  rw [← lowR.map_emb_univ, Finset.mem_map]
  refine ⟨ix2 ⟨(y 0).val - 64, by omega⟩ (y 1), Finset.mem_univ _, ?_⟩
  funext a
  apply Fin.ext
  fin_cases a
  · show 64 + 1 * ((y 0).val - 64) = (y 0).val; omega
  · show 0 + 1 * (y 1).val = (y 1).val; omega

/-- A row lies in the upper part before row 64. -/
theorem mem_top (y : S1088x2048.Idx) (h : (y 0).val < 64) : y ∈ topR.set := by
  rw [← topR.map_emb_univ, Finset.mem_map]
  refine ⟨ix2 ⟨(y 0).val, h⟩ (y 1), Finset.mem_univ _, ?_⟩
  funext a
  apply Fin.ext
  fin_cases a
  · show 0 + 1 * (y 0).val = (y 0).val; omega
  · show 0 + 1 * (y 1).val = (y 1).val; omega

section Reads

variable {sig : RefSig} {κ : Kind} {sp : Space} {e : EltTy}

/-- Both parts stored, the buffer reads as the sample's rows above the prompt block's. -/
theorem read_stack (v : View sig κ sp S1088x2048 e) (f : v.ty.Contents (Elt F)) (a : Vec F S64x2048 e) (b : Vec F S1024x2048 e) :
    v.read (Elt F) (v.writes (Elt F) f [⟨topR, a⟩, ⟨lowR, b⟩]) = stack a b := by
  funext y
  refine View.read_writes_apply_of_pieces _ _ (stack a b) [⟨topR, a⟩, ⟨lowR, b⟩] ?_ y ?_
  · simp only [List.forall_mem_cons, List.not_mem_nil, false_imp_iff, implies_true, and_true]
    exact ⟨fun x => stack_top a b x, fun x => stack_low a b x⟩
  · by_cases h : (y 0).val < 64
    · exact ⟨⟨topR, a⟩, by simp, mem_top y h⟩
    · exact ⟨⟨lowR, b⟩, by simp, mem_low y h⟩

/-- The prompt block's part of the buffer is read as such. -/
theorem read_low (v : View sig κ sp S1088x2048 e) (f : v.ty.Contents (Elt F)) :
    v.readAt (Elt F) (Rect.unit (s := S1088x2048) ![64, 0] S1024x2048.size inb_S1088x2048_S1024x2048_64_0).toLoadRect f = low (v.read (Elt F) f) := rfl

/-- Putting the sample's rows of an array above new ones keeps them. -/
theorem stack_keeps (g : Vec F S1088x2048 e) (b : Vec F S1024x2048 e) (y : S1088x2048.Idx) (h : (y 0).val < 64) :
    stack (top g) b y = g y := by
  unfold stack top
  rw [dif_pos h]
  congr 1
  funext a
  apply Fin.ext
  fin_cases a
  · show 0 + 1 * (y 0).val = (y 0).val; omega
  · show 0 + 1 * (y 1).val = (y 1).val; omega

/-- The sample's rows lie outside the prompt block's part. -/
theorem not_mem_low (y : S1088x2048.Idx) (h : (y 0).val < 64) : y ∉ lowR.set := fun hm => by
  rw [← lowR.map_emb_univ, Finset.mem_map] at hm
  obtain ⟨j, -, hj⟩ := hm
  have h0 : ((lowR.emb j) 0).val = 64 + 1 * (j 0).val := rfl
  rw [hj] at h0
  omega

/-- The prompt block's rows stored anew, the sample's rows stay. -/
theorem read_below (v : View sig κ sp S1088x2048 e) (f : v.ty.Contents (Elt F)) (b : Vec F S1024x2048 e) :
    v.read (Elt F) (v.writes (Elt F) f [⟨lowR, b⟩]) = stack (top (v.read (Elt F) f)) b := by
  generalize hg : v.read (Elt F) f = g
  funext y
  by_cases h : (y 0).val < 64
  · refine (View.read_writes_cons_miss v f ⟨lowR, b⟩ [] y (not_mem_low y h)).trans ?_
    refine Eq.trans ?_ (stack_keeps g b y h).symm
    rw [← hg]
    rfl
  · refine View.read_writes_apply_of_pieces _ _ (stack (top g) b) [⟨lowR, b⟩] ?_ y ⟨⟨lowR, b⟩, by simp, mem_low y h⟩
    simp only [List.forall_mem_cons, List.not_mem_nil, false_imp_iff, implies_true, and_true]
    exact fun x => stack_low _ b x

end Reads

end Cert.Proof.Mlp

end
-- ==== Proof.Mlp.RunA.lean ====
module

public import proofs.«01_k».proof.Proof.Gen.Kernel2Ideal.Launch
public import proofs.«01_k».proof.Proof.Gen.Kernel2Ideal.Points
public import proofs.«01_k».proof.Proof.Mlp.Step
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S64x2048 .f32) (harg9 : arg9.IsWhole) (arg10 : Memref sig .tc .vmem S1088x2048 .bf16) (harg10 : arg10.IsWhole)
    (x0 : Vec F S1024x2048 .f32) (x1 : Vec F S64x2048 .f32) (x2 x3 : Vec F S1x2048 .f32) (x4 : Vec F S2048x512 .bf16) (x5 : Vec F S512x2048 .bf16)
    (xo : Vec F S1024x2048 .f32) (xs : Vec F S64x2048 .f32) (xn : Vec F S1088x2048 .bf16)

set_option maxHeartbeats 2000000 in
/-- The first point: the rows of the sample and of the first prompt block are normalized, then the first part of the layer is added. -/
theorem run_A (hc1 : k0_cond1 i = 1#1) (hc2 : k0_cond2 i = 1#1) (hc3 : k0_cond3 i = 1#1) (hc4 : ¬k0_cond4 i = 1#1) (hc5 : ¬k0_cond5 i = 1#1) (hc6 : ¬k0_cond6 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay7 (stack (k0_pay4 x1 x2) (k0_pay2 x0 x2)) x4 x5 (k0_pay1 x0)) ∗ owns (c : Thread nD τ) arg9 fullShare (k0_pay6 (stack (k0_pay4 x1 x2) (k0_pay2 x0 x2)) x4 x5 (k0_pay3 x1)) ∗ owns (c : Thread nD τ) arg10 fullShare (stack (k0_pay4 x1 x2) (k0_pay2 x0 x2))) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10) K := by
    simp only [cc0_mlp_eq_skeleton]; unfold cc0_mlp_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | sl_exact hc1 | sl_exact hc2 | sl_exact hc3 | sl_exact hc4 | sl_exact hc5 | sl_exact hc6)
    sl_step
    iapply Hk
    isplitl [H0]
    · iexists _; isplitr
      · ipureintro; exact hf0
      iexact H0
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      swap
      · iexact H6
      · ipureintro
        unfold run_A.sl.v22 run_A.sl.v38 run_A.sl.H6_1 run_A.sl.H8_2 View.readCov
        (repeat first | rw [View.read_writes_full] | rw [View.readAt_full] | rw [read_stack] | rw [read_low] | rw [read_below] | rw [low_stack])
        simp only [hf0, hf1, hf2, hf3, hf4, hf5]
    isplitl [H7]
    · iexists _; isplitr
      swap
      · iexact H7
      · ipureintro
        unfold run_A.sl.v22 run_A.sl.v33 run_A.sl.H7_1 run_A.sl.H8_2 View.readCov
        (repeat first | rw [View.read_writes_full] | rw [View.readAt_full] | rw [read_stack] | rw [read_low] | rw [read_below] | rw [low_stack])
        simp only [hf0, hf1, hf2, hf3, hf4, hf5]
    · iexists _; isplitr
      swap
      · iexact H8
      · ipureintro
        unfold run_A.sl.H8_2
        (repeat first | rw [View.read_writes_full] | rw [View.readAt_full] | rw [read_stack] | rw [read_low] | rw [read_below] | rw [low_stack])
        simp only [hf0, hf1, hf2, hf3, hf4, hf5]

end Cert.Proof.Mlp

end
-- ==== Proof.Mlp.RunB.lean ====
module

public import proofs.«01_k».proof.Proof.Gen.Kernel2Ideal.Launch
public import proofs.«01_k».proof.Proof.Gen.Kernel2Ideal.Points
public import proofs.«01_k».proof.Proof.Mlp.Step
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S64x2048 .f32) (harg9 : arg9.IsWhole) (arg10 : Memref sig .tc .vmem S1088x2048 .bf16) (harg10 : arg10.IsWhole)
    (x0 : Vec F S1024x2048 .f32) (x1 : Vec F S64x2048 .f32) (x2 x3 : Vec F S1x2048 .f32) (x4 : Vec F S2048x512 .bf16) (x5 : Vec F S512x2048 .bf16)
    (xo : Vec F S1024x2048 .f32) (xs : Vec F S64x2048 .f32) (xn : Vec F S1088x2048 .bf16)

set_option maxHeartbeats 2000000 in
/-- A later point of the first row but not the last: a part of the layer is added to both. -/
theorem run_B (hc1 : ¬k0_cond1 i = 1#1) (hc2 : ¬k0_cond2 i = 1#1) (hc3 : k0_cond3 i = 1#1) (hc4 : ¬k0_cond4 i = 1#1) (hc5 : ¬k0_cond5 i = 1#1) (hc6 : ¬k0_cond6 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs ∗ owns (c : Thread nD τ) arg10 fullShare xn
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay7 xn x4 x5 xo) ∗ owns (c : Thread nD τ) arg9 fullShare (k0_pay6 xn x4 x5 xs) ∗ owns (c : Thread nD τ) arg10 fullShare xn) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10) K := by
    simp only [cc0_mlp_eq_skeleton]; unfold cc0_mlp_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec (disch := first | sl_exact hc1 | sl_exact hc2 | sl_exact hc3 | sl_exact hc4 | sl_exact hc5 | sl_exact hc6)
    sl_step
    iapply Hk
    isplitl [H0]
    · iexists _; isplitr
      · ipureintro; exact hf0
      iexact H0
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      swap
      · iexact H6
      · ipureintro
        (repeat first | rw [View.read_writes_full] | rw [View.readAt_full] | rw [read_stack] | rw [read_low] | rw [read_below] | rw [low_stack])
        simp only [hf0, hf1, hf2, hf3, hf4, hf5, hf6, hf7, hf8]
    isplitl [H7]
    · iexists _; isplitr
      swap
      · iexact H7
      · ipureintro
        (repeat first | rw [View.read_writes_full] | rw [View.readAt_full] | rw [read_stack] | rw [read_low] | rw [read_below] | rw [low_stack])
        simp only [hf0, hf1, hf2, hf3, hf4, hf5, hf6, hf7, hf8]
    · iexists _; isplitr
      · ipureintro; exact hf8
      iexact H8

end Cert.Proof.Mlp

end
-- ==== Proof.Mlp.RunC.lean ====
module

public import proofs.«01_k».proof.Proof.Gen.Kernel2Ideal.Launch
public import proofs.«01_k».proof.Proof.Gen.Kernel2Ideal.Points
public import proofs.«01_k».proof.Proof.Mlp.Step
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S64x2048 .f32) (harg9 : arg9.IsWhole) (arg10 : Memref sig .tc .vmem S1088x2048 .bf16) (harg10 : arg10.IsWhole)
    (x0 : Vec F S1024x2048 .f32) (x1 : Vec F S64x2048 .f32) (x2 x3 : Vec F S1x2048 .f32) (x4 : Vec F S2048x512 .bf16) (x5 : Vec F S512x2048 .bf16)
    (xo : Vec F S1024x2048 .f32) (xs : Vec F S64x2048 .f32) (xn : Vec F S1088x2048 .bf16)

set_option maxHeartbeats 2000000 in
/-- The last point of the first row: the last part is added and both are normalized. -/
theorem run_C (hc1 : ¬k0_cond1 i = 1#1) (hc2 : ¬k0_cond2 i = 1#1) (hc3 : k0_cond3 i = 1#1) (hc4 : ¬k0_cond4 i = 1#1) (hc5 : k0_cond5 i = 1#1) (hc6 : k0_cond6 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs ∗ owns (c : Thread nD τ) arg10 fullShare xn
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay9 (k0_pay7 xn x4 x5 xo) x3) ∗ owns (c : Thread nD τ) arg9 fullShare (k0_pay10 (k0_pay6 xn x4 x5 xs) x3) ∗ owns (c : Thread nD τ) arg10 fullShare xn) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10) K := by
    simp only [cc0_mlp_eq_skeleton]; unfold cc0_mlp_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec (disch := first | sl_exact hc1 | sl_exact hc2 | sl_exact hc3 | sl_exact hc4 | sl_exact hc5 | sl_exact hc6)
    sl_step
    iapply Hk
    isplitl [H0]
    · iexists _; isplitr
      · ipureintro; exact hf0
      iexact H0
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      swap
      · iexact H6
      · ipureintro
        unfold run_C.sl.v22 run_C.sl.H6_1 View.readCov
        (repeat first | rw [View.read_writes_full] | rw [View.readAt_full] | rw [read_stack] | rw [read_low] | rw [read_below] | rw [low_stack])
        simp only [hf0, hf1, hf2, hf3, hf4, hf5, hf6, hf7, hf8]
    isplitl [H7]
    · iexists _; isplitr
      swap
      · iexact H7
      · ipureintro
        unfold run_C.sl.v22_1 run_C.sl.H7_1 View.readCov
        (repeat first | rw [View.read_writes_full] | rw [View.readAt_full] | rw [read_stack] | rw [read_low] | rw [read_below] | rw [low_stack])
        simp only [hf0, hf1, hf2, hf3, hf4, hf5, hf6, hf7, hf8]
    · iexists _; isplitr
      · ipureintro; exact hf8
      iexact H8

end Cert.Proof.Mlp

end
-- ==== Proof.Mlp.RunD.lean ====
module

public import proofs.«01_k».proof.Proof.Gen.Kernel2Ideal.Launch
public import proofs.«01_k».proof.Proof.Gen.Kernel2Ideal.Points
public import proofs.«01_k».proof.Proof.Mlp.Step
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S64x2048 .f32) (harg9 : arg9.IsWhole) (arg10 : Memref sig .tc .vmem S1088x2048 .bf16) (harg10 : arg10.IsWhole)
    (x0 : Vec F S1024x2048 .f32) (x1 : Vec F S64x2048 .f32) (x2 x3 : Vec F S1x2048 .f32) (x4 : Vec F S2048x512 .bf16) (x5 : Vec F S512x2048 .bf16)
    (xo : Vec F S1024x2048 .f32) (xs : Vec F S64x2048 .f32) (xn : Vec F S1088x2048 .bf16)

set_option maxHeartbeats 2000000 in
/-- The first point of a later row: the rows of its prompt block are normalized, then the first part is added. -/
theorem run_D (hc1 : k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs ∗ owns (c : Thread nD τ) arg10 fullShare xn
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay8 (k0_pay1 x0) (k0_pay2 x0 x2) x4 x5) ∗ owns (c : Thread nD τ) arg9 fullShare xs ∗ owns (c : Thread nD τ) arg10 fullShare (stack (top xn) (k0_pay2 x0 x2))) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10) K := by
    simp only [cc0_mlp_eq_skeleton]; unfold cc0_mlp_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg9.eq_unread hf7
    obtain rfl := harg10.eq_unread hf8
    sl_exec (disch := first | sl_exact hc1 | sl_exact hc2 | sl_exact hc3 | sl_exact hc4 | sl_exact hc5 | sl_exact hc6)
    sl_step
    iapply Hk
    isplitl [H0]
    · iexists _; isplitr
      · ipureintro; exact hf0
      iexact H0
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      swap
      · iexact H6
      · ipureintro
        unfold run_D.sl.v22 run_D.sl.v24 run_D.sl.H6_1 run_D.sl.H8_1 View.readCov
        (repeat first | rw [View.read_writes_full] | rw [View.readAt_full] | rw [read_stack] | rw [read_low] | rw [read_below] | rw [low_stack])
        simp only [hf0, hf1, hf2, hf3, hf4, hf5, hf7, hf8]
    isplitl [H7]
    · iexists _; isplitr
      · ipureintro; exact hf7
      iexact H7
    · iexists _; isplitr
      swap
      · iexact H8
      · ipureintro
        unfold run_D.sl.H8_1
        (repeat first | rw [View.read_writes_full] | rw [View.readAt_full] | rw [read_stack] | rw [read_low] | rw [read_below] | rw [low_stack])
        simp only [hf0, hf1, hf2, hf3, hf4, hf5, hf7, hf8]

end Cert.Proof.Mlp

end
-- ==== Proof.Mlp.RunE.lean ====
module

public import proofs.«01_k».proof.Proof.Gen.Kernel2Ideal.Launch
public import proofs.«01_k».proof.Proof.Gen.Kernel2Ideal.Points
public import proofs.«01_k».proof.Proof.Mlp.Step
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S64x2048 .f32) (harg9 : arg9.IsWhole) (arg10 : Memref sig .tc .vmem S1088x2048 .bf16) (harg10 : arg10.IsWhole)
    (x0 : Vec F S1024x2048 .f32) (x1 : Vec F S64x2048 .f32) (x2 x3 : Vec F S1x2048 .f32) (x4 : Vec F S2048x512 .bf16) (x5 : Vec F S512x2048 .bf16)
    (xo : Vec F S1024x2048 .f32) (xs : Vec F S64x2048 .f32) (xn : Vec F S1088x2048 .bf16)

set_option maxHeartbeats 2000000 in
/-- A later point of a later row but not the last: a part of the layer is added. -/
theorem run_E (hc1 : ¬k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs ∗ owns (c : Thread nD τ) arg10 fullShare xn
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay8 xo (low xn) x4 x5) ∗ owns (c : Thread nD τ) arg9 fullShare xs ∗ owns (c : Thread nD τ) arg10 fullShare xn) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10) K := by
    simp only [cc0_mlp_eq_skeleton]; unfold cc0_mlp_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec (disch := first | sl_exact hc1 | sl_exact hc2 | sl_exact hc3 | sl_exact hc4 | sl_exact hc5 | sl_exact hc6)
    sl_step
    iapply Hk
    isplitl [H0]
    · iexists _; isplitr
      · ipureintro; exact hf0
      iexact H0
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      swap
      · iexact H6
      · ipureintro
        (repeat first | rw [View.read_writes_full] | rw [View.readAt_full] | rw [read_stack] | rw [read_low] | rw [read_below] | rw [low_stack])
        simp only [hf0, hf1, hf2, hf3, hf4, hf5, hf6, hf7, hf8]
    isplitl [H7]
    · iexists _; isplitr
      · ipureintro; exact hf7
      iexact H7
    · iexists _; isplitr
      · ipureintro; exact hf8
      iexact H8

end Cert.Proof.Mlp

end
-- ==== Proof.Mlp.RunG.lean ====
module

public import proofs.«01_k».proof.Proof.Gen.Kernel2Ideal.Launch
public import proofs.«01_k».proof.Proof.Gen.Kernel2Ideal.Points
public import proofs.«01_k».proof.Proof.Mlp.Step
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S64x2048 .f32) (harg9 : arg9.IsWhole) (arg10 : Memref sig .tc .vmem S1088x2048 .bf16) (harg10 : arg10.IsWhole)
    (x0 : Vec F S1024x2048 .f32) (x1 : Vec F S64x2048 .f32) (x2 x3 : Vec F S1x2048 .f32) (x4 : Vec F S2048x512 .bf16) (x5 : Vec F S512x2048 .bf16)
    (xo : Vec F S1024x2048 .f32) (xs : Vec F S64x2048 .f32) (xn : Vec F S1088x2048 .bf16)

set_option maxHeartbeats 2000000 in
/-- The last point of a later row: the last part is added and the block is normalized. -/
theorem run_G (hc1 : ¬k0_cond1 i = 1#1) (hc2 : ¬k0_cond2 i = 1#1) (hc3 : ¬k0_cond3 i = 1#1) (hc4 : k0_cond4 i = 1#1) (hc5 : k0_cond5 i = 1#1) (hc6 : ¬k0_cond6 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs ∗ owns (c : Thread nD τ) arg10 fullShare xn
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay9 (k0_pay8 xo (low xn) x4 x5) x3) ∗ owns (c : Thread nD τ) arg9 fullShare xs ∗ owns (c : Thread nD τ) arg10 fullShare xn) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10) K := by
    simp only [cc0_mlp_eq_skeleton]; unfold cc0_mlp_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec (disch := first | sl_exact hc1 | sl_exact hc2 | sl_exact hc3 | sl_exact hc4 | sl_exact hc5 | sl_exact hc6)
    sl_step
    iapply Hk
    isplitl [H0]
    · iexists _; isplitr
      · ipureintro; exact hf0
      iexact H0
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      swap
      · iexact H6
      · ipureintro
        unfold run_G.sl.v22 run_G.sl.H6_1 View.readCov
        (repeat first | rw [View.read_writes_full] | rw [View.readAt_full] | rw [read_stack] | rw [read_low] | rw [read_below] | rw [low_stack])
        simp only [hf0, hf1, hf2, hf3, hf4, hf5, hf6, hf7, hf8]
    isplitl [H7]
    · iexists _; isplitr
      · ipureintro; exact hf7
      iexact H7
    · iexists _; isplitr
      · ipureintro; exact hf8
      iexact H8

end Cert.Proof.Mlp

end
-- ==== Proof.Mlp.Data.lean ====
module

public import proofs.«01_k».proof.Proof.Mlp.RunA
public import proofs.«01_k».proof.Proof.Mlp.RunB
public import proofs.«01_k».proof.Proof.Mlp.RunC
public import proofs.«01_k».proof.Proof.Mlp.RunD
public import proofs.«01_k».proof.Proof.Mlp.RunE
public import proofs.«01_k».proof.Proof.Mlp.RunG
public import proofs.«01_k».proof.Proof.Gen.Kernel2Ideal.Frame
public import Idealize.ShloMosaic.Lib.Pipeline.FrameBody
public import Idealize.ShloMosaic.Lib.Pipeline.TableIdle

@[expose] public section

set_option maxRecDepth 16384

noncomputable section

namespace Cert.Proof.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid: eight prompt blocks of 1024 rows, sixteen parts of 512 of the layer's inner width -/

/-- The prompt block's rows are normalized where a row of parts begins. -/
theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)
/-- The sample's rows are normalized at the first point. -/
theorem cond2_iff : ∀ t : Fin cfg0.N, k0_cond2 (grid0.coords t) = 1#1 ↔ t.val = 0 :=
  (by decide +kernel : ∀ t : Fin grid0.N, k0_cond2 (grid0.coords t) = 1#1 ↔ t.val = 0)
/-- The sample rides with the first prompt block. -/
theorem cond3_iff : ∀ t : Fin cfg0.N, k0_cond3 (grid0.coords t) = 1#1 ↔ t.val < 16 :=
  (by decide +kernel : ∀ t : Fin grid0.N, k0_cond3 (grid0.coords t) = 1#1 ↔ t.val < 16)
/-- The later prompt blocks go alone. -/
theorem cond4_iff : ∀ t : Fin cfg0.N, k0_cond4 (grid0.coords t) = 1#1 ↔ ¬t.val < 16 :=
  (by decide +kernel : ∀ t : Fin grid0.N, k0_cond4 (grid0.coords t) = 1#1 ↔ ¬t.val < 16)
/-- The prompt block's result is normalized at the last part. -/
theorem cond5_iff : ∀ t : Fin cfg0.N, k0_cond5 (grid0.coords t) = 1#1 ↔ t.val % 16 = 15 :=
  (by decide +kernel : ∀ t : Fin grid0.N, k0_cond5 (grid0.coords t) = 1#1 ↔ t.val % 16 = 15)
/-- The sample's result is normalized at the first block's last part. -/
theorem cond6_iff : ∀ t : Fin cfg0.N, k0_cond6 (grid0.coords t) = 1#1 ↔ t.val = 15 :=
  (by decide +kernel : ∀ t : Fin grid0.N, k0_cond6 (grid0.coords t) = 1#1 ↔ t.val = 15)
/-- The prompt's result is never left alone. -/
theorem idle_6 : ∀ t : Fin cfg0.N, cfg0.idle 6 (grid0.coords t) = false :=
  (by decide +kernel : ∀ t : Fin grid0.N, idle0 6 (grid0.coords t) = false)
/-- The sample's result is left alone past the first block. -/
theorem idle_7 : ∀ t : Fin cfg0.N, cfg0.idle 7 (grid0.coords t) = true ↔ ¬t.val < 16 :=
  (by decide +kernel : ∀ t : Fin grid0.N, idle0 7 (grid0.coords t) = true ↔ ¬t.val < 16)
/-- Within a row of parts the prompt's result is carried. -/
theorem fresh_6 : ∀ t : Fin cfg0.N, ¬t.val % 16 = 0 → cfg0.fresh 6 t.val = false :=
  (by decide +kernel : ∀ t : Fin grid0.N, ¬t.val % 16 = 0 → cfg0.fresh 6 t.val = false)
/-- After the first point the sample's result is carried. -/
theorem fresh_7 : ∀ t : Fin cfg0.N, ¬t.val = 0 → cfg0.fresh 7 t.val = false :=
  (by decide +kernel : ∀ t : Fin grid0.N, ¬t.val = 0 → cfg0.fresh 7 t.val = false)

/-! ## What the buffers hold point by point -/

/-- What is carried from point to point: the normalized rows, the prompt block's result and the sample's result. -/
abbrev St (F : FTy → Type) [FloatOps F] : Type := Vec F S1088x2048 .bf16 × Vec F S1024x2048 .f32 × Vec F S64x2048 .f32

/-- One point's work on what is carried, from the point's number and its blocks. -/
def next (n : ℕ) (x0 : Vec F S1024x2048 .f32) (x1 : Vec F S64x2048 .f32) (x2 x3 : Vec F S1x2048 .f32) (x4 : Vec F S2048x512 .bf16)
    (x5 : Vec F S512x2048 .bf16) (p : St F) : St F :=
  if n = 0 then
    (stack (k0_pay4 x1 x2) (k0_pay2 x0 x2), k0_pay7 (stack (k0_pay4 x1 x2) (k0_pay2 x0 x2)) x4 x5 (k0_pay1 x0),
      k0_pay6 (stack (k0_pay4 x1 x2) (k0_pay2 x0 x2)) x4 x5 (k0_pay3 x1))
  else if n < 15 then (p.1, k0_pay7 p.1 x4 x5 p.2.1, k0_pay6 p.1 x4 x5 p.2.2)
  else if n = 15 then (p.1, k0_pay9 (k0_pay7 p.1 x4 x5 p.2.1) x3, k0_pay10 (k0_pay6 p.1 x4 x5 p.2.2) x3)
  else if n % 16 = 0 then (stack (top p.1) (k0_pay2 x0 x2), k0_pay8 (k0_pay1 x0) (k0_pay2 x0 x2) x4 x5, p.2.2)
  else if n % 16 = 15 then (p.1, k0_pay9 (k0_pay8 p.2.1 (low p.1) x4 x5) x3, p.2.2)
  else (p.1, k0_pay8 p.2.1 (low p.1) x4 x5, p.2.2)

-- The buffers as launched.
variable (m : (ℓ : Loc nD τ sig) → Buf (Elt F) ℓ)

/-- What is carried after a point. -/
def stAt (c : Dev nD) : (n : ℕ) → n < cfg0.N → St F
  | 0, h => next 0 (iblk m c 0 ⟨0, h⟩) (iblk m c 1 ⟨0, h⟩) (iblk m c 2 ⟨0, h⟩) (iblk m c 3 ⟨0, h⟩) (iblk m c 4 ⟨0, h⟩) (iblk m c 5 ⟨0, h⟩)
      (stack (k0_pay4 (iblk m c 1 ⟨0, h⟩) (iblk m c 2 ⟨0, h⟩)) (k0_pay2 (iblk m c 0 ⟨0, h⟩) (iblk m c 2 ⟨0, h⟩)), iblk m c 0 ⟨0, h⟩, iblk m c 1 ⟨0, h⟩)
  | n + 1, h => next (n + 1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)
      (stAt c n (Nat.lt_of_succ_lt h))

/-- What the point before left. -/
abbrev prev (c : Dev nD) (t : Fin cfg0.N) : St F := stAt m c (t.val - 1) (Nat.lt_of_le_of_lt (Nat.sub_le _ _) t.isLt)

/-- What is carried after a later point, from what the point before left. -/
theorem stAt_pos (c : Dev nD) (t : Fin cfg0.N) (ht : t.val ≠ 0) :
    stAt m c t.val t.isLt = next t.val (iblk m c 0 t) (iblk m c 1 t) (iblk m c 2 t) (iblk m c 3 t) (iblk m c 4 t) (iblk m c 5 t) (prev m c t) := by
  obtain ⟨n, h⟩ := t
  cases n with
  | zero => exact absurd rfl ht
  | succ n => rfl
/-- What is carried after the first point. -/
theorem stAt_A (c : Dev nD) (t : Fin cfg0.N) (h : t.val = 0) :
    stAt m c t.val t.isLt = ((stack (k0_pay4 (iblk m c 1 t) (iblk m c 2 t)) (k0_pay2 (iblk m c 0 t) (iblk m c 2 t))), k0_pay7 (stack (k0_pay4 (iblk m c 1 t) (iblk m c 2 t)) (k0_pay2 (iblk m c 0 t) (iblk m c 2 t))) (iblk m c 4 t) (iblk m c 5 t) (k0_pay1 (iblk m c 0 t)), k0_pay6 (stack (k0_pay4 (iblk m c 1 t) (iblk m c 2 t)) (k0_pay2 (iblk m c 0 t) (iblk m c 2 t))) (iblk m c 4 t) (iblk m c 5 t) (k0_pay3 (iblk m c 1 t))) := by
  obtain ⟨n, hn⟩ := t; simp only at h; subst h; rfl
/-- What is carried after a later point of the first row but its last. -/
theorem stAt_B (c : Dev nD) (t : Fin cfg0.N) (h : ¬t.val = 0) (h1 : t.val < 15) :
    stAt m c t.val t.isLt = ((prev m c t).1, k0_pay7 (prev m c t).1 (iblk m c 4 t) (iblk m c 5 t) (prev m c t).2.1, k0_pay6 (prev m c t).1 (iblk m c 4 t) (iblk m c 5 t) (prev m c t).2.2) := by
  rw [stAt_pos m c t (by omega)]; unfold next; rw [if_neg h, if_pos h1]
/-- What is carried after the last point of the first row. -/
theorem stAt_C (c : Dev nD) (t : Fin cfg0.N) (h : t.val = 15) :
    stAt m c t.val t.isLt = ((prev m c t).1, k0_pay9 (k0_pay7 (prev m c t).1 (iblk m c 4 t) (iblk m c 5 t) (prev m c t).2.1) (iblk m c 3 t), k0_pay10 (k0_pay6 (prev m c t).1 (iblk m c 4 t) (iblk m c 5 t) (prev m c t).2.2) (iblk m c 3 t)) := by
  rw [stAt_pos m c t (by omega)]; unfold next; rw [if_neg (by omega), if_neg (by omega), if_pos h]
/-- What is carried after the first point of a later row. -/
theorem stAt_D (c : Dev nD) (t : Fin cfg0.N) (h : ¬t.val < 16) (h1 : t.val % 16 = 0) :
    stAt m c t.val t.isLt = (stack (top (prev m c t).1) (k0_pay2 (iblk m c 0 t) (iblk m c 2 t)), k0_pay8 (k0_pay1 (iblk m c 0 t)) (k0_pay2 (iblk m c 0 t) (iblk m c 2 t)) (iblk m c 4 t) (iblk m c 5 t), (prev m c t).2.2) := by
  rw [stAt_pos m c t (by omega)]; unfold next; rw [if_neg (by omega), if_neg (by omega), if_neg (by omega), if_pos h1]
/-- What is carried within a later row. -/
theorem stAt_E (c : Dev nD) (t : Fin cfg0.N) (h : ¬t.val < 16) (h1 : ¬t.val % 16 = 0) (h2 : ¬t.val % 16 = 15) :
    stAt m c t.val t.isLt = ((prev m c t).1, k0_pay8 (prev m c t).2.1 (low (prev m c t).1) (iblk m c 4 t) (iblk m c 5 t), (prev m c t).2.2) := by
  rw [stAt_pos m c t (by omega)]; unfold next; rw [if_neg (by omega), if_neg (by omega), if_neg (by omega), if_neg h1, if_neg h2]
/-- What is carried after the last point of a later row. -/
theorem stAt_G (c : Dev nD) (t : Fin cfg0.N) (h : ¬t.val < 16) (h1 : t.val % 16 = 15) :
    stAt m c t.val t.isLt = ((prev m c t).1, k0_pay9 (k0_pay8 (prev m c t).2.1 (low (prev m c t).1) (iblk m c 4 t) (iblk m c 5 t)) (iblk m c 3 t), (prev m c t).2.2) := by
  rw [stAt_pos m c t (by omega)]; unfold next; rw [if_neg (by omega), if_neg (by omega), if_neg (by omega), if_neg (by omega), if_pos h1]

/-! ## The region's proof data -/

/-- The scratch buffer as a memref. -/
abbrev scN : Memref sig .tc .vmem S1088x2048 .bf16 := Memref.whole cc0_scratch0

/-- The scratch buffer before a point. -/
def Inv (c : Dev nD) : (n : ℕ) → n ≤ cfg0.N → sProp 𝕄
  | 0, _ => Pipeline.scopedRest spec0 c
  | n + 1, hn => owns (c : Thread nD τ) scN fullShare (stAt m c n hn).1

/-- The region's own buffers are the scratch buffer. -/
theorem scratch_of (c : Dev nD) : (Pipeline.scopedRest spec0 c : sProp 𝕄) ⊢ iprop(∃ d, owns (c : Thread nD τ) scN fullShare d) := by
  unfold scN
  simp only [scopedRest0_eq, owns_whole]
  exact .rfl
/-- The scratch buffer is the region's own buffers. -/
theorem of_scratch (c : Dev nD) (d : Vec F S1088x2048 .bf16) : owns (c : Thread nD τ) scN fullShare d ⊢ (Pipeline.scopedRest spec0 c : sProp 𝕄) := by
  unfold scN
  simp only [scopedRest0_eq, owns_whole]
  iintro H; iexists _; iexact H
/-- Before a later point the scratch buffer holds what the point before left. -/
theorem Inv_pos (c : Dev nD) (n : ℕ) (h : n ≤ cfg0.N) (hz : n ≠ 0) :
    Inv m c n h = owns (c : Thread nD τ) scN fullShare (stAt m c (n - 1) (by omega)).1 := by
  cases n with
  | zero => exact absurd rfl hz
  | succ n => rfl
/-- Before any point the scratch buffer holds something. -/
theorem Inv_any (c : Dev nD) (n : ℕ) (h : n ≤ cfg0.N) : Inv m c n h ⊢ (iprop(∃ d, owns (c : Thread nD τ) scN fullShare d) : sProp 𝕄) := by
  cases n with
  | zero => exact scratch_of c
  | succ n => unfold Inv; iintro H; iexists _; iexact H

/-- The proof data of the region: an input keeps its block, the outputs hold what is carried of them. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t.val t.isLt).2.1
    | ⟨7, _⟩ => (stAt m c t.val t.isLt).2.2
  Φ t := Inv m c t.val (Nat.le_of_lt_succ t.isLt)
  q _ := fullShare
  owed _ := 0

/-- The arrays are what the region finds. -/
theorem dat_A (c : Dev nD) (w : Fin cfg0.W) : (dat m c).A w = V m c (Pipeline.arrRef spec0 w) := by
  dsimp only [dat]
/-- The buffer of the prompt block after a point. -/
theorem after_0 (c : Dev nD) (t : Fin cfg0.N) : (dat m c).after 0 t = iblk m c 0 t := by dsimp only [dat]
/-- The buffer of the sample after a point. -/
theorem after_1 (c : Dev nD) (t : Fin cfg0.N) : (dat m c).after 1 t = iblk m c 1 t := by dsimp only [dat]
/-- The buffer of the first gains after a point. -/
theorem after_2 (c : Dev nD) (t : Fin cfg0.N) : (dat m c).after 2 t = iblk m c 2 t := by dsimp only [dat]
/-- The buffer of the last gains after a point. -/
theorem after_3 (c : Dev nD) (t : Fin cfg0.N) : (dat m c).after 3 t = iblk m c 3 t := by dsimp only [dat]
/-- The buffer of the first matrix's part after a point. -/
theorem after_4 (c : Dev nD) (t : Fin cfg0.N) : (dat m c).after 4 t = iblk m c 4 t := by dsimp only [dat]
/-- The buffer of the second matrix's part after a point. -/
theorem after_5 (c : Dev nD) (t : Fin cfg0.N) : (dat m c).after 5 t = iblk m c 5 t := by dsimp only [dat]
/-- The buffer of the prompt block's result after a point. -/
theorem after_6 (c : Dev nD) (t : Fin cfg0.N) : (dat m c).after 6 t = (stAt m c t.val t.isLt).2.1 := by dsimp only [dat]
/-- The buffer of the sample's result after a point. -/
theorem after_7 (c : Dev nD) (t : Fin cfg0.N) : (dat m c).after 7 t = (stAt m c t.val t.isLt).2.2 := by dsimp only [dat]
/-- The buffer of the prompt block holds its block when a point begins. -/
theorem before_0 (c : Dev nD) (t : Fin cfg0.N) (d) : (dat m c).before 0 t d = iblk m c 0 t :=
  before0_0_of m (dat m c) (dat_A m c 0) (after_0 m c) t d
/-- The buffer of the sample holds its block when a point begins. -/
theorem before_1 (c : Dev nD) (t : Fin cfg0.N) (d) : (dat m c).before 1 t d = iblk m c 1 t :=
  before0_1_of m (dat m c) (dat_A m c 1) (after_1 m c) t d
/-- The buffer of the first gains holds its block when a point begins. -/
theorem before_2 (c : Dev nD) (t : Fin cfg0.N) (d) : (dat m c).before 2 t d = iblk m c 2 t :=
  before0_2_of m (dat m c) (dat_A m c 2) (after_2 m c) t d
/-- The buffer of the last gains holds its block when a point begins. -/
theorem before_3 (c : Dev nD) (t : Fin cfg0.N) (d) : (dat m c).before 3 t d = iblk m c 3 t :=
  before0_3_of m (dat m c) (dat_A m c 3) (after_3 m c) t d
/-- The buffer of the first matrix's part holds its block when a point begins. -/
theorem before_4 (c : Dev nD) (t : Fin cfg0.N) (d) : (dat m c).before 4 t d = iblk m c 4 t :=
  before0_4_of m (dat m c) (dat_A m c 4) (after_4 m c) t d
/-- The buffer of the second matrix's part holds its block when a point begins. -/
theorem before_5 (c : Dev nD) (t : Fin cfg0.N) (d) : (dat m c).before 5 t d = iblk m c 5 t :=
  before0_5_of m (dat m c) (dat_A m c 5) (after_5 m c) t d

/-- Past the first block the sample's result is carried. -/
theorem carry (c : Dev nD) (t : Fin cfg0.N) (h : ¬t.val < 16) : (stAt m c t.val t.isLt).2.2 = (prev m c t).2.2 := by
  by_cases h1 : t.val % 16 = 0
  · rw [stAt_D m c t h h1]
  · by_cases h2 : t.val % 16 = 15
    · rw [stAt_G m c t h h2]
    · rw [stAt_E m c t h h1 h2]

/-- Within a row of parts the prompt block's result is what the point before left. -/
theorem before_6 (c : Dev nD) (t : Fin cfg0.N) (h : ¬t.val % 16 = 0) (d) : (dat m c).before 6 t d = (prev m c t).2.1 := by
  rw [(dat m c).before_out_traj 6 rfl (fun _ _ => rfl)
    (fun t _ hi _ => absurd ((idle_6 t).symm.trans hi) Bool.false_ne_true) t.val t rfl d,
    fresh_6 t h, if_neg Bool.false_ne_true, after_6]
/-- After the first point the sample's result is what the point before left. -/
theorem before_7 (c : Dev nD) (t : Fin cfg0.N) (h : ¬t.val = 0) (d) : (dat m c).before 7 t d = (prev m c t).2.2 := by
  rw [(dat m c).before_out_traj 7 rfl (fun _ _ => rfl)
    (fun t _ hi _ => by rw [after_7, after_7]; exact carry m c t ((idle_7 t).mp hi)) t.val t rfl d,
    fresh_7 t h, if_neg Bool.false_ne_true, after_7]

/-! ## The body obligation -/

/-- What a point's body is called with. -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d)))

/-- What a point's body returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (dat m c).leavesExact 6 t
    ∗ (dat m c).leavesExact 7 t)

/-- The prompt block's result is left at what is carried. -/
theorem leaves_6 (c : Dev nD) (t : Fin cfg0.N) :
    owns (c : Thread nD τ) (st0_6 t) fullShare (stAt m c t.val t.isLt).2.1 ⊢ ((dat m c).leavesExact 6 t : sProp 𝕄) := by
  unfold Dat.leavesExact
  rw [idle_6 t, after_6]
/-- With the first block the sample's result is left at what is carried. -/
theorem leaves_7 (c : Dev nD) (t : Fin cfg0.N) (h : t.val < 16) :
    owns (c : Thread nD τ) (st0_7 t) fullShare (stAt m c t.val t.isLt).2.2 ⊢ ((dat m c).leavesExact 7 t : sProp 𝕄) := by
  unfold Dat.leavesExact
  rw [Bool.eq_false_iff.mpr fun e => (idle_7 t).mp e h, after_7]
/-- Past the first block the sample's result is left as found. -/
theorem leaves_past (c : Dev nD) (t : Fin cfg0.N) (h : ¬t.val < 16) :
    owns (c : Thread nD τ) (st0_7 t) fullShare (prev m c t).2.2 ⊢ ((dat m c).leavesExact 7 t : sProp 𝕄) := by
  by_cases h' : t.val % 128 = 127
  · unfold Dat.leavesExact
    rw [(idle_7 t).mpr h, (flush0_7 t).mpr h', after_7, carry m c t h]
  · rw [(dat m c).leavesExact_idle 7 t ((idle_7 t).mpr h) (Bool.eq_false_iff.mpr fun e => h' ((flush0_7 t).mp e))]
    iintro H
    iexists (prev m c t).2.2
    rw [before_7 m c t (by omega)]
    iexact H

set_option maxHeartbeats 2000000 in
/-- The body's work at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = owns (c : Thread nD τ) scN fullShare (stAt m c t.val t.isLt).1 from rfl,
    show (dat m c).Φ t.castSucc = Inv m c t.val (Nat.le_of_lt t.isLt) from rfl,
    show (dat m c).owesAt () t.succ = (dat m c).owesAt () t.castSucc from rfl,
    after_0, after_1, after_2, after_3, after_4, after_5]
  have hd6 := leaves_6 (F := F) m c t
  have hd7 := leaves_7 m c t (by omega)
  rw [stAt_A m c t h] at hd6 hd7 ⊢
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HI := (Inv_any m c t.val (Nat.le_of_lt t.isLt)) $$ HI
  iapply (run_A c (grid0.coords t) _ _ _ _ _ _ _ _ _ _ _ _ _ _ _ _ scN (Memref.isWhole_whole _) (iblk m c 0 t) (iblk m c 1 t) (iblk m c 2 t) (iblk m c 3 t) (iblk m c 4 t) (iblk m c 5 t)  ((cond1_iff t).mpr (by omega)) ((cond2_iff t).mpr (by omega)) ((cond3_iff t).mpr (by omega)) (fun e => by have := (cond4_iff t).mp e; omega) (fun e => by have := (cond5_iff t).mp e; omega) (fun e => by have := (cond6_iff t).mp e; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HI]; · iexact HI
  iintro ⟨H0, H1, H2, H3, H4, H5, H6, H7, HI⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply hd6; iexact H6
  iapply hd7; iexact H7

set_option maxHeartbeats 2000000 in
/-- The body's work at a later point of the first row but its last. -/
theorem sound_B (c : Dev nD) (t : Fin cfg0.N) (h : ¬t.val = 0) (h1 : t.val < 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = owns (c : Thread nD τ) scN fullShare (stAt m c t.val t.isLt).1 from rfl,
    show (dat m c).Φ t.castSucc = Inv m c t.val (Nat.le_of_lt t.isLt) from rfl,
    show (dat m c).owesAt () t.succ = (dat m c).owesAt () t.castSucc from rfl,
    after_0, after_1, after_2, after_3, after_4, after_5]
  have hd6 := leaves_6 (F := F) m c t
  have hd7 := leaves_7 m c t (by omega)
  rw [stAt_B m c t h h1] at hd6 hd7 ⊢
  rw [Inv_pos m c t.val _ (by omega)]
  simp only [before_6 m c t (by omega), before_7 m c t (by omega)]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_B c (grid0.coords t) _ _ _ _ _ _ _ _ _ _ _ _ _ _ _ _ scN (Memref.isWhole_whole _) (iblk m c 0 t) (iblk m c 1 t) (iblk m c 2 t) (iblk m c 3 t) (iblk m c 4 t) (iblk m c 5 t) (prev m c t).2.1 (prev m c t).2.2 (prev m c t).1 (fun e => by have := (cond1_iff t).mp e; omega) (fun e => by have := (cond2_iff t).mp e; omega) ((cond3_iff t).mpr (by omega)) (fun e => by have := (cond4_iff t).mp e; omega) (fun e => by have := (cond5_iff t).mp e; omega) (fun e => by have := (cond6_iff t).mp e; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HI]; · iexact HI
  iintro ⟨H0, H1, H2, H3, H4, H5, H6, H7, HI⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply hd6; iexact H6
  iapply hd7; iexact H7

set_option maxHeartbeats 2000000 in
/-- The body's work at the last point of the first row. -/
theorem sound_C (c : Dev nD) (t : Fin cfg0.N) (h : t.val = 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = owns (c : Thread nD τ) scN fullShare (stAt m c t.val t.isLt).1 from rfl,
    show (dat m c).Φ t.castSucc = Inv m c t.val (Nat.le_of_lt t.isLt) from rfl,
    show (dat m c).owesAt () t.succ = (dat m c).owesAt () t.castSucc from rfl,
    after_0, after_1, after_2, after_3, after_4, after_5]
  have hd6 := leaves_6 (F := F) m c t
  have hd7 := leaves_7 m c t (by omega)
  rw [stAt_C m c t h] at hd6 hd7 ⊢
  rw [Inv_pos m c t.val _ (by omega)]
  simp only [before_6 m c t (by omega), before_7 m c t (by omega)]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_C c (grid0.coords t) _ _ _ _ _ _ _ _ _ _ _ _ _ _ _ _ scN (Memref.isWhole_whole _) (iblk m c 0 t) (iblk m c 1 t) (iblk m c 2 t) (iblk m c 3 t) (iblk m c 4 t) (iblk m c 5 t) (prev m c t).2.1 (prev m c t).2.2 (prev m c t).1 (fun e => by have := (cond1_iff t).mp e; omega) (fun e => by have := (cond2_iff t).mp e; omega) ((cond3_iff t).mpr (by omega)) (fun e => by have := (cond4_iff t).mp e; omega) ((cond5_iff t).mpr (by omega)) ((cond6_iff t).mpr (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HI]; · iexact HI
  iintro ⟨H0, H1, H2, H3, H4, H5, H6, H7, HI⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply hd6; iexact H6
  iapply hd7; iexact H7

set_option maxHeartbeats 2000000 in
/-- The body's work at the first point of a later row. -/
theorem sound_D (c : Dev nD) (t : Fin cfg0.N) (h : ¬t.val < 16) (h1 : t.val % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = owns (c : Thread nD τ) scN fullShare (stAt m c t.val t.isLt).1 from rfl,
    show (dat m c).Φ t.castSucc = Inv m c t.val (Nat.le_of_lt t.isLt) from rfl,
    show (dat m c).owesAt () t.succ = (dat m c).owesAt () t.castSucc from rfl,
    after_0, after_1, after_2, after_3, after_4, after_5]
  have hd6 := leaves_6 (F := F) m c t
  have hd7 := leaves_past m c t h
  rw [stAt_D m c t h h1] at hd6 ⊢
  rw [Inv_pos m c t.val _ (by omega)]
  simp only [before_7 m c t (by omega)]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_D c (grid0.coords t) _ _ _ _ _ _ _ _ _ _ _ _ _ _ _ _ scN (Memref.isWhole_whole _) (iblk m c 0 t) (iblk m c 1 t) (iblk m c 2 t) (iblk m c 3 t) (iblk m c 4 t) (iblk m c 5 t) (prev m c t).2.2 (prev m c t).1 ((cond1_iff t).mpr (by omega)) (fun e => by have := (cond2_iff t).mp e; omega) (fun e => by have := (cond3_iff t).mp e; omega) ((cond4_iff t).mpr (by omega)) (fun e => by have := (cond5_iff t).mp e; omega) (fun e => by have := (cond6_iff t).mp e; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HI]; · iexact HI
  iintro ⟨H0, H1, H2, H3, H4, H5, H6, H7, HI⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply hd6; iexact H6
  iapply hd7; iexact H7

set_option maxHeartbeats 2000000 in
/-- The body's work within a later row. -/
theorem sound_E (c : Dev nD) (t : Fin cfg0.N) (h : ¬t.val < 16) (h1 : ¬t.val % 16 = 0) (h2 : ¬t.val % 16 = 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = owns (c : Thread nD τ) scN fullShare (stAt m c t.val t.isLt).1 from rfl,
    show (dat m c).Φ t.castSucc = Inv m c t.val (Nat.le_of_lt t.isLt) from rfl,
    show (dat m c).owesAt () t.succ = (dat m c).owesAt () t.castSucc from rfl,
    after_0, after_1, after_2, after_3, after_4, after_5]
  have hd6 := leaves_6 (F := F) m c t
  have hd7 := leaves_past m c t h
  rw [stAt_E m c t h h1 h2] at hd6 ⊢
  rw [Inv_pos m c t.val _ (by omega)]
  simp only [before_6 m c t (by omega), before_7 m c t (by omega)]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_E c (grid0.coords t) _ _ _ _ _ _ _ _ _ _ _ _ _ _ _ _ scN (Memref.isWhole_whole _) (iblk m c 0 t) (iblk m c 1 t) (iblk m c 2 t) (iblk m c 3 t) (iblk m c 4 t) (iblk m c 5 t) (prev m c t).2.1 (prev m c t).2.2 (prev m c t).1 (fun e => by have := (cond1_iff t).mp e; omega) (fun e => by have := (cond2_iff t).mp e; omega) (fun e => by have := (cond3_iff t).mp e; omega) ((cond4_iff t).mpr (by omega)) (fun e => by have := (cond5_iff t).mp e; omega) (fun e => by have := (cond6_iff t).mp e; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HI]; · iexact HI
  iintro ⟨H0, H1, H2, H3, H4, H5, H6, H7, HI⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply hd6; iexact H6
  iapply hd7; iexact H7

set_option maxHeartbeats 2000000 in
/-- The body's work at the last point of a later row. -/
theorem sound_G (c : Dev nD) (t : Fin cfg0.N) (h : ¬t.val < 16) (h1 : t.val % 16 = 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = owns (c : Thread nD τ) scN fullShare (stAt m c t.val t.isLt).1 from rfl,
    show (dat m c).Φ t.castSucc = Inv m c t.val (Nat.le_of_lt t.isLt) from rfl,
    show (dat m c).owesAt () t.succ = (dat m c).owesAt () t.castSucc from rfl,
    after_0, after_1, after_2, after_3, after_4, after_5]
  have hd6 := leaves_6 (F := F) m c t
  have hd7 := leaves_past m c t h
  rw [stAt_G m c t h h1] at hd6 ⊢
  rw [Inv_pos m c t.val _ (by omega)]
  simp only [before_6 m c t (by omega), before_7 m c t (by omega)]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_G c (grid0.coords t) _ _ _ _ _ _ _ _ _ _ _ _ _ _ _ _ scN (Memref.isWhole_whole _) (iblk m c 0 t) (iblk m c 1 t) (iblk m c 2 t) (iblk m c 3 t) (iblk m c 4 t) (iblk m c 5 t) (prev m c t).2.1 (prev m c t).2.2 (prev m c t).1 (fun e => by have := (cond1_iff t).mp e; omega) (fun e => by have := (cond2_iff t).mp e; omega) (fun e => by have := (cond3_iff t).mp e; omega) ((cond4_iff t).mpr (by omega)) ((cond5_iff t).mpr (by omega)) (fun e => by have := (cond6_iff t).mp e; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HI]; · iexact HI
  iintro ⟨H0, H1, H2, H3, H4, H5, H6, H7, HI⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply hd6; iexact H6
  iapply hd7; iexact H7

/-- A point's body takes its blocks from what it is called with to what it returns. -/
theorem sound_body (c : Dev nD) (t : Fin cfg0.N) :
    bodyPre m c t ⊢ wp frame (wpE (defs₀ (F := F)) Variants.none c none) Set.univ (bodyAt0 t) (fun _ => bodyPost m c t) := by
  by_cases h : t.val < 16
  · by_cases h0 : t.val = 0
    · exact sound_A m c t h0
    · by_cases h1 : t.val < 15
      · exact sound_B m c t h0 h1
      · exact sound_C m c t (by omega)
  · by_cases h0 : t.val % 16 = 0
    · exact sound_D m c t h h0
    · by_cases h1 : t.val % 16 = 15
      · exact sound_G m c t h h1
      · exact sound_E m c t h h0 h1

/-- The body table's row at a point is the body. -/
theorem row (t : Fin cfg0.N) :
    defs₀ (F := F) .tc cfg0.body (cfg0.bodyArgs t (cfg0.slots t)) = bodyAt0 t := by
  unfold defs₀; rw [Defs.onTc_tc]

/-- Every point's body meets its obligation. -/
theorem body_obligation (c : Dev nD) : BodyObligation (dat m c) (defs₀ (F := F)) Variants.none () Set.univ := fun t => by
  rw [bigSep_W0, bigSep_W0, row]
  exact triple_restated (sound_body m c t) rfl .rfl fun _ => .rfl

end Cert.Proof.Mlp

end
-- ==== Proof.Mlp.Run.lean ====
module

public import proofs.«01_k».proof.Proof.Mlp.Data
public import Idealize.ShloMosaic.Lib.Pipeline.RegionArraysS
public import Idealize.ShloMosaic.Lib.Claim

@[expose] public section

set_option maxRecDepth 16384

noncomputable section

namespace Cert.Proof.Mlp

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- A core's buffers at launch. -/
def start (c : Dev nD) : Valuation τ sig (Elt F) := fun b => m (c, b)
/-- A core's buffers after the reshapes and casts that prepare the call's operands. -/
def W0 (c : Dev nD) : Valuation τ sig (Elt F) := StableHlo.after hostOps0 (start m c)
/-- They are the buffers that the call's blocks are read from. -/
theorem W0_eq (c : Dev nD) : W0 m c = V0 m c := by
  unfold W0 V0 start
  rw [show List.flatten [(hostOps0 : List (HloOp τ sig (Elt F)))] = hostOps0 from List.append_nil _]
/-- A core's buffers after the call. -/
def W1 (c : Dev nD) : Valuation τ sig (Elt F) := Pipeline.afterRegion (dat m c) (W0 m c)
/-- A core's buffers after the reshapes of the call's results. -/
def W2 (c : Dev nD) : Valuation τ sig (Elt F) := StableHlo.after hostOps1 (W1 m c)

/-- The call changes no buffer but its two outputs. -/
theorem W1_keeps (c : Dev nD) (r : Ref sig .tc) (h : ∀ w, Pipeline.arrRef cfg0.spec w = r → (cfg0.win w).isOut = false) :
    W1 m c (Proc.devRef .tc r) = W0 m c (Proc.devRef .tc r) :=
  Pipeline.afterRegion_keeps _ _ winFacts0.arr_inj (fun w => (dat_A m c w).trans (congrFun (W0_eq m c).symm (Proc.devRef .tc (Pipeline.arrRef spec0 w)))) r h

/-- The last reshapes write their two results only. -/
theorem W2_keeps (c : Dev nD) (r : Ref sig .tc) (h7 : r ≠ main_v7) (h8 : r ≠ main_v8) :
    W2 m c (Proc.devRef .tc r) = W1 m c (Proc.devRef .tc r) :=
  StableHlo.after_of_forall_not_mem (b := Proc.devRef .tc r) _ _ (List.forall_iff_forall_mem.mp (by
    simp only [hostOps1, List.Forall, StableHlo.reshape_writes, Finset.mem_singleton]
    exact ⟨StableHlo.devRef_ne_of_ne h7, StableHlo.devRef_ne_of_ne h8⟩))
/-- The prompt's result, by batches. -/
theorem W2_prompt (c : Dev nD) : W2 m c (Proc.devRef .tc main_v7) = shapeCast S4x2048x2048 (W1 m c (Proc.devRef .tc main_v6_0)) shapeCasts_S8192x2048_S4x2048x2048 := by
  unfold W2
  after_results_simp
  rfl
/-- The sample's result, by batches. -/
theorem W2_sample (c : Dev nD) : W2 m c (Proc.devRef .tc main_v8) = shapeCast S8x8x2048 (W1 m c (Proc.devRef .tc main_v6_1)) shapeCasts_S64x2048_S8x8x2048 := by
  unfold W2
  after_results_simp
  rfl

/-- The residual stream of the prompt ends as launched. -/
theorem W2_arg0 (c : Dev nD) : W2 m c (Proc.devRef .tc main_arg0) = m ((c : Thread nD τ).loc main_arg0) :=
  (W2_keeps m c main_arg0 (by decide) (by decide)).trans ((W1_keeps m c main_arg0 (by decide)).trans ((congrFun (W0_eq m c) _).trans (V_main_arg0 m c)))
/-- The residual stream of the sample ends as launched. -/
theorem W2_arg1 (c : Dev nD) : W2 m c (Proc.devRef .tc main_arg1) = m ((c : Thread nD τ).loc main_arg1) :=
  (W2_keeps m c main_arg1 (by decide) (by decide)).trans ((W1_keeps m c main_arg1 (by decide)).trans ((congrFun (W0_eq m c) _).trans (V_main_arg1 m c)))
/-- The first gains end as launched. -/
theorem W2_arg2 (c : Dev nD) : W2 m c (Proc.devRef .tc main_arg2) = m ((c : Thread nD τ).loc main_arg2) :=
  (W2_keeps m c main_arg2 (by decide) (by decide)).trans ((W1_keeps m c main_arg2 (by decide)).trans ((congrFun (W0_eq m c) _).trans (V_main_arg2 m c)))
/-- The last gains end as launched. -/
theorem W2_arg3 (c : Dev nD) : W2 m c (Proc.devRef .tc main_arg3) = m ((c : Thread nD τ).loc main_arg3) :=
  (W2_keeps m c main_arg3 (by decide) (by decide)).trans ((W1_keeps m c main_arg3 (by decide)).trans ((congrFun (W0_eq m c) _).trans (V_main_arg3 m c)))
/-- The first matrix ends as launched. -/
theorem W2_arg4 (c : Dev nD) : W2 m c (Proc.devRef .tc main_arg4) = m ((c : Thread nD τ).loc main_arg4) :=
  (W2_keeps m c main_arg4 (by decide) (by decide)).trans ((W1_keeps m c main_arg4 (by decide)).trans ((congrFun (W0_eq m c) _).trans (V_main_arg4 m c)))
/-- The second matrix ends as launched. -/
theorem W2_arg5 (c : Dev nD) : W2 m c (Proc.devRef .tc main_arg5) = m ((c : Thread nD τ).loc main_arg5) :=
  (W2_keeps m c main_arg5 (by decide) (by decide)).trans ((W1_keeps m c main_arg5 (by decide)).trans ((congrFun (W0_eq m c) _).trans (V_main_arg5 m c)))

/-! ## The region's record -/

/-- No call has a prefetched table. -/
abbrev adm : (p : Fin 1) → (pcfgs (F := F) p).Adm := fun p => (cfgs p).toPCfg_adm
/-- Every counter belongs to a region. -/
theorem all_scoped : ∀ s : SemLoc sig, s.isScoped .tc = true := by decide

/-- The proof data of the one region. -/
def pdats : (p : Fin 1) → (c : Dev nD) → Dat τ (Elt F) Unit ℕ (UR sig nD τ) ℕ (cfgs p) c
  | ⟨0, _⟩ => fun c => dat m c

/-- The levels: one on every counter of a core, none elsewhere. -/
def L : GSem nD τ sig → Finset Unit := fun g => if g.1.2 = .tc then Finset.univ else ∅
/-- All levels are equal. -/
def lv : GSem nD τ sig → Unit → ℕ := fun _ _ => 0

/-- No core owes anything, so the levels order the waits. -/
theorem cut (p : Fin 1) : Pipeline.LevelCut (pcfgs (F := F)) adm () L lv p (fun _ => 0) (fun _ : Dev nD => 0) where
  hι c w s := by unfold L; rw [if_pos rfl]; exact Finset.mem_univ _
  hιb _ _ _ := Nat.le_refl _
  hD c g i h := absurd h (Nat.lt_irrefl 0)

/-- The call starts from the region's own buffers. -/
theorem enter (c : Dev nD) : iprop(Pipeline.scopedRest spec0 c ∗ BI.emp) ⊢ ((dat m c).Φ 0 : sProp 𝕄) := by
  rw [show (dat m c).Φ 0 = Pipeline.scopedRest spec0 c from rfl]
  iintro ⟨H, -⟩; iexact H
/-- The call gives the region's own buffers back. -/
theorem leave (c : Dev nD) : (dat m c).Φ (Fin.last cfg0.N) ⊢ (iprop(Pipeline.scopedRest spec0 c ∗ BI.emp) : sProp 𝕄) := by
  rw [show (dat m c).Φ (Fin.last cfg0.N) = Inv m c cfg0.N (Nat.le_refl _) from rfl]
  iintro H
  isplitl [H]
  · ihave H := (Inv_any m c cfg0.N (Nat.le_refl _)) $$ H
    icases H with ⟨%d, H⟩
    iapply (of_scratch c d)
    iexact H
  iempintro

set_option backward.isDefEq.respectTransparency.types false in
/-- The region of the call, entered from the prepared buffers. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) (fun _ => BI.emp) (fun _ => BI.emp)
    launch0.toP rfl (fun c => (body_obligation m c).loose) (fun _ _ => rfl) (fun _ => rfl)
    (fun c => (dat m c).share_full fun _ => rfl)
    (fun c => enter m c) (fun c => leave m c)
    (fun _ => 0) (cut 0) (fun _ => BI.emp) (W0 m) (fun c w => (dat_A m c w).trans (congrFun (W0_eq m c).symm (Proc.devRef .tc (Pipeline.arrRef spec0 w))))

/-- What rides beside the buffers: the core owes nothing. -/
def E (c : Dev nD) : sProp 𝕄 := iprop((∃ Wd, owes (c : Thread nD τ) (0 : CellTallies nD τ sig Unit) Wd) ∗ BI.emp ∗ BI.emp)

/-- The call's arrays are among the core's own buffers. -/
theorem sub0 : Pipeline.arrRefs ((pcfgs (F := F)) 0).spec ⊆ Pipeline.ucRefs τ sig := Pipeline.arrRefs_sub_ucRefs spec0 (by decide)
/-- The prepared buffers enter the call. -/
theorem pre0 (c : Dev nD) : iprop(StableHlo.held (c : Thread nD τ) (Pipeline.ucRefs τ sig) (W0 m c) ∗ E c) ⊢ (R0 m).pre c := by
  unfold R0 E
  exact (BI.Entails.refl _).trans (RegionSeg.ofHeldIn_pre (D := fun _ => 0) (X := fun _ => BI.emp) (Y := fun _ => BI.emp) (R := fun _ => BI.emp) (W := W0 m) (sub0 (F := F)) c)
/-- The call leaves their buffers. -/
theorem post0 (c : Dev nD) : (R0 m).post c ⊢ iprop(StableHlo.held (c : Thread nD τ) (Pipeline.ucRefs τ sig) (W1 m c) ∗ E c) := by
  rw [show W1 m c = Pipeline.afterRegion (pdats m 0 c) (W0 m c) from rfl]
  unfold R0 E
  exact (RegionSeg.ofHeldIn_post (D := fun _ => 0) (X := fun _ => BI.emp) (Y := fun _ => BI.emp) (R := fun _ => BI.emp) (W := W0 m) (sub0 (F := F)) c).trans .rfl
/-- At the end the core owes nothing. -/
theorem last (c : Dev nD) : (E c : sProp 𝕄) ⊢ iprop(∃ Wd, owes (c : Thread nD τ) (0 : CellTallies nD τ sig Unit) Wd) := by
  unfold E; iintro ⟨H, -⟩; iexact H

/-- The reshapes and casts, run from the launch's buffers. -/
def H0 : HostSeg (Name := ℕ) (U := UR sig nD τ) (pcfgs (F := F)) defs₀ Variants.none L lv :=
  HostSeg.ofOps (pcfgs (F := F)) defs₀ Variants.none L lv (Pipeline.ucRefs τ sig) hostOps0
    (fun op h => Pipeline.sub_ucRefs op (List.forall_iff_forall_mem.mp hostOps0_sub op h))
    (List.forall_iff_forall_mem.mp hostOps0_fresh) (start m) E

/-- The reshapes of the results, run from what the call leaves. -/
def H1 : HostSeg (Name := ℕ) (U := UR sig nD τ) (pcfgs (F := F)) defs₀ Variants.none L lv :=
  HostSeg.ofOps (pcfgs (F := F)) defs₀ Variants.none L lv (Pipeline.ucRefs τ sig) hostOps1
    (fun op h => Pipeline.sub_ucRefs op (List.forall_iff_forall_mem.mp hostOps1_sub op h))
    (List.forall_iff_forall_mem.mp hostOps1_fresh) (W1 m) E

/-- The program's three items. -/
abbrev segs : List (Seg (pcfgs (F := F)) adm (pdats m) () defs₀ Variants.none L lv) := [.host (H0 m), .region (R0 m), .host (H1 m)]

set_option backward.isDefEq.respectTransparency.types false in
/-- Every weakly fair execution of the program ends, with the arguments as launched, the results at what the call
    leaves in them, and every counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v7) = W2 m c (Proc.devRef .tc main_v7)
      ∧ r.2.mem ((c.tc : Thread nD τ).loc main_v8) = W2 m c (Proc.devRef .tc main_v8))
      ∧ r.2.sem = fun _ => 0) := by
  refine Pipeline.θ_run_regions_kit_dev_sems (pcfgs (F := F)) adm (pdats m) () cellOf_inj emb₁ defs₀ Variants.none L lv m ρ main
    (fun _ => segs m)
    (fun c Q => by
      rewrite [main_chain c, Seg.run_eq_chain,
        show (segs m).map Seg.prog = [
          StableHlo.seq hostOps0,
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) 0
    (fun g hg => by unfold L; rw [if_neg hg])
    (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (start m c) ∗ E c))
    (Tₙ := fun c => StableHlo.held (c : Thread nD τ) (Pipeline.ucRefs τ sig) (W2 m c))
    (hch := fun c => ⟨.rfl, pre0 m c, post0 m c, sep_mono .rfl (last c)⟩)
    (hinit := ?_) (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_v7) = W2 m c (Proc.devRef .tc main_v7)
      ∧ s.mem ((c.tc : Thread nD τ).loc main_v8) = W2 m c (Proc.devRef .tc main_v8))
    (hfin := fun c s' => ?_) (hQ := fun _ h hz => ⟨h, funext fun g => hz g (.inr (all_scoped g.2))⟩)
  · refine Pipeline.initEach L lv fun c => ?_
    rw [show unscopedBufs c (fun b => m ((c.tc : Thread nD τ).loc b)) = (StableHlo.held (c.tc : Thread nD τ) (Pipeline.ucRefs τ sig) (start m c) : sProp 𝕄) from
      Pipeline.unscopedBufs_held (Ix := Unit) (Name := ℕ) (U := UR sig nD τ) (Lvl := ℕ) c (start m c)]
    unfold E
    iintro ⟨⟨Hh, -, Ho, -, -, -⟩, -⟩
    imodintro
    isplitl [Hh]; · iexact Hh
    isplitl [Ho]; · iexists _; iexact Ho
    isplitr; · iempintro
    iempintro
  · unfold StableHlo.held
    iintro ⟨Hh, HSI⟩
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (W2_arg0 m c),
        (h (Proc.devRef .tc main_arg1) (Finset.mem_filter.mpr ⟨StableHlo.devRef_mem_tcRefs main_arg1, by decide⟩)).trans (W2_arg1 m c),
        (h (Proc.devRef .tc main_arg2) (Finset.mem_filter.mpr ⟨StableHlo.devRef_mem_tcRefs main_arg2, by decide⟩)).trans (W2_arg2 m c),
        (h (Proc.devRef .tc main_arg3) (Finset.mem_filter.mpr ⟨StableHlo.devRef_mem_tcRefs main_arg3, by decide⟩)).trans (W2_arg3 m c),
        (h (Proc.devRef .tc main_arg4) (Finset.mem_filter.mpr ⟨StableHlo.devRef_mem_tcRefs main_arg4, by decide⟩)).trans (W2_arg4 m c),
        (h (Proc.devRef .tc main_arg5) (Finset.mem_filter.mpr ⟨StableHlo.devRef_mem_tcRefs main_arg5, by decide⟩)).trans (W2_arg5 m c),
        (h (Proc.devRef .tc main_v7) (Finset.mem_filter.mpr ⟨StableHlo.devRef_mem_tcRefs main_v7, by decide⟩)),
        (h (Proc.devRef .tc main_v8) (Finset.mem_filter.mpr ⟨StableHlo.devRef_mem_tcRefs main_v8, by decide⟩))⟩
    · iexact HSI

end Cert.Proof.Mlp

end
-- ==== Proof.Mlp.Read.lean ====
module

public import proofs.«01_k».proof.Proof.Mlp.Step
public import Idealize.ShloMosaic.Lib.Pointwise

@[expose] public section

set_option maxRecDepth 16384

noncomputable section

namespace Cert.Proof.Mlp

open Cert.Kernel2Ideal Cert.Kernel2Ideal.Gen
open Idealize.ShloMosaic Idealize.ShloMosaic.TcCoe

/-- A row over the root of its mean square, with a small number beside the mean, times gains. -/
def nrm (x g : Fin 2048 → EReal) (l : Fin 2048) : EReal :=
  x l * Ideal.rsqrt (Ideal.div (∑ k : Fin 2048, x k * x k) (Ideal.ofBits .f32 0x45000000#32) + Ideal.ofBits .f32 0x358637BD#32) * g l

/-- A normalized row's inner value at place `n`: its product with the first matrix, not below zero. -/
def inner (y : Fin 2048 → EReal) (U : Fin 2048 → ℕ → EReal) (n : ℕ) : EReal := max (∑ k : Fin 2048, y k * U k n) 0

/-- What place `n` of the inner width adds to a row. -/
def term (y : Fin 2048 → EReal) (U : Fin 2048 → ℕ → EReal) (D : ℕ → Fin 2048 → EReal) (l : Fin 2048) (n : ℕ) : EReal :=
  inner y U n * inner y U n * D n l

/-- A row and what the first `k` places of the inner width add to it. -/
def upto (k : ℕ) (x g : Fin 2048 → EReal) (U : Fin 2048 → ℕ → EReal) (D : ℕ → Fin 2048 → EReal) (l : Fin 2048) : EReal :=
  x l + ∑ n ∈ Finset.range k, term (nrm x g) U D l n

/-- A prompt block's rows as first stored: the rows themselves. -/
theorem pay1_at (x : Vec Ideal S1024x2048 .f32) (r : Fin 1024) (l : Fin 2048) : k0_pay1 x (ix2 r l) = x (ix2 r l) := by
  pointwise [k0_pay1]
/-- The sample's rows as first stored: the rows themselves. -/
theorem pay3_at (x : Vec Ideal S64x2048 .f32) (r : Fin 64) (l : Fin 2048) : k0_pay3 x (ix2 r l) = x (ix2 r l) := by
  pointwise [k0_pay3]
/-- The normalized rows of a prompt block. -/
theorem pay2_at (x : Vec Ideal S1024x2048 .f32) (g : Vec Ideal S1x2048 .f32) (r : Fin 1024) (l : Fin 2048) :
    k0_pay2 x g (ix2 r l) = nrm (fun l => x (ix2 r l)) (fun l => g (ix2 0 l)) l := by
  pointwise [k0_pay2, k0_pay1]
  rfl
/-- The normalized rows of the sample. -/
theorem pay4_at (x : Vec Ideal S64x2048 .f32) (g : Vec Ideal S1x2048 .f32) (r : Fin 64) (l : Fin 2048) :
    k0_pay4 x g (ix2 r l) = nrm (fun l => x (ix2 r l)) (fun l => g (ix2 0 l)) l := by
  pointwise [k0_pay4, k0_pay3]
  rfl
/-- The prompt block's result, normalized. -/
theorem pay9_at (x : Vec Ideal S1024x2048 .f32) (g : Vec Ideal S1x2048 .f32) (r : Fin 1024) (l : Fin 2048) :
    k0_pay9 x g (ix2 r l) = nrm (fun l => x (ix2 r l)) (fun l => g (ix2 0 l)) l := by
  pointwise [k0_pay9]
  rfl
/-- The sample's result, normalized. -/
theorem pay10_at (x : Vec Ideal S64x2048 .f32) (g : Vec Ideal S1x2048 .f32) (r : Fin 64) (l : Fin 2048) :
    k0_pay10 x g (ix2 r l) = nrm (fun l => x (ix2 r l)) (fun l => g (ix2 0 l)) l := by
  pointwise [k0_pay10]
  rfl

/-- What a part of the inner width adds to a row. -/
def part (y : Fin 2048 → EReal) (u : Vec Ideal S2048x512 .bf16) (d : Vec Ideal S512x2048 .bf16) (l : Fin 2048) : EReal :=
  ∑ n : Fin 512, max (∑ k : Fin 2048, y k * u (ix2 k n)) 0 * max (∑ k : Fin 2048, y k * u (ix2 k n)) 0 * d (ix2 n l)

/-- A part added to the sample. -/
theorem pay6_at (xn : Vec Ideal S1088x2048 .bf16) (u : Vec Ideal S2048x512 .bf16) (d : Vec Ideal S512x2048 .bf16) (o : Vec Ideal S64x2048 .f32) (r : Fin 64) (l : Fin 2048) :
    k0_pay6 xn u d o (ix2 r l) = o (ix2 r l) + part (fun k => xn (ix2 ⟨r.val, by omega⟩ k)) u d l := by
  pointwise [k0_pay6, k0_pay5]
  simp [part]
/-- A part added to the prompt block, beside the sample. -/
theorem pay7_at (xn : Vec Ideal S1088x2048 .bf16) (u : Vec Ideal S2048x512 .bf16) (d : Vec Ideal S512x2048 .bf16) (o : Vec Ideal S1024x2048 .f32) (r : Fin 1024) (l : Fin 2048) :
    k0_pay7 xn u d o (ix2 r l) = o (ix2 r l) + part (fun k => xn (ix2 ⟨64 + r.val, by omega⟩ k)) u d l := by
  pointwise [k0_pay7, k0_pay5]
  simp [part]
/-- A part added to the prompt block alone. -/
theorem pay8_at (xl : Vec Ideal S1024x2048 .bf16) (u : Vec Ideal S2048x512 .bf16) (d : Vec Ideal S512x2048 .bf16) (o : Vec Ideal S1024x2048 .f32) (r : Fin 1024) (l : Fin 2048) :
    k0_pay8 o xl u d (ix2 r l) = o (ix2 r l) + part (fun k => xl (ix2 r k)) u d l := by
  pointwise [k0_pay8]
  simp [part]

end Cert.Proof.Mlp

end
-- ==== Proof.Mlp.Blocks.lean ====
module

public import proofs.«01_k».proof.Proof.Mlp.Run
public import proofs.«01_k».proof.Proof.Mlp.Read
public import Idealize.ShloMosaic.Lib.Pipeline.ValueKit

@[expose] public section

set_option maxRecDepth 16384

noncomputable section

namespace Cert.Proof.Mlp

open Cert.Kernel2Ideal Cert.Kernel2Ideal.Gen
open Idealize.ShloMosaic Idealize.ShloMosaic.TcCoe

/-- Where the prompt block begins: at its batch's rows past the first sixteen. -/
theorem idx0 : ∀ t : Fin cfg0.N, win0_0.index t = ![t.val / 32 * 2064 + 16 + t.val / 16 % 2 * 1024, 0] :=
  (by decide +kernel : ∀ t : Fin grid0.N, _)
/-- Where the other blocks lie. -/
theorem idx1 : ∀ t : Fin cfg0.N, win0_1.index t = ![0, 0] ∧ win0_2.index t = ![0, 0] ∧ win0_3.index t = ![0, 0]
    ∧ win0_4.index t = ![0, t.val % 16] ∧ win0_5.index t = ![t.val % 16, 0] ∧ win0_6.index t = ![t.val / 16, 0] ∧ win0_7.index t = ![0, 0] :=
  (by decide +kernel : ∀ t : Fin grid0.N, _)
/-- The number of grid points. -/
theorem N0 : cfg0.N = 128 := by decide +kernel

/-- A prompt block's row is one of the prompt's. -/
theorem bound_x (t : Fin cfg0.N) (r : Fin 1024) : t.val / 32 * 2064 + 16 + t.val / 16 % 2 * 1024 + r.val < 8256 := by
  have := t.isLt; have := N0; omega
/-- A part's place is one of the inner width. -/
theorem bound_n (t : Fin cfg0.N) (n : Fin 512) : 512 * (t.val % 16) + n.val < 8192 := by omega

variable (m : (ℓ : Loc nD τ sig) → Buf (Elt Ideal) ℓ) (c : Dev nD)

/-- The prompt block at a point. -/
theorem blk0 (t : Fin cfg0.N) (r : Fin 1024) (l : Fin 2048) :
    iblk m c 0 t (ix2 r l) = V m c main_v0 (ix2 ⟨t.val / 32 * 2064 + 16 + t.val / 16 % 2 * 1024 + r.val, bound_x t r⟩ l) := by
  have h0 : ((win0_0.blk t).view.emb (ix2 r l) 0 : ℕ) = t.val / 32 * 2064 + 16 + t.val / 16 % 2 * 1024 + r.val :=
    (win0_0.rect_emb_val_off t (ix2 r l) 0).trans (congrArg (fun f : Fin 2 → ℕ => f 0 + r.val) (idx0 t))
  have h1 : ((win0_0.blk t).view.emb (ix2 r l) 1 : ℕ) = l.val :=
    ((win0_0.rect_emb_val_off t (ix2 r l) 1).trans (congrArg (fun f : Fin 2 → ℕ => f 1 + l.val) (idx0 t))).trans (Nat.zero_add _)
  show V m c main_v0 ((win0_0.blk t).view.emb (ix2 r l)) = _
  congr 1
  funext a
  apply Fin.ext
  fin_cases a
  · exact h0
  · exact h1
/-- The sample at a point. -/
theorem blk1 (t : Fin cfg0.N) (r : Fin 64) (l : Fin 2048) :
    iblk m c 1 t (ix2 r l) = V m c main_v1 (ix2 r l) := by
  blk_ext [iblk, (idx1 t).1]
/-- The first gains at a point. -/
theorem blk2 (t : Fin cfg0.N) (l : Fin 2048) :
    iblk m c 2 t (ix2 0 l) = V m c main_v2 (ix2 0 l) := by
  blk_ext [iblk, (idx1 t).2.1]
/-- The last gains at a point. -/
theorem blk3 (t : Fin cfg0.N) (l : Fin 2048) :
    iblk m c 3 t (ix2 0 l) = V m c main_v3 (ix2 0 l) := by
  blk_ext [iblk, (idx1 t).2.2.1]
/-- The first matrix's part at a point. -/
theorem blk4 (t : Fin cfg0.N) (k : Fin 2048) (n : Fin 512) :
    iblk m c 4 t (ix2 k n) = V m c main_v4 (ix2 k ⟨512 * (t.val % 16) + n.val, bound_n t n⟩) := by
  blk_ext [iblk, (idx1 t).2.2.2.1]
/-- The second matrix's part at a point. -/
theorem blk5 (t : Fin cfg0.N) (n : Fin 512) (l : Fin 2048) :
    iblk m c 5 t (ix2 n l) = V m c main_v5 (ix2 ⟨512 * (t.val % 16) + n.val, bound_n t n⟩ l) := by
  blk_ext [iblk, (idx1 t).2.2.2.2.1]

end Cert.Proof.Mlp

end
-- ==== Proof.Mlp.Grid.lean ====
module

public import proofs.«01_k».proof.Proof.Mlp.Data
public import proofs.«01_k».proof.Proof.Mlp.Read

@[expose] public section

set_option maxRecDepth 16384

noncomputable section

namespace Cert.Proof.Mlp

open Cert.Kernel2Ideal Cert.Kernel2Ideal.Gen
open Idealize.ShloMosaic Idealize.ShloMosaic.TcCoe

/-! ## The normalized rows at an index -/

section Rows

variable {e : EltTy} (a : Vec Ideal S64x2048 e) (b : Vec Ideal S1024x2048 e) (x : Vec Ideal S1088x2048 e)

/-- A row of the prompt block among the two put together. -/
theorem stack_at_low (r : Fin 1024) (l : Fin 2048) : stack a b (ix2 ⟨64 + r.val, by omega⟩ l) = b (ix2 r l) := by
  refine (dif_neg (show ¬(64 + r.val) < 64 by omega)).trans ?_
  congr 1
  funext k
  apply Fin.ext
  fin_cases k
  · show 64 + r.val - 64 = r.val; omega
  · rfl
/-- A row of the sample among the two put together. -/
theorem stack_at_top (r : Fin 64) (l : Fin 2048) : stack a b (ix2 ⟨r.val, by omega⟩ l) = a (ix2 r l) := by
  refine (dif_pos (show r.val < 64 from r.isLt)).trans ?_
  congr 1
/-- The prompt block's rows at an index. -/
theorem low_at (r : Fin 1024) (l : Fin 2048) : low x (ix2 r l) = x (ix2 ⟨64 + r.val, by omega⟩ l) := by
  unfold low
  congr 1
  funext k
  apply Fin.ext
  fin_cases k
  · show 64 + 1 * r.val = 64 + r.val; omega
  · show 0 + 1 * l.val = l.val; omega

end Rows

/-! ## One part's sum -/

section Part

variable (x y g : Fin 2048 → EReal) (U : Fin 2048 → ℕ → EReal) (D : ℕ → Fin 2048 → EReal)
  (u : Vec Ideal S2048x512 .bf16) (d : Vec Ideal S512x2048 .bf16) (j : ℕ)
  (hu : ∀ (k : Fin 2048) (n : Fin 512), u (ix2 k n) = U k (512 * j + n.val))
  (hd : ∀ (n : Fin 512) (l : Fin 2048), d (ix2 n l) = D (512 * j + n.val) l)

include hu hd in
/-- What part `j` adds is the sum over its places. -/
theorem part_eq (l : Fin 2048) : part y u d l = ∑ n ∈ Finset.range 512, term y U D l (512 * j + n) := by
  refine Eq.trans ?_ (Finset.sum_range (fun n => term y U D l (512 * j + n))).symm
  unfold part
  refine Finset.sum_congr rfl fun n _ => ?_
  rw [hd]
  unfold term inner
  have e : (∑ k : Fin 2048, y k * u (ix2 k n)) = ∑ k : Fin 2048, y k * U k (512 * j + n.val) :=
    Finset.sum_congr rfl fun k _ => by rw [hu]
  rw [e]

include hu hd in
/-- The next part added. -/
theorem upto_next (l : Fin 2048) : upto (512 * j) x g U D l + part (nrm x g) u d l = upto (512 * (j + 1)) x g U D l := by
  rw [part_eq (nrm x g) U D u d j hu hd l]
  unfold upto
  rw [Nat.mul_add, Nat.mul_one, Finset.sum_range_add, add_assoc]

/-- Before any part there is the row. -/
theorem upto_zero (l : Fin 2048) : upto 0 x g U D l = x l := by
  unfold upto
  rw [Finset.sum_range_zero, add_zero]

end Part

/-! ## The grid -/

variable (m : (ℓ : Loc nD τ sig) → Buf (Elt Ideal) ℓ) (c : Dev nD)

/-- What the blocks hold: the prompt blocks' rows, the sample's rows, the gains and the matrices. -/
structure Inputs (X : ℕ → Fin 1024 → Fin 2048 → EReal) (S : Fin 64 → Fin 2048 → EReal) (g gf : Fin 2048 → EReal)
    (U : Fin 2048 → ℕ → EReal) (D : ℕ → Fin 2048 → EReal) : Prop where
  hX : ∀ (t : Fin cfg0.N) (r : Fin 1024) (l : Fin 2048), iblk m c 0 t (ix2 r l) = X (t.val / 16) r l
  hS : ∀ (t : Fin cfg0.N) (r : Fin 64) (l : Fin 2048), iblk m c 1 t (ix2 r l) = S r l
  hg : ∀ (t : Fin cfg0.N) (l : Fin 2048), iblk m c 2 t (ix2 0 l) = g l
  hf : ∀ (t : Fin cfg0.N) (l : Fin 2048), iblk m c 3 t (ix2 0 l) = gf l
  hU : ∀ (t : Fin cfg0.N) (k : Fin 2048) (n : Fin 512), iblk m c 4 t (ix2 k n) = U k (512 * (t.val % 16) + n.val)
  hD : ∀ (t : Fin cfg0.N) (n : Fin 512) (l : Fin 2048), iblk m c 5 t (ix2 n l) = D (512 * (t.val % 16) + n.val) l

variable {X : ℕ → Fin 1024 → Fin 2048 → EReal} {S : Fin 64 → Fin 2048 → EReal} {g gf : Fin 2048 → EReal}
  {U : Fin 2048 → ℕ → EReal} {D : ℕ → Fin 2048 → EReal} (hin : Inputs m c X S g gf U D)

include hin in
/-- The prompt block's normalized rows. -/
theorem normed (t : Fin cfg0.N) (r : Fin 1024) (l : Fin 2048) : k0_pay2 (iblk m c 0 t) (iblk m c 2 t) (ix2 r l) = nrm (X (t.val / 16) r) g l := by
  refine (pay2_at (iblk m c 0 t) (iblk m c 2 t) r l).trans ?_
  rw [show (fun l => iblk m c 0 t (ix2 r l)) = X (t.val / 16) r from funext fun l => hin.hX t r l,
    show (fun l => iblk m c 2 t (ix2 0 l)) = g from funext fun l => hin.hg t l]
include hin in
/-- The sample's normalized rows. -/
theorem normedS (t : Fin cfg0.N) (r : Fin 64) (l : Fin 2048) : k0_pay4 (iblk m c 1 t) (iblk m c 2 t) (ix2 r l) = nrm (S r) g l := by
  refine (pay4_at (iblk m c 1 t) (iblk m c 2 t) r l).trans ?_
  rw [show (fun l => iblk m c 1 t (ix2 r l)) = S r from funext fun l => hin.hS t r l,
    show (fun l => iblk m c 2 t (ix2 0 l)) = g from funext fun l => hin.hg t l]

/-- What is carried of the prompt block's row after part `j` of the sixteen. -/
def prompt (X : Fin 2048 → EReal) (g gf : Fin 2048 → EReal) (U : Fin 2048 → ℕ → EReal) (D : ℕ → Fin 2048 → EReal) (j : ℕ) (l : Fin 2048) : EReal :=
  if j < 15 then upto (512 * (j + 1)) X g U D l else nrm (upto 8192 X g U D) gf l

include hin in
/-- A part added to the prompt block beside the sample. -/
theorem add5 (t : Fin cfg0.N) (xn : Vec Ideal S1088x2048 .bf16) (o : Vec Ideal S1024x2048 .f32) (r : Fin 1024)
    (hn : ∀ l : Fin 2048, xn (ix2 ⟨64 + r.val, by omega⟩ l) = nrm (X (t.val / 16) r) g l)
    (ho : ∀ l : Fin 2048, o (ix2 r l) = upto (512 * (t.val % 16)) (X (t.val / 16) r) g U D l) (l : Fin 2048) :
    k0_pay7 xn (iblk m c 4 t) (iblk m c 5 t) o (ix2 r l) = upto (512 * (t.val % 16 + 1)) (X (t.val / 16) r) g U D l := by
  refine (pay7_at xn (iblk m c 4 t) (iblk m c 5 t) o r l).trans ?_
  rw [ho, show (fun k => xn (ix2 ⟨64 + r.val, by omega⟩ k)) = nrm (X (t.val / 16) r) g from funext hn]
  exact upto_next _ _ _ _ _ _ _ (hin.hU t) (hin.hD t) l
include hin in
/-- A part added to the sample. -/
theorem add4 (t : Fin cfg0.N) (xn : Vec Ideal S1088x2048 .bf16) (o : Vec Ideal S64x2048 .f32) (r : Fin 64)
    (hn : ∀ l : Fin 2048, xn (ix2 ⟨r.val, by omega⟩ l) = nrm (S r) g l)
    (ho : ∀ l : Fin 2048, o (ix2 r l) = upto (512 * (t.val % 16)) (S r) g U D l) (l : Fin 2048) :
    k0_pay6 xn (iblk m c 4 t) (iblk m c 5 t) o (ix2 r l) = upto (512 * (t.val % 16 + 1)) (S r) g U D l := by
  refine (pay6_at xn (iblk m c 4 t) (iblk m c 5 t) o r l).trans ?_
  rw [ho, show (fun k => xn (ix2 ⟨r.val, by omega⟩ k)) = nrm (S r) g from funext hn]
  exact upto_next _ _ _ _ _ _ _ (hin.hU t) (hin.hD t) l
include hin in
/-- A part added to the prompt block alone. -/
theorem add6 (t : Fin cfg0.N) (xl : Vec Ideal S1024x2048 .bf16) (o : Vec Ideal S1024x2048 .f32) (r : Fin 1024)
    (hn : ∀ l : Fin 2048, xl (ix2 r l) = nrm (X (t.val / 16) r) g l)
    (ho : ∀ l : Fin 2048, o (ix2 r l) = upto (512 * (t.val % 16)) (X (t.val / 16) r) g U D l) (l : Fin 2048) :
    k0_pay8 o xl (iblk m c 4 t) (iblk m c 5 t) (ix2 r l) = upto (512 * (t.val % 16 + 1)) (X (t.val / 16) r) g U D l := by
  refine (pay8_at xl (iblk m c 4 t) (iblk m c 5 t) o r l).trans ?_
  rw [ho, show (fun k => xl (ix2 r k)) = nrm (X (t.val / 16) r) g from funext hn]
  exact upto_next _ _ _ _ _ _ _ (hin.hU t) (hin.hD t) l
include hin in
/-- The prompt block's sums, normalized. -/
theorem fin7 (t : Fin cfg0.N) (o : Vec Ideal S1024x2048 .f32) (r : Fin 1024) (ht : t.val % 16 = 15)
    (ho : ∀ l : Fin 2048, o (ix2 r l) = upto (512 * (t.val % 16 + 1)) (X (t.val / 16) r) g U D l) (l : Fin 2048) :
    k0_pay9 o (iblk m c 3 t) (ix2 r l) = nrm (upto 8192 (X (t.val / 16) r) g U D) gf l := by
  refine (pay9_at o (iblk m c 3 t) r l).trans ?_
  rw [ht] at ho
  rw [show (fun l => o (ix2 r l)) = upto 8192 (X (t.val / 16) r) g U D from funext ho,
    show (fun l => iblk m c 3 t (ix2 0 l)) = gf from funext fun l => hin.hf t l]
include hin in
/-- The sample's sums, normalized. -/
theorem fin8 (t : Fin cfg0.N) (o : Vec Ideal S64x2048 .f32) (r : Fin 64) (ht : t.val % 16 = 15)
    (ho : ∀ l : Fin 2048, o (ix2 r l) = upto (512 * (t.val % 16 + 1)) (S r) g U D l) (l : Fin 2048) :
    k0_pay10 o (iblk m c 3 t) (ix2 r l) = nrm (upto 8192 (S r) g U D) gf l := by
  refine (pay10_at o (iblk m c 3 t) r l).trans ?_
  rw [ht] at ho
  rw [show (fun l => o (ix2 r l)) = upto 8192 (S r) g U D from funext ho,
    show (fun l => iblk m c 3 t (ix2 0 l)) = gf from funext fun l => hin.hf t l]

/-- What holds after a point: the normalized rows of the prompt block (and of the sample, with the first block), the prompt
    block's sums and the sample's. -/
def After (X : ℕ → Fin 1024 → Fin 2048 → EReal) (S : Fin 64 → Fin 2048 → EReal) (g gf : Fin 2048 → EReal)
    (U : Fin 2048 → ℕ → EReal) (D : ℕ → Fin 2048 → EReal) (n : ℕ) (p : St Ideal) : Prop :=
  (∀ (r : Fin 1024) (l : Fin 2048), p.1 (ix2 ⟨64 + r.val, by omega⟩ l) = nrm (X (n / 16) r) g l)
  ∧ (n < 16 → ∀ (r : Fin 64) (l : Fin 2048), p.1 (ix2 ⟨r.val, by omega⟩ l) = nrm (S r) g l)
  ∧ (∀ (r : Fin 1024) (l : Fin 2048), p.2.1 (ix2 r l) = prompt (X (n / 16) r) g gf U D (n % 16) l)
  ∧ (∀ (r : Fin 64) (l : Fin 2048), p.2.2 (ix2 r l) = prompt (S r) g gf U D (min n 15) l)

include hin in
/-- After every point it holds. -/
theorem after_all : ∀ (n : ℕ) (h : n < cfg0.N), After X S g gf U D n (stAt m c n h) := by
  intro n
  induction n with
  | zero =>
    intro h
    have e := stAt_A m c ⟨0, h⟩ rfl
    rw [show stAt m c 0 h = stAt m c (⟨0, h⟩ : Fin cfg0.N).val h from rfl, e]
    unfold After; dsimp only
    refine ⟨fun r l => (stack_at_low _ _ r l).trans (normed m c hin ⟨0, h⟩ r l), fun _ r l => (stack_at_top _ _ r l).trans (normedS m c hin ⟨0, h⟩ r l),
      fun r l => ?_, fun r l => ?_⟩
    · refine (add5 m c hin ⟨0, h⟩ _ _ r (fun l => (stack_at_low _ _ r l).trans (normed m c hin ⟨0, h⟩ r l)) (fun l => ?_) l).trans (if_pos (by norm_num)).symm
      exact ((pay1_at (iblk m c 0 ⟨0, h⟩) r l).trans (hin.hX ⟨0, h⟩ r l)).trans (upto_zero _ _ _ _ l).symm
    · refine (add4 m c hin ⟨0, h⟩ _ _ r (fun l => (stack_at_top _ _ r l).trans (normedS m c hin ⟨0, h⟩ r l)) (fun l => ?_) l).trans (if_pos (by norm_num)).symm
      exact ((pay3_at (iblk m c 1 ⟨0, h⟩) r l).trans (hin.hS ⟨0, h⟩ r l)).trans (upto_zero _ _ _ _ l).symm
  | succ n ih =>
    intro h
    obtain ⟨i1, i2, i3, i4⟩ := ih (Nat.lt_of_succ_lt h)
    have hp : prev m c ⟨n + 1, h⟩ = stAt m c n (Nat.lt_of_succ_lt h) := rfl
    rw [← hp] at i1 i2 i3 i4
    generalize ht : (⟨n + 1, h⟩ : Fin cfg0.N) = t at i1 i2 i3 i4
    have hv : t.val = n + 1 := by rw [← ht]
    have hst : stAt m c (n + 1) h = stAt m c t.val t.isLt := by subst ht; rfl
    rw [hst, ← hv]
    -- within a row of parts the rows are those of the point before, and the sums stand at the parts so far
    have k1 : ¬t.val % 16 = 0 → ∀ (r : Fin 1024) (l : Fin 2048), (prev m c t).1 (ix2 ⟨64 + r.val, by omega⟩ l) = nrm (X (t.val / 16) r) g l := fun h0 r l => by
      have e : n / 16 = t.val / 16 := by omega
      rw [← e]; exact i1 r l
    have k3 : ¬t.val % 16 = 0 → ∀ (r : Fin 1024) (l : Fin 2048), (prev m c t).2.1 (ix2 r l) = upto (512 * (t.val % 16)) (X (t.val / 16) r) g U D l := fun h0 r l => by
      have e : n / 16 = t.val / 16 := by omega
      have e' : t.val % 16 = n % 16 + 1 := by omega
      rw [← e, e']; exact (i3 r l).trans (if_pos (by omega))
    have k2 : t.val < 16 → ∀ (r : Fin 64) (l : Fin 2048), (prev m c t).1 (ix2 ⟨r.val, by omega⟩ l) = nrm (S r) g l := fun h0 r l => i2 (by omega) r l
    have k4 : t.val < 16 → ∀ (r : Fin 64) (l : Fin 2048), (prev m c t).2.2 (ix2 r l) = upto (512 * (t.val % 16)) (S r) g U D l := fun h0 r l => by
      have e' : t.val % 16 = min n 15 + 1 := by omega
      rw [e']; exact (i4 r l).trans (if_pos (by omega))
    have k5 : ¬t.val < 16 → ∀ (r : Fin 64) (l : Fin 2048), (prev m c t).2.2 (ix2 r l) = prompt (S r) g gf U D (min t.val 15) l := fun h0 r l => by
      have e : min n 15 = min t.val 15 := by omega
      rw [← e]; exact i4 r l
    by_cases h16 : t.val < 16
    · have h0 : ¬t.val % 16 = 0 := by omega
      by_cases h15 : t.val < 15
      · rw [stAt_B m c t (by omega) h15]
        refine ⟨k1 h0, fun _ => k2 h16, fun r l => ?_, fun r l => ?_⟩
        · exact (add5 m c hin t _ _ r (k1 h0 r) (k3 h0 r) l).trans (if_pos (by omega)).symm
        · have e : min t.val 15 = t.val % 16 := by omega
          rw [e]
          exact (add4 m c hin t _ _ r (k2 h16 r) (k4 h16 r) l).trans (if_pos (by omega)).symm
      · rw [stAt_C m c t (by omega)]
        refine ⟨k1 h0, fun _ => k2 h16, fun r l => ?_, fun r l => ?_⟩
        · exact (fin7 m c hin t _ r (by omega) (add5 m c hin t _ _ r (k1 h0 r) (k3 h0 r)) l).trans (if_neg (by omega)).symm
        · exact (fin8 m c hin t _ r (by omega) (add4 m c hin t _ _ r (k2 h16 r) (k4 h16 r)) l).trans (if_neg (by omega)).symm
    · by_cases h0 : t.val % 16 = 0
      · rw [stAt_D m c t h16 h0]
        unfold After; dsimp only
        refine ⟨fun r l => (stack_at_low _ _ r l).trans (normed m c hin t r l), fun h' => absurd h' h16, fun r l => ?_, k5 h16⟩
        refine (add6 m c hin t _ _ r (normed m c hin t r) (fun l => ?_) l).trans (if_pos (by omega)).symm
        rw [h0]
        exact ((pay1_at (iblk m c 0 t) r l).trans (hin.hX t r l)).trans (upto_zero _ _ _ _ l).symm
      · have kl : ∀ (r : Fin 1024) (l : Fin 2048), low (prev m c t).1 (ix2 r l) = nrm (X (t.val / 16) r) g l := fun r l => (low_at _ r l).trans (k1 h0 r l)
        by_cases h15 : t.val % 16 = 15
        · rw [stAt_G m c t h16 h15]
          refine ⟨k1 h0, fun h' => absurd h' h16, fun r l => ?_, k5 h16⟩
          exact (fin7 m c hin t _ r h15 (add6 m c hin t _ _ r (kl r) (k3 h0 r)) l).trans (if_neg (by omega)).symm
        · rw [stAt_E m c t h16 h0 h15]
          refine ⟨k1 h0, fun h' => absurd h' h16, fun r l => ?_, k5 h16⟩
          exact (add6 m c hin t _ _ r (kl r) (k3 h0 r) l).trans (if_pos (by omega)).symm

end Cert.Proof.Mlp

end
-- ==== Proof.Mlp.Result.lean ====
module

public import proofs.«01_k».proof.Proof.Mlp.Blocks
public import proofs.«01_k».proof.Proof.Mlp.Grid

@[expose] public section

set_option maxRecDepth 16384

noncomputable section

namespace Cert.Proof.Mlp

open Cert.Kernel2Ideal Cert.Kernel2Ideal.Gen
open Idealize.ShloMosaic Idealize.ShloMosaic.TcCoe

/-- Row `r` of prompt block `i`: of batch `i / 2`, past its first sixteen rows. -/
def rowX (a0 : S8256x2048.Idx → EReal) (i : ℕ) (r : Fin 1024) (l : Fin 2048) : EReal :=
  if h : i / 2 * 2064 + 16 + i % 2 * 1024 + r.val < 8256 then a0 (ix2 ⟨i / 2 * 2064 + 16 + i % 2 * 1024 + r.val, h⟩ l) else 0
/-- Row `r` of the sample. -/
def rowS (a1 : S64x2048.Idx → EReal) (r : Fin 64) (l : Fin 2048) : EReal := a1 (ix2 r l)
/-- The gains of one row. -/
def gain (a : S1x2048.Idx → EReal) (l : Fin 2048) : EReal := a (ix2 0 l)
/-- The first matrix, its columns by number. -/
def matU (a4 : S2048x8192.Idx → EReal) (k : Fin 2048) (n : ℕ) : EReal := if h : n < 8192 then a4 (ix2 k ⟨n, h⟩) else 0
/-- The second matrix, its rows by number. -/
def matD (a5 : S8192x2048.Idx → EReal) (n : ℕ) (l : Fin 2048) : EReal := if h : n < 8192 then a5 (ix2 ⟨n, h⟩ l) else 0

/-- The prompt's result. -/
def promptResult (a0 : S8256x2048.Idx → EReal) (a2 a3 : S1x2048.Idx → EReal) (a4 : S2048x8192.Idx → EReal) (a5 : S8192x2048.Idx → EReal) : S8192x2048.Idx → EReal := fun y =>
  nrm (upto 8192 (rowX a0 ((y 0).val / 1024) ⟨(y 0).val % 1024, Nat.mod_lt _ (by norm_num)⟩) (gain a2) (matU a4) (matD a5)) (gain a3) (y 1)
/-- The sample's result. -/
def sampleResult (a1 : S64x2048.Idx → EReal) (a2 a3 : S1x2048.Idx → EReal) (a4 : S2048x8192.Idx → EReal) (a5 : S8192x2048.Idx → EReal) : S64x2048.Idx → EReal := fun y =>
  nrm (upto 8192 (rowS a1 (y 0)) (gain a2) (matU a4) (matD a5)) (gain a3) (y 1)

variable (m : (ℓ : Loc nD τ sig) → Buf (Elt Ideal) ℓ) (c : Dev nD)

/-- Every point's blocks hold what they should. -/
theorem inputs : Inputs m c (rowX (V m c main_v0)) (rowS (V m c main_v1)) (gain (V m c main_v2))
    (gain (V m c main_v3)) (matU (V m c main_v4)) (matD (V m c main_v5)) where
  hX t r l := by
    refine (blk0 m c t r l).trans ?_
    have hb := bound_x t r
    unfold rowX
    rw [dif_pos (by omega)]
    congr 1
    funext a
    apply Fin.ext
    fin_cases a
    · show t.val / 32 * 2064 + 16 + t.val / 16 % 2 * 1024 + r.val = t.val / 16 / 2 * 2064 + 16 + t.val / 16 % 2 * 1024 + r.val
      omega
    · rfl
  hS t r l := blk1 m c t r l
  hg t l := blk2 m c t l
  hf t l := blk3 m c t l
  hU t k n := by
    refine (blk4 m c t k n).trans ?_
    unfold matU
    rw [dif_pos (bound_n t n)]
  hD t n l := by
    refine (blk5 m c t n l).trans ?_
    unfold matD
    rw [dif_pos (bound_n t n)]

/-- The prompt's result is written at a row's last part. -/
theorem flush6 : ∀ t : Fin cfg0.N, (cfg0.win 6).flush t = true → t.val % 16 = 15 :=
  (by decide +kernel : ∀ t : Fin grid0.N, _)
/-- The sample's result is written at the last point. -/
theorem flush7 : ∀ t : Fin cfg0.N, (cfg0.win 7).flush t = true → t.val = 127 :=
  (by decide +kernel : ∀ t : Fin grid0.N, _)

/-- The prompt's result after the run. -/
theorem W1_prompt : W1 m c (Proc.devRef .tc main_v6_0) = promptResult (V m c main_v0) (V m c main_v2)
    (V m c main_v3) (V m c main_v4) (V m c main_v5) := by
  refine (Pipeline.afterRegion_arr (dat m c) (W0 m c) winFacts0.arr_inj 6).trans ?_
  refine (dat m c).arrAt_eq_of_covers 6 (promptResult _ _ _ _ _) (by decide +kernel) fun t hf y => ?_
  have h15 : t.val % 16 = 15 := flush6 t hf
  blk_simp
  rw [after_6]
  have hr : (y 0).val < 1024 := (y 0).isLt
  have hy : y = ix2 (y 0) (y 1) := by funext a; fin_cases a <;> rfl
  have e0 : ((win0_6.blk t).view.emb y 0 : ℕ) = 1024 * (t.val / 16) + (y 0).val := by
    blk_simp [(idx1 t).2.2.2.2.2.1]
    omega
  have e1 : (win0_6.blk t).view.emb y 1 = y 1 := by
    apply Fin.ext
    blk_simp [(idx1 t).2.2.2.2.2.1]
  refine (congrArg (stAt m c t.val t.isLt).2.1 hy).trans ?_
  refine ((after_all m c (inputs m c) t.val t.isLt).2.2.1 (y 0) (y 1)).trans ?_
  unfold prompt promptResult
  rw [if_neg (by omega), e1]
  congr 2
  have a0 : ((win0_6.blk t).view.emb y 0 : ℕ) / 1024 = t.val / 16 := by omega
  have a1 : (⟨((win0_6.blk t).view.emb y 0 : ℕ) % 1024, Nat.mod_lt _ (by norm_num)⟩ : Fin 1024) = y 0 := by
    apply Fin.ext
    show ((win0_6.blk t).view.emb y 0 : ℕ) % 1024 = (y 0).val
    omega
  rw [a0, a1]

/-- The sample's result after the run. -/
theorem W1_sample : W1 m c (Proc.devRef .tc main_v6_1) = sampleResult (V m c main_v1) (V m c main_v2)
    (V m c main_v3) (V m c main_v4) (V m c main_v5) := by
  refine (Pipeline.afterRegion_arr (dat m c) (W0 m c) winFacts0.arr_inj 7).trans ?_
  refine (dat m c).arrAt_eq_of_covers 7 (sampleResult _ _ _ _ _) (by decide +kernel) fun t hf y => ?_
  have h127 : t.val = 127 := flush7 t hf
  blk_simp
  rw [after_7]
  have hy : y = ix2 (y 0) (y 1) := by funext a; fin_cases a <;> rfl
  have e0 : (win0_7.blk t).view.emb y 0 = y 0 := by
    apply Fin.ext
    blk_simp [(idx1 t).2.2.2.2.2.2]
  have e1 : (win0_7.blk t).view.emb y 1 = y 1 := by
    apply Fin.ext
    blk_simp [(idx1 t).2.2.2.2.2.2]
  refine (congrArg (stAt m c t.val t.isLt).2.2 hy).trans ?_
  refine ((after_all m c (inputs m c) t.val t.isLt).2.2.2 (y 0) (y 1)).trans ?_
  unfold prompt sampleResult
  rw [if_neg (by omega), e0, e1]

end Cert.Proof.Mlp

end
-- ==== Proof.Mlp.Host.lean ====
module

public import proofs.«01_k».proof.Proof.Mlp.Result
public import Idealize.ShloMosaic.Lib.StableHlo.Run

@[expose] public section

set_option maxRecDepth 16384

noncomputable section

namespace Cert.Proof.Mlp

open Cert.Kernel2Ideal Cert.Kernel2Ideal.Gen
open Idealize.ShloMosaic Idealize.ShloMosaic.TcCoe

/-! ## The arrays that the host code prepares, and the results that it shapes -/

/-- The prompt's batches as one list of rows. -/
def flat (x : FVec Ideal S4x2064x2048 .f32) : FVec Ideal S8256x2048 .f32 := shapeCast S8256x2048 x shapeCasts_S4x2064x2048_S8256x2048
/-- The sample's batches as one list of rows. -/
def flatS (x : FVec Ideal S8x8x2048 .f32) : FVec Ideal S64x2048 .f32 := shapeCast S64x2048 x shapeCasts_S8x8x2048_S64x2048
/-- Gains as an array of one row. -/
def asRow (g : FVec Ideal S2048 .f32) : FVec Ideal S1x2048 .f32 := shapeCast S1x2048 g shapeCasts_S2048_S1x2048
/-- The first matrix in half the width. -/
def halfU (w : FVec Ideal S2048x8192 .f32) : FVec Ideal S2048x8192 .bf16 := truncf .bf16 w bitsLt_bf16_f32
/-- The second matrix in half the width. -/
def halfD (w : FVec Ideal S8192x2048 .f32) : FVec Ideal S8192x2048 .bf16 := truncf .bf16 w bitsLt_bf16_f32
/-- The prompt's rows by batches. -/
def byBatch (y : FVec Ideal S8192x2048 .f32) : FVec Ideal S4x2048x2048 .f32 := shapeCast S4x2048x2048 y shapeCasts_S8192x2048_S4x2048x2048
/-- The sample's rows by batches. -/
def byBatchS (y : FVec Ideal S64x2048 .f32) : FVec Ideal S8x8x2048 .f32 := shapeCast S8x8x2048 y shapeCasts_S64x2048_S8x8x2048

/-- A row of the list is a row of a batch. -/
theorem flat_at (x : FVec Ideal S4x2064x2048 .f32) (b : Fin 4) (r : Fin 2064) (l : Fin 2048) :
    flat x (ix2 ⟨b.val * 2064 + r.val, by omega⟩ l) = x (ix3 b r l) := by
  pointwise [flat]
/-- A row of the sample's list is a row of a batch. -/
theorem flatS_at (x : FVec Ideal S8x8x2048 .f32) (b r : Fin 8) (l : Fin 2048) :
    flatS x (ix2 ⟨b.val * 8 + r.val, by omega⟩ l) = x (ix3 b r l) := by
  pointwise [flatS]
/-- The row holds the gains. -/
theorem asRow_at (g : FVec Ideal S2048 .f32) (l : Fin 2048) : asRow g (ix2 0 l) = g (ix1 l) := by
  pointwise [asRow]
/-- Over the extended reals the narrower first matrix is the matrix. -/
theorem halfU_at (w : FVec Ideal S2048x8192 .f32) (k : Fin 2048) (n : Fin 8192) : halfU w (ix2 k n) = w (ix2 k n) := by
  pointwise [halfU]
/-- Over the extended reals the narrower second matrix is the matrix. -/
theorem halfD_at (w : FVec Ideal S8192x2048 .f32) (n : Fin 8192) (l : Fin 2048) : halfD w (ix2 n l) = w (ix2 n l) := by
  pointwise [halfD]
/-- A batch's row is a row of the list. -/
theorem byBatch_at (y : FVec Ideal S8192x2048 .f32) (b : Fin 4) (r : Fin 2048) (l : Fin 2048) :
    byBatch y (ix3 b r l) = y (ix2 ⟨b.val * 2048 + r.val, by omega⟩ l) := by
  pointwise [byBatch]
/-- A batch's row of the sample is a row of the list. -/
theorem byBatchS_at (y : FVec Ideal S64x2048 .f32) (b r : Fin 8) (l : Fin 2048) :
    byBatchS y (ix3 b r l) = y (ix2 ⟨b.val * 8 + r.val, by omega⟩ l) := by
  pointwise [byBatchS]

variable (m : (ℓ : Loc nD τ sig) → Buf (Elt Ideal) ℓ) (c : Dev nD)

/-- The call finds the prompt's list of rows. -/
theorem V_v0 : V m c main_v0 = flat (m ((c : Thread nD τ).loc main_arg0)) := by
  rw [show V m c main_v0 = W0 m c (Proc.devRef .tc main_v0) from congrFun (W0_eq m c).symm _]; unfold W0; after_results_simp; rfl
/-- The call finds the sample's list of rows. -/
theorem V_v1 : V m c main_v1 = flatS (m ((c : Thread nD τ).loc main_arg1)) := by
  rw [show V m c main_v1 = W0 m c (Proc.devRef .tc main_v1) from congrFun (W0_eq m c).symm _]; unfold W0; after_results_simp; rfl
/-- The call finds the row of the first gains. -/
theorem V_v2 : V m c main_v2 = asRow (m ((c : Thread nD τ).loc main_arg2)) := by
  rw [show V m c main_v2 = W0 m c (Proc.devRef .tc main_v2) from congrFun (W0_eq m c).symm _]; unfold W0; after_results_simp; rfl
/-- The call finds the row of the last gains. -/
theorem V_v3 : V m c main_v3 = asRow (m ((c : Thread nD τ).loc main_arg3)) := by
  rw [show V m c main_v3 = W0 m c (Proc.devRef .tc main_v3) from congrFun (W0_eq m c).symm _]; unfold W0; after_results_simp; rfl
/-- The call finds the first matrix in half the width. -/
theorem V_v4 : V m c main_v4 = halfU (m ((c : Thread nD τ).loc main_arg4)) := by
  rw [show V m c main_v4 = W0 m c (Proc.devRef .tc main_v4) from congrFun (W0_eq m c).symm _]; unfold W0; after_results_simp; rfl
/-- The call finds the second matrix in half the width. -/
theorem V_v5 : V m c main_v5 = halfD (m ((c : Thread nD τ).loc main_arg5)) := by
  rw [show V m c main_v5 = W0 m c (Proc.devRef .tc main_v5) from congrFun (W0_eq m c).symm _]; unfold W0; after_results_simp; rfl

/-- The prompt's result of the whole program. -/
theorem W2_prompt_eq : W2 m c (Proc.devRef .tc main_v7) = byBatch (promptResult (flat (m ((c : Thread nD τ).loc main_arg0))) (asRow (m ((c : Thread nD τ).loc main_arg2)))
    (asRow (m ((c : Thread nD τ).loc main_arg3))) (halfU (m ((c : Thread nD τ).loc main_arg4))) (halfD (m ((c : Thread nD τ).loc main_arg5)))) := by
  rw [W2_prompt, W1_prompt, V_v0, V_v2, V_v3, V_v4, V_v5]; rfl
/-- The sample's result of the whole program. -/
theorem W2_sample_eq : W2 m c (Proc.devRef .tc main_v8) = byBatchS (sampleResult (flatS (m ((c : Thread nD τ).loc main_arg1))) (asRow (m ((c : Thread nD τ).loc main_arg2)))
    (asRow (m ((c : Thread nD τ).loc main_arg3))) (halfU (m ((c : Thread nD τ).loc main_arg4))) (halfD (m ((c : Thread nD τ).loc main_arg5)))) := by
  rw [W2_sample, W1_sample, V_v1, V_v2, V_v3, V_v4, V_v5]; rfl

end Cert.Proof.Mlp

end
-- ==== Proof.Mlp.RefRead.lean ====
module

public import proofs.«01_k».proof.Proof.Gen.Reference2Ideal.Run
public import proofs.«01_k».proof.Proof.Mlp.Read

@[expose] public section

set_option maxRecDepth 16384

noncomputable section

namespace Cert.Proof.Mlp

open Cert.Reference2Ideal Cert.Reference2Ideal.Gen
open Idealize.ShloMosaic Idealize.ShloMosaic.TcCoe

/-! ## The reference's parts -/

/-- The reference's norm of the prompt's rows. -/
def refNorm (x : FVec Ideal S4x2064x2048 .f32) (g : FVec Ideal S2048 .f32) : FVec Ideal S4x2064x2048 .f32 :=
  mulf (mulf x (broadcastInDim S4x2064x2048 ![0, 1, 2] bcast_S4x2064x1_S4x2064x2048_0_1_2 (Host.rsqrt (addf (Host.divf (broadcastInDim S4x2064x1 ![0, 1] bcast_S4x2064_S4x2064x1_0_1 (Host.reduceAdd (mulf x x) (constant S_ .f32 0x00000000#32) reducesTo_S4x2064x2048_S4x2064_d2 h_S_)) (broadcastInDim S4x2064x1 ![] bcast_S_S4x2064x1 (constant S_ .f32 0x45000000#32))) (broadcastInDim S4x2064x1 ![] bcast_S_S4x2064x1 (constant S_ .f32 0x358637BD#32)))))) (broadcastInDim S4x2064x2048 ![0, 1, 2] bcast_S1x1x2048_S4x2064x2048_0_1_2 (broadcastInDim S1x1x2048 ![2] bcast_S2048_S1x1x2048_2 g))

/-- The reference's norm of the sample's rows. -/
def refNormS (x : FVec Ideal S8x8x2048 .f32) (g : FVec Ideal S2048 .f32) : FVec Ideal S8x8x2048 .f32 :=
  mulf (mulf x (broadcastInDim S8x8x2048 ![0, 1, 2] bcast_S8x8x1_S8x8x2048_0_1_2 (Host.rsqrt (addf (Host.divf (broadcastInDim S8x8x1 ![0, 1] bcast_S8x8_S8x8x1_0_1 (Host.reduceAdd (mulf x x) (constant S_ .f32 0x00000000#32) reducesTo_S8x8x2048_S8x8_d2 h_S_)) (broadcastInDim S8x8x1 ![] bcast_S_S8x8x1 (constant S_ .f32 0x45000000#32))) (broadcastInDim S8x8x1 ![] bcast_S_S8x8x1 (constant S_ .f32 0x358637BD#32)))))) (broadcastInDim S8x8x2048 ![0, 1, 2] bcast_S1x1x2048_S8x8x2048_0_1_2 (broadcastInDim S1x1x2048 ![2] bcast_S2048_S1x1x2048_2 g))

/-- The reference's inner values of the prompt's rows. -/
def refInner (y : FVec Ideal S4x2064x2048 .f32) (u : FVec Ideal S2048x8192 .f32) : FVec Ideal S4x2064x8192 .f32 :=
  maximumf (Host.dotGeneral dot_S4x2064x2048_S2048x8192_S4x2064x8192_2_0_01_1_n_n none y u) (broadcastInDim S4x2064x8192 ![] bcast_S_S4x2064x8192 (constant S_ .f32 0x00000000#32))

/-- The reference's inner values of the sample's rows. -/
def refInnerS (y : FVec Ideal S8x8x2048 .f32) (u : FVec Ideal S2048x8192 .f32) : FVec Ideal S8x8x8192 .f32 :=
  maximumf (Host.dotGeneral dot_S8x8x2048_S2048x8192_S8x8x8192_2_0_01_1_n_n none y u) (broadcastInDim S8x8x8192 ![] bcast_S_S8x8x8192 (constant S_ .f32 0x00000000#32))

/-- The reference's prompt rows with the layer added. -/
def refAdd (x : FVec Ideal S4x2064x2048 .f32) (a : FVec Ideal S4x2064x8192 .f32) (d : FVec Ideal S8192x2048 .f32) : FVec Ideal S4x2064x2048 .f32 :=
  addf x (Host.dotGeneral dot_S4x2064x8192_S8192x2048_S4x2064x2048_2_0_01_1_n_n none (mulf a a) d)

/-- The reference's sample rows with the layer added. -/
def refAddS (x : FVec Ideal S8x8x2048 .f32) (a : FVec Ideal S8x8x8192 .f32) (d : FVec Ideal S8192x2048 .f32) : FVec Ideal S8x8x2048 .f32 :=
  addf x (Host.dotGeneral dot_S8x8x8192_S8192x2048_S8x8x2048_2_0_01_1_n_n none (mulf a a) d)

/-- The batches' rows past the first sixteen. -/
def kept (x : FVec Ideal S4x2064x2048 .f32) : FVec Ideal S4x2048x2048 .f32 :=
  extractStridedSlice S4x2048x2048 ![0, 16, 0] x slices_S4x2064x2048_S4x2048x2048_0_16_0

/-- The reference's prompt result. -/
def refPrompt (a0 : FVec Ideal S4x2064x2048 .f32) (a2 a3 : FVec Ideal S2048 .f32) (a4 : FVec Ideal S2048x8192 .f32) (a5 : FVec Ideal S8192x2048 .f32) : FVec Ideal S4x2048x2048 .f32 :=
  kept (refNorm (refAdd a0 (refInner (refNorm a0 a2) a4) a5) a3)
/-- The reference's sample result. -/
def refSample (a1 : FVec Ideal S8x8x2048 .f32) (a2 a3 : FVec Ideal S2048 .f32) (a4 : FVec Ideal S2048x8192 .f32) (a5 : FVec Ideal S8192x2048 .f32) : FVec Ideal S8x8x2048 .f32 :=
  refNormS (refAddS a1 (refInnerS (refNormS a1 a2) a4) a5) a3

variable (m : (ℓ : Loc nD τ sig) → Buf (Elt Ideal) ℓ) (c : Dev nD)

/-- The reference's prompt result by its parts. -/
theorem ref_prompt : Cert.Reference2Ideal.Value.res_main_v49 (F := Ideal) m c =
    refPrompt (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := rfl
/-- The reference's sample result by its parts. -/
theorem ref_sample : Cert.Reference2Ideal.Value.res_main_v62 (F := Ideal) m c =
    refSample (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

/-! ## The parts at an index -/

/-- A normalized entry of the prompt. -/
theorem refNorm_at (x : FVec Ideal S4x2064x2048 .f32) (g : FVec Ideal S2048 .f32) (b : Fin 4) (r : Fin 2064) (l : Fin 2048) :
    refNorm x g (ix3 b r l) = nrm (fun l => x (ix3 b r l)) (fun l => g (ix1 l)) l := by
  pointwise [refNorm]
  rfl
/-- A normalized entry of the sample. -/
theorem refNormS_at (x : FVec Ideal S8x8x2048 .f32) (g : FVec Ideal S2048 .f32) (b : Fin 8) (r : Fin 8) (l : Fin 2048) :
    refNormS x g (ix3 b r l) = nrm (fun l => x (ix3 b r l)) (fun l => g (ix1 l)) l := by
  pointwise [refNormS]
  rfl
/-- An inner value of the prompt. -/
theorem refInner_at (y : FVec Ideal S4x2064x2048 .f32) (u : FVec Ideal S2048x8192 .f32) (b : Fin 4) (r : Fin 2064) (n : Fin 8192) :
    refInner y u (ix3 b r n) = max (∑ k : Fin 2048, y (ix3 b r k) * u (ix2 k n)) 0 := by
  pointwise [refInner]
/-- An inner value of the sample. -/
theorem refInnerS_at (y : FVec Ideal S8x8x2048 .f32) (u : FVec Ideal S2048x8192 .f32) (b : Fin 8) (r : Fin 8) (n : Fin 8192) :
    refInnerS y u (ix3 b r n) = max (∑ k : Fin 2048, y (ix3 b r k) * u (ix2 k n)) 0 := by
  pointwise [refInnerS]
/-- An entry of the prompt with the layer added. -/
theorem refAdd_at (x : FVec Ideal S4x2064x2048 .f32) (a : FVec Ideal S4x2064x8192 .f32) (d : FVec Ideal S8192x2048 .f32) (b : Fin 4) (r : Fin 2064) (l : Fin 2048) :
    refAdd x a d (ix3 b r l) = x (ix3 b r l) + ∑ n : Fin 8192, a (ix3 b r n) * a (ix3 b r n) * d (ix2 n l) := by
  pointwise [refAdd]
/-- An entry of the sample with the layer added. -/
theorem refAddS_at (x : FVec Ideal S8x8x2048 .f32) (a : FVec Ideal S8x8x8192 .f32) (d : FVec Ideal S8192x2048 .f32) (b : Fin 8) (r : Fin 8) (l : Fin 2048) :
    refAddS x a d (ix3 b r l) = x (ix3 b r l) + ∑ n : Fin 8192, a (ix3 b r n) * a (ix3 b r n) * d (ix2 n l) := by
  pointwise [refAddS]
/-- An entry of the rows kept. -/
theorem kept_at (x : FVec Ideal S4x2064x2048 .f32) (b : Fin 4) (r : Fin 2048) (l : Fin 2048) :
    kept x (ix3 b r l) = x (ix3 b ⟨16 + r.val, by omega⟩ l) := by
  pointwise [kept]

end Cert.Proof.Mlp

end
-- ==== Proof.Mlp.Final.lean ====
module

public import proofs.«01_k».proof.Defs
public import proofs.«01_k».proof.Proof.Mlp.Host
public import proofs.«01_k».proof.Proof.Mlp.RefRead
public import proofs.«01_k».proof.Proof.Gen.Kernel2
public import proofs.«01_k».proof.Proof.Gen.Kernel2Ideal
public import proofs.«01_k».proof.Proof.Gen.Reference2Ideal
public import Idealize.ShloMosaic.Lib.Quiescent

@[expose] public section

set_option maxRecDepth 16384

noncomputable section

namespace Cert.Proof.Mlp

open Idealize.ShloMosaic Idealize.SL.Sem

/-- The layer's side conditions. -/
instance fk2 : Cert.Kernel2.Facts := Cert.Kernel2.Gen.facts
/-- The idealized layer's side conditions. -/
instance fki2 : Cert.Kernel2Ideal.Facts := Cert.Kernel2Ideal.Gen.facts
/-- The layer's reference's side conditions. -/
instance fri2 : Cert.Reference2Ideal.Facts := Cert.Reference2Ideal.Gen.facts

/-! ## The frames -/

/-- The two programs' kernel body is one. -/
theorem same_bodies : (Cert.Kernel2Ideal.defs₀ (F := Bits)) = (Cert.Kernel2.defs₀ (F := Bits)) := by
  refine congrArg (Defs.onTc (nD := Cert.Kernel2.nD) (τ := Cert.Kernel2.τ) (sig := Cert.Kernel2.sig) (Val := Elt Bits) (Λ := Cert.Kernel2.Λ₀)) ?_
  funext ℓ a
  match ℓ, a with
  | 0, (_, _) => rfl

/-- Their definitions with the pipelines around the body. -/
theorem same_defs : (Cert.Kernel2Ideal.defs (F := Bits)) = (Cert.Kernel2.defs (F := Bits)) :=
  congrArg (Pipeline.defs (Cert.Kernel2.pcfgs (F := Bits))) same_bodies

/-- A run of the one is a run of the other. -/
theorem run_same (s : MemSt Cert.Kernel2.nD Cert.Kernel2.τ Cert.Kernel2.sig (Elt Bits)) (Q : _ → Prop)
    (h : θ_run (Cert.Kernel2Ideal.defs (F := Bits)) (onTc (τ := Cert.Kernel2Ideal.τ) (Cert.Kernel2Ideal.main (F := Bits))) s Q) :
    θ_run (Cert.Kernel2.defs (F := Bits)) (onTc (τ := Cert.Kernel2.τ) (Cert.Kernel2.main (F := Bits))) s Q :=
  (congrArg (fun D => θ_run D (onTc (τ := Cert.Kernel2.τ) (Cert.Kernel2.main (F := Bits))) s Q) same_defs).mp h

/-- The layer, in floats: it ends, its arguments stay, every counter is back at zero. -/
theorem frame_Kernel2 : Cert.quiescent_Kernel2 := fun m g _ =>
  run_same _ _ ((θ_run _ _ _).mono
    (fun _ h => ⟨fun c => ⟨(h.1 c).1, (h.1 c).2.1, (h.1 c).2.2.1, (h.1 c).2.2.2.1, (h.1 c).2.2.2.2.1, (h.1 c).2.2.2.2.2.1⟩, h.2⟩)
    (run (F := Bits) m g))

/-- The layer over the extended reals: it ends, its arguments stay, every counter is back at zero. -/
theorem frame_Kernel2Ideal : Cert.quiescent_Kernel2Ideal := fun m g _ =>
  (θ_run _ _ _).mono
    (fun _ h => ⟨fun c => ⟨(h.1 c).1, (h.1 c).2.1, (h.1 c).2.2.1, (h.1 c).2.2.2.1, (h.1 c).2.2.2.2.1, (h.1 c).2.2.2.2.2.1⟩, h.2⟩)
    (run (F := Ideal) m g)

/-- The layer's reference: it ends and its arguments stay; it has no counters. -/
theorem frame_Reference2Ideal : Cert.quiescent_Reference2Ideal := fun m g _ =>
  (θ_run _ _ _).mono (fun r h => ⟨fun c => (h c).2.2, sem_eq_zero_of_no_sems (by decide) r.2⟩)
    (Cert.Reference2Ideal.Value.run (F := Ideal) m g)

/-! ## The reference's results -/

section Reference

open Cert.Reference2Ideal

/-- A row, normalized and gone through the layer's two matrices, added to itself: the reference's sum over the whole width. -/
theorem sum_whole (x : Fin 2048 → EReal) (g : Fin 2048 → EReal) (a4 : FVec Ideal S2048x8192 .f32) (a5 : FVec Ideal S8192x2048 .f32) (l : Fin 2048) :
    x l + ∑ n : Fin 8192, max (∑ k : Fin 2048, nrm x g k * a4 (ix2 k n)) 0 * max (∑ k : Fin 2048, nrm x g k * a4 (ix2 k n)) 0 * a5 (ix2 n l)
      = upto 8192 x g (matU (halfU a4)) (matD (halfD a5)) l := by
  unfold upto
  refine congrArg (x l + ·) (Eq.trans ?_ (Finset.sum_range (fun n => term (nrm x g) (matU (halfU a4)) (matD (halfD a5)) l n)).symm)
  refine Finset.sum_congr rfl fun n _ => ?_
  have hu : ∀ k : Fin 2048, matU (halfU a4) k n.val = a4 (ix2 k n) := fun k => (dif_pos n.isLt).trans (halfU_at a4 k n)
  have hd : matD (halfD a5) n.val l = a5 (ix2 n l) := (dif_pos n.isLt).trans (halfD_at a5 n l)
  have e : (∑ k : Fin 2048, nrm x g k * matU (halfU a4) k n.val) = ∑ k : Fin 2048, nrm x g k * a4 (ix2 k n) :=
    Finset.sum_congr rfl fun k _ => by rw [hu]
  unfold term inner
  rw [e, hd]

/-- The row's gains are the gains. -/
theorem gain_row (a : FVec Ideal S2048 .f32) : gain (asRow a) = fun l => a (ix1 l) := funext fun l => asRow_at a l

/-- The reference's sample result is the layer's. -/
theorem refSample_eq (a1 : FVec Ideal S8x8x2048 .f32) (a2 a3 : FVec Ideal S2048 .f32) (a4 : FVec Ideal S2048x8192 .f32) (a5 : FVec Ideal S8192x2048 .f32) :
    refSample a1 a2 a3 a4 a5 = byBatchS (sampleResult (flatS a1) (asRow a2) (asRow a3) (halfU a4) (halfD a5)) := by
  funext y
  obtain ⟨b, r, j, hy⟩ : ∃ (b r : Fin 8) (j : Fin 2048), y = ix3 b r j := ⟨y 0, y 1, y 2, by funext a; fin_cases a <;> rfl⟩
  rw [hy]
  refine (refNormS_at _ _ b r j).trans (Eq.trans ?_ (byBatchS_at _ b r j).symm)
  unfold sampleResult
  rw [gain_row, gain_row]
  have hx : (fun l => a1 (ix3 b r l)) = rowS (flatS a1) ⟨b.val * 8 + r.val, by omega⟩ := funext fun l => (flatS_at a1 b r l).symm
  refine Eq.trans ?_ (congrArg (fun x => nrm (upto 8192 x (fun l => a2 (ix1 l)) (matU (halfU a4)) (matD (halfD a5))) (fun l => a3 (ix1 l)) j) hx)
  refine congrArg (fun x => nrm x (fun l => a3 (ix1 l)) j) (funext fun l => ?_)
  refine (refAddS_at _ _ _ b r l).trans ?_
  have e : ∀ n : Fin 8192, refInnerS (refNormS a1 a2) a4 (ix3 b r n)
      = max (∑ k : Fin 2048, nrm (fun l => a1 (ix3 b r l)) (fun l => a2 (ix1 l)) k * a4 (ix2 k n)) 0 := fun n =>
    (refInnerS_at _ _ b r n).trans (congrArg (max · 0) (Finset.sum_congr rfl fun k _ => congrArg (· * a4 (ix2 k n)) (refNormS_at a1 a2 b r k)))
  simp only [e]
  exact sum_whole (fun l => a1 (ix3 b r l)) (fun l => a2 (ix1 l)) a4 a5 l

/-- The reference's prompt result is the layer's. -/
theorem refPrompt_eq (a0 : FVec Ideal S4x2064x2048 .f32) (a2 a3 : FVec Ideal S2048 .f32) (a4 : FVec Ideal S2048x8192 .f32) (a5 : FVec Ideal S8192x2048 .f32) :
    refPrompt a0 a2 a3 a4 a5 = byBatch (promptResult (flat a0) (asRow a2) (asRow a3) (halfU a4) (halfD a5)) := by
  funext y
  obtain ⟨b, r, j, hy⟩ : ∃ (b : Fin 4) (r : Fin 2048) (j : Fin 2048), y = ix3 b r j := ⟨y 0, y 1, y 2, by funext a; fin_cases a <;> rfl⟩
  rw [hy]
  refine (kept_at _ b r j).trans ((refNorm_at _ _ b ⟨16 + r.val, by omega⟩ j).trans (Eq.trans ?_ (byBatch_at _ b r j).symm))
  unfold promptResult
  rw [gain_row, gain_row]
  have hx : (fun l => a0 (ix3 b ⟨16 + r.val, by omega⟩ l))
      = rowX (flat a0) ((b.val * 2048 + r.val) / 1024) ⟨(b.val * 2048 + r.val) % 1024, Nat.mod_lt _ (by norm_num)⟩ := by
    funext l
    refine (flat_at a0 b ⟨16 + r.val, by omega⟩ l).symm.trans ?_
    unfold rowX
    rw [dif_pos (by dsimp only; omega)]
    congr 1
    funext a
    apply Fin.ext
    fin_cases a
    · show b.val * 2064 + (16 + r.val) = (b.val * 2048 + r.val) / 1024 / 2 * 2064 + 16 + (b.val * 2048 + r.val) / 1024 % 2 * 1024 + (b.val * 2048 + r.val) % 1024
      omega
    · rfl
  refine Eq.trans ?_ (congrArg (fun x => nrm (upto 8192 x (fun l => a2 (ix1 l)) (matU (halfU a4)) (matD (halfD a5))) (fun l => a3 (ix1 l)) j) hx)
  refine congrArg (fun x => nrm x (fun l => a3 (ix1 l)) j) (funext fun l => ?_)
  refine (refAdd_at _ _ _ b ⟨16 + r.val, by omega⟩ l).trans ?_
  have e : ∀ n : Fin 8192, refInner (refNorm a0 a2) a4 (ix3 b ⟨16 + r.val, by omega⟩ n)
      = max (∑ k : Fin 2048, nrm (fun l => a0 (ix3 b ⟨16 + r.val, by omega⟩ l)) (fun l => a2 (ix1 l)) k * a4 (ix2 k n)) 0 := fun n =>
    (refInner_at _ _ b ⟨16 + r.val, by omega⟩ n).trans (congrArg (max · 0) (Finset.sum_congr rfl fun k _ => congrArg (· * a4 (ix2 k n)) (refNorm_at a0 a2 b ⟨16 + r.val, by omega⟩ k)))
  simp only [e]
  exact sum_whole (fun l => a0 (ix3 b ⟨16 + r.val, by omega⟩ l)) (fun l => a2 (ix1 l)) a4 a5 l

end Reference

/-- The layer and its reference, from the same arguments, end with the same results. -/
theorem algebraic : Cert.algebraic_Kernel2Ideal_Reference2Ideal := by
  intro m g m' g' _ hargs
  refine ⟨fun c => W2 m c (Proc.devRef .tc Cert.Kernel2Ideal.main_v7), fun c => W2 m c (Proc.devRef .tc Cert.Kernel2Ideal.main_v8),
    (θ_run _ _ _).mono (fun _ h c => ⟨(h.1 c).2.2.2.2.2.2.1, (h.1 c).2.2.2.2.2.2.2, (h.1 c).1, (h.1 c).2.1, (h.1 c).2.2.1, (h.1 c).2.2.2.1, (h.1 c).2.2.2.2.1, (h.1 c).2.2.2.2.2.1⟩)
      (run (F := Ideal) m g),
    (θ_run _ _ _).mono (fun _ h c => ⟨(h c).1.trans ?_, (h c).2.1.trans ?_, (h c).2.2⟩) (Cert.Reference2Ideal.Value.run (F := Ideal) m' g')⟩
  · obtain ⟨e0, e1, e2, e3, e4, e5⟩ := hargs c
    refine Eq.trans ?_ (W2_prompt_eq m c).symm
    rw [ref_prompt, e0, e2, e3, e4, e5]
    exact refPrompt_eq _ _ _ _ _
  · obtain ⟨e0, e1, e2, e3, e4, e5⟩ := hargs c
    refine Eq.trans ?_ (W2_sample_eq m c).symm
    rw [ref_sample, e1, e2, e3, e4, e5]
    exact refSample_eq _ _ _ _ _

end Cert.Proof.Mlp

end
-- ==== Proof.In.RunFirst.lean ====
module

public import proofs.«01_k».proof.Proof.Gen.Kernel3Ideal.Launch
public import proofs.«01_k».proof.Proof.Gen.Kernel3Ideal.Points
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Writes
public import Idealize.ShloMosaic.Lib.VecWindow

@[expose] public section

set_option maxRecDepth 16384

noncomputable section

namespace Cert.Proof.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S688x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x128 .f32) (harg7 : arg7.IsWhole) (arg8 : Memref sig .tc .vmem S688x1024 .f32) (harg8 : arg8.IsWhole) (arg9 : Memref sig .tc .vmem S688x1024 .f32) (harg9 : arg9.IsWhole) (arg10 : Memref sig .tc .vmem S688x1024 .f32) (harg10 : arg10.IsWhole) (arg11 : Memref sig .tc .vmem S688x128 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x128 .f32) (harg15 : arg15.IsWhole) (arg16 : Memref sig .tc .vmem S688x2048 .bf16) (harg16 : arg16.IsWhole) (arg17 : Memref sig .tc .vmem S64x2048 .bf16) (harg17 : arg17.IsWhole)
    (x0 : Vec F S688x2048 .f32) (x1 : Vec F S64x2048 .f32) (x2 : Vec F S1x2048 .f32) (x3 : Vec F S2048x1024 .bf16) (x4 : Vec F S2048x128 .bf16) (x5 : Vec F S1x128 .f32)
    (xp : Vec F S688x2048 .bf16) (xq : Vec F S64x2048 .bf16)

set_option maxHeartbeats 2000000 in
/-- The first point: the rows of the first prompt block and of the sample are normalized, their forget gates and their first query columns computed. -/
theorem run_A (hc1 : k0_cond1 i = 1#1) (hc2 : k0_cond2 i = 1#1) (hc3 : k0_cond3 i = 1#1) (hc4 : ¬k0_cond4 i = 1#1) (hc5 : ¬k0_cond5 i = 1#1) (hc6 : k0_cond6 i = 1#1) (hc7 : k0_cond7 i = 1#1) (hc8 : ¬k0_cond8 i = 1#1) (hc9 : ¬k0_cond9 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg11 fullShare d) ∗ (∃ d, owns (c : Thread nD τ) arg12 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay7 (k0_pay2 x0 x2) x3) ∗ owns (c : Thread nD τ) arg11 fullShare (k0_pay3 x0 x2 x4 x5) ∗ owns (c : Thread nD τ) arg12 fullShare (k0_pay8 (k0_pay5 x1 x2) x3) ∗ owns (c : Thread nD τ) arg15 fullShare (k0_pay6 x1 x2 x4 x5) ∗ owns (c : Thread nD τ) arg16 fullShare ((k0_pay2 x0 x2)) ∗ owns (c : Thread nD τ) arg17 fullShare ((k0_pay5 x1 x2))) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_in_proj_eq_skeleton]; unfold cc0_in_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d11, %f11, -, H11⟩, ⟨%d12, %f12, -, H12⟩, ⟨%d15, %f15, -, H15⟩, ⟨%d16, %f16, -, H16⟩, ⟨%d17, %f17, -, H17⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    sl_exec (disch := first | sl_exact hc1 | sl_exact hc2 | sl_exact hc3 | sl_exact hc4 | sl_exact hc5 | sl_exact hc6 | sl_exact hc7 | sl_exact hc8 | sl_exact hc9)
    sl_step
    iapply Hk
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      · ipureintro; exact hf6
      iexact H6
    isplitl [H7]
    · iexists _; isplitr
      · ipureintro; exact hf7
      iexact H7
    isplitl [H8]
    · iexists _; isplitr
      swap
      · iexact H8
      · ipureintro
        unfold run_A.sl.v8 run_A.sl.H16_1 View.readCov
        (repeat first | rw [View.read_writes_full] | rw [View.readAt_full])
        (try simp only [hf2, hf3, hf4, hf5, hf6, hf7])
    isplitl [H11]
    · iexists _; isplitr
      swap
      · iexact H11
      · ipureintro
        skip
        (repeat first | rw [View.read_writes_full] | rw [View.readAt_full])
        (try simp only [hf2, hf3, hf4, hf5, hf6, hf7])
    isplitl [H12]
    · iexists _; isplitr
      swap
      · iexact H12
      · ipureintro
        unfold run_A.sl.v30 run_A.sl.H17_1 View.readCov
        (repeat first | rw [View.read_writes_full] | rw [View.readAt_full])
        (try simp only [hf2, hf3, hf4, hf5, hf6, hf7])
    isplitl [H15]
    · iexists _; isplitr
      swap
      · iexact H15
      · ipureintro
        skip
        (repeat first | rw [View.read_writes_full] | rw [View.readAt_full])
        (try simp only [hf2, hf3, hf4, hf5, hf6, hf7])
    isplitl [H16]
    · iexists _; isplitr
      swap
      · iexact H16
      · ipureintro
        unfold run_A.sl.H16_1
        (repeat first | rw [View.read_writes_full] | rw [View.readAt_full])
        (try simp only [hf2, hf3, hf4, hf5, hf6, hf7])
    · iexists _; isplitr
      swap
      · iexact H17
      · ipureintro
        unfold run_A.sl.H17_1
        (repeat first | rw [View.read_writes_full] | rw [View.readAt_full])
        (try simp only [hf2, hf3, hf4, hf5, hf6, hf7])

end Cert.Proof.In

end
-- ==== Proof.In.RunSample.lean ====
module

public import proofs.«01_k».proof.Proof.Gen.Kernel3Ideal.Launch
public import proofs.«01_k».proof.Proof.Gen.Kernel3Ideal.Points
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Writes
public import Idealize.ShloMosaic.Lib.VecWindow

@[expose] public section

set_option maxRecDepth 16384

noncomputable section

namespace Cert.Proof.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S688x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x128 .f32) (harg7 : arg7.IsWhole) (arg8 : Memref sig .tc .vmem S688x1024 .f32) (harg8 : arg8.IsWhole) (arg9 : Memref sig .tc .vmem S688x1024 .f32) (harg9 : arg9.IsWhole) (arg10 : Memref sig .tc .vmem S688x1024 .f32) (harg10 : arg10.IsWhole) (arg11 : Memref sig .tc .vmem S688x128 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x128 .f32) (harg15 : arg15.IsWhole) (arg16 : Memref sig .tc .vmem S688x2048 .bf16) (harg16 : arg16.IsWhole) (arg17 : Memref sig .tc .vmem S64x2048 .bf16) (harg17 : arg17.IsWhole)
    (x0 : Vec F S688x2048 .f32) (x1 : Vec F S64x2048 .f32) (x2 : Vec F S1x2048 .f32) (x3 : Vec F S2048x1024 .bf16) (x4 : Vec F S2048x128 .bf16) (x5 : Vec F S1x128 .f32)
    (xp : Vec F S688x2048 .bf16) (xq : Vec F S64x2048 .bf16)

set_option maxHeartbeats 2000000 in
/-- With the first prompt block, the later query columns of the block and of the sample. -/
theorem run_B (hc1 : ¬k0_cond1 i = 1#1) (hc2 : ¬k0_cond2 i = 1#1) (hc3 : k0_cond3 i = 1#1) (hc4 : ¬k0_cond4 i = 1#1) (hc5 : ¬k0_cond5 i = 1#1) (hc6 : k0_cond6 i = 1#1) (hc7 : k0_cond7 i = 1#1) (hc8 : ¬k0_cond8 i = 1#1) (hc9 : ¬k0_cond9 i = 1#1) (E : Set ℕ) (K : PUnit → sProp 𝕄) :
    iprop(owns (c : Thread nD τ) arg5 fullShare x3 ∗ owns (c : Thread nD τ) arg16 fullShare xp ∗ owns (c : Thread nD τ) arg17 fullShare xq ∗ (∃ d, owns (c : Thread nD τ) arg8 fullShare d) ∗ (∃ d, owns (c : Thread nD τ) arg12 fullShare d)
            ∗ (iprop(owns (c : Thread nD τ) arg5 fullShare x3 ∗ owns (c : Thread nD τ) arg16 fullShare xp ∗ owns (c : Thread nD τ) arg17 fullShare xq ∗ owns (c : Thread nD τ) arg8 fullShare (k0_pay7 xp x3) ∗ owns (c : Thread nD τ) arg12 fullShare (k0_pay8 xq x3)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_in_proj_eq_skeleton]; unfold cc0_in_proj_skel
    unfold owns
    iintro ⟨⟨%f5, %hf5, H5⟩, ⟨%f16, %hf16, H16⟩, ⟨%f17, %hf17, H17⟩, ⟨%d8, %f8, -, H8⟩, ⟨%d12, %f12, -, H12⟩, Hk⟩
    obtain rfl := harg5.eq_unread hf5
    obtain rfl := harg16.eq_unread hf16
    obtain rfl := harg17.eq_unread hf17
    sl_exec (disch := first | sl_exact hc1 | sl_exact hc2 | sl_exact hc3 | sl_exact hc4 | sl_exact hc5 | sl_exact hc6 | sl_exact hc7 | sl_exact hc8 | sl_exact hc9)
    sl_step
    iapply Hk
    isplitl [H5]
    · iexists _; isplitr
      · ipureintro; exact hf5
      iexact H5
    isplitl [H16]
    · iexists _; isplitr
      · ipureintro; exact hf16
      iexact H16
    isplitl [H17]
    · iexists _; isplitr
      · ipureintro; exact hf17
      iexact H17
    isplitl [H8]
    · iexists _; isplitr
      swap
      · iexact H8
      · ipureintro
        skip
        (repeat first | rw [View.read_writes_full] | rw [View.readAt_full])
        (try simp only [hf5, hf16, hf17])
    · iexists _; isplitr
      swap
      · iexact H12
      · ipureintro
        skip
        (repeat first | rw [View.read_writes_full] | rw [View.readAt_full])
        (try simp only [hf5, hf16, hf17])

set_option maxHeartbeats 2000000 in
/-- With the first prompt block, key columns of the block and of the sample. -/
theorem run_C (hc1 : ¬k0_cond1 i = 1#1) (hc2 : ¬k0_cond2 i = 1#1) (hc3 : ¬k0_cond3 i = 1#1) (hc4 : k0_cond4 i = 1#1) (hc5 : ¬k0_cond5 i = 1#1) (hc6 : k0_cond6 i = 1#1) (hc7 : ¬k0_cond7 i = 1#1) (hc8 : k0_cond8 i = 1#1) (hc9 : ¬k0_cond9 i = 1#1) (E : Set ℕ) (K : PUnit → sProp 𝕄) :
    iprop(owns (c : Thread nD τ) arg5 fullShare x3 ∗ owns (c : Thread nD τ) arg16 fullShare xp ∗ owns (c : Thread nD τ) arg17 fullShare xq ∗ (∃ d, owns (c : Thread nD τ) arg9 fullShare d) ∗ (∃ d, owns (c : Thread nD τ) arg13 fullShare d)
            ∗ (iprop(owns (c : Thread nD τ) arg5 fullShare x3 ∗ owns (c : Thread nD τ) arg16 fullShare xp ∗ owns (c : Thread nD τ) arg17 fullShare xq ∗ owns (c : Thread nD τ) arg9 fullShare (k0_pay7 xp x3) ∗ owns (c : Thread nD τ) arg13 fullShare (k0_pay8 xq x3)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_in_proj_eq_skeleton]; unfold cc0_in_proj_skel
    unfold owns
    iintro ⟨⟨%f5, %hf5, H5⟩, ⟨%f16, %hf16, H16⟩, ⟨%f17, %hf17, H17⟩, ⟨%d9, %f9, -, H9⟩, ⟨%d13, %f13, -, H13⟩, Hk⟩
    obtain rfl := harg5.eq_unread hf5
    obtain rfl := harg16.eq_unread hf16
    obtain rfl := harg17.eq_unread hf17
    sl_exec (disch := first | sl_exact hc1 | sl_exact hc2 | sl_exact hc3 | sl_exact hc4 | sl_exact hc5 | sl_exact hc6 | sl_exact hc7 | sl_exact hc8 | sl_exact hc9)
    sl_step
    iapply Hk
    isplitl [H5]
    · iexists _; isplitr
      · ipureintro; exact hf5
      iexact H5
    isplitl [H16]
    · iexists _; isplitr
      · ipureintro; exact hf16
      iexact H16
    isplitl [H17]
    · iexists _; isplitr
      · ipureintro; exact hf17
      iexact H17
    isplitl [H9]
    · iexists _; isplitr
      swap
      · iexact H9
      · ipureintro
        skip
        (repeat first | rw [View.read_writes_full] | rw [View.readAt_full])
        (try simp only [hf5, hf16, hf17])
    · iexists _; isplitr
      swap
      · iexact H13
      · ipureintro
        skip
        (repeat first | rw [View.read_writes_full] | rw [View.readAt_full])
        (try simp only [hf5, hf16, hf17])

set_option maxHeartbeats 2000000 in
/-- With the first prompt block, value columns of the block and of the sample. -/
theorem run_D (hc1 : ¬k0_cond1 i = 1#1) (hc2 : ¬k0_cond2 i = 1#1) (hc3 : ¬k0_cond3 i = 1#1) (hc4 : ¬k0_cond4 i = 1#1) (hc5 : k0_cond5 i = 1#1) (hc6 : k0_cond6 i = 1#1) (hc7 : ¬k0_cond7 i = 1#1) (hc8 : ¬k0_cond8 i = 1#1) (hc9 : k0_cond9 i = 1#1) (E : Set ℕ) (K : PUnit → sProp 𝕄) :
    iprop(owns (c : Thread nD τ) arg5 fullShare x3 ∗ owns (c : Thread nD τ) arg16 fullShare xp ∗ owns (c : Thread nD τ) arg17 fullShare xq ∗ (∃ d, owns (c : Thread nD τ) arg10 fullShare d) ∗ (∃ d, owns (c : Thread nD τ) arg14 fullShare d)
            ∗ (iprop(owns (c : Thread nD τ) arg5 fullShare x3 ∗ owns (c : Thread nD τ) arg16 fullShare xp ∗ owns (c : Thread nD τ) arg17 fullShare xq ∗ owns (c : Thread nD τ) arg10 fullShare (k0_pay7 xp x3) ∗ owns (c : Thread nD τ) arg14 fullShare (k0_pay8 xq x3)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_in_proj_eq_skeleton]; unfold cc0_in_proj_skel
    unfold owns
    iintro ⟨⟨%f5, %hf5, H5⟩, ⟨%f16, %hf16, H16⟩, ⟨%f17, %hf17, H17⟩, ⟨%d10, %f10, -, H10⟩, ⟨%d14, %f14, -, H14⟩, Hk⟩
    obtain rfl := harg5.eq_unread hf5
    obtain rfl := harg16.eq_unread hf16
    obtain rfl := harg17.eq_unread hf17
    sl_exec (disch := first | sl_exact hc1 | sl_exact hc2 | sl_exact hc3 | sl_exact hc4 | sl_exact hc5 | sl_exact hc6 | sl_exact hc7 | sl_exact hc8 | sl_exact hc9)
    sl_step
    iapply Hk
    isplitl [H5]
    · iexists _; isplitr
      · ipureintro; exact hf5
      iexact H5
    isplitl [H16]
    · iexists _; isplitr
      · ipureintro; exact hf16
      iexact H16
    isplitl [H17]
    · iexists _; isplitr
      · ipureintro; exact hf17
      iexact H17
    isplitl [H10]
    · iexists _; isplitr
      swap
      · iexact H10
      · ipureintro
        skip
        (repeat first | rw [View.read_writes_full] | rw [View.readAt_full])
        (try simp only [hf5, hf16, hf17])
    · iexists _; isplitr
      swap
      · iexact H14
      · ipureintro
        skip
        (repeat first | rw [View.read_writes_full] | rw [View.readAt_full])
        (try simp only [hf5, hf16, hf17])

end Cert.Proof.In

end
-- ==== Proof.In.RunLater.lean ====
module

public import proofs.«01_k».proof.Proof.Gen.Kernel3Ideal.Launch
public import proofs.«01_k».proof.Proof.Gen.Kernel3Ideal.Points
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Writes
public import Idealize.ShloMosaic.Lib.VecWindow

@[expose] public section

set_option maxRecDepth 16384

noncomputable section

namespace Cert.Proof.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S688x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x128 .f32) (harg7 : arg7.IsWhole) (arg8 : Memref sig .tc .vmem S688x1024 .f32) (harg8 : arg8.IsWhole) (arg9 : Memref sig .tc .vmem S688x1024 .f32) (harg9 : arg9.IsWhole) (arg10 : Memref sig .tc .vmem S688x1024 .f32) (harg10 : arg10.IsWhole) (arg11 : Memref sig .tc .vmem S688x128 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x128 .f32) (harg15 : arg15.IsWhole) (arg16 : Memref sig .tc .vmem S688x2048 .bf16) (harg16 : arg16.IsWhole) (arg17 : Memref sig .tc .vmem S64x2048 .bf16) (harg17 : arg17.IsWhole)
    (x0 : Vec F S688x2048 .f32) (x1 : Vec F S64x2048 .f32) (x2 : Vec F S1x2048 .f32) (x3 : Vec F S2048x1024 .bf16) (x4 : Vec F S2048x128 .bf16) (x5 : Vec F S1x128 .f32)
    (xp : Vec F S688x2048 .bf16) (xq : Vec F S64x2048 .bf16)

set_option maxHeartbeats 2000000 in
/-- The first point of a later prompt block: its rows are normalized, its forget gates and first query columns computed. -/
theorem run_E (hc1 : k0_cond1 i = 1#1) (hc2 : ¬k0_cond2 i = 1#1) (hc3 : k0_cond3 i = 1#1) (hc4 : ¬k0_cond4 i = 1#1) (hc5 : ¬k0_cond5 i = 1#1) (hc6 : ¬k0_cond6 i = 1#1) (E : Set ℕ) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg11 fullShare d) ∗ (∃ d, owns (c : Thread nD τ) arg16 fullShare d)
            ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay7 (k0_pay2 x0 x2) x3) ∗ owns (c : Thread nD τ) arg11 fullShare (k0_pay3 x0 x2 x4 x5) ∗ owns (c : Thread nD τ) arg16 fullShare ((k0_pay2 x0 x2))) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_in_proj_eq_skeleton]; unfold cc0_in_proj_skel
    unfold owns
    iintro ⟨⟨%f2, %hf2, H2⟩, ⟨%f4, %hf4, H4⟩, ⟨%f5, %hf5, H5⟩, ⟨%f6, %hf6, H6⟩, ⟨%f7, %hf7, H7⟩, ⟨%d8, %f8, -, H8⟩, ⟨%d11, %f11, -, H11⟩, ⟨%d16, %f16, -, H16⟩, Hk⟩
    obtain rfl := harg2.eq_unread hf2
    obtain rfl := harg4.eq_unread hf4
    obtain rfl := harg5.eq_unread hf5
    obtain rfl := harg6.eq_unread hf6
    obtain rfl := harg7.eq_unread hf7
    sl_exec (disch := first | sl_exact hc1 | sl_exact hc2 | sl_exact hc3 | sl_exact hc4 | sl_exact hc5 | sl_exact hc6)
    sl_step
    iapply Hk
    isplitl [H2]
    · iexists _; isplitr
      · ipureintro; exact hf2
      iexact H2
    isplitl [H4]
    · iexists _; isplitr
      · ipureintro; exact hf4
      iexact H4
    isplitl [H5]
    · iexists _; isplitr
      · ipureintro; exact hf5
      iexact H5
    isplitl [H6]
    · iexists _; isplitr
      · ipureintro; exact hf6
      iexact H6
    isplitl [H7]
    · iexists _; isplitr
      · ipureintro; exact hf7
      iexact H7
    isplitl [H8]
    · iexists _; isplitr
      swap
      · iexact H8
      · ipureintro
        unfold run_E.sl.v8 run_E.sl.H16_1 View.readCov
        (repeat first | rw [View.read_writes_full] | rw [View.readAt_full])
        (try simp only [hf2, hf4, hf5, hf6, hf7])
    isplitl [H11]
    · iexists _; isplitr
      swap
      · iexact H11
      · ipureintro
        skip
        (repeat first | rw [View.read_writes_full] | rw [View.readAt_full])
        (try simp only [hf2, hf4, hf5, hf6, hf7])
    · iexists _; isplitr
      swap
      · iexact H16
      · ipureintro
        unfold run_E.sl.H16_1
        (repeat first | rw [View.read_writes_full] | rw [View.readAt_full])
        (try simp only [hf2, hf4, hf5, hf6, hf7])

set_option maxHeartbeats 2000000 in
/-- The later query columns of a later prompt block. -/
theorem run_G (hc1 : ¬k0_cond1 i = 1#1) (hc2 : ¬k0_cond2 i = 1#1) (hc3 : k0_cond3 i = 1#1) (hc4 : ¬k0_cond4 i = 1#1) (hc5 : ¬k0_cond5 i = 1#1) (hc6 : ¬k0_cond6 i = 1#1) (E : Set ℕ) (K : PUnit → sProp 𝕄) :
    iprop(owns (c : Thread nD τ) arg5 fullShare x3 ∗ owns (c : Thread nD τ) arg16 fullShare xp ∗ (∃ d, owns (c : Thread nD τ) arg8 fullShare d)
            ∗ (iprop(owns (c : Thread nD τ) arg5 fullShare x3 ∗ owns (c : Thread nD τ) arg16 fullShare xp ∗ owns (c : Thread nD τ) arg8 fullShare (k0_pay7 xp x3)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_in_proj_eq_skeleton]; unfold cc0_in_proj_skel
    unfold owns
    iintro ⟨⟨%f5, %hf5, H5⟩, ⟨%f16, %hf16, H16⟩, ⟨%d8, %f8, -, H8⟩, Hk⟩
    obtain rfl := harg5.eq_unread hf5
    obtain rfl := harg16.eq_unread hf16
    sl_exec (disch := first | sl_exact hc1 | sl_exact hc2 | sl_exact hc3 | sl_exact hc4 | sl_exact hc5 | sl_exact hc6)
    sl_step
    iapply Hk
    isplitl [H5]
    · iexists _; isplitr
      · ipureintro; exact hf5
      iexact H5
    isplitl [H16]
    · iexists _; isplitr
      · ipureintro; exact hf16
      iexact H16
    · iexists _; isplitr
      swap
      · iexact H8
      · ipureintro
        skip
        (repeat first | rw [View.read_writes_full] | rw [View.readAt_full])
        (try simp only [hf5, hf16])

set_option maxHeartbeats 2000000 in
/-- Key columns of a later prompt block. -/
theorem run_H (hc1 : ¬k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1) (E : Set ℕ) (K : PUnit → sProp 𝕄) :
    iprop(owns (c : Thread nD τ) arg5 fullShare x3 ∗ owns (c : Thread nD τ) arg16 fullShare xp ∗ (∃ d, owns (c : Thread nD τ) arg9 fullShare d)
            ∗ (iprop(owns (c : Thread nD τ) arg5 fullShare x3 ∗ owns (c : Thread nD τ) arg16 fullShare xp ∗ owns (c : Thread nD τ) arg9 fullShare (k0_pay7 xp x3)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_in_proj_eq_skeleton]; unfold cc0_in_proj_skel
    unfold owns
    iintro ⟨⟨%f5, %hf5, H5⟩, ⟨%f16, %hf16, H16⟩, ⟨%d9, %f9, -, H9⟩, Hk⟩
    obtain rfl := harg5.eq_unread hf5
    obtain rfl := harg16.eq_unread hf16
    sl_exec (disch := first | sl_exact hc1 | sl_exact hc2 | sl_exact hc3 | sl_exact hc4 | sl_exact hc5 | sl_exact hc6)
    sl_step
    iapply Hk
    isplitl [H5]
    · iexists _; isplitr
      · ipureintro; exact hf5
      iexact H5
    isplitl [H16]
    · iexists _; isplitr
      · ipureintro; exact hf16
      iexact H16
    · iexists _; isplitr
      swap
      · iexact H9
      · ipureintro
        skip
        (repeat first | rw [View.read_writes_full] | rw [View.readAt_full])
        (try simp only [hf5, hf16])

set_option maxHeartbeats 2000000 in
/-- Value columns of a later prompt block. -/
theorem run_I (hc1 : ¬k0_cond1 i = 1#1) (hc2 : ¬k0_cond2 i = 1#1) (hc3 : ¬k0_cond3 i = 1#1) (hc4 : ¬k0_cond4 i = 1#1) (hc5 : k0_cond5 i = 1#1) (hc6 : ¬k0_cond6 i = 1#1) (E : Set ℕ) (K : PUnit → sProp 𝕄) :
    iprop(owns (c : Thread nD τ) arg5 fullShare x3 ∗ owns (c : Thread nD τ) arg16 fullShare xp ∗ (∃ d, owns (c : Thread nD τ) arg10 fullShare d)
            ∗ (iprop(owns (c : Thread nD τ) arg5 fullShare x3 ∗ owns (c : Thread nD τ) arg16 fullShare xp ∗ owns (c : Thread nD τ) arg10 fullShare (k0_pay7 xp x3)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_in_proj_eq_skeleton]; unfold cc0_in_proj_skel
    unfold owns
    iintro ⟨⟨%f5, %hf5, H5⟩, ⟨%f16, %hf16, H16⟩, ⟨%d10, %f10, -, H10⟩, Hk⟩
    obtain rfl := harg5.eq_unread hf5
    obtain rfl := harg16.eq_unread hf16
    sl_exec (disch := first | sl_exact hc1 | sl_exact hc2 | sl_exact hc3 | sl_exact hc4 | sl_exact hc5 | sl_exact hc6)
    sl_step
    iapply Hk
    isplitl [H5]
    · iexists _; isplitr
      · ipureintro; exact hf5
      iexact H5
    isplitl [H16]
    · iexists _; isplitr
      · ipureintro; exact hf16
      iexact H16
    · iexists _; isplitr
      swap
      · iexact H10
      · ipureintro
        skip
        (repeat first | rw [View.read_writes_full] | rw [View.readAt_full])
        (try simp only [hf5, hf16])

end Cert.Proof.In

end
-- ==== Proof.In.Data.lean ====
module

public import proofs.«01_k».proof.Proof.In.RunFirst
public import proofs.«01_k».proof.Proof.In.RunSample
public import proofs.«01_k».proof.Proof.In.RunLater
public import proofs.«01_k».proof.Proof.Gen.Kernel3Ideal.Frame
public import Idealize.ShloMosaic.Lib.Pipeline.FrameBody
public import Idealize.ShloMosaic.Lib.Pipeline.TableIdle

@[expose] public section

set_option maxRecDepth 16384

noncomputable section

namespace Cert.Proof.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid: twelve prompt blocks of 688 rows, six blocks of 1024 columns: two of queries, two of keys, two of values -/

/-- The prompt block's rows are normalized at its first column block. -/
theorem cond1_iff : ∀ t : Fin cfg0.N, k0_cond1 (grid0.coords t) = 1#1 ↔ t.val % 6 = 0 :=
  (by decide +kernel : ∀ t : Fin grid0.N, k0_cond1 (grid0.coords t) = 1#1 ↔ t.val % 6 = 0)
/-- The sample's rows are normalized at the first point. -/
theorem cond2_iff : ∀ t : Fin cfg0.N, k0_cond2 (grid0.coords t) = 1#1 ↔ t.val = 0 :=
  (by decide +kernel : ∀ t : Fin grid0.N, k0_cond2 (grid0.coords t) = 1#1 ↔ t.val = 0)
/-- The first two column blocks are queries. -/
theorem cond3_iff : ∀ t : Fin cfg0.N, k0_cond3 (grid0.coords t) = 1#1 ↔ t.val % 6 < 2 :=
  (by decide +kernel : ∀ t : Fin grid0.N, k0_cond3 (grid0.coords t) = 1#1 ↔ t.val % 6 < 2)
/-- The next two column blocks are keys. -/
theorem cond4_iff : ∀ t : Fin cfg0.N, k0_cond4 (grid0.coords t) = 1#1 ↔ 2 ≤ t.val % 6 ∧ t.val % 6 < 4 :=
  (by decide +kernel : ∀ t : Fin grid0.N, k0_cond4 (grid0.coords t) = 1#1 ↔ 2 ≤ t.val % 6 ∧ t.val % 6 < 4)
/-- The last two column blocks are values. -/
theorem cond5_iff : ∀ t : Fin cfg0.N, k0_cond5 (grid0.coords t) = 1#1 ↔ 4 ≤ t.val % 6 :=
  (by decide +kernel : ∀ t : Fin grid0.N, k0_cond5 (grid0.coords t) = 1#1 ↔ 4 ≤ t.val % 6)
/-- The sample rides with the first prompt block. -/
theorem cond6_iff : ∀ t : Fin cfg0.N, k0_cond6 (grid0.coords t) = 1#1 ↔ t.val < 6 :=
  (by decide +kernel : ∀ t : Fin grid0.N, k0_cond6 (grid0.coords t) = 1#1 ↔ t.val < 6)
/-- The sample's first two column blocks are queries. -/
theorem cond7_iff : ∀ t : Fin cfg0.N, k0_cond7 (grid0.coords t) = 1#1 ↔ t.val % 6 < 2 :=
  (by decide +kernel : ∀ t : Fin grid0.N, k0_cond7 (grid0.coords t) = 1#1 ↔ t.val % 6 < 2)
/-- The sample's next two column blocks are keys. -/
theorem cond8_iff : ∀ t : Fin cfg0.N, k0_cond8 (grid0.coords t) = 1#1 ↔ 2 ≤ t.val % 6 ∧ t.val % 6 < 4 :=
  (by decide +kernel : ∀ t : Fin grid0.N, k0_cond8 (grid0.coords t) = 1#1 ↔ 2 ≤ t.val % 6 ∧ t.val % 6 < 4)
/-- The sample's last two column blocks are values. -/
theorem cond9_iff : ∀ t : Fin cfg0.N, k0_cond9 (grid0.coords t) = 1#1 ↔ 4 ≤ t.val % 6 :=
  (by decide +kernel : ∀ t : Fin grid0.N, k0_cond9 (grid0.coords t) = 1#1 ↔ 4 ≤ t.val % 6)
/-- Where the prompt block's queries are left alone. -/
theorem idle_6 : ∀ t : Fin cfg0.N, cfg0.idle 6 (grid0.coords t) = true ↔ ¬t.val % 6 < 2 :=
  (by decide +kernel : ∀ t : Fin grid0.N, idle0 6 (grid0.coords t) = true ↔ ¬t.val % 6 < 2)
/-- Where the prompt block's keys are left alone. -/
theorem idle_7 : ∀ t : Fin cfg0.N, cfg0.idle 7 (grid0.coords t) = true ↔ ¬(2 ≤ t.val % 6 ∧ t.val % 6 < 4) :=
  (by decide +kernel : ∀ t : Fin grid0.N, idle0 7 (grid0.coords t) = true ↔ ¬(2 ≤ t.val % 6 ∧ t.val % 6 < 4))
/-- Where the prompt block's values are left alone. -/
theorem idle_8 : ∀ t : Fin cfg0.N, cfg0.idle 8 (grid0.coords t) = true ↔ ¬4 ≤ t.val % 6 :=
  (by decide +kernel : ∀ t : Fin grid0.N, idle0 8 (grid0.coords t) = true ↔ ¬4 ≤ t.val % 6)
/-- Where the prompt block's forget gates are left alone. -/
theorem idle_9 : ∀ t : Fin cfg0.N, cfg0.idle 9 (grid0.coords t) = true ↔ ¬t.val % 6 = 0 :=
  (by decide +kernel : ∀ t : Fin grid0.N, idle0 9 (grid0.coords t) = true ↔ ¬t.val % 6 = 0)
/-- Where the sample's queries are left alone. -/
theorem idle_10 : ∀ t : Fin cfg0.N, cfg0.idle 10 (grid0.coords t) = true ↔ ¬t.val < 2 :=
  (by decide +kernel : ∀ t : Fin grid0.N, idle0 10 (grid0.coords t) = true ↔ ¬t.val < 2)
/-- Where the sample's keys are left alone. -/
theorem idle_11 : ∀ t : Fin cfg0.N, cfg0.idle 11 (grid0.coords t) = true ↔ ¬(2 ≤ t.val ∧ t.val < 4) :=
  (by decide +kernel : ∀ t : Fin grid0.N, idle0 11 (grid0.coords t) = true ↔ ¬(2 ≤ t.val ∧ t.val < 4))
/-- Where the sample's values are left alone. -/
theorem idle_12 : ∀ t : Fin cfg0.N, cfg0.idle 12 (grid0.coords t) = true ↔ ¬(4 ≤ t.val ∧ t.val < 6) :=
  (by decide +kernel : ∀ t : Fin grid0.N, idle0 12 (grid0.coords t) = true ↔ ¬(4 ≤ t.val ∧ t.val < 6))
/-- Where the sample's forget gates are left alone. -/
theorem idle_13 : ∀ t : Fin cfg0.N, cfg0.idle 13 (grid0.coords t) = true ↔ ¬t.val = 0 :=
  (by decide +kernel : ∀ t : Fin grid0.N, idle0 13 (grid0.coords t) = true ↔ ¬t.val = 0)

/-! ## What the buffers hold point by point -/

/-- The point whose columns the buffer of the prompt block's queries holds. -/
def q6 (n : ℕ) : ℕ := n / 6 * 6 + min (n % 6) 1
/-- The point whose columns the buffer of the prompt block's keys holds. -/
def q7 (n : ℕ) : ℕ := n / 6 * 6 + max 2 (min (n % 6) 3)
/-- The point whose columns the buffer of the prompt block's values holds. -/
def q8 (n : ℕ) : ℕ := n / 6 * 6 + max 4 (n % 6)
/-- The point whose columns the buffer of the sample's queries holds. -/
def q10 (n : ℕ) : ℕ := min n 1
/-- The point whose columns the buffer of the sample's keys holds. -/
def q11 (n : ℕ) : ℕ := max 2 (min n 3)
/-- The point whose columns the buffer of the sample's values holds. -/
def q12 (n : ℕ) : ℕ := max 4 (min n 5)

/-- A point by its number. -/
def pt (n : ℕ) : Fin cfg0.N := ⟨n % 72, Nat.mod_lt _ (by decide)⟩
/-- A point is the point of its number. -/
theorem pt_val (t : Fin cfg0.N) : pt t.val = t := Fin.ext (Nat.mod_eq_of_lt t.isLt)

/-- Where the prompt block's queries are left alone after a write they are still those of the same columns. -/
theorem same_6 : ∀ t : Fin cfg0.N, cfg0.idle 6 (grid0.coords t) = true → cfg0.fresh 6 t.val = false → q6 t.val = q6 (t.val - 1) ∧ t.val / 6 = (t.val - 1) / 6 :=
  (by decide +kernel : ∀ t : Fin grid0.N, idle0 6 (grid0.coords t) = true → cfg0.fresh 6 t.val = false → q6 t.val = q6 (t.val - 1) ∧ t.val / 6 = (t.val - 1) / 6)
/-- Where the prompt block's keys are left alone after a write they are still those of the same columns. -/
theorem same_7 : ∀ t : Fin cfg0.N, cfg0.idle 7 (grid0.coords t) = true → cfg0.fresh 7 t.val = false → q7 t.val = q7 (t.val - 1) ∧ t.val / 6 = (t.val - 1) / 6 :=
  (by decide +kernel : ∀ t : Fin grid0.N, idle0 7 (grid0.coords t) = true → cfg0.fresh 7 t.val = false → q7 t.val = q7 (t.val - 1) ∧ t.val / 6 = (t.val - 1) / 6)
/-- Where the prompt block's values are left alone after a write they are still those of the same columns. -/
theorem same_8 : ∀ t : Fin cfg0.N, cfg0.idle 8 (grid0.coords t) = true → cfg0.fresh 8 t.val = false → q8 t.val = q8 (t.val - 1) ∧ t.val / 6 = (t.val - 1) / 6 :=
  (by decide +kernel : ∀ t : Fin grid0.N, idle0 8 (grid0.coords t) = true → cfg0.fresh 8 t.val = false → q8 t.val = q8 (t.val - 1) ∧ t.val / 6 = (t.val - 1) / 6)
/-- Where the prompt block's forget gates are left alone after a write they are still those of the same block. -/
theorem same_9 : ∀ t : Fin cfg0.N, cfg0.idle 9 (grid0.coords t) = true → cfg0.fresh 9 t.val = false → t.val / 6 = (t.val - 1) / 6 :=
  (by decide +kernel : ∀ t : Fin grid0.N, idle0 9 (grid0.coords t) = true → cfg0.fresh 9 t.val = false → t.val / 6 = (t.val - 1) / 6)
/-- Where the sample's queries are left alone after a write they are still those of the same columns. -/
theorem same_10 : ∀ t : Fin cfg0.N, cfg0.idle 10 (grid0.coords t) = true → cfg0.fresh 10 t.val = false → q10 t.val = q10 (t.val - 1) :=
  (by decide +kernel : ∀ t : Fin grid0.N, idle0 10 (grid0.coords t) = true → cfg0.fresh 10 t.val = false → q10 t.val = q10 (t.val - 1))
/-- Where the sample's keys are left alone after a write they are still those of the same columns. -/
theorem same_11 : ∀ t : Fin cfg0.N, cfg0.idle 11 (grid0.coords t) = true → cfg0.fresh 11 t.val = false → q11 t.val = q11 (t.val - 1) :=
  (by decide +kernel : ∀ t : Fin grid0.N, idle0 11 (grid0.coords t) = true → cfg0.fresh 11 t.val = false → q11 t.val = q11 (t.val - 1))
/-- Where the sample's values are left alone after a write they are still those of the same columns. -/
theorem same_12 : ∀ t : Fin cfg0.N, cfg0.idle 12 (grid0.coords t) = true → cfg0.fresh 12 t.val = false → q12 t.val = q12 (t.val - 1) :=
  (by decide +kernel : ∀ t : Fin grid0.N, idle0 12 (grid0.coords t) = true → cfg0.fresh 12 t.val = false → q12 t.val = q12 (t.val - 1))
/-- An output that is written back at a point that leaves it alone was written since the last write-back. -/
theorem fresh_flush : ∀ w : Fin cfg0.W, 6 ≤ w.val → ∀ t : Fin cfg0.N, cfg0.idle w (grid0.coords t) = true → (cfg0.win w).flush t = true → cfg0.fresh w t.val = false :=
  (by decide +kernel : ∀ w : Fin 14, 6 ≤ w.val → ∀ t : Fin grid0.N, cfg0.idle w (grid0.coords t) = true → (cfg0.win w).flush t = true → cfg0.fresh w t.val = false)

-- The buffers as launched.
variable (m : (ℓ : Loc nD τ sig) → Buf (Elt F) ℓ)

/-- The normalized rows of a point's prompt block. -/
def P (c : Dev nD) (n : ℕ) : Vec F S688x2048 .bf16 := k0_pay2 (iblk m c 0 (pt (n / 6 * 6))) (iblk m c 2 (pt (n / 6 * 6)))
/-- The normalized rows of the sample. -/
def Q (c : Dev nD) : Vec F S64x2048 .bf16 := k0_pay5 (iblk m c 1 (pt 0)) (iblk m c 2 (pt 0))
/-- The weight block of a point. -/
def X (c : Dev nD) (n : ℕ) : Vec F S2048x1024 .bf16 := X0_3 m c (pt n)

/-- At a block's first point the rows are those of the point's block. -/
theorem P_first (c : Dev nD) (t : Fin cfg0.N) (h : t.val % 6 = 0) : P m c t.val = k0_pay2 (iblk m c 0 t) (iblk m c 2 t) := by
  unfold P; rw [show t.val / 6 * 6 = t.val by omega, pt_val]
/-- Within a block the rows stay. -/
theorem P_prev (c : Dev nD) (t : Fin cfg0.N) (h : ¬t.val % 6 = 0) : P m c (t.val - 1) = P m c t.val := by
  unfold P; rw [show (t.val - 1) / 6 = t.val / 6 by omega]
/-- The rows of the sample are those of the first point's block. -/
theorem Q_first (c : Dev nD) (t : Fin cfg0.N) (h : t.val = 0) : Q m c = k0_pay5 (iblk m c 1 t) (iblk m c 2 t) := by
  unfold Q; rw [show (0 : ℕ) = t.val from h.symm, pt_val]
/-- The weight block of a point is its window's. -/
theorem X_at (c : Dev nD) (t : Fin cfg0.N) (n : ℕ) (h : n = t.val) : X m c n = X0_3 m c t := by
  unfold X; rw [h, pt_val]

/-! ## The region's proof data -/

/-- The scratch buffer of the prompt block's rows as a memref. -/
abbrev scP : Memref sig .tc .vmem S688x2048 .bf16 := Memref.whole cc0_scratch0
/-- The scratch buffer of the sample's rows as a memref. -/
abbrev scS : Memref sig .tc .vmem S64x2048 .bf16 := Memref.whole cc0_scratch1

/-- The scratch buffers before a point. -/
def Inv (c : Dev nD) : (n : ℕ) → n ≤ cfg0.N → sProp 𝕄
  | 0, _ => Pipeline.scopedRest spec0 c
  | n + 1, _ => iprop(owns (c : Thread nD τ) scP fullShare (P m c n) ∗ owns (c : Thread nD τ) scS fullShare (Q m c))

/-- The region's own buffers are the scratch buffers. -/
theorem scratch_of (c : Dev nD) : (Pipeline.scopedRest spec0 c : sProp 𝕄) ⊢ iprop((∃ d, owns (c : Thread nD τ) scP fullShare d) ∗ (∃ d, owns (c : Thread nD τ) scS fullShare d)) := by
  unfold scP scS
  simp only [scopedRest0_eq, owns_whole]
  exact .rfl
/-- The scratch buffers are the region's own buffers. -/
theorem of_scratch (c : Dev nD) : iprop((∃ d, owns (c : Thread nD τ) scP fullShare d) ∗ (∃ d, owns (c : Thread nD τ) scS fullShare d)) ⊢ (Pipeline.scopedRest spec0 c : sProp 𝕄) := by
  unfold scP scS
  simp only [scopedRest0_eq, owns_whole]
  exact .rfl
/-- Before a later point the scratch buffers hold the normalized rows. -/
theorem Inv_pos (c : Dev nD) (n : ℕ) (h : n ≤ cfg0.N) (hz : n ≠ 0) :
    Inv m c n h = iprop(owns (c : Thread nD τ) scP fullShare (P m c (n - 1)) ∗ owns (c : Thread nD τ) scS fullShare (Q m c)) := by
  cases n with
  | zero => exact absurd rfl hz
  | succ n => rfl
/-- Before any point the scratch buffers hold something. -/
theorem Inv_any (c : Dev nD) (n : ℕ) (h : n ≤ cfg0.N) : Inv m c n h ⊢ (iprop((∃ d, owns (c : Thread nD τ) scP fullShare d) ∗ (∃ d, owns (c : Thread nD τ) scS fullShare d)) : sProp 𝕄) := by
  cases n with
  | zero => exact scratch_of c
  | succ n =>
    unfold Inv; iintro ⟨H, H'⟩
    isplitl [H]
    · iexists _; iexact H
    iexists _; iexact H'

/-- The proof data of the region: an input keeps its block, an output holds what was computed for it last, or will be first. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => k0_pay7 (P m c t.val) (X m c (q6 t.val))
    | ⟨7, _⟩ => k0_pay7 (P m c t.val) (X m c (q7 t.val))
    | ⟨8, _⟩ => k0_pay7 (P m c t.val) (X m c (q8 t.val))
    | ⟨9, _⟩ => k0_pay3 (iblk m c 0 (pt (t.val / 6 * 6))) (iblk m c 2 (pt (t.val / 6 * 6))) (iblk m c 4 (pt (t.val / 6 * 6))) (iblk m c 5 (pt (t.val / 6 * 6)))
    | ⟨10, _⟩ => k0_pay8 (Q m c) (X m c (q10 t.val))
    | ⟨11, _⟩ => k0_pay8 (Q m c) (X m c (q11 t.val))
    | ⟨12, _⟩ => k0_pay8 (Q m c) (X m c (q12 t.val))
    | ⟨13, _⟩ => k0_pay6 (iblk m c 1 (pt 0)) (iblk m c 2 (pt 0)) (iblk m c 4 (pt 0)) (iblk m c 5 (pt 0))
  Φ t := Inv m c t.val (Nat.le_of_lt_succ t.isLt)
  q _ := fullShare
  owed _ := 0

/-- The arrays are what the region finds. -/
theorem dat_A (c : Dev nD) (w : Fin cfg0.W) : (dat m c).A w = V m c (Pipeline.arrRef spec0 w) := by
  dsimp only [dat]
/-- The buffer of the prompt block after a point. -/
theorem after_0 (c : Dev nD) (t : Fin cfg0.N) : (dat m c).after 0 t = iblk m c 0 t := by dsimp only [dat]
/-- The buffer of the sample after a point. -/
theorem after_1 (c : Dev nD) (t : Fin cfg0.N) : (dat m c).after 1 t = iblk m c 1 t := by dsimp only [dat]
/-- The buffer of the gains after a point. -/
theorem after_2 (c : Dev nD) (t : Fin cfg0.N) : (dat m c).after 2 t = iblk m c 2 t := by dsimp only [dat]
/-- The buffer of the weight block after a point. -/
theorem after_3 (c : Dev nD) (t : Fin cfg0.N) : (dat m c).after 3 t = X0_3 m c t := by dsimp only [dat]
/-- The buffer of the extra weights after a point. -/
theorem after_4 (c : Dev nD) (t : Fin cfg0.N) : (dat m c).after 4 t = iblk m c 4 t := by dsimp only [dat]
/-- The buffer of the bias after a point. -/
theorem after_5 (c : Dev nD) (t : Fin cfg0.N) : (dat m c).after 5 t = iblk m c 5 t := by dsimp only [dat]
/-- The buffer of the prompt block's queries after a point. -/
theorem after_6 (c : Dev nD) (t : Fin cfg0.N) : (dat m c).after 6 t = k0_pay7 (P m c t.val) (X m c (q6 t.val)) := by dsimp only [dat]
/-- The buffer of the prompt block's keys after a point. -/
theorem after_7 (c : Dev nD) (t : Fin cfg0.N) : (dat m c).after 7 t = k0_pay7 (P m c t.val) (X m c (q7 t.val)) := by dsimp only [dat]
/-- The buffer of the prompt block's values after a point. -/
theorem after_8 (c : Dev nD) (t : Fin cfg0.N) : (dat m c).after 8 t = k0_pay7 (P m c t.val) (X m c (q8 t.val)) := by dsimp only [dat]
/-- The buffer of the prompt block's forget gates after a point. -/
theorem after_9 (c : Dev nD) (t : Fin cfg0.N) : (dat m c).after 9 t = k0_pay3 (iblk m c 0 (pt (t.val / 6 * 6))) (iblk m c 2 (pt (t.val / 6 * 6))) (iblk m c 4 (pt (t.val / 6 * 6))) (iblk m c 5 (pt (t.val / 6 * 6))) := by dsimp only [dat]
/-- The buffer of the sample's queries after a point. -/
theorem after_10 (c : Dev nD) (t : Fin cfg0.N) : (dat m c).after 10 t = k0_pay8 (Q m c) (X m c (q10 t.val)) := by dsimp only [dat]
/-- The buffer of the sample's keys after a point. -/
theorem after_11 (c : Dev nD) (t : Fin cfg0.N) : (dat m c).after 11 t = k0_pay8 (Q m c) (X m c (q11 t.val)) := by dsimp only [dat]
/-- The buffer of the sample's values after a point. -/
theorem after_12 (c : Dev nD) (t : Fin cfg0.N) : (dat m c).after 12 t = k0_pay8 (Q m c) (X m c (q12 t.val)) := by dsimp only [dat]
/-- The buffer of the sample's forget gates after a point. -/
theorem after_13 (c : Dev nD) (t : Fin cfg0.N) : (dat m c).after 13 t = k0_pay6 (iblk m c 1 (pt 0)) (iblk m c 2 (pt 0)) (iblk m c 4 (pt 0)) (iblk m c 5 (pt 0)) := by dsimp only [dat]
/-- The buffer of the prompt block holds its block when a point begins. -/
theorem before_0 (c : Dev nD) (t : Fin cfg0.N) (d) : (dat m c).before 0 t d = iblk m c 0 t :=
  before0_0_of m (dat m c) (dat_A m c 0) (after_0 m c) t d
/-- The buffer of the sample holds its block when a point begins. -/
theorem before_1 (c : Dev nD) (t : Fin cfg0.N) (d) : (dat m c).before 1 t d = iblk m c 1 t :=
  before0_1_of m (dat m c) (dat_A m c 1) (after_1 m c) t d
/-- The buffer of the gains holds its block when a point begins. -/
theorem before_2 (c : Dev nD) (t : Fin cfg0.N) (d) : (dat m c).before 2 t d = iblk m c 2 t :=
  before0_2_of m (dat m c) (dat_A m c 2) (after_2 m c) t d
/-- The buffer of the weight block holds its block when a point begins. -/
theorem before_3 (c : Dev nD) (t : Fin cfg0.N) (d) : (dat m c).before 3 t d = X0_3 m c t :=
  before0_3_of m (dat m c) (dat_A m c 3) (after_3 m c) t d
/-- The buffer of the extra weights holds its block when a point begins. -/
theorem before_4 (c : Dev nD) (t : Fin cfg0.N) (d) : (dat m c).before 4 t d = iblk m c 4 t :=
  before0_4_of m (dat m c) (dat_A m c 4) (after_4 m c) t d
/-- The buffer of the bias holds its block when a point begins. -/
theorem before_5 (c : Dev nD) (t : Fin cfg0.N) (d) : (dat m c).before 5 t d = iblk m c 5 t :=
  before0_5_of m (dat m c) (dat_A m c 5) (after_5 m c) t d

/-! ## What a point leaves in the outputs -/

/-- An output that a point writes is left at what the data say. -/
theorem put (c : Dev nD) (w : Fin cfg0.W) (t : Fin cfg0.N) (h : ¬cfg0.idle w (grid0.coords t) = true) :
    owns (c : Thread nD τ) ((cfg0.win w).stage (cfg0.slots t w)) fullShare ((dat m c).after w t) ⊢ ((dat m c).leavesExact w t : sProp 𝕄) := by
  unfold Dat.leavesExact
  rw [Bool.eq_false_iff.mpr h]
/-- An output that a point leaves alone is left as found. -/
theorem keep (c : Dev nD) (w : Fin cfg0.W) (hw : 6 ≤ w.val) (ho : (cfg0.win w).isOut = true) (hc : ∀ (i : cfg0.grid.Coords) a, (cfg0.win w).clip i a = none)
    (hs : ∀ (t : Fin cfg0.N) (_ : t.val ≠ 0), cfg0.idle w (grid0.coords t) = true → cfg0.fresh w t.val = false →
      (dat m c).after w t = (dat m c).after w ⟨t.val - 1, by omega⟩)
    (t : Fin cfg0.N) (h : cfg0.idle w (grid0.coords t) = true) (d) :
    owns (c : Thread nD τ) ((cfg0.win w).stage (cfg0.slots t w)) fullShare ((dat m c).before w t d) ⊢ ((dat m c).leavesExact w t : sProp 𝕄) := by
  by_cases hf : (cfg0.win w).flush t = true
  · have hr := fresh_flush w hw t h hf
    have h0 : t.val ≠ 0 := fun e => by rw [e, Pipeline.Cfg.fresh_zero] at hr; exact Bool.false_ne_true hr.symm
    unfold Dat.leavesExact
    rw [h, hf, (dat m c).before_out_traj w ho hc hs t.val t rfl d, hr, if_neg Bool.false_ne_true, ← hs t h0 h hr]
  · rw [(dat m c).leavesExact_idle w t h (Bool.eq_false_iff.mpr hf)]
    iintro H
    iexists d
    iexact H
/-- The prompt block's queries, left as found. -/
theorem keep_6 (c : Dev nD) (t : Fin cfg0.N) (h : ¬t.val % 6 < 2) (d) :
    owns (c : Thread nD τ) (st0_6 t) fullShare ((dat m c).before 6 t d) ⊢ ((dat m c).leavesExact 6 t : sProp 𝕄) :=
  keep m c 6 (by decide) rfl (fun _ _ => rfl) (fun t _ hi hr => by rw [after_6, after_6, (same_6 t hi hr).1]; unfold P; rw [(same_6 t hi hr).2]) t ((idle_6 t).mpr h) d
/-- The prompt block's keys, left as found. -/
theorem keep_7 (c : Dev nD) (t : Fin cfg0.N) (h : ¬(2 ≤ t.val % 6 ∧ t.val % 6 < 4)) (d) :
    owns (c : Thread nD τ) (st0_7 t) fullShare ((dat m c).before 7 t d) ⊢ ((dat m c).leavesExact 7 t : sProp 𝕄) :=
  keep m c 7 (by decide) rfl (fun _ _ => rfl) (fun t _ hi hr => by rw [after_7, after_7, (same_7 t hi hr).1]; unfold P; rw [(same_7 t hi hr).2]) t ((idle_7 t).mpr h) d
/-- The prompt block's values, left as found. -/
theorem keep_8 (c : Dev nD) (t : Fin cfg0.N) (h : ¬4 ≤ t.val % 6) (d) :
    owns (c : Thread nD τ) (st0_8 t) fullShare ((dat m c).before 8 t d) ⊢ ((dat m c).leavesExact 8 t : sProp 𝕄) :=
  keep m c 8 (by decide) rfl (fun _ _ => rfl) (fun t _ hi hr => by rw [after_8, after_8, (same_8 t hi hr).1]; unfold P; rw [(same_8 t hi hr).2]) t ((idle_8 t).mpr h) d
/-- The prompt block's forget gates, left as found. -/
theorem keep_9 (c : Dev nD) (t : Fin cfg0.N) (h : ¬t.val % 6 = 0) (d) :
    owns (c : Thread nD τ) (st0_9 t) fullShare ((dat m c).before 9 t d) ⊢ ((dat m c).leavesExact 9 t : sProp 𝕄) :=
  keep m c 9 (by decide) rfl (fun _ _ => rfl) (fun t _ hi hr => by rw [after_9, after_9]; simp only []; rw [same_9 t hi hr]) t ((idle_9 t).mpr h) d
/-- The sample's queries, left as found. -/
theorem keep_10 (c : Dev nD) (t : Fin cfg0.N) (h : ¬t.val < 2) (d) :
    owns (c : Thread nD τ) (st0_10 t) fullShare ((dat m c).before 10 t d) ⊢ ((dat m c).leavesExact 10 t : sProp 𝕄) :=
  keep m c 10 (by decide) rfl (fun _ _ => rfl) (fun t _ hi hr => by rw [after_10, after_10, same_10 t hi hr]) t ((idle_10 t).mpr h) d
/-- The sample's keys, left as found. -/
theorem keep_11 (c : Dev nD) (t : Fin cfg0.N) (h : ¬(2 ≤ t.val ∧ t.val < 4)) (d) :
    owns (c : Thread nD τ) (st0_11 t) fullShare ((dat m c).before 11 t d) ⊢ ((dat m c).leavesExact 11 t : sProp 𝕄) :=
  keep m c 11 (by decide) rfl (fun _ _ => rfl) (fun t _ hi hr => by rw [after_11, after_11, same_11 t hi hr]) t ((idle_11 t).mpr h) d
/-- The sample's values, left as found. -/
theorem keep_12 (c : Dev nD) (t : Fin cfg0.N) (h : ¬(4 ≤ t.val ∧ t.val < 6)) (d) :
    owns (c : Thread nD τ) (st0_12 t) fullShare ((dat m c).before 12 t d) ⊢ ((dat m c).leavesExact 12 t : sProp 𝕄) :=
  keep m c 12 (by decide) rfl (fun _ _ => rfl) (fun t _ hi hr => by rw [after_12, after_12, same_12 t hi hr]) t ((idle_12 t).mpr h) d
/-- The sample's forget gates, left as found. -/
theorem keep_13 (c : Dev nD) (t : Fin cfg0.N) (h : ¬t.val = 0) (d) :
    owns (c : Thread nD τ) (st0_13 t) fullShare ((dat m c).before 13 t d) ⊢ ((dat m c).leavesExact 13 t : sProp 𝕄) :=
  keep m c 13 (by decide) rfl (fun _ _ => rfl) (fun t _ hi hr => by rw [after_13, after_13]) t ((idle_13 t).mpr h) d
/-- The prompt block's queries, written. -/
theorem put_6 (c : Dev nD) (t : Fin cfg0.N) (h : t.val % 6 < 2) :
    owns (c : Thread nD τ) (st0_6 t) fullShare (k0_pay7 (P m c t.val) (X0_3 m c t)) ⊢ ((dat m c).leavesExact 6 t : sProp 𝕄) := by
  have hp := put m c 6 t (fun e => (idle_6 t).mp e h)
  rw [after_6, X_at m c t _ (by unfold q6; omega)] at hp
  exact hp
/-- The prompt block's keys, written. -/
theorem put_7 (c : Dev nD) (t : Fin cfg0.N) (h : (2 ≤ t.val % 6 ∧ t.val % 6 < 4)) :
    owns (c : Thread nD τ) (st0_7 t) fullShare (k0_pay7 (P m c t.val) (X0_3 m c t)) ⊢ ((dat m c).leavesExact 7 t : sProp 𝕄) := by
  have hp := put m c 7 t (fun e => (idle_7 t).mp e h)
  rw [after_7, X_at m c t _ (by unfold q7; omega)] at hp
  exact hp
/-- The prompt block's values, written. -/
theorem put_8 (c : Dev nD) (t : Fin cfg0.N) (h : 4 ≤ t.val % 6) :
    owns (c : Thread nD τ) (st0_8 t) fullShare (k0_pay7 (P m c t.val) (X0_3 m c t)) ⊢ ((dat m c).leavesExact 8 t : sProp 𝕄) := by
  have hp := put m c 8 t (fun e => (idle_8 t).mp e h)
  rw [after_8, X_at m c t _ (by unfold q8; omega)] at hp
  exact hp
/-- The prompt block's forget gates, written. -/
theorem put_9 (c : Dev nD) (t : Fin cfg0.N) (h : t.val % 6 = 0) :
    owns (c : Thread nD τ) (st0_9 t) fullShare (k0_pay3 (iblk m c 0 t) (iblk m c 2 t) (iblk m c 4 t) (iblk m c 5 t)) ⊢ ((dat m c).leavesExact 9 t : sProp 𝕄) := by
  have hp := put m c 9 t (fun e => (idle_9 t).mp e h)
  rw [after_9, show t.val / 6 * 6 = t.val by omega, pt_val] at hp
  exact hp
/-- The sample's queries, written. -/
theorem put_10 (c : Dev nD) (t : Fin cfg0.N) (h : t.val < 2) :
    owns (c : Thread nD τ) (st0_10 t) fullShare (k0_pay8 (Q m c) (X0_3 m c t)) ⊢ ((dat m c).leavesExact 10 t : sProp 𝕄) := by
  have hp := put m c 10 t (fun e => (idle_10 t).mp e h)
  rw [after_10, X_at m c t _ (by unfold q10; omega)] at hp
  exact hp
/-- The sample's keys, written. -/
theorem put_11 (c : Dev nD) (t : Fin cfg0.N) (h : (2 ≤ t.val ∧ t.val < 4)) :
    owns (c : Thread nD τ) (st0_11 t) fullShare (k0_pay8 (Q m c) (X0_3 m c t)) ⊢ ((dat m c).leavesExact 11 t : sProp 𝕄) := by
  have hp := put m c 11 t (fun e => (idle_11 t).mp e h)
  rw [after_11, X_at m c t _ (by unfold q11; omega)] at hp
  exact hp
/-- The sample's values, written. -/
theorem put_12 (c : Dev nD) (t : Fin cfg0.N) (h : (4 ≤ t.val ∧ t.val < 6)) :
    owns (c : Thread nD τ) (st0_12 t) fullShare (k0_pay8 (Q m c) (X0_3 m c t)) ⊢ ((dat m c).leavesExact 12 t : sProp 𝕄) := by
  have hp := put m c 12 t (fun e => (idle_12 t).mp e h)
  rw [after_12, X_at m c t _ (by unfold q12; omega)] at hp
  exact hp
/-- The sample's forget gates, written. -/
theorem put_13 (c : Dev nD) (t : Fin cfg0.N) (h : t.val = 0) :
    owns (c : Thread nD τ) (st0_13 t) fullShare (k0_pay6 (iblk m c 1 t) (iblk m c 2 t) (iblk m c 4 t) (iblk m c 5 t)) ⊢ ((dat m c).leavesExact 13 t : sProp 𝕄) := by
  have hp := put m c 13 t (fun e => (idle_13 t).mp e h)
  rw [after_13, show pt 0 = t from (congrArg pt h.symm).trans (pt_val t)] at hp
  exact hp

/-! ## The body obligation -/

/-- What a point's body is called with. -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ d, owns (c : Thread nD τ) (st0_8 t) fullShare ((dat m c).before 8 t d))
    ∗ (∃ d, owns (c : Thread nD τ) (st0_9 t) fullShare ((dat m c).before 9 t d))
    ∗ (∃ d, owns (c : Thread nD τ) (st0_10 t) fullShare ((dat m c).before 10 t d))
    ∗ (∃ d, owns (c : Thread nD τ) (st0_11 t) fullShare ((dat m c).before 11 t d))
    ∗ (∃ d, owns (c : Thread nD τ) (st0_12 t) fullShare ((dat m c).before 12 t d))
    ∗ (∃ d, owns (c : Thread nD τ) (st0_13 t) fullShare ((dat m c).before 13 t d)))

/-- What a point's body returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (dat m c).leavesExact 6 t
    ∗ (dat m c).leavesExact 7 t
    ∗ (dat m c).leavesExact 8 t
    ∗ (dat m c).leavesExact 9 t
    ∗ (dat m c).leavesExact 10 t
    ∗ (dat m c).leavesExact 11 t
    ∗ (dat m c).leavesExact 12 t
    ∗ (dat m c).leavesExact 13 t)

end Cert.Proof.In

end
-- ==== Proof.In.Sound.lean ====
module

public import proofs.«01_k».proof.Proof.In.Data

@[expose] public section

set_option maxRecDepth 16384

noncomputable section

namespace Cert.Proof.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The body's work at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = iprop(owns (c : Thread nD τ) scP fullShare (P m c t.val) ∗ owns (c : Thread nD τ) scS fullShare (Q m c)) from rfl,
    show (dat m c).Φ t.castSucc = Inv m c t.val (Nat.le_of_lt t.isLt) from rfl,
    show (dat m c).owesAt () t.succ = (dat m c).owesAt () t.castSucc from rfl,
    after_0, after_1, after_2, after_3, after_4, after_5]
  have hd6 := put_6 (F := F) m c t (by omega)
  have hd9 := put_9 (F := F) m c t (by omega)
  have hd10 := put_10 (F := F) m c t (by omega)
  have hd13 := put_13 (F := F) m c t (by omega)
  rw [P_first m c t (by omega)] at hd6 ⊢
  rw [Q_first m c t h] at hd10 ⊢
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HI := (Inv_any m c t.val (Nat.le_of_lt t.isLt)) $$ HI
  icases HI with ⟨H14, H15⟩
  iapply (run_A c (grid0.coords t) _ _ _ _ _ _ _ _ _ _ _ _ _ _ _ _ _ _ _ _ _ _ _ _ _ _ _ _ scP (Memref.isWhole_whole _) scS (Memref.isWhole_whole _) (iblk m c 0 t) (iblk m c 1 t) (iblk m c 2 t) (X0_3 m c t) (iblk m c 4 t) (iblk m c 5 t) ((cond1_iff t).mpr (by omega)) ((cond2_iff t).mpr (by omega)) ((cond3_iff t).mpr (by omega)) (fun e => by have := (cond4_iff t).mp e; omega) (fun e => by have := (cond5_iff t).mp e; omega) ((cond6_iff t).mpr (by omega)) ((cond7_iff t).mpr (by omega)) (fun e => by have := (cond8_iff t).mp e; omega) (fun e => by have := (cond9_iff t).mp e; omega) Set.univ _)
  isplitl [H0]; · iexact H0
  isplitl [H1]; · iexact H1
  isplitl [H2]; · iexact H2
  isplitl [H3]; · iexact H3
  isplitl [H4]; · iexact H4
  isplitl [H5]; · iexact H5
  isplitl [H6]
  · iexists _; iexact H6
  isplitl [H9]
  · iexists _; iexact H9
  isplitl [H10]
  · iexists _; iexact H10
  isplitl [H13]
  · iexists _; iexact H13
  isplitl [H14]
  · iexact H14
  isplitl [H15]
  · iexact H15
  iintro ⟨H0, H1, H2, H3, H4, H5, H6, H9, H10, H13, H14, H15⟩
  isplitl [H14 H15]
  · isplitl [H14]
    · iexact H14
    iexact H15
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply hd6; iexact H6
  isplitl [H7]
  · iapply (keep_7 m c t (by omega) d7); iexact H7
  isplitl [H8]
  · iapply (keep_8 m c t (by omega) d8); iexact H8
  isplitl [H9]
  · iapply hd9; iexact H9
  isplitl [H10]
  · iapply hd10; iexact H10
  isplitl [H11]
  · iapply (keep_11 m c t (by omega) d11); iexact H11
  isplitl [H12]
  · iapply (keep_12 m c t (by omega) d12); iexact H12
  iapply hd13; iexact H13

set_option maxHeartbeats 2000000 in
/-- The body's work at the later query columns of the first block. -/
theorem sound_B (c : Dev nD) (t : Fin cfg0.N) (h0 : ¬t.val = 0) (h : t.val < 2) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = iprop(owns (c : Thread nD τ) scP fullShare (P m c t.val) ∗ owns (c : Thread nD τ) scS fullShare (Q m c)) from rfl,
    show (dat m c).Φ t.castSucc = Inv m c t.val (Nat.le_of_lt t.isLt) from rfl,
    show (dat m c).owesAt () t.succ = (dat m c).owesAt () t.castSucc from rfl,
    after_0, after_1, after_2, after_3, after_4, after_5]
  have hd6 := put_6 (F := F) m c t (by omega)
  have hd10 := put_10 (F := F) m c t (by omega)
  rw [Inv_pos m c t.val _ (by omega), P_prev m c t (by omega)]
  iintro ⟨⟨H14, H15⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_B c (grid0.coords t) _ _ _ _ _ _ _ _ _ _ _ _ _ _ _ _ _ _ _ _ _ _ _ _ _ _ _ _ scP (Memref.isWhole_whole _) scS (Memref.isWhole_whole _) (X0_3 m c t) (P m c t.val) (Q m c) (fun e => by have := (cond1_iff t).mp e; omega) (fun e => by have := (cond2_iff t).mp e; omega) ((cond3_iff t).mpr (by omega)) (fun e => by have := (cond4_iff t).mp e; omega) (fun e => by have := (cond5_iff t).mp e; omega) ((cond6_iff t).mpr (by omega)) ((cond7_iff t).mpr (by omega)) (fun e => by have := (cond8_iff t).mp e; omega) (fun e => by have := (cond9_iff t).mp e; omega) Set.univ _)
  isplitl [H3]; · iexact H3
  isplitl [H14]; · iexact H14
  isplitl [H15]; · iexact H15
  isplitl [H6]
  · iexists _; iexact H6
  isplitl [H10]
  · iexists _; iexact H10
  iintro ⟨H3, H14, H15, H6, H10⟩
  isplitl [H14 H15]
  · isplitl [H14]
    · iexact H14
    iexact H15
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply hd6; iexact H6
  isplitl [H7]
  · iapply (keep_7 m c t (by omega) d7); iexact H7
  isplitl [H8]
  · iapply (keep_8 m c t (by omega) d8); iexact H8
  isplitl [H9]
  · iapply (keep_9 m c t (by omega) d9); iexact H9
  isplitl [H10]
  · iapply hd10; iexact H10
  isplitl [H11]
  · iapply (keep_11 m c t (by omega) d11); iexact H11
  isplitl [H12]
  · iapply (keep_12 m c t (by omega) d12); iexact H12
  iapply (keep_13 m c t (by omega) d13); iexact H13

set_option maxHeartbeats 2000000 in
/-- The body's work at key columns of the first block. -/
theorem sound_C (c : Dev nD) (t : Fin cfg0.N) (h : 2 ≤ t.val) (h1 : t.val < 4) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = iprop(owns (c : Thread nD τ) scP fullShare (P m c t.val) ∗ owns (c : Thread nD τ) scS fullShare (Q m c)) from rfl,
    show (dat m c).Φ t.castSucc = Inv m c t.val (Nat.le_of_lt t.isLt) from rfl,
    show (dat m c).owesAt () t.succ = (dat m c).owesAt () t.castSucc from rfl,
    after_0, after_1, after_2, after_3, after_4, after_5]
  have hd7 := put_7 (F := F) m c t (by omega)
  have hd11 := put_11 (F := F) m c t (by omega)
  rw [Inv_pos m c t.val _ (by omega), P_prev m c t (by omega)]
  iintro ⟨⟨H14, H15⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_C c (grid0.coords t) _ _ _ _ _ _ _ _ _ _ _ _ _ _ _ _ _ _ _ _ _ _ _ _ _ _ _ _ scP (Memref.isWhole_whole _) scS (Memref.isWhole_whole _) (X0_3 m c t) (P m c t.val) (Q m c) (fun e => by have := (cond1_iff t).mp e; omega) (fun e => by have := (cond2_iff t).mp e; omega) (fun e => by have := (cond3_iff t).mp e; omega) ((cond4_iff t).mpr (by omega)) (fun e => by have := (cond5_iff t).mp e; omega) ((cond6_iff t).mpr (by omega)) (fun e => by have := (cond7_iff t).mp e; omega) ((cond8_iff t).mpr (by omega)) (fun e => by have := (cond9_iff t).mp e; omega) Set.univ _)
  isplitl [H3]; · iexact H3
  isplitl [H14]; · iexact H14
  isplitl [H15]; · iexact H15
  isplitl [H7]
  · iexists _; iexact H7
  isplitl [H11]
  · iexists _; iexact H11
  iintro ⟨H3, H14, H15, H7, H11⟩
  isplitl [H14 H15]
  · isplitl [H14]
    · iexact H14
    iexact H15
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (keep_6 m c t (by omega) d6); iexact H6
  isplitl [H7]
  · iapply hd7; iexact H7
  isplitl [H8]
  · iapply (keep_8 m c t (by omega) d8); iexact H8
  isplitl [H9]
  · iapply (keep_9 m c t (by omega) d9); iexact H9
  isplitl [H10]
  · iapply (keep_10 m c t (by omega) d10); iexact H10
  isplitl [H11]
  · iapply hd11; iexact H11
  isplitl [H12]
  · iapply (keep_12 m c t (by omega) d12); iexact H12
  iapply (keep_13 m c t (by omega) d13); iexact H13

set_option maxHeartbeats 2000000 in
/-- The body's work at value columns of the first block. -/
theorem sound_D (c : Dev nD) (t : Fin cfg0.N) (h : 4 ≤ t.val) (h1 : t.val < 6) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = iprop(owns (c : Thread nD τ) scP fullShare (P m c t.val) ∗ owns (c : Thread nD τ) scS fullShare (Q m c)) from rfl,
    show (dat m c).Φ t.castSucc = Inv m c t.val (Nat.le_of_lt t.isLt) from rfl,
    show (dat m c).owesAt () t.succ = (dat m c).owesAt () t.castSucc from rfl,
    after_0, after_1, after_2, after_3, after_4, after_5]
  have hd8 := put_8 (F := F) m c t (by omega)
  have hd12 := put_12 (F := F) m c t (by omega)
  rw [Inv_pos m c t.val _ (by omega), P_prev m c t (by omega)]
  iintro ⟨⟨H14, H15⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_D c (grid0.coords t) _ _ _ _ _ _ _ _ _ _ _ _ _ _ _ _ _ _ _ _ _ _ _ _ _ _ _ _ scP (Memref.isWhole_whole _) scS (Memref.isWhole_whole _) (X0_3 m c t) (P m c t.val) (Q m c) (fun e => by have := (cond1_iff t).mp e; omega) (fun e => by have := (cond2_iff t).mp e; omega) (fun e => by have := (cond3_iff t).mp e; omega) (fun e => by have := (cond4_iff t).mp e; omega) ((cond5_iff t).mpr (by omega)) ((cond6_iff t).mpr (by omega)) (fun e => by have := (cond7_iff t).mp e; omega) (fun e => by have := (cond8_iff t).mp e; omega) ((cond9_iff t).mpr (by omega)) Set.univ _)
  isplitl [H3]; · iexact H3
  isplitl [H14]; · iexact H14
  isplitl [H15]; · iexact H15
  isplitl [H8]
  · iexists _; iexact H8
  isplitl [H12]
  · iexists _; iexact H12
  iintro ⟨H3, H14, H15, H8, H12⟩
  isplitl [H14 H15]
  · isplitl [H14]
    · iexact H14
    iexact H15
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (keep_6 m c t (by omega) d6); iexact H6
  isplitl [H7]
  · iapply (keep_7 m c t (by omega) d7); iexact H7
  isplitl [H8]
  · iapply hd8; iexact H8
  isplitl [H9]
  · iapply (keep_9 m c t (by omega) d9); iexact H9
  isplitl [H10]
  · iapply (keep_10 m c t (by omega) d10); iexact H10
  isplitl [H11]
  · iapply (keep_11 m c t (by omega) d11); iexact H11
  isplitl [H12]
  · iapply hd12; iexact H12
  iapply (keep_13 m c t (by omega) d13); iexact H13

set_option maxHeartbeats 2000000 in
/-- The body's work at the first columns of a later block. -/
theorem sound_E (c : Dev nD) (t : Fin cfg0.N) (h : ¬t.val < 6) (h1 : t.val % 6 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = iprop(owns (c : Thread nD τ) scP fullShare (P m c t.val) ∗ owns (c : Thread nD τ) scS fullShare (Q m c)) from rfl,
    show (dat m c).Φ t.castSucc = Inv m c t.val (Nat.le_of_lt t.isLt) from rfl,
    show (dat m c).owesAt () t.succ = (dat m c).owesAt () t.castSucc from rfl,
    after_0, after_1, after_2, after_3, after_4, after_5]
  have hd6 := put_6 (F := F) m c t (by omega)
  have hd9 := put_9 (F := F) m c t (by omega)
  rw [P_first m c t h1] at hd6 ⊢
  rw [Inv_pos m c t.val _ (by omega)]
  iintro ⟨⟨H14, H15⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_E c (grid0.coords t) _ _ _ _ _ _ _ _ _ _ _ _ _ _ _ _ _ _ _ _ _ _ _ _ _ _ _ _ scP (Memref.isWhole_whole _) scS (Memref.isWhole_whole _) (iblk m c 0 t) (iblk m c 2 t) (X0_3 m c t) (iblk m c 4 t) (iblk m c 5 t) ((cond1_iff t).mpr (by omega)) (fun e => by have := (cond2_iff t).mp e; omega) ((cond3_iff t).mpr (by omega)) (fun e => by have := (cond4_iff t).mp e; omega) (fun e => by have := (cond5_iff t).mp e; omega) (fun e => by have := (cond6_iff t).mp e; omega) Set.univ _)
  isplitl [H0]; · iexact H0
  isplitl [H2]; · iexact H2
  isplitl [H3]; · iexact H3
  isplitl [H4]; · iexact H4
  isplitl [H5]; · iexact H5
  isplitl [H6]
  · iexists _; iexact H6
  isplitl [H9]
  · iexists _; iexact H9
  isplitl [H14]
  · iexists _; iexact H14
  iintro ⟨H0, H2, H3, H4, H5, H6, H9, H14⟩
  isplitl [H14 H15]
  · isplitl [H14]
    · iexact H14
    iexact H15
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply hd6; iexact H6
  isplitl [H7]
  · iapply (keep_7 m c t (by omega) d7); iexact H7
  isplitl [H8]
  · iapply (keep_8 m c t (by omega) d8); iexact H8
  isplitl [H9]
  · iapply hd9; iexact H9
  isplitl [H10]
  · iapply (keep_10 m c t (by omega) d10); iexact H10
  isplitl [H11]
  · iapply (keep_11 m c t (by omega) d11); iexact H11
  isplitl [H12]
  · iapply (keep_12 m c t (by omega) d12); iexact H12
  iapply (keep_13 m c t (by omega) d13); iexact H13

set_option maxHeartbeats 2000000 in
/-- The body's work at the later query columns of a later block. -/
theorem sound_G (c : Dev nD) (t : Fin cfg0.N) (h : ¬t.val < 6) (h0 : ¬t.val % 6 = 0) (h1 : t.val % 6 < 2) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = iprop(owns (c : Thread nD τ) scP fullShare (P m c t.val) ∗ owns (c : Thread nD τ) scS fullShare (Q m c)) from rfl,
    show (dat m c).Φ t.castSucc = Inv m c t.val (Nat.le_of_lt t.isLt) from rfl,
    show (dat m c).owesAt () t.succ = (dat m c).owesAt () t.castSucc from rfl,
    after_0, after_1, after_2, after_3, after_4, after_5]
  have hd6 := put_6 (F := F) m c t (by omega)
  rw [Inv_pos m c t.val _ (by omega), P_prev m c t (by omega)]
  iintro ⟨⟨H14, H15⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_G c (grid0.coords t) _ _ _ _ _ _ _ _ _ _ _ _ _ _ _ _ _ _ _ _ _ _ _ _ _ _ _ _ scP (Memref.isWhole_whole _) scS (Memref.isWhole_whole _) (X0_3 m c t) (P m c t.val) (fun e => by have := (cond1_iff t).mp e; omega) (fun e => by have := (cond2_iff t).mp e; omega) ((cond3_iff t).mpr (by omega)) (fun e => by have := (cond4_iff t).mp e; omega) (fun e => by have := (cond5_iff t).mp e; omega) (fun e => by have := (cond6_iff t).mp e; omega) Set.univ _)
  isplitl [H3]; · iexact H3
  isplitl [H14]; · iexact H14
  isplitl [H6]
  · iexists _; iexact H6
  iintro ⟨H3, H14, H6⟩
  isplitl [H14 H15]
  · isplitl [H14]
    · iexact H14
    iexact H15
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply hd6; iexact H6
  isplitl [H7]
  · iapply (keep_7 m c t (by omega) d7); iexact H7
  isplitl [H8]
  · iapply (keep_8 m c t (by omega) d8); iexact H8
  isplitl [H9]
  · iapply (keep_9 m c t (by omega) d9); iexact H9
  isplitl [H10]
  · iapply (keep_10 m c t (by omega) d10); iexact H10
  isplitl [H11]
  · iapply (keep_11 m c t (by omega) d11); iexact H11
  isplitl [H12]
  · iapply (keep_12 m c t (by omega) d12); iexact H12
  iapply (keep_13 m c t (by omega) d13); iexact H13

set_option maxHeartbeats 2000000 in
/-- The body's work at key columns of a later block. -/
theorem sound_H (c : Dev nD) (t : Fin cfg0.N) (h : ¬t.val < 6) (h0 : 2 ≤ t.val % 6) (h1 : t.val % 6 < 4) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = iprop(owns (c : Thread nD τ) scP fullShare (P m c t.val) ∗ owns (c : Thread nD τ) scS fullShare (Q m c)) from rfl,
    show (dat m c).Φ t.castSucc = Inv m c t.val (Nat.le_of_lt t.isLt) from rfl,
    show (dat m c).owesAt () t.succ = (dat m c).owesAt () t.castSucc from rfl,
    after_0, after_1, after_2, after_3, after_4, after_5]
  have hd7 := put_7 (F := F) m c t (by omega)
  rw [Inv_pos m c t.val _ (by omega), P_prev m c t (by omega)]
  iintro ⟨⟨H14, H15⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_H c (grid0.coords t) _ _ _ _ _ _ _ _ _ _ _ _ _ _ _ _ _ _ _ _ _ _ _ _ _ _ _ _ scP (Memref.isWhole_whole _) scS (Memref.isWhole_whole _) (X0_3 m c t) (P m c t.val) (fun e => by have := (cond1_iff t).mp e; omega) (fun e => by have := (cond2_iff t).mp e; omega) (fun e => by have := (cond3_iff t).mp e; omega) ((cond4_iff t).mpr (by omega)) (fun e => by have := (cond5_iff t).mp e; omega) (fun e => by have := (cond6_iff t).mp e; omega) Set.univ _)
  isplitl [H3]; · iexact H3
  isplitl [H14]; · iexact H14
  isplitl [H7]
  · iexists _; iexact H7
  iintro ⟨H3, H14, H7⟩
  isplitl [H14 H15]
  · isplitl [H14]
    · iexact H14
    iexact H15
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (keep_6 m c t (by omega) d6); iexact H6
  isplitl [H7]
  · iapply hd7; iexact H7
  isplitl [H8]
  · iapply (keep_8 m c t (by omega) d8); iexact H8
  isplitl [H9]
  · iapply (keep_9 m c t (by omega) d9); iexact H9
  isplitl [H10]
  · iapply (keep_10 m c t (by omega) d10); iexact H10
  isplitl [H11]
  · iapply (keep_11 m c t (by omega) d11); iexact H11
  isplitl [H12]
  · iapply (keep_12 m c t (by omega) d12); iexact H12
  iapply (keep_13 m c t (by omega) d13); iexact H13

set_option maxHeartbeats 2000000 in
/-- The body's work at value columns of a later block. -/
theorem sound_I (c : Dev nD) (t : Fin cfg0.N) (h : ¬t.val < 6) (h0 : 4 ≤ t.val % 6) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = iprop(owns (c : Thread nD τ) scP fullShare (P m c t.val) ∗ owns (c : Thread nD τ) scS fullShare (Q m c)) from rfl,
    show (dat m c).Φ t.castSucc = Inv m c t.val (Nat.le_of_lt t.isLt) from rfl,
    show (dat m c).owesAt () t.succ = (dat m c).owesAt () t.castSucc from rfl,
    after_0, after_1, after_2, after_3, after_4, after_5]
  have hd8 := put_8 (F := F) m c t (by omega)
  rw [Inv_pos m c t.val _ (by omega), P_prev m c t (by omega)]
  iintro ⟨⟨H14, H15⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_I c (grid0.coords t) _ _ _ _ _ _ _ _ _ _ _ _ _ _ _ _ _ _ _ _ _ _ _ _ _ _ _ _ scP (Memref.isWhole_whole _) scS (Memref.isWhole_whole _) (X0_3 m c t) (P m c t.val) (fun e => by have := (cond1_iff t).mp e; omega) (fun e => by have := (cond2_iff t).mp e; omega) (fun e => by have := (cond3_iff t).mp e; omega) (fun e => by have := (cond4_iff t).mp e; omega) ((cond5_iff t).mpr (by omega)) (fun e => by have := (cond6_iff t).mp e; omega) Set.univ _)
  isplitl [H3]; · iexact H3
  isplitl [H14]; · iexact H14
  isplitl [H8]
  · iexists _; iexact H8
  iintro ⟨H3, H14, H8⟩
  isplitl [H14 H15]
  · isplitl [H14]
    · iexact H14
    iexact H15
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (keep_6 m c t (by omega) d6); iexact H6
  isplitl [H7]
  · iapply (keep_7 m c t (by omega) d7); iexact H7
  isplitl [H8]
  · iapply hd8; iexact H8
  isplitl [H9]
  · iapply (keep_9 m c t (by omega) d9); iexact H9
  isplitl [H10]
  · iapply (keep_10 m c t (by omega) d10); iexact H10
  isplitl [H11]
  · iapply (keep_11 m c t (by omega) d11); iexact H11
  isplitl [H12]
  · iapply (keep_12 m c t (by omega) d12); iexact H12
  iapply (keep_13 m c t (by omega) d13); iexact H13

/-- The body's work at a point. -/
theorem sound_body (c : Dev nD) (t : Fin cfg0.N) :
    bodyPre m c t ⊢ wp frame (wpE (defs₀ (F := F)) Variants.none c none) Set.univ (bodyAt0 t) (fun _ => bodyPost m c t) := by
  by_cases h : t.val < 6
  · by_cases h0 : t.val = 0
    · exact sound_A m c t h0
    · by_cases h1 : t.val < 2
      · exact sound_B m c t h0 h1
      · by_cases h2 : t.val < 4
        · exact sound_C m c t (by omega) h2
        · exact sound_D m c t (by omega) h
  · by_cases h0 : t.val % 6 = 0
    · exact sound_E m c t h h0
    · by_cases h1 : t.val % 6 < 2
      · exact sound_G m c t h h0 h1
      · by_cases h2 : t.val % 6 < 4
        · exact sound_H m c t h (by omega) h2
        · exact sound_I m c t h (by omega)

set_option maxHeartbeats 2000000 in
/-- The body that the call runs at a point. -/
theorem row (t : Fin cfg0.N) :
    defs₀ (F := F) .tc cfg0.body (cfg0.bodyArgs t (cfg0.slots t)) = bodyAt0 t := by
  unfold defs₀; rw [Defs.onTc_tc]

/-- Every point's body meets its obligation. -/
theorem body_obligation (c : Dev nD) : BodyObligation (dat m c) (defs₀ (F := F)) Variants.none () Set.univ := fun t => by
  rw [bigSep_W0, bigSep_W0, row]
  exact triple_restated (sound_body m c t) rfl .rfl fun _ => .rfl

end Cert.Proof.In

end
-- ==== Proof.In.Run.lean ====
module

public import proofs.«01_k».proof.Proof.In.Sound
public import Idealize.ShloMosaic.Lib.Pipeline.RegionArraysS
public import Idealize.ShloMosaic.Lib.Claim

@[expose] public section

set_option maxRecDepth 16384

noncomputable section

namespace Cert.Proof.In

open Cert.Kernel3Ideal Cert.Kernel3Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- A core's buffers at launch. -/
def start (c : Dev nD) : Valuation τ sig (Elt F) := fun b => m (c, b)
/-- A core's buffers after the cast of the weights and the reshape of the bias. -/
def Wa (c : Dev nD) : Valuation τ sig (Elt F) := StableHlo.after hostOps0 (start m c)
/-- A core's buffers after the bias is made longer. -/
def Wb (c : Dev nD) : Valuation τ sig (Elt F) := StableHlo.after hostOps0_1 (Wa m c)
/-- A core's buffers after the reshapes and the cut of the extra weights. -/
def Wc (c : Dev nD) : Valuation τ sig (Elt F) := StableHlo.after hostOps0_2 (Wb m c)
/-- A core's buffers after the extra weights are made wider: those that the call finds. -/
def W0 (c : Dev nD) : Valuation τ sig (Elt F) := StableHlo.after hostOps0_3 (Wc m c)
/-- They are the buffers that the call's blocks are read from. -/
theorem W0_eq (c : Dev nD) : W0 m c = V0 m c := by
  unfold W0 Wc Wb Wa V0 start
  simp only [List.flatten_cons, List.flatten_nil, List.append_nil, StableHlo.after_append]
/-- A core's buffers after the call. -/
def W1 (c : Dev nD) : Valuation τ sig (Elt F) := Pipeline.afterRegion (dat m c) (W0 m c)
/-- A core's buffers after the reshapes of the call's results. -/
def W2 (c : Dev nD) : Valuation τ sig (Elt F) := StableHlo.after hostOps1 (W1 m c)

/-- The call changes no buffer but its eight outputs. -/
theorem W1_keeps (c : Dev nD) (r : Ref sig .tc) (h : ∀ w, Pipeline.arrRef cfg0.spec w = r → (cfg0.win w).isOut = false) :
    W1 m c (Proc.devRef .tc r) = W0 m c (Proc.devRef .tc r) :=
  Pipeline.afterRegion_keeps _ _ winFacts0.arr_inj (fun w => (dat_A m c w).trans (congrFun (W0_eq m c).symm (Proc.devRef .tc (Pipeline.arrRef spec0 w)))) r h

/-- The last reshapes and cuts write ten buffers only. -/
theorem W2_keeps (c : Dev nD) (r : Ref sig .tc) (h : r ∉ [main_v9, main_v10, main_v11, main_v12, main_v13, main_v14, main_v15, main_v16, main_v17, main_v18]) :
    W2 m c (Proc.devRef .tc r) = W1 m c (Proc.devRef .tc r) :=
  StableHlo.after_of_forall_not_mem (b := Proc.devRef .tc r) _ _ (List.forall_iff_forall_mem.mp (by
    simp only [List.mem_cons, List.not_mem_nil, or_false, not_or] at h
    simp only [hostOps1, List.Forall, StableHlo.reshape_writes, StableHlo.unary_writes, Finset.mem_singleton]
    exact ⟨StableHlo.devRef_ne_of_ne h.1, StableHlo.devRef_ne_of_ne h.2.1, StableHlo.devRef_ne_of_ne h.2.2.1, StableHlo.devRef_ne_of_ne h.2.2.2.1, StableHlo.devRef_ne_of_ne h.2.2.2.2.1, StableHlo.devRef_ne_of_ne h.2.2.2.2.2.1, StableHlo.devRef_ne_of_ne h.2.2.2.2.2.2.1, StableHlo.devRef_ne_of_ne h.2.2.2.2.2.2.2.1, StableHlo.devRef_ne_of_ne h.2.2.2.2.2.2.2.2.1, StableHlo.devRef_ne_of_ne h.2.2.2.2.2.2.2.2.2⟩))
/-- The residual stream of the prompt ends as launched. -/
theorem W2_arg0 (c : Dev nD) : W2 m c (Proc.devRef .tc main_arg0) = m ((c : Thread nD τ).loc main_arg0) :=
  (W2_keeps m c main_arg0 (by decide)).trans ((W1_keeps m c main_arg0 (by decide)).trans ((congrFun (W0_eq m c) _).trans (V_main_arg0 m c)))
/-- The residual stream of the sample ends as launched. -/
theorem W2_arg1 (c : Dev nD) : W2 m c (Proc.devRef .tc main_arg1) = m ((c : Thread nD τ).loc main_arg1) :=
  (W2_keeps m c main_arg1 (by decide)).trans ((W1_keeps m c main_arg1 (by decide)).trans ((congrFun (W0_eq m c) _).trans (V_main_arg1 m c)))
/-- The gains end as launched. -/
theorem W2_arg2 (c : Dev nD) : W2 m c (Proc.devRef .tc main_arg2) = m ((c : Thread nD τ).loc main_arg2) :=
  (W2_keeps m c main_arg2 (by decide)).trans ((W1_keeps m c main_arg2 (by decide)).trans ((congrFun (W0_eq m c) _).trans (V_main_arg2 m c)))
/-- The weights end as launched. -/
theorem W2_arg3 (c : Dev nD) : W2 m c (Proc.devRef .tc main_arg3) = m ((c : Thread nD τ).loc main_arg3) :=
  (W2_keeps m c main_arg3 (by decide)).trans ((W1_keeps m c main_arg3 (by decide)).trans ((congrFun (W0_eq m c) _).trans (V_main_arg3 m c)))
/-- The bias ends as launched. -/
theorem W2_arg4 (c : Dev nD) : W2 m c (Proc.devRef .tc main_arg4) = m ((c : Thread nD τ).loc main_arg4) :=
  (W2_keeps m c main_arg4 (by decide)).trans ((W1_keeps m c main_arg4 (by decide)).trans ((congrFun (W0_eq m c) _).trans (V_main_arg4 m c)))

/-! ## The region's record -/

/-- No call has a prefetched table. -/
abbrev adm : (p : Fin 1) → (pcfgs (F := F) p).Adm := fun p => (cfgs p).toPCfg_adm
/-- Every counter belongs to a region. -/
theorem all_scoped : ∀ s : SemLoc sig, s.isScoped .tc = true := by decide

/-- The proof data of the one region. -/
def pdats : (p : Fin 1) → (c : Dev nD) → Dat τ (Elt F) Unit ℕ (UR sig nD τ) ℕ (cfgs p) c
  | ⟨0, _⟩ => fun c => dat m c

/-- The levels: one on every counter of a core, none elsewhere. -/
def L : GSem nD τ sig → Finset Unit := fun g => if g.1.2 = .tc then Finset.univ else ∅
/-- All levels are equal. -/
def lv : GSem nD τ sig → Unit → ℕ := fun _ _ => 0

/-- No core owes anything, so the levels order the waits. -/
theorem cut (p : Fin 1) : Pipeline.LevelCut (pcfgs (F := F)) adm () L lv p (fun _ => 0) (fun _ : Dev nD => 0) where
  hι c w s := by unfold L; rw [if_pos rfl]; exact Finset.mem_univ _
  hιb _ _ _ := Nat.le_refl _
  hD c g i h := absurd h (Nat.lt_irrefl 0)

/-- The call starts from the region's own buffers. -/
theorem enter (c : Dev nD) : iprop(Pipeline.scopedRest spec0 c ∗ BI.emp) ⊢ ((dat m c).Φ 0 : sProp 𝕄) := by
  rw [show (dat m c).Φ 0 = Pipeline.scopedRest spec0 c from rfl]
  iintro ⟨H, -⟩; iexact H
/-- The call gives the region's own buffers back. -/
theorem leave (c : Dev nD) : (dat m c).Φ (Fin.last cfg0.N) ⊢ (iprop(Pipeline.scopedRest spec0 c ∗ BI.emp) : sProp 𝕄) := by
  rw [show (dat m c).Φ (Fin.last cfg0.N) = Inv m c cfg0.N (Nat.le_refl _) from rfl]
  iintro H
  isplitl [H]
  · ihave H := (Inv_any m c cfg0.N (Nat.le_refl _)) $$ H
    iapply (of_scratch c)
    iexact H
  iempintro

set_option backward.isDefEq.respectTransparency.types false in
/-- The region of the call, entered from the prepared buffers. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) (fun _ => BI.emp) (fun _ => BI.emp)
    launch0.toP rfl (fun c => (body_obligation m c).loose) (fun _ _ => rfl) (fun _ => rfl)
    (fun c => (dat m c).share_full fun _ => rfl)
    (fun c => enter m c) (fun c => leave m c)
    (fun _ => 0) (cut 0) (fun _ => BI.emp) (W0 m) (fun c w => (dat_A m c w).trans (congrFun (W0_eq m c).symm (Proc.devRef .tc (Pipeline.arrRef spec0 w))))

/-- What rides beside the buffers: the core owes nothing. -/
def E (c : Dev nD) : sProp 𝕄 := iprop((∃ Wd, owes (c : Thread nD τ) (0 : CellTallies nD τ sig Unit) Wd) ∗ BI.emp ∗ BI.emp)

/-- The call's arrays are among the core's own buffers. -/
theorem sub0 : Pipeline.arrRefs ((pcfgs (F := F)) 0).spec ⊆ Pipeline.ucRefs τ sig := Pipeline.arrRefs_sub_ucRefs spec0 (by decide)
/-- The prepared buffers enter the call. -/
theorem pre0 (c : Dev nD) : iprop(StableHlo.held (c : Thread nD τ) (Pipeline.ucRefs τ sig) (W0 m c) ∗ E c) ⊢ (R0 m).pre c := by
  unfold R0 E
  exact (BI.Entails.refl _).trans (RegionSeg.ofHeldIn_pre (D := fun _ => 0) (X := fun _ => BI.emp) (Y := fun _ => BI.emp) (R := fun _ => BI.emp) (W := W0 m) (sub0 (F := F)) c)
/-- The call leaves their buffers. -/
theorem post0 (c : Dev nD) : (R0 m).post c ⊢ iprop(StableHlo.held (c : Thread nD τ) (Pipeline.ucRefs τ sig) (W1 m c) ∗ E c) := by
  rw [show W1 m c = Pipeline.afterRegion (pdats m 0 c) (W0 m c) from rfl]
  unfold R0 E
  exact (RegionSeg.ofHeldIn_post (D := fun _ => 0) (X := fun _ => BI.emp) (Y := fun _ => BI.emp) (R := fun _ => BI.emp) (W := W0 m) (sub0 (F := F)) c).trans .rfl
/-- At the end the core owes nothing. -/
theorem last (c : Dev nD) : (E c : sProp 𝕄) ⊢ iprop(∃ Wd, owes (c : Thread nD τ) (0 : CellTallies nD τ sig Unit) Wd) := by
  unfold E; iintro ⟨H, -⟩; iexact H

/-- The cast of the weights and the reshape of the bias, run from the launch's buffers. -/
def Ha : HostSeg (Name := ℕ) (U := UR sig nD τ) (pcfgs (F := F)) defs₀ Variants.none L lv :=
  HostSeg.ofOps (pcfgs (F := F)) defs₀ Variants.none L lv (Pipeline.ucRefs τ sig) hostOps0
    (fun op h => Pipeline.sub_ucRefs op (List.forall_iff_forall_mem.mp hostOps0_sub op h))
    (List.forall_iff_forall_mem.mp hostOps0_fresh) (start m) E

/-- The longer bias. -/
def Hb : HostSeg (Name := ℕ) (U := UR sig nD τ) (pcfgs (F := F)) defs₀ Variants.none L lv :=
  HostSeg.ofOps (pcfgs (F := F)) defs₀ Variants.none L lv (Pipeline.ucRefs τ sig) hostOps0_1
    (fun op h => Pipeline.sub_ucRefs op (List.forall_iff_forall_mem.mp hostOps0_1_sub op h))
    (List.forall_iff_forall_mem.mp hostOps0_1_fresh) (Wa m) E

/-- The reshapes and the cut of the extra weights. -/
def Hc : HostSeg (Name := ℕ) (U := UR sig nD τ) (pcfgs (F := F)) defs₀ Variants.none L lv :=
  HostSeg.ofOps (pcfgs (F := F)) defs₀ Variants.none L lv (Pipeline.ucRefs τ sig) hostOps0_2
    (fun op h => Pipeline.sub_ucRefs op (List.forall_iff_forall_mem.mp hostOps0_2_sub op h))
    (List.forall_iff_forall_mem.mp hostOps0_2_fresh) (Wb m) E

/-- The wider extra weights. -/
def Hd : HostSeg (Name := ℕ) (U := UR sig nD τ) (pcfgs (F := F)) defs₀ Variants.none L lv :=
  HostSeg.ofOps (pcfgs (F := F)) defs₀ Variants.none L lv (Pipeline.ucRefs τ sig) hostOps0_3
    (fun op h => Pipeline.sub_ucRefs op (List.forall_iff_forall_mem.mp hostOps0_3_sub op h))
    (List.forall_iff_forall_mem.mp hostOps0_3_fresh) (Wc m) E

/-- The reshapes of the results, run from what the call leaves. -/
def H1 : HostSeg (Name := ℕ) (U := UR sig nD τ) (pcfgs (F := F)) defs₀ Variants.none L lv :=
  HostSeg.ofOps (pcfgs (F := F)) defs₀ Variants.none L lv (Pipeline.ucRefs τ sig) hostOps1
    (fun op h => Pipeline.sub_ucRefs op (List.forall_iff_forall_mem.mp hostOps1_sub op h))
    (List.forall_iff_forall_mem.mp hostOps1_fresh) (W1 m) E

/-- The program's six items. -/
abbrev segs : List (Seg (pcfgs (F := F)) adm (pdats m) () defs₀ Variants.none L lv) := [.host (Ha m), .host (Hb m), .host (Hc m), .host (Hd m), .region (R0 m), .host (H1 m)]

set_option backward.isDefEq.respectTransparency.types false in
/-- Every weakly fair execution of the program ends, with the arguments as launched, the results at what the call
    leaves in them, and every counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v9) = W2 m c (Proc.devRef .tc main_v9)
      ∧ r.2.mem ((c.tc : Thread nD τ).loc main_v10) = W2 m c (Proc.devRef .tc main_v10)
      ∧ r.2.mem ((c.tc : Thread nD τ).loc main_v11) = W2 m c (Proc.devRef .tc main_v11)
      ∧ r.2.mem ((c.tc : Thread nD τ).loc main_v13) = W2 m c (Proc.devRef .tc main_v13)
      ∧ r.2.mem ((c.tc : Thread nD τ).loc main_v14) = W2 m c (Proc.devRef .tc main_v14)
      ∧ r.2.mem ((c.tc : Thread nD τ).loc main_v15) = W2 m c (Proc.devRef .tc main_v15)
      ∧ r.2.mem ((c.tc : Thread nD τ).loc main_v16) = W2 m c (Proc.devRef .tc main_v16)
      ∧ r.2.mem ((c.tc : Thread nD τ).loc main_v18) = W2 m c (Proc.devRef .tc main_v18))
      ∧ r.2.sem = fun _ => 0) := by
  refine Pipeline.θ_run_regions_kit_dev_sems (pcfgs (F := F)) adm (pdats m) () cellOf_inj emb₁ defs₀ Variants.none L lv m ρ main
    (fun _ => segs m)
    (fun c Q => by
      rewrite [main_chain c, Seg.run_eq_chain,
        show (segs m).map Seg.prog = [
          StableHlo.seq hostOps0,
          StableHlo.seq hostOps0_1,
          StableHlo.seq hostOps0_2,
          StableHlo.seq hostOps0_3,
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) 0
    (fun g hg => by unfold L; rw [if_neg hg])
    (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (start m c) ∗ E c))
    (Tₙ := fun c => StableHlo.held (c : Thread nD τ) (Pipeline.ucRefs τ sig) (W2 m c))
    (hch := fun c => ⟨.rfl, .rfl, .rfl, .rfl, pre0 m c, post0 m c, sep_mono .rfl (last c)⟩)
    (hinit := ?_) (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_v9) = W2 m c (Proc.devRef .tc main_v9)
      ∧ s.mem ((c.tc : Thread nD τ).loc main_v10) = W2 m c (Proc.devRef .tc main_v10)
      ∧ s.mem ((c.tc : Thread nD τ).loc main_v11) = W2 m c (Proc.devRef .tc main_v11)
      ∧ s.mem ((c.tc : Thread nD τ).loc main_v13) = W2 m c (Proc.devRef .tc main_v13)
      ∧ s.mem ((c.tc : Thread nD τ).loc main_v14) = W2 m c (Proc.devRef .tc main_v14)
      ∧ s.mem ((c.tc : Thread nD τ).loc main_v15) = W2 m c (Proc.devRef .tc main_v15)
      ∧ s.mem ((c.tc : Thread nD τ).loc main_v16) = W2 m c (Proc.devRef .tc main_v16)
      ∧ s.mem ((c.tc : Thread nD τ).loc main_v18) = W2 m c (Proc.devRef .tc main_v18))
    (hfin := fun c s' => ?_) (hQ := fun _ h hz => ⟨h, funext fun g => hz g (.inr (all_scoped g.2))⟩)
  · refine Pipeline.initEach L lv fun c => ?_
    rw [show unscopedBufs c (fun b => m ((c.tc : Thread nD τ).loc b)) = (StableHlo.held (c.tc : Thread nD τ) (Pipeline.ucRefs τ sig) (start m c) : sProp 𝕄) from
      Pipeline.unscopedBufs_held (Ix := Unit) (Name := ℕ) (U := UR sig nD τ) (Lvl := ℕ) c (start m c)]
    unfold E
    iintro ⟨⟨Hh, -, Ho, -, -, -⟩, -⟩
    imodintro
    isplitl [Hh]; · iexact Hh
    isplitl [Ho]; · iexists _; iexact Ho
    isplitr; · iempintro
    iempintro
  · unfold StableHlo.held
    iintro ⟨Hh, HSI⟩
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (W2_arg0 m c),
        (h (Proc.devRef .tc main_arg1) (Finset.mem_filter.mpr ⟨StableHlo.devRef_mem_tcRefs main_arg1, by decide⟩)).trans (W2_arg1 m c),
        (h (Proc.devRef .tc main_arg2) (Finset.mem_filter.mpr ⟨StableHlo.devRef_mem_tcRefs main_arg2, by decide⟩)).trans (W2_arg2 m c),
        (h (Proc.devRef .tc main_arg3) (Finset.mem_filter.mpr ⟨StableHlo.devRef_mem_tcRefs main_arg3, by decide⟩)).trans (W2_arg3 m c),
        (h (Proc.devRef .tc main_arg4) (Finset.mem_filter.mpr ⟨StableHlo.devRef_mem_tcRefs main_arg4, by decide⟩)).trans (W2_arg4 m c),
        (h (Proc.devRef .tc main_v9) (Finset.mem_filter.mpr ⟨StableHlo.devRef_mem_tcRefs main_v9, by decide⟩)),
        (h (Proc.devRef .tc main_v10) (Finset.mem_filter.mpr ⟨StableHlo.devRef_mem_tcRefs main_v10, by decide⟩)),
        (h (Proc.devRef .tc main_v11) (Finset.mem_filter.mpr ⟨StableHlo.devRef_mem_tcRefs main_v11, by decide⟩)),
        (h (Proc.devRef .tc main_v13) (Finset.mem_filter.mpr ⟨StableHlo.devRef_mem_tcRefs main_v13, by decide⟩)),
        (h (Proc.devRef .tc main_v14) (Finset.mem_filter.mpr ⟨StableHlo.devRef_mem_tcRefs main_v14, by decide⟩)),
        (h (Proc.devRef .tc main_v15) (Finset.mem_filter.mpr ⟨StableHlo.devRef_mem_tcRefs main_v15, by decide⟩)),
        (h (Proc.devRef .tc main_v16) (Finset.mem_filter.mpr ⟨StableHlo.devRef_mem_tcRefs main_v16, by decide⟩)),
        (h (Proc.devRef .tc main_v18) (Finset.mem_filter.mpr ⟨StableHlo.devRef_mem_tcRefs main_v18, by decide⟩))⟩
    · iexact HSI

end Cert.Proof.In

end
-- ==== Proof.In.Read.lean ====
module

public import proofs.«01_k».proof.Proof.Mlp.Read
public import proofs.«01_k».proof.Proof.Gen.Kernel3Ideal.Skeleton
public import Idealize.ShloMosaic.Lib.Pointwise

@[expose] public section

set_option maxRecDepth 16384

noncomputable section

namespace Cert.Proof.In

open Cert.Kernel3Ideal Cert.Kernel3Ideal.Gen
open Idealize.ShloMosaic Idealize.ShloMosaic.TcCoe

open Mlp (nrm)

/-- The logarithm of the logistic function, as the kernel computes it. -/
def gate (e : EReal) : EReal := min e 0 - Ideal.log1p (Ideal.exp (0 - max e (-e)))

/-- The normalized rows of a prompt block. -/
theorem pay1_at (x : Vec Ideal S688x2048 .f32) (g : Vec Ideal S1x2048 .f32) (r : Fin 688) (l : Fin 2048) :
    k0_pay1 x g (ix2 r l) = nrm (fun l => x (ix2 r l)) (fun l => g (ix2 0 l)) l := by
  pointwise [k0_pay1]
  rfl
/-- The normalized rows of a prompt block as stored. -/
theorem pay2_at (x : Vec Ideal S688x2048 .f32) (g : Vec Ideal S1x2048 .f32) (r : Fin 688) (l : Fin 2048) :
    k0_pay2 x g (ix2 r l) = nrm (fun l => x (ix2 r l)) (fun l => g (ix2 0 l)) l := by
  pointwise [k0_pay2]
  exact pay1_at x g r l
/-- The normalized rows of the sample. -/
theorem pay4_at (x : Vec Ideal S64x2048 .f32) (g : Vec Ideal S1x2048 .f32) (r : Fin 64) (l : Fin 2048) :
    k0_pay4 x g (ix2 r l) = nrm (fun l => x (ix2 r l)) (fun l => g (ix2 0 l)) l := by
  pointwise [k0_pay4]
  rfl
/-- The normalized rows of the sample as stored. -/
theorem pay5_at (x : Vec Ideal S64x2048 .f32) (g : Vec Ideal S1x2048 .f32) (r : Fin 64) (l : Fin 2048) :
    k0_pay5 x g (ix2 r l) = nrm (fun l => x (ix2 r l)) (fun l => g (ix2 0 l)) l := by
  pointwise [k0_pay5]
  exact pay4_at x g r l
/-- A prompt block's product with a weight block. -/
theorem pay7_at (x : Vec Ideal S688x2048 .bf16) (w : Vec Ideal S2048x1024 .bf16) (r : Fin 688) (n : Fin 1024) :
    k0_pay7 x w (ix2 r n) = ∑ k : Fin 2048, x (ix2 r k) * w (ix2 k n) := by
  pointwise [k0_pay7]
/-- The sample's product with a weight block. -/
theorem pay8_at (x : Vec Ideal S64x2048 .bf16) (w : Vec Ideal S2048x1024 .bf16) (r : Fin 64) (n : Fin 1024) :
    k0_pay8 x w (ix2 r n) = ∑ k : Fin 2048, x (ix2 r k) * w (ix2 k n) := by
  pointwise [k0_pay8]
/-- A prompt block's forget gates. -/
theorem pay3_at (x : Vec Ideal S688x2048 .f32) (g : Vec Ideal S1x2048 .f32) (w : Vec Ideal S2048x128 .bf16) (b : Vec Ideal S1x128 .f32) (r : Fin 688) (h : Fin 128) :
    k0_pay3 x g w b (ix2 r h) = gate ((∑ k : Fin 2048, nrm (fun l => x (ix2 r l)) (fun l => g (ix2 0 l)) k * w (ix2 k h)) + b (ix2 0 h)) := by
  pointwise [k0_pay3]
  simp only [pay1_at]
  rfl
/-- The sample's forget gates. -/
theorem pay6_at (x : Vec Ideal S64x2048 .f32) (g : Vec Ideal S1x2048 .f32) (w : Vec Ideal S2048x128 .bf16) (b : Vec Ideal S1x128 .f32) (r : Fin 64) (h : Fin 128) :
    k0_pay6 x g w b (ix2 r h) = gate ((∑ k : Fin 2048, nrm (fun l => x (ix2 r l)) (fun l => g (ix2 0 l)) k * w (ix2 k h)) + b (ix2 0 h)) := by
  pointwise [k0_pay6]
  simp only [pay4_at]
  rfl

end Cert.Proof.In

end
-- ==== Proof.In.Blocks.lean ====
module

public import proofs.«01_k».proof.Proof.In.Run
public import proofs.«01_k».proof.Proof.In.Read
public import Idealize.ShloMosaic.Lib.Pipeline.ValueKit

@[expose] public section

set_option maxRecDepth 16384

noncomputable section

namespace Cert.Proof.In

open Cert.Kernel3Ideal Cert.Kernel3Ideal.Gen
open Idealize.ShloMosaic Idealize.ShloMosaic.TcCoe

open Mlp (nrm)

/-- Where the blocks lie. -/
theorem idx : ∀ t : Fin cfg0.N, win0_0.index t = ![t.val / 6, 0] ∧ win0_1.index t = ![0, 0] ∧ win0_2.index t = ![0, 0] ∧ win0_3.index t = ![0, t.val % 6]
    ∧ win0_4.index t = ![0, 0] ∧ win0_5.index t = ![0, 0] :=
  (by decide +kernel : ∀ t : Fin grid0.N, _)
/-- Where the prompt's outputs lie. -/
theorem idxP : ∀ t : Fin cfg0.N, win0_6.index t = ![t.val / 6, q6 t.val % 6] ∧ win0_7.index t = ![t.val / 6, q7 t.val % 6 - 2]
    ∧ win0_8.index t = ![t.val / 6, q8 t.val % 6 - 4] ∧ win0_9.index t = ![t.val / 6, 0] :=
  (by decide +kernel : ∀ t : Fin grid0.N, _)
/-- Where the sample's outputs lie. -/
theorem idxS : ∀ t : Fin cfg0.N, win0_10.index t = ![0, q10 t.val % 6] ∧ win0_11.index t = ![0, q11 t.val % 6 - 2]
    ∧ win0_12.index t = ![0, q12 t.val % 6 - 4] ∧ win0_13.index t = ![0, 0] :=
  (by decide +kernel : ∀ t : Fin grid0.N, _)
/-- The number of grid points. -/
theorem N0 : cfg0.N = 72 := by decide +kernel

/-- Row `r` of a list, by number. -/
def rowN {R : ℕ} (a : (⟨2, ![R, 2048]⟩ : Shape).Idx → EReal) (r : ℕ) (l : Fin 2048) : EReal := if h : r < R then a (ix2 ⟨r, h⟩ l) else 0
/-- The gains of one row. -/
def gain (a : S1x2048.Idx → EReal) (l : Fin 2048) : EReal := a (ix2 0 l)
/-- A matrix, its columns by number. -/
def mat {C : ℕ} (a : (⟨2, ![2048, C]⟩ : Shape).Idx → EReal) (k : Fin 2048) (n : ℕ) : EReal := if h : n < C then a (ix2 k ⟨n, h⟩) else 0
/-- A normalized row's product with column `n`. -/
def proj (x g : Fin 2048 → EReal) (w : Fin 2048 → ℕ → EReal) (n : ℕ) : EReal := ∑ k : Fin 2048, nrm x g k * w k n

variable (m : (ℓ : Loc nD τ sig) → Buf (Elt Ideal) ℓ) (c : Dev nD)

/-- The prompt block at a point. -/
theorem blk0 (t : Fin cfg0.N) (r : Fin 688) (l : Fin 2048) :
    iblk m c 0 t (ix2 r l) = rowN (V m c main_v3) (688 * (t.val / 6) + r.val) l := by
  have hb : 688 * (t.val / 6) + r.val < 8256 := by have := t.isLt; have := N0; omega
  unfold rowN
  rw [dif_pos hb]
  blk_ext [iblk, (idx t).1]
/-- The sample at a point. -/
theorem blk1 (t : Fin cfg0.N) (r : Fin 64) (l : Fin 2048) :
    iblk m c 1 t (ix2 r l) = rowN (V m c main_v4) r.val l := by
  unfold rowN
  rw [dif_pos r.isLt]
  blk_ext [iblk, (idx t).2.1]
/-- The gains at a point. -/
theorem blk2 (t : Fin cfg0.N) (l : Fin 2048) :
    iblk m c 2 t (ix2 0 l) = gain (V m c main_v5) l := by
  unfold gain
  blk_ext [iblk, (idx t).2.2.1]
/-- The weight block at a point. -/
theorem blk3 (t : Fin cfg0.N) (k : Fin 2048) (n : Fin 1024) :
    X0_3 m c t (ix2 k n) = mat (V m c main_v0) k (1024 * (t.val % 6) + n.val) := by
  have hb : 1024 * (t.val % 6) + n.val < 6160 := by omega
  unfold mat X0_3 Pipeline.Window.fill
  rw [dif_pos hb, dif_pos (moved0_3 t (ix2 k n))]
  blk_ext [iblk, (idx t).2.2.2.1]
/-- The extra weights at a point. -/
theorem blk4 (t : Fin cfg0.N) (k : Fin 2048) (h : Fin 128) :
    iblk m c 4 t (ix2 k h) = mat (V m c main_v7) k h.val := by
  unfold mat
  rw [dif_pos h.isLt]
  blk_ext [iblk, (idx t).2.2.2.2.1]
/-- The bias at a point. -/
theorem blk5 (t : Fin cfg0.N) (h : Fin 128) :
    iblk m c 5 t (ix2 0 h) = V m c main_v2 (ix2 0 h) := by
  blk_ext [iblk, (idx t).2.2.2.2.2]

end Cert.Proof.In

end
-- ==== Proof.In.Result.lean ====
module

public import proofs.«01_k».proof.Proof.In.Blocks

@[expose] public section

set_option maxRecDepth 16384

noncomputable section

namespace Cert.Proof.In

open Cert.Kernel3Ideal Cert.Kernel3Ideal.Gen
open Idealize.ShloMosaic Idealize.ShloMosaic.TcCoe

open Mlp (nrm)

/-- Columns `2048 s` and on of the product of a list's normalized rows with the weights. -/
def cols {R : ℕ} (s : ℕ) (x : (⟨2, ![R, 2048]⟩ : Shape).Idx → EReal) (g : S1x2048.Idx → EReal) (w : S2048x6160.Idx → EReal) : (⟨2, ![R, 2048]⟩ : Shape).Idx → EReal := fun y =>
  proj (rowN x (y 0).val) (gain g) (mat w) (2048 * s + (y 1).val)
/-- The forget gates of a list's rows. -/
def gates {R : ℕ} (x : (⟨2, ![R, 2048]⟩ : Shape).Idx → EReal) (g : S1x2048.Idx → EReal) (w : S2048x128.Idx → EReal) (b : S1x128.Idx → EReal) : (⟨2, ![R, 128]⟩ : Shape).Idx → EReal := fun y =>
  gate (proj (rowN x (y 0).val) (gain g) (mat w) (y 1).val + b (ix2 0 (y 1)))

variable (m : (ℓ : Loc nD τ sig) → Buf (Elt Ideal) ℓ) (c : Dev nD)

/-- A number below 72 is its point's. -/
theorem pt_of (n : ℕ) (h : n < 72) : (pt n).val = n := Nat.mod_eq_of_lt h

/-- A row of a point's prompt block, which its block's first point found. -/
theorem row_block (t : Fin cfg0.N) (r : Fin 688) : (fun l => iblk m c 0 (pt (t.val / 6 * 6)) (ix2 r l)) = rowN (V m c main_v3) (688 * (t.val / 6) + r.val) := by
  have ht : t.val < 72 := N0 ▸ t.isLt
  funext l
  refine (blk0 m c _ r l).trans ?_
  rw [pt_of _ (by omega), show t.val / 6 * 6 / 6 = t.val / 6 by omega]
/-- The gains as a point found them. -/
theorem gain_block (t : Fin cfg0.N) : (fun l => iblk m c 2 t (ix2 0 l)) = gain (V m c main_v5) := funext fun l => blk2 m c t l

/-- Gates of equal rows, gains, weights and biases are equal. -/
theorem gate_congr {x x' g g' w w' : Fin 2048 → EReal} {b b' : EReal} (hx : x = x') (hg : g = g') (hw : ∀ k, w k = w' k) (hb : b = b') :
    gate ((∑ k : Fin 2048, nrm x g k * w k) + b) = gate ((∑ k : Fin 2048, nrm x' g' k * w' k) + b') := by
  rw [hx, hg, funext hw, hb]

/-- The prompt's product with a weight block of its row of blocks. -/
theorem prompt_cols (t : Fin cfg0.N) (n : ℕ) (hn : n < 72) (y : S688x1024.Idx) :
    k0_pay7 (P m c t.val) (X m c n) y
      = proj (rowN (V m c main_v3) (688 * (t.val / 6) + (y 0).val)) (gain (V m c main_v5)) (mat (V m c main_v0)) (1024 * (n % 6) + (y 1).val) := by
  have ht : t.val < 72 := N0 ▸ t.isLt
  have hy : y = ix2 (y 0) (y 1) := by funext a; fin_cases a <;> rfl
  refine (congrArg (k0_pay7 (P m c t.val) (X m c n)) hy).trans ((pay7_at _ _ (y 0) (y 1)).trans (Finset.sum_congr rfl fun k _ => ?_))
  have e1 : P m c t.val (ix2 (y 0) k) = nrm (rowN (V m c main_v3) (688 * (t.val / 6) + (y 0).val)) (gain (V m c main_v5)) k := by
    exact (pay2_at _ _ (y 0) k).trans (congrArg₂ (fun x g => nrm x g k) (row_block m c t (y 0)) (gain_block m c _))
  have e2 : X m c n (ix2 k (y 1)) = mat (V m c main_v0) k (1024 * (n % 6) + (y 1).val) := by
    refine (blk3 m c (pt n) k (y 1)).trans ?_
    rw [pt_of n hn]
  rw [e1, e2]
/-- The sample's product with a weight block. -/
theorem sample_cols (n : ℕ) (hn : n < 72) (y : S64x1024.Idx) :
    k0_pay8 (Q m c) (X m c n) y
      = proj (rowN (V m c main_v4) (y 0).val) (gain (V m c main_v5)) (mat (V m c main_v0)) (1024 * (n % 6) + (y 1).val) := by
  have hy : y = ix2 (y 0) (y 1) := by funext a; fin_cases a <;> rfl
  refine (congrArg (k0_pay8 (Q m c) (X m c n)) hy).trans ((pay8_at _ _ (y 0) (y 1)).trans (Finset.sum_congr rfl fun k _ => ?_))
  have e1 : Q m c (ix2 (y 0) k) = nrm (rowN (V m c main_v4) (y 0).val) (gain (V m c main_v5)) k := by
    exact (pay5_at _ _ (y 0) k).trans (congrArg₂ (fun x g => nrm x g k) (funext fun l => blk1 m c _ (y 0) l) (gain_block m c _))
  have e2 : X m c n (ix2 k (y 1)) = mat (V m c main_v0) k (1024 * (n % 6) + (y 1).val) := by
    refine (blk3 m c (pt n) k (y 1)).trans ?_
    rw [pt_of n hn]
  rw [e1, e2]

/-- The prompt's queries after the run. -/
theorem W1_p0 : W1 m c (Proc.devRef .tc main_v8_0) = cols (R := 8256) 0 (V m c main_v3) (V m c main_v5) (V m c main_v0) := by
  refine (Pipeline.afterRegion_arr (dat m c) (W0 m c) winFacts0.arr_inj 6).trans ?_
  refine (dat m c).arrAt_eq_of_covers 6 (cols (R := 8256) 0 _ _ _) (by decide +kernel) fun t _ y => ?_
  have ht : t.val < 72 := N0 ▸ t.isLt
  blk_simp
  rw [after_6]
  refine (prompt_cols m c t (q6 t.val) (by unfold q6; omega) y).trans ?_
  have e0 : ((win0_6.blk t).view.emb y 0 : ℕ) = 688 * (t.val / 6) + (y 0).val := by
    blk_simp [(idxP t).1]
    omega
  have e1 : 2048 * 0 + ((win0_6.blk t).view.emb y 1 : ℕ) = 1024 * (q6 t.val % 6) + (y 1).val := by
    blk_simp [(idxP t).1]
    unfold q6
    omega
  unfold cols
  rw [e0, e1]
/-- The prompt's keys after the run. -/
theorem W1_p1 : W1 m c (Proc.devRef .tc main_v8_1) = cols (R := 8256) 1 (V m c main_v3) (V m c main_v5) (V m c main_v0) := by
  refine (Pipeline.afterRegion_arr (dat m c) (W0 m c) winFacts0.arr_inj 7).trans ?_
  refine (dat m c).arrAt_eq_of_covers 7 (cols (R := 8256) 1 _ _ _) (by decide +kernel) fun t _ y => ?_
  have ht : t.val < 72 := N0 ▸ t.isLt
  blk_simp
  rw [after_7]
  refine (prompt_cols m c t (q7 t.val) (by unfold q7; omega) y).trans ?_
  have e0 : ((win0_7.blk t).view.emb y 0 : ℕ) = 688 * (t.val / 6) + (y 0).val := by
    blk_simp [(idxP t).2.1]
    omega
  have e1 : 2048 * 1 + ((win0_7.blk t).view.emb y 1 : ℕ) = 1024 * (q7 t.val % 6) + (y 1).val := by
    blk_simp [(idxP t).2.1]
    unfold q7
    omega
  unfold cols
  rw [e0, e1]
/-- The prompt's values after the run. -/
theorem W1_p2 : W1 m c (Proc.devRef .tc main_v8_2) = cols (R := 8256) 2 (V m c main_v3) (V m c main_v5) (V m c main_v0) := by
  refine (Pipeline.afterRegion_arr (dat m c) (W0 m c) winFacts0.arr_inj 8).trans ?_
  refine (dat m c).arrAt_eq_of_covers 8 (cols (R := 8256) 2 _ _ _) (by decide +kernel) fun t _ y => ?_
  have ht : t.val < 72 := N0 ▸ t.isLt
  blk_simp
  rw [after_8]
  refine (prompt_cols m c t (q8 t.val) (by unfold q8; omega) y).trans ?_
  have e0 : ((win0_8.blk t).view.emb y 0 : ℕ) = 688 * (t.val / 6) + (y 0).val := by
    blk_simp [(idxP t).2.2.1]
    omega
  have e1 : 2048 * 2 + ((win0_8.blk t).view.emb y 1 : ℕ) = 1024 * (q8 t.val % 6) + (y 1).val := by
    blk_simp [(idxP t).2.2.1]
    unfold q8
    omega
  unfold cols
  rw [e0, e1]
/-- The prompt's forget gates after the run. -/
theorem W1_p3 : W1 m c (Proc.devRef .tc main_v8_3) = gates (R := 8256) (V m c main_v3) (V m c main_v5) (V m c main_v7) (V m c main_v2) := by
  refine (Pipeline.afterRegion_arr (dat m c) (W0 m c) winFacts0.arr_inj 9).trans ?_
  refine (dat m c).arrAt_eq_of_covers 9 (gates (R := 8256) _ _ _ _) (by decide +kernel) fun t _ y => ?_
  have ht : t.val < 72 := N0 ▸ t.isLt
  blk_simp
  rw [after_9]
  have hy : y = ix2 (y 0) (y 1) := by funext a; fin_cases a <;> rfl
  refine (congrArg (k0_pay3 (iblk m c 0 (pt (t.val / 6 * 6))) (iblk m c 2 (pt (t.val / 6 * 6))) (iblk m c 4 (pt (t.val / 6 * 6))) (iblk m c 5 (pt (t.val / 6 * 6)))) hy).trans ((pay3_at _ _ _ _ (y 0) (y 1)).trans ?_)
  have e0 : ((win0_9.blk t).view.emb y 0 : ℕ) = 688 * (t.val / 6) + (y 0).val := by
    blk_simp [(idxP t).2.2.2]
    omega
  have e1 : (win0_9.blk t).view.emb y 1 = y 1 := by
    apply Fin.ext
    blk_simp [(idxP t).2.2.2]
  unfold gates proj
  rw [e0, e1]
  exact gate_congr (row_block m c t (y 0)) (gain_block m c _) (fun k => blk4 m c _ k (y 1)) (blk5 m c _ (y 1))

/-- The sample's queries after the run. -/
theorem W1_s0 : W1 m c (Proc.devRef .tc main_v8_4) = cols (R := 64) 0 (V m c main_v4) (V m c main_v5) (V m c main_v0) := by
  refine (Pipeline.afterRegion_arr (dat m c) (W0 m c) winFacts0.arr_inj 10).trans ?_
  refine (dat m c).arrAt_eq_of_covers 10 (cols (R := 64) 0 _ _ _) (by decide +kernel) fun t _ y => ?_
  blk_simp
  rw [after_10]
  refine (sample_cols m c (q10 t.val) (by unfold q10; omega) y).trans ?_
  have e0 : ((win0_10.blk t).view.emb y 0 : ℕ) = (y 0).val := by
    blk_simp [(idxS t).1]
  have e1 : 2048 * 0 + ((win0_10.blk t).view.emb y 1 : ℕ) = 1024 * (q10 t.val % 6) + (y 1).val := by
    blk_simp [(idxS t).1]
    unfold q10
    omega
  unfold cols
  rw [e0, e1]
/-- The sample's keys after the run. -/
theorem W1_s1 : W1 m c (Proc.devRef .tc main_v8_5) = cols (R := 64) 1 (V m c main_v4) (V m c main_v5) (V m c main_v0) := by
  refine (Pipeline.afterRegion_arr (dat m c) (W0 m c) winFacts0.arr_inj 11).trans ?_
  refine (dat m c).arrAt_eq_of_covers 11 (cols (R := 64) 1 _ _ _) (by decide +kernel) fun t _ y => ?_
  blk_simp
  rw [after_11]
  refine (sample_cols m c (q11 t.val) (by unfold q11; omega) y).trans ?_
  have e0 : ((win0_11.blk t).view.emb y 0 : ℕ) = (y 0).val := by
    blk_simp [(idxS t).2.1]
  have e1 : 2048 * 1 + ((win0_11.blk t).view.emb y 1 : ℕ) = 1024 * (q11 t.val % 6) + (y 1).val := by
    blk_simp [(idxS t).2.1]
    unfold q11
    omega
  unfold cols
  rw [e0, e1]
/-- The sample's values after the run. -/
theorem W1_s2 : W1 m c (Proc.devRef .tc main_v8_6) = cols (R := 64) 2 (V m c main_v4) (V m c main_v5) (V m c main_v0) := by
  refine (Pipeline.afterRegion_arr (dat m c) (W0 m c) winFacts0.arr_inj 12).trans ?_
  refine (dat m c).arrAt_eq_of_covers 12 (cols (R := 64) 2 _ _ _) (by decide +kernel) fun t _ y => ?_
  blk_simp
  rw [after_12]
  refine (sample_cols m c (q12 t.val) (by unfold q12; omega) y).trans ?_
  have e0 : ((win0_12.blk t).view.emb y 0 : ℕ) = (y 0).val := by
    blk_simp [(idxS t).2.2.1]
  have e1 : 2048 * 2 + ((win0_12.blk t).view.emb y 1 : ℕ) = 1024 * (q12 t.val % 6) + (y 1).val := by
    blk_simp [(idxS t).2.2.1]
    unfold q12
    omega
  unfold cols
  rw [e0, e1]
/-- The sample's forget gates after the run. -/
theorem W1_s3 : W1 m c (Proc.devRef .tc main_v8_7) = gates (R := 64) (V m c main_v4) (V m c main_v5) (V m c main_v7) (V m c main_v2) := by
  refine (Pipeline.afterRegion_arr (dat m c) (W0 m c) winFacts0.arr_inj 13).trans ?_
  refine (dat m c).arrAt_eq_of_covers 13 (gates (R := 64) _ _ _ _) (by decide +kernel) fun t _ y => ?_
  blk_simp
  rw [after_13]
  have hy : y = ix2 (y 0) (y 1) := by funext a; fin_cases a <;> rfl
  refine (congrArg (k0_pay6 (iblk m c 1 (pt 0)) (iblk m c 2 (pt 0)) (iblk m c 4 (pt 0)) (iblk m c 5 (pt 0))) hy).trans ((pay6_at _ _ _ _ (y 0) (y 1)).trans ?_)
  have e0 : ((win0_13.blk t).view.emb y 0 : ℕ) = (y 0).val := by
    blk_simp [(idxS t).2.2.2]
  have e1 : (win0_13.blk t).view.emb y 1 = y 1 := by
    apply Fin.ext
    blk_simp [(idxS t).2.2.2]
  unfold gates proj
  rw [e0, e1]
  exact gate_congr (funext fun l => blk1 m c _ (y 0) l) (gain_block m c _) (fun k => blk4 m c _ k (y 1)) (blk5 m c _ (y 1))

end Cert.Proof.In

end
-- ==== Proof.In.Host.lean ====
module

public import proofs.«01_k».proof.Proof.In.Result
public import Idealize.ShloMosaic.Lib.StableHlo.Run
public import Idealize.ShloMosaic.Lib.KernelVsHost

@[expose] public section

set_option maxRecDepth 16384

noncomputable section

namespace Cert.Proof.In

open Cert.Kernel3Ideal Cert.Kernel3Ideal.Gen
open Idealize.ShloMosaic Idealize.ShloMosaic.TcCoe

/-! ## The arrays that the host code prepares, and the results that it shapes -/

/-- The prompt's batches as one list of rows. -/
def flat (x : FVec Ideal S4x2064x2048 .f32) : FVec Ideal S8256x2048 .f32 := shapeCast S8256x2048 x shapeCasts_S4x2064x2048_S8256x2048
/-- The sample's batches as one list of rows. -/
def flatS (x : FVec Ideal S8x8x2048 .f32) : FVec Ideal S64x2048 .f32 := shapeCast S64x2048 x shapeCasts_S8x8x2048_S64x2048
/-- Gains as an array of one row. -/
def asRow (g : FVec Ideal S2048 .f32) : FVec Ideal S1x2048 .f32 := shapeCast S1x2048 g shapeCasts_S2048_S1x2048
/-- The weights in half the width. -/
def half (w : FVec Ideal S2048x6160 .f32) : FVec Ideal S2048x6160 .bf16 := truncf .bf16 w bitsLt_bf16_f32
/-- The weights' last sixteen columns, made 128. -/
def extra (w : FVec Ideal S2048x6160 .f32) : FVec Ideal S2048x128 .bf16 :=
  pad S2048x128 ![0, 0] ![0, 112] ![0, 0] (extractStridedSlice S2048x16 ![0, 6144] (half w) slices_S2048x6160_S2048x16_0_6144) (sitofp .bf16 (constantI S_ 32 0#32)) pads_S2048x16_S2048x128_000_01120 h_S_
/-- The bias as a row, made 128 long. -/
def long (f : FVec Ideal S16 .f32) : FVec Ideal S1x128 .f32 :=
  pad S1x128 ![0, 0] ![0, 112] ![0, 0] (shapeCast S1x16 f shapeCasts_S16_S1x16) (sitofp .f32 (constantI S_ 32 0#32)) pads_S1x16_S1x128_000_01120 h_S_
/-- The prompt's rows by batches and heads. -/
def heads (y : FVec Ideal S8256x2048 .f32) : FVec Ideal S4x2064x16x128 .f32 := shapeCast S4x2064x16x128 y shapeCasts_S8256x2048_S4x2064x16x128
/-- The sample's rows by batches and heads. -/
def headsS (y : FVec Ideal S64x2048 .f32) : FVec Ideal S8x8x16x128 .f32 := shapeCast S8x8x16x128 y shapeCasts_S64x2048_S8x8x16x128
/-- The prompt's first sixteen gates by batches. -/
def sixteen (y : FVec Ideal S8256x128 .f32) : FVec Ideal S4x2064x16 .f32 := shapeCast S4x2064x16 (extractStridedSlice S8256x16 ![0, 0] y slices_S8256x128_S8256x16_0_0) shapeCasts_S8256x16_S4x2064x16
/-- The sample's first sixteen gates by batches. -/
def sixteenS (y : FVec Ideal S64x128 .f32) : FVec Ideal S8x8x16 .f32 := shapeCast S8x8x16 (extractStridedSlice S64x16 ![0, 0] y slices_S64x128_S64x16_0_0) shapeCasts_S64x16_S8x8x16

/-- A row of the list is a row of a batch. -/
theorem flat_at (x : FVec Ideal S4x2064x2048 .f32) (b : Fin 4) (r : Fin 2064) (l : Fin 2048) :
    flat x (ix2 ⟨b.val * 2064 + r.val, by omega⟩ l) = x (ix3 b r l) := by
  pointwise [flat]
/-- A row of the sample's list is a row of a batch. -/
theorem flatS_at (x : FVec Ideal S8x8x2048 .f32) (b r : Fin 8) (l : Fin 2048) :
    flatS x (ix2 ⟨b.val * 8 + r.val, by omega⟩ l) = x (ix3 b r l) := by
  pointwise [flatS]
/-- The row holds the gains. -/
theorem asRow_at (g : FVec Ideal S2048 .f32) (l : Fin 2048) : asRow g (ix2 0 l) = g (ix1 l) := by
  pointwise [asRow]
/-- Over the extended reals the narrower weights are the weights. -/
theorem half_at (w : FVec Ideal S2048x6160 .f32) (k : Fin 2048) (n : Fin 6160) : half w (ix2 k n) = w (ix2 k n) := by
  pointwise [half]
/-- The extra weights are the weights' last sixteen columns. -/
theorem extra_at (w : FVec Ideal S2048x6160 .f32) (k : Fin 2048) (h : Fin 16) : extra w (ix2 k ⟨h.val, by omega⟩) = w (ix2 k ⟨6144 + h.val, by omega⟩) := by
  unfold extra
  refine (pad_apply_of_inside _ _ _ _ _ _ _ _ (ix2 k h) (by intro a; fin_cases a <;> simp)).trans ?_
  pointwise [half]
/-- The longer bias starts with the bias. -/
theorem long_at (f : FVec Ideal S16 .f32) (h : Fin 16) : long f (ix2 0 ⟨h.val, by omega⟩) = f (ix1 h) := by
  unfold long
  refine (pad_apply_of_inside _ _ _ _ _ _ _ _ (ix2 0 h) (by intro a; fin_cases a <;> simp)).trans ?_
  pointwise []
/-- A head's entry is an entry of a row of the list. -/
theorem heads_at (y : FVec Ideal S8256x2048 .f32) (b : Fin 4) (r : Fin 2064) (h : Fin 16) (d : Fin 128) :
    heads y (ix4 b r h d) = y (ix2 ⟨b.val * 2064 + r.val, by omega⟩ ⟨h.val * 128 + d.val, by omega⟩) := by
  pointwise [heads]
/-- A head's entry of the sample is an entry of a row of the list. -/
theorem headsS_at (y : FVec Ideal S64x2048 .f32) (b r : Fin 8) (h : Fin 16) (d : Fin 128) :
    headsS y (ix4 b r h d) = y (ix2 ⟨b.val * 8 + r.val, by omega⟩ ⟨h.val * 128 + d.val, by omega⟩) := by
  pointwise [headsS]
/-- A head's gate is an entry of a row of the list. -/
theorem sixteen_at (y : FVec Ideal S8256x128 .f32) (b : Fin 4) (r : Fin 2064) (h : Fin 16) :
    sixteen y (ix3 b r h) = y (ix2 ⟨b.val * 2064 + r.val, by omega⟩ ⟨h.val, by omega⟩) := by
  pointwise [sixteen]
/-- A head's gate of the sample is an entry of a row of the list. -/
theorem sixteenS_at (y : FVec Ideal S64x128 .f32) (b r : Fin 8) (h : Fin 16) :
    sixteenS y (ix3 b r h) = y (ix2 ⟨b.val * 8 + r.val, by omega⟩ ⟨h.val, by omega⟩) := by
  pointwise [sixteenS]

variable (m : (ℓ : Loc nD τ sig) → Buf (Elt Ideal) ℓ) (c : Dev nD)

/-- The call finds the prompt's list of rows. -/
theorem V_v3 : V m c main_v3 = flat (m ((c : Thread nD τ).loc main_arg0)) := by
  rw [show V m c main_v3 = W0 m c (Proc.devRef .tc main_v3) from congrFun (W0_eq m c).symm _]
  unfold W0 Wc Wb Wa
  simp only [hostOps0, hostOps0_1, hostOps0_2, hostOps0_3, StableHlo.TRef.binary, StableHlo.TRef.unary, StableHlo.TRef.toBuf, StableHlo.TRef.ofBuf, cast_eq]
  after_results_simp
  rfl
/-- The call finds the sample's list of rows. -/
theorem V_v4 : V m c main_v4 = flatS (m ((c : Thread nD τ).loc main_arg1)) := by
  rw [show V m c main_v4 = W0 m c (Proc.devRef .tc main_v4) from congrFun (W0_eq m c).symm _]
  unfold W0 Wc Wb Wa
  simp only [hostOps0, hostOps0_1, hostOps0_2, hostOps0_3, StableHlo.TRef.binary, StableHlo.TRef.unary, StableHlo.TRef.toBuf, StableHlo.TRef.ofBuf, cast_eq]
  after_results_simp
  rfl
/-- The call finds the row of the gains. -/
theorem V_v5 : V m c main_v5 = asRow (m ((c : Thread nD τ).loc main_arg2)) := by
  rw [show V m c main_v5 = W0 m c (Proc.devRef .tc main_v5) from congrFun (W0_eq m c).symm _]
  unfold W0 Wc Wb Wa
  simp only [hostOps0, hostOps0_1, hostOps0_2, hostOps0_3, StableHlo.TRef.binary, StableHlo.TRef.unary, StableHlo.TRef.toBuf, StableHlo.TRef.ofBuf, cast_eq]
  after_results_simp
  rfl
/-- The call finds the weights in half the width. -/
theorem V_v0 : V m c main_v0 = half (m ((c : Thread nD τ).loc main_arg3)) := by
  rw [show V m c main_v0 = W0 m c (Proc.devRef .tc main_v0) from congrFun (W0_eq m c).symm _]
  unfold W0 Wc Wb Wa
  simp only [hostOps0, hostOps0_1, hostOps0_2, hostOps0_3, StableHlo.TRef.binary, StableHlo.TRef.unary, StableHlo.TRef.toBuf, StableHlo.TRef.ofBuf, cast_eq]
  after_results_simp
  rfl
/-- The call finds the extra weights. -/
theorem V_v7 : V m c main_v7 = extra (m ((c : Thread nD τ).loc main_arg3)) := by
  rw [show V m c main_v7 = W0 m c (Proc.devRef .tc main_v7) from congrFun (W0_eq m c).symm _]
  unfold W0 Wc Wb Wa
  simp only [hostOps0, hostOps0_1, hostOps0_2, hostOps0_3, StableHlo.TRef.binary, StableHlo.TRef.unary, StableHlo.TRef.toBuf, StableHlo.TRef.ofBuf, cast_eq]
  after_results_simp
  rfl
/-- The call finds the longer bias. -/
theorem V_v2 : V m c main_v2 = long (m ((c : Thread nD τ).loc main_arg4)) := by
  rw [show V m c main_v2 = W0 m c (Proc.devRef .tc main_v2) from congrFun (W0_eq m c).symm _]
  unfold W0 Wc Wb Wa
  simp only [hostOps0, hostOps0_1, hostOps0_2, hostOps0_3, StableHlo.TRef.binary, StableHlo.TRef.unary, StableHlo.TRef.toBuf, StableHlo.TRef.ofBuf, cast_eq]
  after_results_simp
  rfl
/-- The prompt's queries of the whole program. -/
theorem W2_p0 : W2 m c (Proc.devRef .tc main_v9) = heads (cols (R := 8256) 0 (flat (m ((c : Thread nD τ).loc main_arg0))) (asRow (m ((c : Thread nD τ).loc main_arg2))) (half (m ((c : Thread nD τ).loc main_arg3)))) := by
  refine (show W2 m c (Proc.devRef .tc main_v9) = heads (W1 m c (Proc.devRef .tc main_v8_0)) from by unfold W2; after_results_simp; rfl).trans ?_
  rw [W1_p0, V_v3, V_v5, V_v0]
/-- The prompt's keys of the whole program. -/
theorem W2_p1 : W2 m c (Proc.devRef .tc main_v10) = heads (cols (R := 8256) 1 (flat (m ((c : Thread nD τ).loc main_arg0))) (asRow (m ((c : Thread nD τ).loc main_arg2))) (half (m ((c : Thread nD τ).loc main_arg3)))) := by
  refine (show W2 m c (Proc.devRef .tc main_v10) = heads (W1 m c (Proc.devRef .tc main_v8_1)) from by unfold W2; after_results_simp; rfl).trans ?_
  rw [W1_p1, V_v3, V_v5, V_v0]
/-- The prompt's values of the whole program. -/
theorem W2_p2 : W2 m c (Proc.devRef .tc main_v11) = heads (cols (R := 8256) 2 (flat (m ((c : Thread nD τ).loc main_arg0))) (asRow (m ((c : Thread nD τ).loc main_arg2))) (half (m ((c : Thread nD τ).loc main_arg3)))) := by
  refine (show W2 m c (Proc.devRef .tc main_v11) = heads (W1 m c (Proc.devRef .tc main_v8_2)) from by unfold W2; after_results_simp; rfl).trans ?_
  rw [W1_p2, V_v3, V_v5, V_v0]
/-- The prompt's forget gates of the whole program. -/
theorem W2_p3 : W2 m c (Proc.devRef .tc main_v13) = sixteen (gates (R := 8256) (flat (m ((c : Thread nD τ).loc main_arg0))) (asRow (m ((c : Thread nD τ).loc main_arg2))) (extra (m ((c : Thread nD τ).loc main_arg3))) (long (m ((c : Thread nD τ).loc main_arg4)))) := by
  refine (show W2 m c (Proc.devRef .tc main_v13) = sixteen (W1 m c (Proc.devRef .tc main_v8_3)) from by unfold W2; after_results_simp; rfl).trans ?_
  rw [W1_p3, V_v3, V_v5, V_v7, V_v2]
/-- The sample's queries of the whole program. -/
theorem W2_s0 : W2 m c (Proc.devRef .tc main_v14) = headsS (cols (R := 64) 0 (flatS (m ((c : Thread nD τ).loc main_arg1))) (asRow (m ((c : Thread nD τ).loc main_arg2))) (half (m ((c : Thread nD τ).loc main_arg3)))) := by
  refine (show W2 m c (Proc.devRef .tc main_v14) = headsS (W1 m c (Proc.devRef .tc main_v8_4)) from by unfold W2; after_results_simp; rfl).trans ?_
  rw [W1_s0, V_v4, V_v5, V_v0]
/-- The sample's keys of the whole program. -/
theorem W2_s1 : W2 m c (Proc.devRef .tc main_v15) = headsS (cols (R := 64) 1 (flatS (m ((c : Thread nD τ).loc main_arg1))) (asRow (m ((c : Thread nD τ).loc main_arg2))) (half (m ((c : Thread nD τ).loc main_arg3)))) := by
  refine (show W2 m c (Proc.devRef .tc main_v15) = headsS (W1 m c (Proc.devRef .tc main_v8_5)) from by unfold W2; after_results_simp; rfl).trans ?_
  rw [W1_s1, V_v4, V_v5, V_v0]
/-- The sample's values of the whole program. -/
theorem W2_s2 : W2 m c (Proc.devRef .tc main_v16) = headsS (cols (R := 64) 2 (flatS (m ((c : Thread nD τ).loc main_arg1))) (asRow (m ((c : Thread nD τ).loc main_arg2))) (half (m ((c : Thread nD τ).loc main_arg3)))) := by
  refine (show W2 m c (Proc.devRef .tc main_v16) = headsS (W1 m c (Proc.devRef .tc main_v8_6)) from by unfold W2; after_results_simp; rfl).trans ?_
  rw [W1_s2, V_v4, V_v5, V_v0]
/-- The sample's forget gates of the whole program. -/
theorem W2_s3 : W2 m c (Proc.devRef .tc main_v18) = sixteenS (gates (R := 64) (flatS (m ((c : Thread nD τ).loc main_arg1))) (asRow (m ((c : Thread nD τ).loc main_arg2))) (extra (m ((c : Thread nD τ).loc main_arg3))) (long (m ((c : Thread nD τ).loc main_arg4)))) := by
  refine (show W2 m c (Proc.devRef .tc main_v18) = sixteenS (W1 m c (Proc.devRef .tc main_v8_7)) from by unfold W2; after_results_simp; rfl).trans ?_
  rw [W1_s3, V_v4, V_v5, V_v7, V_v2]

end Cert.Proof.In

end
-- ==== Proof.In.RefRead.lean ====
module

public import proofs.«01_k».proof.Proof.Gen.Reference3Ideal.Run
public import proofs.«01_k».proof.Proof.Mlp.RefRead
public import proofs.«01_k».proof.Proof.In.Read

@[expose] public section

set_option maxRecDepth 16384

noncomputable section

namespace Cert.Proof.In

open Cert.Reference3Ideal Cert.Reference3Ideal.Gen
open Idealize.ShloMosaic Idealize.ShloMosaic.TcCoe

open Mlp (nrm refNorm refNormS refNorm_at refNormS_at)

/-! ## The forget gates over the extended reals -/

/-- The logarithm of one more than an exponential that isn't infinite is real. -/
theorem log1p_exp (x : EReal) (hx : x ≠ ⊤) : ∃ r : ℝ, Ideal.log1p (Ideal.exp x) = (r : EReal) := by
  have key : ∀ s : ℝ, 0 ≤ s → ∃ r : ℝ, Ideal.log1p (s : EReal) = (r : EReal) := fun s hs => by
    refine ⟨Real.log (1 + s), ?_⟩
    have e : (1 : EReal) + (s : EReal) = ((1 + s : ℝ) : EReal) := by rw [EReal.coe_add, EReal.coe_one]
    unfold Ideal.log1p
    rw [e]
    exact if_neg (by linarith)
  induction x with
  | bot => exact key 0 le_rfl
  | top => exact absurd rfl hx
  | coe r => exact key (Real.exp r) (Real.exp_pos r).le

/-- Less the larger of minus a number and zero is the smaller of the number and zero. -/
theorem neg_max_neg (e : EReal) : -(max (-e) 0) = min e 0 := by
  rcases le_total e 0 with h | h
  · rw [min_eq_left h, max_eq_left (EReal.neg_nonneg.mpr h), neg_neg]
  · rw [min_eq_right h, max_eq_right (by simpa using EReal.neg_le_neg_iff.mpr h), neg_zero]

/-- The kernel's gate is the reference's. -/
theorem gate_eq (e : EReal) : -(max (-e) 0 + Ideal.log1p (Ideal.exp (-(max (-e) e)))) = gate e := by
  have hx : (0 : EReal) - max e (-e) ≠ ⊤ := by
    rw [zero_sub]
    intro h
    have hb : max e (-e) = ⊥ := EReal.neg_eq_top_iff.mp h
    have h1 := le_bot_iff.mp ((le_max_left e (-e)).trans hb.le)
    have h2 := le_bot_iff.mp ((le_max_right e (-e)).trans hb.le)
    rw [h1] at h2
    exact absurd h2 (by decide)
  obtain ⟨r, hr⟩ := log1p_exp _ hx
  unfold gate
  rw [show -(max (-e) e) = 0 - max e (-e) by rw [zero_sub, max_comm], hr,
    EReal.neg_add (.inr (EReal.coe_ne_top r)) (.inr (EReal.coe_ne_bot r)), neg_max_neg]

/-! ## The reference's parts -/

/-- The reference's product of the prompt's normalized rows with the weights. -/
def refAll (y : FVec Ideal S4x2064x2048 .f32) (w : FVec Ideal S2048x6160 .f32) : FVec Ideal S4x2064x6160 .f32 :=
  Host.dotGeneral dot_S4x2064x2048_S2048x6160_S4x2064x6160_2_0_01_1_n_n none y w
/-- The reference's product of the sample's normalized rows with the weights. -/
def refAllS (y : FVec Ideal S8x8x2048 .f32) (w : FVec Ideal S2048x6160 .f32) : FVec Ideal S8x8x6160 .f32 :=
  Host.dotGeneral dot_S8x8x2048_S2048x6160_S8x8x6160_2_0_01_1_n_n none y w
/-- The prompt's heads from column `o` on. -/
def refHeads (o : ℕ) (h : S4x2064x6160.Slices ![0, 0, o] S4x2064x2048) (p : FVec Ideal S4x2064x6160 .f32) : FVec Ideal S4x2064x16x128 .f32 :=
  shapeCast S4x2064x16x128 (extractStridedSlice S4x2064x2048 ![0, 0, o] p h) shapeCasts_S4x2064x2048_S4x2064x16x128
/-- The sample's heads from column `o` on. -/
def refHeadsS (o : ℕ) (h : S8x8x6160.Slices ![0, 0, o] S8x8x2048) (p : FVec Ideal S8x8x6160 .f32) : FVec Ideal S8x8x16x128 .f32 :=
  shapeCast S8x8x16x128 (extractStridedSlice S8x8x2048 ![0, 0, o] p h) shapeCasts_S8x8x2048_S8x8x16x128
/-- What the prompt's gates are taken of. -/
def refLogit (p : FVec Ideal S4x2064x6160 .f32) (f : FVec Ideal S16 .f32) : FVec Ideal S4x2064x16 .f32 :=
  addf (extractStridedSlice S4x2064x16 ![0, 0, 6144] p slices_S4x2064x6160_S4x2064x16_0_0_6144) (broadcastInDim S4x2064x16 ![0, 1, 2] bcast_S1x1x16_S4x2064x16_0_1_2 (broadcastInDim S1x1x16 ![2] bcast_S16_S1x1x16_2 f))
/-- What the sample's gates are taken of. -/
def refLogitS (p : FVec Ideal S8x8x6160 .f32) (f : FVec Ideal S16 .f32) : FVec Ideal S8x8x16 .f32 :=
  addf (extractStridedSlice S8x8x16 ![0, 0, 6144] p slices_S8x8x6160_S8x8x16_0_0_6144) (broadcastInDim S8x8x16 ![0, 1, 2] bcast_S1x1x16_S8x8x16_0_1_2 (broadcastInDim S1x1x16 ![2] bcast_S16_S1x1x16_2 f))
/-- The reference's gates, with `z` for zeros. -/
def refGate {s : Shape} (z e : FVec Ideal s .f32) : FVec Ideal s .f32 :=
  Host.negf (select (cmpf .une (subf (Host.negf e) z) (subf (Host.negf e) z)) (addf (Host.negf e) z)
    (addf (maximumf (Host.negf e) z) (Host.log1p (Host.exp (Host.negf (Host.absf (subf (Host.negf e) z)))))))
/-- The prompt's zeros. -/
def zeros : FVec Ideal S4x2064x16 .f32 := broadcastInDim S4x2064x16 ![] bcast_S_S4x2064x16 (constant S_ .f32 0x00000000#32)
/-- The sample's zeros. -/
def zerosS : FVec Ideal S8x8x16 .f32 := broadcastInDim S8x8x16 ![] bcast_S_S8x8x16 (constant S_ .f32 0x00000000#32)

variable (m : (ℓ : Loc nD τ sig) → Buf (Elt Ideal) ℓ) (c : Dev nD)

/-- The reference's prompt gates by their parts. -/
theorem ref_p3 : Cert.Reference3Ideal.Value.res_main_v24 (F := Ideal) m c =
    refGate zeros (refLogit (refAll (refNorm (m ((c.tc : Thread nD τ).loc main_arg0)) (m ((c.tc : Thread nD τ).loc main_arg2))) (m ((c.tc : Thread nD τ).loc main_arg3))) (m ((c.tc : Thread nD τ).loc main_arg4))) := rfl
/-- The reference's sample gates by their parts. -/
theorem ref_s3 : Cert.Reference3Ideal.Value.res_main_v49 (F := Ideal) m c =
    refGate zerosS (refLogitS (refAllS (refNormS (m ((c.tc : Thread nD τ).loc main_arg1)) (m ((c.tc : Thread nD τ).loc main_arg2))) (m ((c.tc : Thread nD τ).loc main_arg3))) (m ((c.tc : Thread nD τ).loc main_arg4))) := rfl

/-! ## The parts at an index -/

/-- A gate. -/
theorem refGate_at {s : Shape} (z e : FVec Ideal s .f32) (i : s.Idx) (hz : z i = 0) : refGate z e i = gate (e i) := by
  pointwise [refGate]
  rw [hz]
  simp only [sub_zero]
  refine Eq.trans ?_ (gate_eq (e i))
  have ha : (FloatOps.absf (-e i) : Ideal .f32) = max (-e i) (e i) := congrArg (max (-e i)) (neg_neg (e i))
  simp [Ideal.cmp, ha]
/-- The prompt's zeros are zero. -/
theorem zeros_at (b : Fin 4) (r : Fin 2064) (h : Fin 16) : zeros (ix3 b r h) = 0 := by
  pointwise [zeros]
/-- The sample's zeros are zero. -/
theorem zerosS_at (b r : Fin 8) (h : Fin 16) : zerosS (ix3 b r h) = 0 := by
  pointwise [zerosS]
/-- An entry of the prompt's product. -/
theorem refAll_at (y : FVec Ideal S4x2064x2048 .f32) (w : FVec Ideal S2048x6160 .f32) (b : Fin 4) (r : Fin 2064) (n : Fin 6160) :
    refAll y w (ix3 b r n) = ∑ k : Fin 2048, y (ix3 b r k) * w (ix2 k n) := by
  pointwise [refAll]
/-- An entry of the sample's product. -/
theorem refAllS_at (y : FVec Ideal S8x8x2048 .f32) (w : FVec Ideal S2048x6160 .f32) (b r : Fin 8) (n : Fin 6160) :
    refAllS y w (ix3 b r n) = ∑ k : Fin 2048, y (ix3 b r k) * w (ix2 k n) := by
  pointwise [refAllS]
/-- A head's entry of the prompt. -/
theorem refHeads_at (o : ℕ) (ho : o ≤ 4112) (hs) (p : FVec Ideal S4x2064x6160 .f32) (b : Fin 4) (r : Fin 2064) (h : Fin 16) (d : Fin 128) :
    refHeads o hs p (ix4 b r h d) = p (ix3 b r ⟨o + (h.val * 128 + d.val), by omega⟩) := by
  pointwise [refHeads]
/-- A head's entry of the sample. -/
theorem refHeadsS_at (o : ℕ) (ho : o ≤ 4112) (hs) (p : FVec Ideal S8x8x6160 .f32) (b r : Fin 8) (h : Fin 16) (d : Fin 128) :
    refHeadsS o hs p (ix4 b r h d) = p (ix3 b r ⟨o + (h.val * 128 + d.val), by omega⟩) := by
  pointwise [refHeadsS]
/-- What a gate of the prompt is taken of. -/
theorem refLogit_at (p : FVec Ideal S4x2064x6160 .f32) (f : FVec Ideal S16 .f32) (b : Fin 4) (r : Fin 2064) (h : Fin 16) :
    refLogit p f (ix3 b r h) = p (ix3 b r ⟨6144 + h.val, by omega⟩) + f (ix1 h) := by
  pointwise [refLogit]
/-- What a gate of the sample is taken of. -/
theorem refLogitS_at (p : FVec Ideal S8x8x6160 .f32) (f : FVec Ideal S16 .f32) (b r : Fin 8) (h : Fin 16) :
    refLogitS p f (ix3 b r h) = p (ix3 b r ⟨6144 + h.val, by omega⟩) + f (ix1 h) := by
  pointwise [refLogitS]

end Cert.Proof.In

end
-- ==== Proof.In.Final.lean ====
module

public import proofs.«01_k».proof.Defs
public import proofs.«01_k».proof.Proof.In.Host
public import proofs.«01_k».proof.Proof.In.RefRead
public import proofs.«01_k».proof.Proof.Gen.Kernel3
public import proofs.«01_k».proof.Proof.Gen.Kernel3Ideal
public import proofs.«01_k».proof.Proof.Gen.Reference3Ideal
public import Idealize.ShloMosaic.Lib.Quiescent

@[expose] public section

set_option maxRecDepth 16384

noncomputable section

namespace Cert.Proof.In

open Idealize.ShloMosaic Idealize.SL.Sem

/-- The projections' side conditions. -/
instance fk3 : Cert.Kernel3.Facts := Cert.Kernel3.Gen.facts
/-- The idealized projections' side conditions. -/
instance fki3 : Cert.Kernel3Ideal.Facts := Cert.Kernel3Ideal.Gen.facts
/-- The projections' reference's side conditions. -/
instance fri3 : Cert.Reference3Ideal.Facts := Cert.Reference3Ideal.Gen.facts

/-! ## The frames -/

set_option maxHeartbeats 2000000 in
/-- The two programs' kernel body is one. -/
theorem same_bodies : (Cert.Kernel3Ideal.defs₀ (F := Bits)) = (Cert.Kernel3.defs₀ (F := Bits)) := by
  refine congrArg (Defs.onTc (nD := Cert.Kernel3.nD) (τ := Cert.Kernel3.τ) (sig := Cert.Kernel3.sig) (Val := Elt Bits) (Λ := Cert.Kernel3.Λ₀)) ?_
  funext ℓ a
  match ℓ, a with
  | 0, (_, _) => rfl

/-- A run of the one program is a run of the other. -/
theorem run_same (s : MemSt Cert.Kernel3.nD Cert.Kernel3.τ Cert.Kernel3.sig (Elt Bits)) (Q : _ → Prop)
    (h : θ_run (Cert.Kernel3Ideal.defs (F := Bits)) (onTc (τ := Cert.Kernel3Ideal.τ) (Cert.Kernel3Ideal.main (F := Bits))) s Q) :
    θ_run (Cert.Kernel3.defs (F := Bits)) (onTc (τ := Cert.Kernel3.τ) (Cert.Kernel3.main (F := Bits))) s Q :=
  (congrArg (fun D => θ_run (Pipeline.defs (Cert.Kernel3.pcfgs (F := Bits)) D) (onTc (τ := Cert.Kernel3.τ) (Cert.Kernel3.main (F := Bits))) s Q) same_bodies).mp h

/-- The projections, in floats: they end, their arguments stay, every counter is back at zero. -/
theorem frame_Kernel3 : Cert.quiescent_Kernel3 := fun m g _ =>
  run_same _ _ ((θ_run _ _ _).mono (fun _ h => ⟨fun c => by
    obtain ⟨a0, a1, a2, a3, a4, _⟩ := h.1 c
    exact ⟨a0, a1, a2, a3, a4⟩, h.2⟩) (run (F := Bits) m g))

/-- The projections over the extended reals: they end, their arguments stay, every counter is back at zero. -/
theorem frame_Kernel3Ideal : Cert.quiescent_Kernel3Ideal := fun m g _ =>
  (θ_run _ _ _).mono (fun _ h => ⟨fun c => by
    obtain ⟨a0, a1, a2, a3, a4, _⟩ := h.1 c
    exact ⟨a0, a1, a2, a3, a4⟩, h.2⟩) (run (F := Ideal) m g)

/-- The projections' reference: it ends and its arguments stay; it has no counters. -/
theorem frame_Reference3Ideal : Cert.quiescent_Reference3Ideal := fun m g _ =>
  (θ_run _ _ _).mono (fun r h => ⟨fun c => (h c).2.2.2.2.2.2.2.2, sem_eq_zero_of_no_sems (by decide) r.2⟩)
    (Cert.Reference3Ideal.Value.run (F := Ideal) m g)

/-! ## The reference's results -/

section Reference

open Cert.Reference3Ideal
open Mlp (nrm refNorm refNormS refNorm_at refNormS_at)

/-- Products of equal rows and gains with equal columns are equal. -/
theorem proj_congr {x x' g g' : Fin 2048 → EReal} {w w' : Fin 2048 → ℕ → EReal} {n n' : ℕ} (hx : x = x') (hg : g = g') (hw : ∀ k, w k n = w' k n') :
    proj x g w n = proj x' g' w' n' := by
  subst hx hg
  exact Finset.sum_congr rfl fun k _ => congrArg (nrm x g k * ·) (hw k)

/-- The row's gains are the gains. -/
theorem gain_row (a : FVec Ideal S2048 .f32) : gain (asRow a) = fun l => a (ix1 l) := funext fun l => asRow_at a l

/-- A row of the prompt's list. -/
theorem row_flat (a0 : FVec Ideal S4x2064x2048 .f32) (b : Fin 4) (r : Fin 2064) : rowN (R := 8256) (flat a0) (b.val * 2064 + r.val) = fun l => a0 (ix3 b r l) :=
  funext fun l => (dif_pos (by omega)).trans (flat_at a0 b r l)
/-- A row of the sample's list. -/
theorem row_flatS (a1 : FVec Ideal S8x8x2048 .f32) (b r : Fin 8) : rowN (R := 64) (flatS a1) (b.val * 8 + r.val) = fun l => a1 (ix3 b r l) :=
  funext fun l => (dif_pos (by omega)).trans (flatS_at a1 b r l)

/-- A column of the halved weights. -/
theorem col_half (w : FVec Ideal S2048x6160 .f32) (k : Fin 2048) (n : Fin 6160) : mat (half w) k n.val = w (ix2 k n) :=
  (dif_pos n.isLt).trans (half_at w k n)
/-- A column of the extra weights. -/
theorem col_extra (w : FVec Ideal S2048x6160 .f32) (k : Fin 2048) (h : Fin 16) : mat (extra w) k h.val = w (ix2 k ⟨6144 + h.val, by omega⟩) :=
  (dif_pos (by omega)).trans (extra_at w k h)

/-- An entry of the reference's prompt product. -/
theorem whole (a0 : FVec Ideal S4x2064x2048 .f32) (g : FVec Ideal S2048 .f32) (w : FVec Ideal S2048x6160 .f32) (b : Fin 4) (r : Fin 2064) (n : Fin 6160) :
    refAll (refNorm a0 g) w (ix3 b r n) = proj (fun l => a0 (ix3 b r l)) (fun l => g (ix1 l)) (mat (half w)) n.val := by
  refine (refAll_at _ w b r n).trans (Finset.sum_congr rfl fun k _ => ?_)
  rw [refNorm_at, col_half]
/-- An entry of the reference's sample product. -/
theorem wholeS (a1 : FVec Ideal S8x8x2048 .f32) (g : FVec Ideal S2048 .f32) (w : FVec Ideal S2048x6160 .f32) (b r : Fin 8) (n : Fin 6160) :
    refAllS (refNormS a1 g) w (ix3 b r n) = proj (fun l => a1 (ix3 b r l)) (fun l => g (ix1 l)) (mat (half w)) n.val := by
  refine (refAllS_at _ w b r n).trans (Finset.sum_congr rfl fun k _ => ?_)
  rw [refNormS_at, col_half]

/-- The reference's prompt heads are the projections'. -/
theorem refHeads_eq (s o : ℕ) (ho : o = 2048 * s) (hs2 : s ≤ 2) (hs) (a0 : FVec Ideal S4x2064x2048 .f32) (g : FVec Ideal S2048 .f32) (w : FVec Ideal S2048x6160 .f32) :
    refHeads o hs (refAll (refNorm a0 g) w) = heads (cols (R := 8256) s (flat a0) (asRow g) (half w)) := by
  subst ho
  funext y
  obtain ⟨b, r, h, d, hy⟩ : ∃ (b : Fin 4) (r : Fin 2064) (h : Fin 16) (d : Fin 128), y = ix4 b r h d := ⟨y 0, y 1, y 2, y 3, by funext a; fin_cases a <;> rfl⟩
  rw [hy]
  refine (refHeads_at (2048 * s) (by omega) hs _ b r h d).trans ((whole a0 g w b r _).trans (Eq.trans ?_ (heads_at _ b r h d).symm))
  exact proj_congr (row_flat a0 b r).symm (gain_row g).symm fun _ => rfl
/-- The reference's sample heads are the projections'. -/
theorem refHeadsS_eq (s o : ℕ) (ho : o = 2048 * s) (hs2 : s ≤ 2) (hs) (a1 : FVec Ideal S8x8x2048 .f32) (g : FVec Ideal S2048 .f32) (w : FVec Ideal S2048x6160 .f32) :
    refHeadsS o hs (refAllS (refNormS a1 g) w) = headsS (cols (R := 64) s (flatS a1) (asRow g) (half w)) := by
  subst ho
  funext y
  obtain ⟨b, r, h, d, hy⟩ : ∃ (b r : Fin 8) (h : Fin 16) (d : Fin 128), y = ix4 b r h d := ⟨y 0, y 1, y 2, y 3, by funext a; fin_cases a <;> rfl⟩
  rw [hy]
  refine (refHeadsS_at (2048 * s) (by omega) hs _ b r h d).trans ((wholeS a1 g w b r _).trans (Eq.trans ?_ (headsS_at _ b r h d).symm))
  exact proj_congr (row_flatS a1 b r).symm (gain_row g).symm fun _ => rfl

/-- The reference's prompt gates are the projections'. -/
theorem refGates_eq (a0 : FVec Ideal S4x2064x2048 .f32) (g : FVec Ideal S2048 .f32) (w : FVec Ideal S2048x6160 .f32) (f : FVec Ideal S16 .f32) :
    refGate zeros (refLogit (refAll (refNorm a0 g) w) f) = sixteen (gates (R := 8256) (flat a0) (asRow g) (extra w) (long f)) := by
  funext y
  obtain ⟨b, r, h, hy⟩ : ∃ (b : Fin 4) (r : Fin 2064) (h : Fin 16), y = ix3 b r h := ⟨y 0, y 1, y 2, by funext a; fin_cases a <;> rfl⟩
  rw [hy]
  refine (refGate_at _ _ _ (zeros_at b r h)).trans (Eq.trans ?_ (sixteen_at _ b r h).symm)
  refine congrArg gate ?_
  refine (refLogit_at _ f b r h).trans (congrArg₂ (· + ·) ((whole a0 g w b r _).trans ?_) (long_at f h).symm)
  exact proj_congr (row_flat a0 b r).symm (gain_row g).symm fun k => (col_half w k _).trans (col_extra w k h).symm
/-- The reference's sample gates are the projections'. -/
theorem refGatesS_eq (a1 : FVec Ideal S8x8x2048 .f32) (g : FVec Ideal S2048 .f32) (w : FVec Ideal S2048x6160 .f32) (f : FVec Ideal S16 .f32) :
    refGate zerosS (refLogitS (refAllS (refNormS a1 g) w) f) = sixteenS (gates (R := 64) (flatS a1) (asRow g) (extra w) (long f)) := by
  funext y
  obtain ⟨b, r, h, hy⟩ : ∃ (b r : Fin 8) (h : Fin 16), y = ix3 b r h := ⟨y 0, y 1, y 2, by funext a; fin_cases a <;> rfl⟩
  rw [hy]
  refine (refGate_at _ _ _ (zerosS_at b r h)).trans (Eq.trans ?_ (sixteenS_at _ b r h).symm)
  refine congrArg gate ?_
  refine (refLogitS_at _ f b r h).trans (congrArg₂ (· + ·) ((wholeS a1 g w b r _).trans ?_) (long_at f h).symm)
  exact proj_congr (row_flatS a1 b r).symm (gain_row g).symm fun k => (col_half w k _).trans (col_extra w k h).symm

end Reference

/-- The projections and their reference, from the same arguments, end with the same results. -/
theorem algebraic : Cert.algebraic_Kernel3Ideal_Reference3Ideal := by
  intro m g m' g' _ hargs
  refine ⟨fun c => W2 m c (Proc.devRef .tc Cert.Kernel3Ideal.main_v9), fun c => W2 m c (Proc.devRef .tc Cert.Kernel3Ideal.main_v10),
    fun c => W2 m c (Proc.devRef .tc Cert.Kernel3Ideal.main_v11), fun c => W2 m c (Proc.devRef .tc Cert.Kernel3Ideal.main_v13),
    fun c => W2 m c (Proc.devRef .tc Cert.Kernel3Ideal.main_v14), fun c => W2 m c (Proc.devRef .tc Cert.Kernel3Ideal.main_v15),
    fun c => W2 m c (Proc.devRef .tc Cert.Kernel3Ideal.main_v16), fun c => W2 m c (Proc.devRef .tc Cert.Kernel3Ideal.main_v18),
    (θ_run _ _ _).mono (fun _ h c => ?_) (run (F := Ideal) m g), (θ_run _ _ _).mono (fun _ h c => ?_) (Cert.Reference3Ideal.Value.run (F := Ideal) m' g')⟩
  · obtain ⟨a0, a1, a2, a3, a4, v0, v1, v2, v3, v4, v5, v6, v7⟩ := h.1 c
    exact ⟨v0, v1, v2, v3, v4, v5, v6, v7, a0, a1, a2, a3, a4⟩
  · obtain ⟨v0, v1, v2, v3, v4, v5, v6, v7, ha⟩ := h c
    obtain ⟨e0, e1, e2, e3, e4⟩ := hargs c
    refine ⟨v0.trans ((refHeads_eq 0 0 rfl (by norm_num) _ _ _ _).trans ?_), v1.trans ((refHeads_eq 1 2048 rfl (by norm_num) _ _ _ _).trans ?_),
      v2.trans ((refHeads_eq 2 4096 rfl (by norm_num) _ _ _ _).trans ?_), v3.trans ((ref_p3 m' c).trans ((refGates_eq _ _ _ _).trans ?_)),
      v4.trans ((refHeadsS_eq 0 0 rfl (by norm_num) _ _ _ _).trans ?_), v5.trans ((refHeadsS_eq 1 2048 rfl (by norm_num) _ _ _ _).trans ?_),
      v6.trans ((refHeadsS_eq 2 4096 rfl (by norm_num) _ _ _ _).trans ?_), v7.trans ((ref_s3 m' c).trans ((refGatesS_eq _ _ _ _).trans ?_)), ha⟩
    · rw [e0, e2, e3]
      exact (W2_p0 m c).symm
    · rw [e0, e2, e3]
      exact (W2_p1 m c).symm
    · rw [e0, e2, e3]
      exact (W2_p2 m c).symm
    · rw [e0, e2, e3, e4]
      exact (W2_p3 m c).symm
    · rw [e1, e2, e3]
      exact (W2_s0 m c).symm
    · rw [e1, e2, e3]
      exact (W2_s1 m c).symm
    · rw [e1, e2, e3]
      exact (W2_s2 m c).symm
    · rw [e1, e2, e3, e4]
      exact (W2_s3 m c).symm

end Cert.Proof.In

end
-- ==== Proof.lean ====
/- The three calls' runs, their references' runs and the constants named between them, put together. -/
module

public import proofs.«01_k».proof.Defs
public import proofs.«01_k».proof.Proof.Frames
public import proofs.«01_k».proof.Proof.Gen.Pre_finite
public import proofs.«01_k».proof.Proof.Val.Final
public import proofs.«01_k».proof.Proof.Mlp.Final
public import proofs.«01_k».proof.Proof.In.Final
public import proofs.«01_k».proof.Proof.Gen.Kernel2Ideal.Frame
public import proofs.«01_k».proof.Proof.Gen.Kernel3Ideal.Frame
public import proofs.«01_k».proof.Proof.Gen.Reference2Ideal.Run
public import proofs.«01_k».proof.Proof.Gen.Reference3Ideal.Run

@[expose] public section

noncomputable section

namespace Cert.Proof

/-- All that is claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.Gen.facts,
    frame_Kernel, frame_KernelIdeal, frame_KernelIdeal_finite, frame_ReferenceIdeal, frame_ReferenceIdeal_finite,
    Mlp.frame_Kernel2, Mlp.frame_Kernel2Ideal, Mlp.frame_Reference2Ideal, In.frame_Kernel3, In.frame_Kernel3Ideal, In.frame_Reference3Ideal,
    constants, algebraic, trivial, Mlp.algebraic, trivial, In.algebraic⟩

end Cert.Proof

end
